-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v3)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v0) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hGateUp : Cert.GateUp.Facts) (hGateUpIdeal : Cert.GateUpIdeal.Facts) (hGateUpReferenceIdeal : Cert.GateUpReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownReferenceIdeal (hDownReferenceIdeal := hDownReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal (hDownIdeal := hDownIdeal) (hDownReferenceIdeal := hDownReferenceIdeal)
    ∧ preserves_GateUp_GateUpIdeal
    ∧ algebraic_GateUpIdeal_GateUpReferenceIdeal (hGateUpIdeal := hGateUpIdeal) (hGateUpReferenceIdeal := hGateUpReferenceIdeal)
-- ==== Kernel.lean ====
abbrev S16x4096x1024 : Shape := ⟨3, ![16, 4096, 1024]⟩
abbrev S16x4096x8 : Shape := ⟨3, ![16, 4096, 8]⟩
abbrev S1024x5632 : Shape := ⟨2, ![1024, 5632]⟩
abbrev S2816x1024 : Shape := ⟨2, ![2816, 1024]⟩
abbrev S65536x1024 : Shape := ⟨2, ![65536, 1024]⟩
abbrev S65536x8 : Shape := ⟨2, ![65536, 8]⟩
abbrev S65536x22 : Shape := ⟨2, ![65536, 22]⟩
abbrev S256x1024 : Shape := ⟨2, ![256, 1024]⟩
abbrev S256x8 : Shape := ⟨2, ![256, 8]⟩
abbrev S256x22 : Shape := ⟨2, ![256, 22]⟩
abbrev S1024x256 : Shape := ⟨2, ![1024, 256]⟩
abbrev S2x256x256 : Shape := ⟨3, ![2, 256, 256]⟩
abbrev S2 : Shape := ⟨1, ![2]⟩
abbrev S1 : Shape := ⟨1, ![1]⟩
abbrev S_ : Shape := ⟨0, ![]⟩
abbrev S256x128 : Shape := ⟨2, ![256, 128]⟩
abbrev S256x1 : Shape := ⟨2, ![256, 1]⟩
abbrev S128x256 : Shape := ⟨2, ![128, 256]⟩
abbrev S256x256 : Shape := ⟨2, ![256, 256]⟩
abbrev S1x256x256 : Shape := ⟨3, ![1, 256, 256]⟩
abbrev S256 : Shape := ⟨1, ![256]⟩

abbrev nBuf : Space → Nat
  | .hbm => 16
  | .vmem => 27
  | .smem => 0
  | _ => 0

abbrev bufTy : (tb : Table) → Fin (tcTables nBuf tb) → BufTy
  | .hbm, ⟨0, _⟩ => ⟨S16x4096x1024, .fp8e4m3⟩
  | .hbm, ⟨1, _⟩ => ⟨S16x4096x8, .f32⟩
  | .hbm, ⟨2, _⟩ => ⟨S16x4096x1024, .fp8e5m2⟩
  | .hbm, ⟨3, _⟩ => ⟨S16x4096x8, .f32⟩
  | .hbm, ⟨4, _⟩ => ⟨S1024x5632, .bf16⟩
  | .hbm, ⟨5, _⟩ => ⟨S2816x1024, .bf16⟩
  | .hbm, ⟨6, _⟩ => ⟨S65536x1024, .fp8e4m3⟩
  | .hbm, ⟨7, _⟩ => ⟨S65536x8, .f32⟩
  | .hbm, ⟨8, _⟩ => ⟨S65536x1024, .fp8e5m2⟩
  | .hbm, ⟨9, _⟩ => ⟨S65536x8, .f32⟩
  | .hbm, ⟨10, _⟩ => ⟨S65536x1024, .bf16⟩
  | .hbm, ⟨11, _⟩ => ⟨S1024x5632, .f32⟩
  | .hbm, ⟨12, _⟩ => ⟨S2816x1024, .f32⟩
  | .hbm, ⟨13, _⟩ => ⟨S65536x22, .f32⟩
  | .hbm, ⟨14, _⟩ => ⟨S65536x22, .f32⟩
  | .hbm, ⟨15, _⟩ => ⟨S65536x22, .f32⟩
  | .local _ .vmem, ⟨0, _⟩ => ⟨S256x1024, .fp8e4m3⟩
  | .local _ .vmem, ⟨1, _⟩ => ⟨S256x1024, .fp8e4m3⟩
  | .local _ .vmem, ⟨2, _⟩ => ⟨S256x8, .f32⟩
  | .local _ .vmem, ⟨3, _⟩ => ⟨S256x8, .f32⟩
  | .local _ .vmem, ⟨4, _⟩ => ⟨S256x1024, .fp8e5m2⟩
  | .local _ .vmem, ⟨5, _⟩ => ⟨S256x1024, .fp8e5m2⟩
  | .local _ .vmem, ⟨6, _⟩ => ⟨S256x8, .f32⟩
  | .local _ .vmem, ⟨7, _⟩ => ⟨S256x8, .f32⟩
  | .local _ .vmem, ⟨8, _⟩ => ⟨S256x1024, .bf16⟩
  | .local _ .vmem, ⟨9, _⟩ => ⟨S256x1024, .bf16⟩
  | .local _ .vmem, ⟨10, _⟩ => ⟨S256x22, .f32⟩
  | .local _ .vmem, ⟨11, _⟩ => ⟨S256x22, .f32⟩
  | .local _ .vmem, ⟨12, _⟩ => ⟨S256x22, .f32⟩
  | .local _ .vmem, ⟨13, _⟩ => ⟨S256x22, .f32⟩
  | .local _ .vmem, ⟨14, _⟩ => ⟨S256x22, .f32⟩
  | .local _ .vmem, ⟨15, _⟩ => ⟨S256x22, .f32⟩
  | .local _ .vmem, ⟨16, _⟩ => ⟨S1024x5632, .bf16⟩
  | .local _ .vmem, ⟨17, _⟩ => ⟨S2816x1024, .bf16⟩
  | .local _ .vmem, ⟨18, _⟩ => ⟨S1024x5632, .f32⟩
  | .local _ .vmem, ⟨19, _⟩ => ⟨S2816x1024, .f32⟩
  | .local _ .vmem, ⟨20, _⟩ => ⟨S256x1024, .bf16⟩
  | .local _ .vmem, ⟨21, _⟩ => ⟨S256x1024, .bf16⟩
  | .local _ .vmem, ⟨22, _⟩ => ⟨S1024x256, .bf16⟩
  | .local _ .vmem, ⟨23, _⟩ => ⟨S256x1024, .f32⟩
  | .local _ .vmem, ⟨24, _⟩ => ⟨S2x256x256, .bf16⟩
  | .local _ .vmem, ⟨25, _⟩ => ⟨S2x256x256, .bf16⟩
  | .local _ .vmem, ⟨26, _⟩ => ⟨S2x256x256, .bf16⟩
  | _, _ => ⟨S16x4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x22 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x22 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x22 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x4096x1024 : Shape := ⟨3, ![16, 4096, 1024]⟩
abbrev S16x4096x8 : Shape := ⟨3, ![16, 4096, 8]⟩
abbrev S1024x5632 : Shape := ⟨2, ![1024, 5632]⟩
abbrev S2816x1024 : Shape := ⟨2, ![2816, 1024]⟩
abbrev S65536x1024 : Shape := ⟨2, ![65536, 1024]⟩
abbrev S65536x22 : Shape := ⟨2, ![65536, 22]⟩
abbrev S65536x8x128 : Shape := ⟨3, ![65536, 8, 128]⟩
abbrev S65536x8 : Shape := ⟨2, ![65536, 8]⟩
abbrev S65536x8x1 : Shape := ⟨3, ![65536, 8, 1]⟩
abbrev S1024x2816 : Shape := ⟨2, ![1024, 2816]⟩
abbrev S65536x2816 : Shape := ⟨2, ![65536, 2816]⟩
abbrev S65536x22x128 : Shape := ⟨3, ![65536, 22, 128]⟩

abbrev nBuf : Space → Nat
  | .hbm => 12
  | .vmem => 12
  | .smem => 0
  | _ => 0

abbrev bufTy : (tb : Table) → Fin (tcTables nBuf tb) → BufTy
  | .hbm, ⟨0, _⟩ => ⟨S16x4096x1024, .fp8e4m3⟩
  | .hbm, ⟨1, _⟩ => ⟨S16x4096x8, .f32⟩
  | .hbm, ⟨2, _⟩ => ⟨S16x4096x1024, .fp8e5m2⟩
  | .hbm, ⟨3, _⟩ => ⟨S16x4096x8, .f32⟩
  | .hbm, ⟨4, _⟩ => ⟨S1024x5632, .bf16⟩
  | .hbm, ⟨5, _⟩ => ⟨S2816x1024, .bf16⟩
  | .hbm, ⟨6, _⟩ => ⟨S65536x1024, .bf16⟩
  | .hbm, ⟨7, _⟩ => ⟨S1024x5632, .f32⟩
  | .hbm, ⟨8, _⟩ => ⟨S2816x1024, .f32⟩
  | .hbm, ⟨9, _⟩ => ⟨S65536x22, .f32⟩
  | .hbm, ⟨10, _⟩ => ⟨S65536x22, .f32⟩
  | .hbm, ⟨11, _⟩ => ⟨S65536x22, .f32⟩
  | .local _ .vmem, ⟨0, _⟩ => ⟨S16x4096x1024, .fp8e4m3⟩
  | .local _ .vmem, ⟨1, _⟩ => ⟨S16x4096x8, .f32⟩
  | .local _ .vmem, ⟨2, _⟩ => ⟨S16x4096x1024, .fp8e5m2⟩
  | .local _ .vmem, ⟨3, _⟩ => ⟨S16x4096x8, .f32⟩
  | .local _ .vmem, ⟨4, _⟩ => ⟨S1024x5632, .bf16⟩
  | .local _ .vmem, ⟨5, _⟩ => ⟨S2816x1024, .bf16⟩
  | .local _ .vmem, ⟨6, _⟩ => ⟨S65536x1024, .bf16⟩
  | .local _ .vmem, ⟨7, _⟩ => ⟨S1024x5632, .f32⟩
  | .local _ .vmem, ⟨8, _⟩ => ⟨S2816x1024, .f32⟩
  | .local _ .vmem, ⟨9, _⟩ => ⟨S65536x22, .f32⟩
  | .local _ .vmem, ⟨10, _⟩ => ⟨S65536x22, .f32⟩
  | .local _ .vmem, ⟨11, _⟩ => ⟨S65536x22, .f32⟩
  | _, _ => ⟨S16x4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16x4096x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4096x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4096x1024 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4096x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S65536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2816x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S65536x22 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S65536x22 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S65536x22 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Down.lean ====
abbrev S2816x1024 : Shape := ⟨2, ![2816, 1024]⟩
abbrev S22x8 : Shape := ⟨2, ![22, 8]⟩
abbrev S22x1x8 : Shape := ⟨3, ![22, 1, 8]⟩
abbrev S128x1024 : Shape := ⟨2, ![128, 1024]⟩
abbrev S1x1x8 : Shape := ⟨3, ![1, 1, 8]⟩
abbrev S1x8 : Shape := ⟨2, ![1, 8]⟩
abbrev S128x128 : Shape := ⟨2, ![128, 128]⟩
abbrev S1x1 : Shape := ⟨2, ![1, 1]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .fp8e4m3⟩
  | .hbm, ⟨1, _⟩ => ⟨S22x8, .f32⟩
  | .hbm, ⟨2, _⟩ => ⟨S22x1x8, .f32⟩
  | .hbm, ⟨3, _⟩ => ⟨S2816x1024, .bf16⟩
  | .local _ .vmem, ⟨0, _⟩ => ⟨S128x1024, .fp8e4m3⟩
  | .local _ .vmem, ⟨1, _⟩ => ⟨S128x1024, .fp8e4m3⟩
  | .local _ .vmem, ⟨2, _⟩ => ⟨S1x1x8, .f32⟩
  | .local _ .vmem, ⟨3, _⟩ => ⟨S1x1x8, .f32⟩
  | .local _ .vmem, ⟨4, _⟩ => ⟨S128x1024, .bf16⟩
  | .local _ .vmem, ⟨5, _⟩ => ⟨S128x1024, .bf16⟩
  | _, _ => ⟨S2816x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownReferenceIdeal.lean ====
abbrev S2816x1024 : Shape := ⟨2, ![2816, 1024]⟩
abbrev S22x8 : Shape := ⟨2, ![22, 8]⟩
abbrev S22x128x8x128 : Shape := ⟨4, ![22, 128, 8, 128]⟩
abbrev S22x1x8x1 : Shape := ⟨4, ![22, 1, 8, 1]⟩

abbrev nBuf : Space → Nat
  | .hbm => 3
  | .vmem => 3
  | .smem => 0
  | _ => 0

abbrev bufTy : (tb : Table) → Fin (tcTables nBuf tb) → BufTy
  | .hbm, ⟨0, _⟩ => ⟨S2816x1024, .fp8e4m3⟩
  | .hbm, ⟨1, _⟩ => ⟨S22x8, .f32⟩
  | .hbm, ⟨2, _⟩ => ⟨S2816x1024, .bf16⟩
  | .local _ .vmem, ⟨0, _⟩ => ⟨S2816x1024, .fp8e4m3⟩
  | .local _ .vmem, ⟨1, _⟩ => ⟨S22x8, .f32⟩
  | .local _ .vmem, ⟨2, _⟩ => ⟨S2816x1024, .bf16⟩
  | _, _ => ⟨S2816x1024, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2816x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S22x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== GateUp.lean ====
abbrev S1024x2x2816 : Shape := ⟨3, ![1024, 2, 2816]⟩
abbrev S8x2x22 : Shape := ⟨3, ![8, 2, 22]⟩
abbrev S1024x5632 : Shape := ⟨2, ![1024, 5632]⟩
abbrev S8x44 : Shape := ⟨2, ![8, 44]⟩
abbrev S8x1x44 : Shape := ⟨3, ![8, 1, 44]⟩
abbrev S128x5632 : Shape := ⟨2, ![128, 5632]⟩
abbrev S1x1x44 : Shape := ⟨3, ![1, 1, 44]⟩
abbrev S1x44 : Shape := ⟨2, ![1, 44]⟩
abbrev S128x128 : Shape := ⟨2, ![128, 128]⟩
abbrev S1x1 : Shape := ⟨2, ![1, 1]⟩

abbrev nBuf : Space → Nat
  | .hbm => 6
  | .vmem => 6
  | .smem => 0
  | _ => 0

abbrev bufTy : (tb : Table) → Fin (tcTables nBuf tb) → BufTy
  | .hbm, ⟨0, _⟩ => ⟨S1024x2x2816, .fp8e4m3⟩
  | .hbm, ⟨1, _⟩ => ⟨S8x2x22, .f32⟩
  | .hbm, ⟨2, _⟩ => ⟨S1024x5632, .fp8e4m3⟩
  | .hbm, ⟨3, _⟩ => ⟨S8x44, .f32⟩
  | .hbm, ⟨4, _⟩ => ⟨S8x1x44, .f32⟩
  | .hbm, ⟨5, _⟩ => ⟨S1024x5632, .bf16⟩
  | .local _ .vmem, ⟨0, _⟩ => ⟨S128x5632, .fp8e4m3⟩
  | .local _ .vmem, ⟨1, _⟩ => ⟨S128x5632, .fp8e4m3⟩
  | .local _ .vmem, ⟨2, _⟩ => ⟨S1x1x44, .f32⟩
  | .local _ .vmem, ⟨3, _⟩ => ⟨S1x1x44, .f32⟩
  | .local _ .vmem, ⟨4, _⟩ => ⟨S128x5632, .bf16⟩
  | .local _ .vmem, ⟨5, _⟩ => ⟨S128x5632, .bf16⟩
  | _, _ => ⟨S1024x2x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x44 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateUpReferenceIdeal.lean ====
abbrev S1024x2x2816 : Shape := ⟨3, ![1024, 2, 2816]⟩
abbrev S8x2x22 : Shape := ⟨3, ![8, 2, 22]⟩
abbrev S1024x5632 : Shape := ⟨2, ![1024, 5632]⟩
abbrev S8x128x2x22x128 : Shape := ⟨5, ![8, 128, 2, 22, 128]⟩
abbrev S8x1x2x22x1 : Shape := ⟨5, ![8, 1, 2, 22, 1]⟩

abbrev nBuf : Space → Nat
  | .hbm => 3
  | .vmem => 3
  | .smem => 0
  | _ => 0

abbrev bufTy : (tb : Table) → Fin (tcTables nBuf tb) → BufTy
  | .hbm, ⟨0, _⟩ => ⟨S1024x2x2816, .fp8e4m3⟩
  | .hbm, ⟨1, _⟩ => ⟨S8x2x22, .f32⟩
  | .hbm, ⟨2, _⟩ => ⟨S1024x5632, .bf16⟩
  | .local _ .vmem, ⟨0, _⟩ => ⟨S1024x2x2816, .fp8e4m3⟩
  | .local _ .vmem, ⟨1, _⟩ => ⟨S8x2x22, .f32⟩
  | .local _ .vmem, ⟨2, _⟩ => ⟨S1024x5632, .bf16⟩
  | _, _ => ⟨S1024x2x2816, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x2x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2x22 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.RunOuts.lean ====
/- What each case of the body leaves in the blocks of the outputs and in the buffers it carries. -/
module

public import proofs.«01_k».proof.Proof.Gen.KernelIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section
variable (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole) (hc0 : cond0_0 i) (hc1 : ¬cond0_1 i)
  (x0 : Vec F S256x1024 .fp8e4m3) (x1 : Vec F S256x8 .f32) (x2 : Vec F S256x1024 .fp8e5m2) (x3 : Vec F S256x8 .f32) (fh0 : HbBuf0 (F := F) c hbM0_0) (fh1 : HbBuf0 (F := F) c hbM0_1) (fw2 : HbBuf0 (F := F) c hbM0_2) (fw3 : HbBuf0 (F := F) c hbM0_3)
theorem cover0_A_4 (y : S256x1024.Idx) :
    ∃ pc ∈ (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).1, y ∈ pc.1.set :=
  View.cover_of_tiledL (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).1 S256x1024.size (by sl_kernel_rfl) y

def out0_A_4 : Vec F S256x1024 .bf16 :=
  VO0_4.read (Elt F) (VO0_4.writes (Elt F) VO0_4.junk (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).1)

theorem cover0_A_5 (y : S256x22.Idx) :
    ∃ pc ∈ (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.1, y ∈ pc.1.set :=
  View.cover_of_tiledL (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.1 S256x1.size (by sl_kernel_rfl) y

def out0_A_5 : Vec F S256x22 .f32 :=
  VO0_5.read (Elt F) (VO0_5.writes (Elt F) VO0_5.junk (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.1)

theorem cover0_A_6 (y : S256x22.Idx) :
    ∃ pc ∈ (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.1, y ∈ pc.1.set :=
  View.cover_of_tiledL (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.1 S256x1.size (by sl_kernel_rfl) y

def out0_A_6 : Vec F S256x22 .f32 :=
  VO0_6.read (Elt F) (VO0_6.writes (Elt F) VO0_6.junk (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.1)

theorem cover0_A_7 (y : S256x22.Idx) :
    ∃ pc ∈ (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.1, y ∈ pc.1.set :=
  View.cover_of_tiledL (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.1 S256x1.size (by sl_kernel_rfl) y

def out0_A_7 : Vec F S256x22 .f32 :=
  VO0_7.read (Elt F) (VO0_7.writes (Elt F) VO0_7.junk (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.1)

theorem scover0_A_0 (y : S1024x5632.Idx) :
    ∃ pc ∈ (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.1, y ∈ pc.1.set :=
  View.cover_of_tiledL (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.1 S1024x5632.size (by sl_kernel_rfl) y

def sout0_A_0 : Vec F S1024x5632 .bf16 :=
  VS0_0.read (Elt F) (VS0_0.writes (Elt F) VS0_0.junk (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.1)

theorem scover0_A_1 (y : S2816x1024.Idx) :
    ∃ pc ∈ (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.2.1, y ∈ pc.1.set :=
  View.cover_of_tiledL (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.2.1 S2816x1024.size (by sl_kernel_rfl) y

def sout0_A_1 : Vec F S2816x1024 .bf16 :=
  VS0_1.read (Elt F) (VS0_1.writes (Elt F) VS0_1.junk (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.2.1)

theorem scover0_A_2 (y : S1024x5632.Idx) :
    ∃ pc ∈ (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.2.2.1, y ∈ pc.1.set :=
  View.cover_of_wholeMem (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.2.2.1 (by sl_whole_mem) y

def sout0_A_2 : Vec F S1024x5632 .f32 :=
  VS0_2.read (Elt F) (VS0_2.writes (Elt F) VS0_2.junk (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.2.2.1)

theorem scover0_A_3 (y : S2816x1024.Idx) :
    ∃ pc ∈ (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.2.2.2.1, y ∈ pc.1.set :=
  View.cover_of_wholeMem (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.2.2.2.1 (by sl_whole_mem) y

def sout0_A_3 : Vec F S2816x1024 .f32 :=
  VS0_3.read (Elt F) (VS0_3.writes (Elt F) VS0_3.junk (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.2.2.2.1)

def hbw0_A_2 : HbBuf0 (F := F) c hbM0_2 := (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.2.2.2.2.2.2.2.2.2.2.2.1

def hbw0_A_3 : HbBuf0 (F := F) c hbM0_3 := (kernelRun0_A c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3).2.2.2.2.2.2.2.2.2.2.2.2.2.2.2.2.1
end

section
variable (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole) (hc0 : ¬cond0_0 i) (hc1 : ¬cond0_1 i)
  (x0 : Vec F S256x1024 .fp8e4m3) (x1 : Vec F S256x8 .f32) (x2 : Vec F S256x1024 .fp8e5m2) (x3 : Vec F S256x8 .f32) (xs0 : Vec F S1024x5632 .bf16) (xs1 : Vec F S2816x1024 .bf16) (xs2 : Vec F S1024x5632 .f32) (xs3 : Vec F S2816x1024 .f32) (fh0 : HbBuf0 (F := F) c hbM0_0) (fh1 : HbBuf0 (F := F) c hbM0_1) (fw2 : HbBuf0 (F := F) c hbM0_2) (fw3 : HbBuf0 (F := F) c hbM0_3)
theorem cover0_B_4 (y : S256x1024.Idx) :
    ∃ pc ∈ (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).1, y ∈ pc.1.set :=
  View.cover_of_tiledL (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).1 S256x1024.size (by sl_kernel_rfl) y

def out0_B_4 : Vec F S256x1024 .bf16 :=
  VO0_4.read (Elt F) (VO0_4.writes (Elt F) VO0_4.junk (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).1)

theorem cover0_B_5 (y : S256x22.Idx) :
    ∃ pc ∈ (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.1, y ∈ pc.1.set :=
  View.cover_of_tiledL (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.1 S256x1.size (by sl_kernel_rfl) y

def out0_B_5 : Vec F S256x22 .f32 :=
  VO0_5.read (Elt F) (VO0_5.writes (Elt F) VO0_5.junk (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.1)

theorem cover0_B_6 (y : S256x22.Idx) :
    ∃ pc ∈ (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.1, y ∈ pc.1.set :=
  View.cover_of_tiledL (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.1 S256x1.size (by sl_kernel_rfl) y

def out0_B_6 : Vec F S256x22 .f32 :=
  VO0_6.read (Elt F) (VO0_6.writes (Elt F) VO0_6.junk (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.1)

theorem cover0_B_7 (y : S256x22.Idx) :
    ∃ pc ∈ (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.1, y ∈ pc.1.set :=
  View.cover_of_tiledL (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.1 S256x1.size (by sl_kernel_rfl) y

def out0_B_7 : Vec F S256x22 .f32 :=
  VO0_7.read (Elt F) (VO0_7.writes (Elt F) VO0_7.junk (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.1)

theorem scover0_B_2 (y : S1024x5632.Idx) :
    ∃ pc ∈ (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.1, y ∈ pc.1.set :=
  View.cover_of_tiledL (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.1 S1024x256.size (by sl_kernel_rfl) y

def sout0_B_2 : Vec F S1024x5632 .f32 :=
  VS0_2.read (Elt F) (VS0_2.writes (Elt F) VS0_2.junk (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.1)

theorem scover0_B_3 (y : S2816x1024.Idx) :
    ∃ pc ∈ (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.2.1, y ∈ pc.1.set :=
  View.cover_of_tiledL (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.2.1 S256x1024.size (by sl_kernel_rfl) y

def sout0_B_3 : Vec F S2816x1024 .f32 :=
  VS0_3.read (Elt F) (VS0_3.writes (Elt F) VS0_3.junk (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.2.1)

def hbw0_B_2 : HbBuf0 (F := F) c hbM0_2 := (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.2.2.2.2.2.2.2.2.2.1

def hbw0_B_3 : HbBuf0 (F := F) c hbM0_3 := (kernelRun0_B c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.2.2.2.2.2.2.2.2.2.2.1
end

def sout0_B_0 (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole) (hc0 : ¬cond0_0 i) (hc1 : ¬cond0_1 i)
    (x0 : Vec F S256x1024 .fp8e4m3) (x1 : Vec F S256x8 .f32) (x2 : Vec F S256x1024 .fp8e5m2) (x3 : Vec F S256x8 .f32) (xs0 : Vec F S1024x5632 .bf16) (xs1 : Vec F S2816x1024 .bf16) (xs2 : Vec F S1024x5632 .f32) (xs3 : Vec F S2816x1024 .f32) (fh0 : HbBuf0 (F := F) c hbM0_0) (fh1 : HbBuf0 (F := F) c hbM0_1) (fw2 : HbBuf0 (F := F) c hbM0_2) (fw3 : HbBuf0 (F := F) c hbM0_3) : Vec F S1024x5632 .bf16 := xs0

def sout0_B_1 (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole) (hc0 : ¬cond0_0 i) (hc1 : ¬cond0_1 i)
    (x0 : Vec F S256x1024 .fp8e4m3) (x1 : Vec F S256x8 .f32) (x2 : Vec F S256x1024 .fp8e5m2) (x3 : Vec F S256x8 .f32) (xs0 : Vec F S1024x5632 .bf16) (xs1 : Vec F S2816x1024 .bf16) (xs2 : Vec F S1024x5632 .f32) (xs3 : Vec F S2816x1024 .f32) (fh0 : HbBuf0 (F := F) c hbM0_0) (fh1 : HbBuf0 (F := F) c hbM0_1) (fw2 : HbBuf0 (F := F) c hbM0_2) (fw3 : HbBuf0 (F := F) c hbM0_3) : Vec F S2816x1024 .bf16 := xs1

section
variable (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole) (hc0 : ¬cond0_0 i) (hc1 : cond0_1 i)
  (x0 : Vec F S256x1024 .fp8e4m3) (x1 : Vec F S256x8 .f32) (x2 : Vec F S256x1024 .fp8e5m2) (x3 : Vec F S256x8 .f32) (xs0 : Vec F S1024x5632 .bf16) (xs1 : Vec F S2816x1024 .bf16) (xs2 : Vec F S1024x5632 .f32) (xs3 : Vec F S2816x1024 .f32) (fh0 : HbBuf0 (F := F) c hbM0_0) (fh1 : HbBuf0 (F := F) c hbM0_1) (fw2 : HbBuf0 (F := F) c hbM0_2) (fw3 : HbBuf0 (F := F) c hbM0_3)
theorem cover0_C_4 (y : S256x1024.Idx) :
    ∃ pc ∈ (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).1, y ∈ pc.1.set :=
  View.cover_of_tiledL (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).1 S256x1024.size (by sl_kernel_rfl) y

def out0_C_4 : Vec F S256x1024 .bf16 :=
  VO0_4.read (Elt F) (VO0_4.writes (Elt F) VO0_4.junk (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).1)

theorem cover0_C_5 (y : S256x22.Idx) :
    ∃ pc ∈ (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.1, y ∈ pc.1.set :=
  View.cover_of_tiledL (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.1 S256x1.size (by sl_kernel_rfl) y

def out0_C_5 : Vec F S256x22 .f32 :=
  VO0_5.read (Elt F) (VO0_5.writes (Elt F) VO0_5.junk (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.1)

theorem cover0_C_6 (y : S256x22.Idx) :
    ∃ pc ∈ (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.1, y ∈ pc.1.set :=
  View.cover_of_tiledL (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.1 S256x1.size (by sl_kernel_rfl) y

def out0_C_6 : Vec F S256x22 .f32 :=
  VO0_6.read (Elt F) (VO0_6.writes (Elt F) VO0_6.junk (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.1)

theorem cover0_C_7 (y : S256x22.Idx) :
    ∃ pc ∈ (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.1, y ∈ pc.1.set :=
  View.cover_of_tiledL (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.1 S256x1.size (by sl_kernel_rfl) y

def out0_C_7 : Vec F S256x22 .f32 :=
  VO0_7.read (Elt F) (VO0_7.writes (Elt F) VO0_7.junk (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.1)

theorem scover0_C_2 (y : S1024x5632.Idx) :
    ∃ pc ∈ (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.1, y ∈ pc.1.set :=
  View.cover_of_tiledL (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.1 S1024x256.size (by sl_kernel_rfl) y

def sout0_C_2 : Vec F S1024x5632 .f32 :=
  VS0_2.read (Elt F) (VS0_2.writes (Elt F) VS0_2.junk (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.1)

theorem scover0_C_3 (y : S2816x1024.Idx) :
    ∃ pc ∈ (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.2.1, y ∈ pc.1.set :=
  View.cover_of_tiledL (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.2.1 S256x1024.size (by sl_kernel_rfl) y

def sout0_C_3 : Vec F S2816x1024 .f32 :=
  VS0_3.read (Elt F) (VS0_3.writes (Elt F) VS0_3.junk (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.2.1)

def hbw0_C_2 : HbBuf0 (F := F) c hbM0_2 := (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.2.2.2.2.2.2.2.2.2.1

def hbw0_C_3 : HbBuf0 (F := F) c hbM0_3 := (kernelRun0_C c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3).2.2.2.2.2.2.2.2.2.2.2.2.2.2.2.2.1
end

def sout0_C_0 (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole) (hc0 : ¬cond0_0 i) (hc1 : cond0_1 i)
    (x0 : Vec F S256x1024 .fp8e4m3) (x1 : Vec F S256x8 .f32) (x2 : Vec F S256x1024 .fp8e5m2) (x3 : Vec F S256x8 .f32) (xs0 : Vec F S1024x5632 .bf16) (xs1 : Vec F S2816x1024 .bf16) (xs2 : Vec F S1024x5632 .f32) (xs3 : Vec F S2816x1024 .f32) (fh0 : HbBuf0 (F := F) c hbM0_0) (fh1 : HbBuf0 (F := F) c hbM0_1) (fw2 : HbBuf0 (F := F) c hbM0_2) (fw3 : HbBuf0 (F := F) c hbM0_3) : Vec F S1024x5632 .bf16 := xs0

def sout0_C_1 (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole) (hc0 : ¬cond0_0 i) (hc1 : cond0_1 i)
    (x0 : Vec F S256x1024 .fp8e4m3) (x1 : Vec F S256x8 .f32) (x2 : Vec F S256x1024 .fp8e5m2) (x3 : Vec F S256x8 .f32) (xs0 : Vec F S1024x5632 .bf16) (xs1 : Vec F S2816x1024 .bf16) (xs2 : Vec F S1024x5632 .f32) (xs3 : Vec F S2816x1024 .f32) (fh0 : HbBuf0 (F := F) c hbM0_0) (fh1 : HbBuf0 (F := F) c hbM0_1) (fw2 : HbBuf0 (F := F) c hbM0_2) (fw3 : HbBuf0 (F := F) c hbM0_3) : Vec F S2816x1024 .bf16 := xs1

end Cert.KernelIdeal.Gen

end
-- ==== Proof.RunPoints.lean ====
/- What the outputs and the carried buffers hold after each point of the grid, and the invariant between points. -/
module

public import proofs.«01_k».proof.Proof.RunOuts

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
def outsAt0 (c : Dev nD) : (n : ℕ) → n < cfg0.N → Vec F S256x1024 .bf16 × Vec F S256x22 .f32 × Vec F S256x22 .f32 × Vec F S256x22 .f32 × Vec F S1024x5632 .bf16 × Vec F S2816x1024 .bf16 × Vec F S1024x5632 .f32 × Vec F S2816x1024 .f32 × HbBuf0 (F := F) c hbM0_2 × HbBuf0 (F := F) c hbM0_3
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4) (V m c main_arg5) (V m c main_v4_1) (V m c main_v4_2), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4) (V m c main_arg5) (V m c main_v4_1) (V m c main_v4_2), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4) (V m c main_arg5) (V m c main_v4_1) (V m c main_v4_2), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4) (V m c main_arg5) (V m c main_v4_1) (V m c main_v4_2), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4) (V m c main_arg5) (V m c main_v4_1) (V m c main_v4_2), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4) (V m c main_arg5) (V m c main_v4_1) (V m c main_v4_2), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4) (V m c main_arg5) (V m c main_v4_1) (V m c main_v4_2), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4) (V m c main_arg5) (V m c main_v4_1) (V m c main_v4_2), hbw0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4) (V m c main_arg5) (V m c main_v4_1) (V m c main_v4_2), hbw0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (V m c main_arg4) (V m c main_arg5) (V m c main_v4_1) (V m c main_v4_2))
  | n + 1, hn =>
    if h0 : (n + 1) % 256 = 0 then
      if h1 : (n + 1) % 256 = 255 then
        False.elim (by have hN : n + 1 < 256 := lt_of_lt_of_eq hn (show cfg0.N = 256 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4) (V m c main_arg5) (V m c main_v4_1) (V m c main_v4_2), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4) (V m c main_arg5) (V m c main_v4_1) (V m c main_v4_2), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4) (V m c main_arg5) (V m c main_v4_1) (V m c main_v4_2), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4) (V m c main_arg5) (V m c main_v4_1) (V m c main_v4_2), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4) (V m c main_arg5) (V m c main_v4_1) (V m c main_v4_2), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4) (V m c main_arg5) (V m c main_v4_1) (V m c main_v4_2), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4) (V m c main_arg5) (V m c main_v4_1) (V m c main_v4_2), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4) (V m c main_arg5) (V m c main_v4_1) (V m c main_v4_2), hbw0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4) (V m c main_arg5) (V m c main_v4_1) (V m c main_v4_2), hbw0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg4) (V m c main_arg5) (V m c main_v4_1) (V m c main_v4_2))
    else
      if h1 : (n + 1) % 256 = 255 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, hbw0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, hbw0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, hbw0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2, hbw0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_arg4) (V m c main_arg5) (outsAt0 c n (Nat.lt_of_succ_lt hn)).2.2.2.2.2.2.2.2.1 (outsAt0 c n (Nat.lt_of_succ_lt hn)).2.2.2.2.2.2.2.2.2)

theorem outsAt0_A (c : Dev nD) (t : Fin cfg0.N) (h0 : t.val % 256 = 0) (h1 : ¬t.val % 256 = 255) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (V m c main_arg4) (V m c main_arg5) (V m c main_v4_1) (V m c main_v4_2), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (V m c main_arg4) (V m c main_arg5) (V m c main_v4_1) (V m c main_v4_2), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (V m c main_arg4) (V m c main_arg5) (V m c main_v4_1) (V m c main_v4_2), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (V m c main_arg4) (V m c main_arg5) (V m c main_v4_1) (V m c main_v4_2), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (V m c main_arg4) (V m c main_arg5) (V m c main_v4_1) (V m c main_v4_2), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (V m c main_arg4) (V m c main_arg5) (V m c main_v4_1) (V m c main_v4_2), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (V m c main_arg4) (V m c main_arg5) (V m c main_v4_1) (V m c main_v4_2), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (V m c main_arg4) (V m c main_arg5) (V m c main_v4_1) (V m c main_v4_2), hbw0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (V m c main_arg4) (V m c main_arg5) (V m c main_v4_1) (V m c main_v4_2), hbw0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) ((hcond0_0 t).mpr h0) (fun h => h1 ((hcond0_1 t).mp h)) (iblk m c 0 t) (iblk m c 1 t) (iblk m c 2 t) (iblk m c 3 t) (V m c main_arg4) (V m c main_arg5) (V m c main_v4_1) (V m c main_v4_2)) := by
  obtain ⟨n, hn⟩ := t
  cases n with
  | zero => exact rfl
  | succ n => exact (dif_pos h0).trans ((dif_neg h1).trans rfl)

theorem outsAt0_B (c : Dev nD) (t : Fin cfg0.N) (h0 : ¬t.val % 256 = 0) (h1 : ¬t.val % 256 = 255) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, hbw0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, hbw0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 256 = 0) (h1 : t.val % 256 = 255) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, hbw0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, hbw0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_arg4) (V m c main_arg5) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2.1) ∗ owns (c : Thread nD τ) scM0_3 fullShare ((outsAt0 m c n hn).2.2.2.2.2.2.2.1) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r) ∗ iprop(semVal ((c : Thread nD τ), SemLoc.dma 16) 0 ∗ semVal ((c : Thread nD τ), SemLoc.dma 17) 0) ∗ iprop(hbPt0 c hbM0_0 (V m c main_arg4) ∗ hbPt0 c hbM0_1 (V m c main_arg5)) ∗ iprop(hbPt0 c hbM0_2 ((outsAt0 m c n hn).2.2.2.2.2.2.2.2.1) ∗ hbPt0 c hbM0_3 ((outsAt0 m c n hn).2.2.2.2.2.2.2.2.2)))

theorem PhiS_zero (c : Dev nD) (n : ℕ) (h : n ≤ cfg0.N) (hz : n = 0) : PhiS m c n h = Pipeline.ΦDRG osem0 spec0 H0 R0 (V m) (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2.1) ∗ owns (c : Thread nD τ) scM0_3 fullShare ((outsAt0 m c n hn).2.2.2.2.2.2.2.1) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r) ∗ iprop(semVal ((c : Thread nD τ), SemLoc.dma 16) 0 ∗ semVal ((c : Thread nD τ), SemLoc.dma 17) 0) ∗ iprop(hbPt0 c hbM0_0 (V m c main_arg4) ∗ hbPt0 c hbM0_1 (V m c main_arg5)) ∗ iprop(hbPt0 c hbM0_2 ((outsAt0 m c n hn).2.2.2.2.2.2.2.2.1) ∗ hbPt0 c hbM0_3 ((outsAt0 m c n hn).2.2.2.2.2.2.2.2.2))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2.1) ∗ owns (c : Thread nD τ) scM0_3 fullShare ((outsAt0 m c (n - 1) (by omega)).2.2.2.2.2.2.2.1) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r) ∗ iprop(semVal ((c : Thread nD τ), SemLoc.dma 16) 0 ∗ semVal ((c : Thread nD τ), SemLoc.dma 17) 0) ∗ iprop(hbPt0 c hbM0_0 (V m c main_arg4) ∗ hbPt0 c hbM0_1 (V m c main_arg5)) ∗ iprop(hbPt0 c hbM0_2 ((outsAt0 m c (n - 1) (by omega)).2.2.2.2.2.2.2.2.1) ∗ hbPt0 c hbM0_3 ((outsAt0 m c (n - 1) (by omega)).2.2.2.2.2.2.2.2.2))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Gen

end
-- ==== Proof.RunBody.lean ====
/- The body of the kernel at a generic point of the grid. -/
module

public import proofs.«01_k».proof.Proof.RunPoints

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  have hN : t.val < 256 := lt_of_lt_of_eq t.isLt (show cfg0.N = 256 from N_0)
  by_cases h0 : t.val % 256 = 0
  · by_cases h1 : t.val % 256 = 255
    · exfalso; omega
    · by_cases hz : t.val = 0
      · rw [PhiS_castSucc m c t, PhiS_zero m c _ _ hz, PhiDRG0_in_eq]
        rw [outsAt0_A m c t h0 h1]
        unfold out0_A_4 out0_A_5 out0_A_6 out0_A_7 sout0_A_0 sout0_A_1 sout0_A_2 sout0_A_3 hbw0_A_2 hbw0_A_3; (try dsimp only)
        iintro ⟨⟨⟨HS0, HS1, HS2, HS3, HS4, HS5, HS6, HS7, HS8, HS9, HS10⟩, Hg, ⟨Hq0, Hq1⟩, ⟨Hh0, Hh1⟩, ⟨Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (V m c main_arg4) (V m c main_arg5) _ _).2.2.2.2.2.2.2.2.2.2.2.2.2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [Hq0]; · iexact Hq0
        isplitl [Hq1]; · iexact Hq1
        isplitl [Hh0]; · iexact Hh0
        isplitl [Hh1]; · iexact Hh1
        isplitl [Hh2]; · iexact Hh2
        isplitl [Hh3]; · iexact Hh3
        isplitl [HW]; · iexact HW
        iintro ⟨H0, H1, H2, H3, ⟨%e4, H4⟩, ⟨%e5, H5⟩, ⟨%e6, H6⟩, ⟨%e7, H7⟩, ⟨%es0, HS0⟩, ⟨%es1, HS1⟩, ⟨%es2, HS2⟩, ⟨%es3, HS3⟩, ⟨%fT4, HS4⟩, ⟨%fT5, HS5⟩, ⟨%fT6, HS6⟩, ⟨%fT7, HS7⟩, ⟨%fT8, HS8⟩, ⟨%fT9, HS9⟩, ⟨%fT10, HS10⟩, Hq0, Hq1, Hh0, Hh1, Hh2, Hh3, ⟨%W', HW'⟩⟩
        isplitl [HS0 HS1 HS2 HS3 HS4 HS5 HS6 HS7 HS8 HS9 HS10 Hg Hq0 Hq1 Hh0 Hh1 Hh2 Hh3]
        · isplitl [HS0 HS1 HS2 HS3 HS4 HS5 HS6 HS7 HS8 HS9 HS10]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _)
            isplitl [HS4]
            · iexists _; unfold owns; iexists _; isplitr
              swap; · iexact HS4
              ipureintro; rfl
            isplitl [HS5]
            · iexists _; unfold owns; iexists _; isplitr
              swap; · iexact HS5
              ipureintro; rfl
            isplitl [HS6]
            · iexists _; unfold owns; iexists _; isplitr
              swap; · iexact HS6
              ipureintro; rfl
            isplitl [HS7]
            · iexists _; unfold owns; iexists _; isplitr
              swap; · iexact HS7
              ipureintro; rfl
            isplitl [HS8]
            · iexists _; unfold owns; iexists _; isplitr
              swap; · iexact HS8
              ipureintro; rfl
            isplitl [HS9]
            · iexists _; unfold owns; iexists _; isplitr
              swap; · iexact HS9
              ipureintro; rfl
            iexists _; unfold owns; iexists _; isplitr
            swap; · iexact HS10
            ipureintro; rfl
          isplitl [Hg]
          · iexact Hg
          isplitl [Hq0 Hq1]
          · isplitl [Hq0]; · iexact Hq0
            iexact Hq1
          isplitl [Hh0 Hh1]
          · isplitl [Hh0]; · iexact Hh0
            iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _ _ _ _ _ _ _ _ _ _ _ _ _ _ _)
      · exfalso; have hN : t.val < 256 := lt_of_lt_of_eq t.isLt (show cfg0.N = 256 from N_0); omega
  · by_cases h1 : t.val % 256 = 255
    · by_cases hz : t.val = 0
      · exfalso; have hN : t.val < 256 := lt_of_lt_of_eq t.isLt (show cfg0.N = 256 from N_0); omega
      · rw [PhiS_castSucc m c t, PhiS_pos m c _ _ hz]
        rw [outsAt0_C m c t h0 h1]
        unfold out0_C_4 out0_C_5 out0_C_6 out0_C_7 sout0_C_0 sout0_C_1 sout0_C_2 sout0_C_3 hbw0_C_2 hbw0_C_3; (try dsimp only)
        iintro ⟨⟨⟨HS0, HS1, HS2, HS3, HS4, HS5, HS6, HS7, HS8, HS9, HS10⟩, Hg, ⟨Hq0, Hq1⟩, ⟨Hh0, Hh1⟩, ⟨Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _ (V m c main_arg4) (V m c main_arg5) _ _).2.2.2.2.2.2.2.2.2.2.2.2.2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [Hq0]; · iexact Hq0
        isplitl [Hq1]; · iexact Hq1
        isplitl [Hh0]; · iexact Hh0
        isplitl [Hh1]; · iexact Hh1
        isplitl [Hh2]; · iexact Hh2
        isplitl [Hh3]; · iexact Hh3
        isplitl [HW]; · iexact HW
        iintro ⟨H0, H1, H2, H3, ⟨%e4, H4⟩, ⟨%e5, H5⟩, ⟨%e6, H6⟩, ⟨%e7, H7⟩, HS0, HS1, ⟨%es2, HS2⟩, ⟨%es3, HS3⟩, ⟨%fT4, HS4⟩, ⟨%fT5, HS5⟩, ⟨%fT6, HS6⟩, ⟨%fT7, HS7⟩, ⟨%fT8, HS8⟩, ⟨%fT9, HS9⟩, ⟨%fT10, HS10⟩, Hq0, Hq1, Hh0, Hh1, Hh2, Hh3, ⟨%W', HW'⟩⟩
        isplitl [HS0 HS1 HS2 HS3 HS4 HS5 HS6 HS7 HS8 HS9 HS10 Hg Hq0 Hq1 Hh0 Hh1 Hh2 Hh3]
        · isplitl [HS0 HS1 HS2 HS3 HS4 HS5 HS6 HS7 HS8 HS9 HS10]
          · isplitl [HS0]; · iexact HS0
            isplitl [HS1]; · iexact HS1
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _)
            isplitl [HS4]
            · iexists _; unfold owns; iexists _; isplitr
              swap; · iexact HS4
              ipureintro; rfl
            isplitl [HS5]
            · iexists _; unfold owns; iexists _; isplitr
              swap; · iexact HS5
              ipureintro; rfl
            isplitl [HS6]
            · iexists _; unfold owns; iexists _; isplitr
              swap; · iexact HS6
              ipureintro; rfl
            isplitl [HS7]
            · iexists _; unfold owns; iexists _; isplitr
              swap; · iexact HS7
              ipureintro; rfl
            isplitl [HS8]
            · iexists _; unfold owns; iexists _; isplitr
              swap; · iexact HS8
              ipureintro; rfl
            isplitl [HS9]
            · iexists _; unfold owns; iexists _; isplitr
              swap; · iexact HS9
              ipureintro; rfl
            iexists _; unfold owns; iexists _; isplitr
            swap; · iexact HS10
            ipureintro; rfl
          isplitl [Hg]
          · iexact Hg
          isplitl [Hq0 Hq1]
          · isplitl [Hq0]; · iexact Hq0
            iexact Hq1
          isplitl [Hh0 Hh1]
          · isplitl [Hh0]; · iexact Hh0
            iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _ _ _ _ _ _ _ _ _ _ _ _ _ _ _ _ _ _ _ _)
    · by_cases hz : t.val = 0
      · exfalso; have hN : t.val < 256 := lt_of_lt_of_eq t.isLt (show cfg0.N = 256 from N_0); omega
      · rw [PhiS_castSucc m c t, PhiS_pos m c _ _ hz]
        rw [outsAt0_B m c t h0 h1]
        unfold out0_B_4 out0_B_5 out0_B_6 out0_B_7 sout0_B_0 sout0_B_1 sout0_B_2 sout0_B_3 hbw0_B_2 hbw0_B_3; (try dsimp only)
        iintro ⟨⟨⟨HS0, HS1, HS2, HS3, HS4, HS5, HS6, HS7, HS8, HS9, HS10⟩, Hg, ⟨Hq0, Hq1⟩, ⟨Hh0, Hh1⟩, ⟨Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _ (V m c main_arg4) (V m c main_arg5) _ _).2.2.2.2.2.2.2.2.2.2.2.2.2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [Hq0]; · iexact Hq0
        isplitl [Hq1]; · iexact Hq1
        isplitl [Hh0]; · iexact Hh0
        isplitl [Hh1]; · iexact Hh1
        isplitl [Hh2]; · iexact Hh2
        isplitl [Hh3]; · iexact Hh3
        isplitl [HW]; · iexact HW
        iintro ⟨H0, H1, H2, H3, ⟨%e4, H4⟩, ⟨%e5, H5⟩, ⟨%e6, H6⟩, ⟨%e7, H7⟩, HS0, HS1, ⟨%es2, HS2⟩, ⟨%es3, HS3⟩, ⟨%fT4, HS4⟩, ⟨%fT5, HS5⟩, ⟨%fT6, HS6⟩, ⟨%fT7, HS7⟩, ⟨%fT8, HS8⟩, ⟨%fT9, HS9⟩, ⟨%fT10, HS10⟩, Hq0, Hq1, Hh0, Hh1, Hh2, Hh3, ⟨%W', HW'⟩⟩
        isplitl [HS0 HS1 HS2 HS3 HS4 HS5 HS6 HS7 HS8 HS9 HS10 Hg Hq0 Hq1 Hh0 Hh1 Hh2 Hh3]
        · isplitl [HS0 HS1 HS2 HS3 HS4 HS5 HS6 HS7 HS8 HS9 HS10]
          · isplitl [HS0]; · iexact HS0
            isplitl [HS1]; · iexact HS1
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _)
            isplitl [HS4]
            · iexists _; unfold owns; iexists _; isplitr
              swap; · iexact HS4
              ipureintro; rfl
            isplitl [HS5]
            · iexists _; unfold owns; iexists _; isplitr
              swap; · iexact HS5
              ipureintro; rfl
            isplitl [HS6]
            · iexists _; unfold owns; iexists _; isplitr
              swap; · iexact HS6
              ipureintro; rfl
            isplitl [HS7]
            · iexists _; unfold owns; iexists _; isplitr
              swap; · iexact HS7
              ipureintro; rfl
            isplitl [HS8]
            · iexists _; unfold owns; iexists _; isplitr
              swap; · iexact HS8
              ipureintro; rfl
            isplitl [HS9]
            · iexists _; unfold owns; iexists _; isplitr
              swap; · iexact HS9
              ipureintro; rfl
            iexists _; unfold owns; iexists _; isplitr
            swap; · iexact HS10
            ipureintro; rfl
          isplitl [Hg]
          · iexact Hg
          isplitl [Hq0 Hq1]
          · isplitl [Hq0]; · iexact Hq0
            iexact Hq1
          isplitl [Hh0 Hh1]
          · isplitl [Hh0]; · iexact Hh0
            iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Gen

end
-- ==== Proof.RunHeld.lean ====
/- What the run holds after the last point. -/
module

public import proofs.«01_k».proof.Proof.RunBody

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
def hbG0 (c : Dev nD) : (b : Ref sig .tc) → Buf (Elt F) ((c : Thread nD τ).loc b) :=
  Function.update (Function.update ((V m) c) main_v4_1 (outsAt0 m c ((Fin.last cfg0.N).val - 1) (by rw [Fin.val_last]; have : cfg0.N = 256 := N_0; omega)).2.2.2.2.2.2.2.2.1) main_v4_2 (outsAt0 m c ((Fin.last cfg0.N).val - 1) (by rw [Fin.val_last]; have : cfg0.N = 256 := N_0; omega)).2.2.2.2.2.2.2.2.2
theorem hbG0_2 (c : Dev nD) : hbG0 m c main_v4_1 = (outsAt0 m c ((Fin.last cfg0.N).val - 1) (by rw [Fin.val_last]; have : cfg0.N = 256 := N_0; omega)).2.2.2.2.2.2.2.2.1 := by
  unfold hbG0; simp only [Function.update_of_ne (show (main_v4_1 : Ref sig .tc) ≠ main_v4_2 by decide), Function.update_self]
theorem hbG0_3 (c : Dev nD) : hbG0 m c main_v4_2 = (outsAt0 m c ((Fin.last cfg0.N).val - 1) (by rw [Fin.val_last]; have : cfg0.N = 256 := N_0; omega)).2.2.2.2.2.2.2.2.2 := by
  unfold hbG0; simp only [Function.update_self]
theorem heldG0_eq (G : (c : Dev nD) → (b : Ref sig .tc) → Buf (Elt F) ((c : Thread nD τ).loc b)) (c : Dev nD) :
    (Pipeline.routed R0 c (G c) : sProp 𝕄) = iprop(hbPt0 c hbM0_2 (G c main_v4_1) ∗ hbPt0 c hbM0_3 (G c main_v4_2)) := by
  unfold Pipeline.routed; rw [BI.bigSep_eq_bigSepL_of_eq [main_v4_1, main_v4_2] (by decide) (by decide)]
  simp only [BI.bigSepL_cons_cons, BI.bigSepL_singleton]; try rfl
theorem PhiDRG0_out_eq (G : (c : Dev nD) → (b : Ref sig .tc) → Buf (Elt F) ((c : Thread nD τ).loc b)) (c : Dev nD) :
    (Pipeline.ΦDRG osem0 spec0 H0 R0 (V m) G c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r) ∗ iprop(semVal ((c : Thread nD τ), SemLoc.dma 16) 0 ∗ semVal ((c : Thread nD τ), SemLoc.dma 17) 0) ∗ iprop(hbPt0 c hbM0_0 (V m c main_arg4) ∗ hbPt0 c hbM0_1 (V m c main_arg5)) ∗ iprop(hbPt0 c hbM0_2 (G c main_v4_1) ∗ hbPt0 c hbM0_3 (G c main_v4_2))) := by
  rw [Pipeline.ΦDRG_eq, scopedRest0_eq, ownSems00_eq, hbmPts0_eq, heldG0_eq G]; simp only [scM0_0, scM0_1, scM0_2, scM0_3, scM0_4, scM0_5, scM0_6, scM0_7, scM0_8, scM0_9, scM0_10, owns_whole]; try rfl

theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

theorem PhiS_at (c : Dev nD) (t : Fin (cfg0.N + 1)) : (dats m 0 c).Φ t = PhiS m c t.val (Nat.le_of_lt_succ t.isLt) := by
  dsimp only [dats]

theorem hout_at (c : Dev nD) (n : ℕ) (h : n ≤ cfg0.N) (hz : n ≠ 0) :
    PhiS m c n h ⊢ (iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r) ∗ iprop(semVal ((c : Thread nD τ), SemLoc.dma 16) 0 ∗ semVal ((c : Thread nD τ), SemLoc.dma 17) 0) ∗ iprop(hbPt0 c hbM0_0 (V m c main_arg4) ∗ hbPt0 c hbM0_1 (V m c main_arg5)) ∗ iprop(hbPt0 c hbM0_2 ((outsAt0 m c (n - 1) (by omega)).2.2.2.2.2.2.2.2.1) ∗ hbPt0 c hbM0_3 ((outsAt0 m c (n - 1) (by omega)).2.2.2.2.2.2.2.2.2))) : sProp 𝕄) := by
  rw [PhiS_pos m c n h hz]
  iintro ⟨⟨HS0, HS1, HS2, HS3, HS4, HS5, HS6, HS7, HS8, HS9, HS10⟩, Hg, ⟨Hq0, Hq1⟩, ⟨Hh0, Hh1⟩, ⟨Hh2, Hh3⟩⟩
  isplitl [HS0 HS1 HS2 HS3 HS4 HS5 HS6 HS7 HS8 HS9 HS10]
  · isplitl [HS0]
    · iexists _; iexact HS0
    isplitl [HS1]
    · iexists _; iexact HS1
    isplitl [HS2]
    · iexists _; iexact HS2
    isplitl [HS3]
    · iexists _; iexact HS3
    isplitl [HS4]
    · iexact HS4
    isplitl [HS5]
    · iexact HS5
    isplitl [HS6]
    · iexact HS6
    isplitl [HS7]
    · iexact HS7
    isplitl [HS8]
    · iexact HS8
    isplitl [HS9]
    · iexact HS9
    iexact HS10
  isplitl [Hg]; · iexact Hg
  isplitl [Hq0 Hq1]
  · isplitl [Hq0]; · iexact Hq0
    iexact Hq1
  isplitl [Hh0 Hh1]
  · isplitl [Hh0]; · iexact Hh0
    iexact Hh1
  isplitl [Hh2]; · iexact Hh2
  iexact Hh3

theorem hout_of (G : (c : Dev nD) → (b : Ref sig .tc) → Buf (Elt F) ((c : Thread nD τ).loc b)) (c : Dev nD) (t : Fin (cfg0.N + 1)) (hz : t.val ≠ 0)
    (e2 : G c main_v4_1 = (outsAt0 m c (t.val - 1) (by omega)).2.2.2.2.2.2.2.2.1) (e3 : G c main_v4_2 = (outsAt0 m c (t.val - 1) (by omega)).2.2.2.2.2.2.2.2.2) :
    (dats m 0 c).Φ t ⊢ Pipeline.ΦDRG osem0 spec0 H0 R0 (V m) G c := by
  rw [PhiS_at m c t, PhiDRG0_out_eq m G, e2, e3]
  exact hout_at m c t.val _ hz

theorem hout (c : Dev nD) : (dats m 0 c).Φ (Fin.last cfg0.N) ⊢ Pipeline.ΦDRG osem0 spec0 H0 R0 (V m) (hbG0 m) c :=
  hout_of m (hbG0 m) c (Fin.last cfg0.N) (by rw [Fin.val_last]; have : cfg0.N = 256 := N_0; omega) (hbG0_2 m c) (hbG0_3 m c)

end Cert.KernelIdeal.Gen

end
-- ==== Proof.RunLaunch.lean ====
/- The launch of the kernel: every run ends, and what the arrays then hold. -/
module

public import proofs.«01_k».proof.Proof.RunHeld

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The run and the frame -/

-- `θ_run_frame_dmaRG`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m)
    (hin := hin m) (hout := hout m)

theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.toR) (run_main m ρ))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.KernelFrame.lean ====
/- The frame of the program at machine words, from the frame of the program at ideal numbers: the two programs are the
   same text over any float instance, so the proof for the second, which holds at any instance, is one for the first. -/
module

public import proofs.«01_k».proof.Defs
public import proofs.«01_k».proof.Proof.Gen.Kernel
public import proofs.«01_k».proof.Proof.RunLaunch

@[expose] public section
set_option maxRecDepth 65536
set_option maxHeartbeats 4000000

/-! ## The two programs are equal -/

namespace Cert.Same
open Idealize.ShloMosaic

variable {F : FTy → Type} [FloatOps F]

/-- The kernel bodies are equal. -/
theorem body_eq : @Cert.Kernel.cc0_swiglu_fused F _ Cert.Kernel.Gen.facts = @Cert.KernelIdeal.cc0_swiglu_fused F _ Cert.KernelIdeal.Gen.facts := rfl
/-- So are the tables of kernel bodies, -/
theorem defs₀_eq : @Cert.Kernel.defs₀ F _ Cert.Kernel.Gen.facts = @Cert.KernelIdeal.defs₀ F _ Cert.KernelIdeal.Gen.facts :=
  congrArg (Defs.onTc (nD := Cert.KernelIdeal.nD) (τ := Cert.KernelIdeal.τ) (sig := Cert.KernelIdeal.sig) (Val := Elt F) (Λ := Cert.KernelIdeal.Λ₀)) (funext fun l => funext fun a => match l, a with
    | 0, (_, _) => rfl)

/-- the tables with the pipelines, -/
theorem defs_eq : @Cert.Kernel.defs F _ Cert.Kernel.Gen.facts = @Cert.KernelIdeal.defs F _ Cert.KernelIdeal.Gen.facts :=
  congrArg (Pipeline.defs (Cert.KernelIdeal.pcfgs (F := F))) defs₀_eq

/-- and the host programs. -/
theorem main_eq : @Cert.Kernel.main F _ = @Cert.KernelIdeal.main F _ := rfl

/-- The program at machine words runs, leaves its arguments as they were, and ends quiescent. -/
theorem frame : Cert.quiescent_Kernel (hKernel := Cert.Kernel.Gen.facts) := fun m ρ _ => by
  have h := Cert.KernelIdeal.Gen.frame (F := Bits) m ρ
  rw [← defs_eq (F := Bits), ← main_eq (F := Bits)] at h
  exact h

end Cert.Same
end
-- ==== Proof.RunValue.lean ====
/- What the arrays hold after the run, block by block. -/
module

public import proofs.«01_k».proof.Proof.RunLaunch
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post4 (r : PUnit × MemSt nD τ sig (Elt F)) (h : Pipeline.FramePostRG cfgs (dats m) 0 R0 (V m) (hbG0 m) r) (c : Dev nD) :
    r.2.mem ((c : Thread nD τ).loc main_v4_0) = (dats m 0 c).arrAt 4 cfg0.N :=
  (h.toR c).1 4

theorem post5 (r : PUnit × MemSt nD τ sig (Elt F)) (h : Pipeline.FramePostRG cfgs (dats m) 0 R0 (V m) (hbG0 m) r) (c : Dev nD) :
    r.2.mem ((c : Thread nD τ).loc main_v4_3) = (dats m 0 c).arrAt 5 cfg0.N :=
  (h.toR c).1 5

theorem post6 (r : PUnit × MemSt nD τ sig (Elt F)) (h : Pipeline.FramePostRG cfgs (dats m) 0 R0 (V m) (hbG0 m) r) (c : Dev nD) :
    r.2.mem ((c : Thread nD τ).loc main_v4_4) = (dats m 0 c).arrAt 6 cfg0.N :=
  (h.toR c).1 6

theorem post7 (r : PUnit × MemSt nD τ sig (Elt F)) (h : Pipeline.FramePostRG cfgs (dats m) 0 R0 (V m) (hbG0 m) r) (c : Dev nD) :
    r.2.mem ((c : Thread nD τ).loc main_v4_5) = (dats m 0 c).arrAt 7 cfg0.N :=
  (h.toR c).1 7

theorem kept_main_arg0 (r : PUnit × MemSt nD τ sig (Elt F)) (h : Pipeline.FramePostRG cfgs (dats m) 0 R0 (V m) (hbG0 m) r) (c : Dev nD) :
    r.2.mem ((c : Thread nD τ).loc main_arg0) = m ((c : Thread nD τ).loc main_arg0) :=
  ((h.toR c).2 main_arg0 (Finset.mem_sdiff.mpr ⟨Pipeline.mem_restRefs_of main_arg0 (by decide) (by decide), by decide⟩)).trans (V_main_arg0 m c)

theorem kept_main_arg1 (r : PUnit × MemSt nD τ sig (Elt F)) (h : Pipeline.FramePostRG cfgs (dats m) 0 R0 (V m) (hbG0 m) r) (c : Dev nD) :
    r.2.mem ((c : Thread nD τ).loc main_arg1) = m ((c : Thread nD τ).loc main_arg1) :=
  ((h.toR c).2 main_arg1 (Finset.mem_sdiff.mpr ⟨Pipeline.mem_restRefs_of main_arg1 (by decide) (by decide), by decide⟩)).trans (V_main_arg1 m c)

theorem kept_main_arg2 (r : PUnit × MemSt nD τ sig (Elt F)) (h : Pipeline.FramePostRG cfgs (dats m) 0 R0 (V m) (hbG0 m) r) (c : Dev nD) :
    r.2.mem ((c : Thread nD τ).loc main_arg2) = m ((c : Thread nD τ).loc main_arg2) :=
  ((h.toR c).2 main_arg2 (Finset.mem_sdiff.mpr ⟨Pipeline.mem_restRefs_of main_arg2 (by decide) (by decide), by decide⟩)).trans (V_main_arg2 m c)

theorem kept_main_arg3 (r : PUnit × MemSt nD τ sig (Elt F)) (h : Pipeline.FramePostRG cfgs (dats m) 0 R0 (V m) (hbG0 m) r) (c : Dev nD) :
    r.2.mem ((c : Thread nD τ).loc main_arg3) = m ((c : Thread nD τ).loc main_arg3) :=
  ((h.toR c).2 main_arg3 (Finset.mem_sdiff.mpr ⟨Pipeline.mem_restRefs_of main_arg3 (by decide) (by decide), by decide⟩)).trans (V_main_arg3 m c)

theorem kept_main_arg4 (r : PUnit × MemSt nD τ sig (Elt F)) (h : Pipeline.FramePostRG cfgs (dats m) 0 R0 (V m) (hbG0 m) r) (c : Dev nD) :
    r.2.mem ((c : Thread nD τ).loc main_arg4) = m ((c : Thread nD τ).loc main_arg4) :=
  ((h.toR c).2 main_arg4 (Finset.mem_sdiff.mpr ⟨Pipeline.mem_restRefs_of main_arg4 (by decide) (by decide), by decide⟩)).trans (V_main_arg4 m c)

theorem kept_main_arg5 (r : PUnit × MemSt nD τ sig (Elt F)) (h : Pipeline.FramePostRG cfgs (dats m) 0 R0 (V m) (hbG0 m) r) (c : Dev nD) :
    r.2.mem ((c : Thread nD τ).loc main_arg5) = m ((c : Thread nD τ).loc main_arg5) :=
  ((h.toR c).2 main_arg5 (Finset.mem_sdiff.mpr ⟨Pipeline.mem_restRefs_of main_arg5 (by decide) (by decide), by decide⟩)).trans (V_main_arg5 m c)

theorem held_main_v4_1 (r : PUnit × MemSt nD τ sig (Elt F)) (h : Pipeline.FramePostRG cfgs (dats m) 0 R0 (V m) (hbG0 m) r) (c : Dev nD) :
    r.2.mem ((c : Thread nD τ).loc main_v4_1) = hbG0 m c main_v4_1 :=
  h.written c (by decide : main_v4_1 ∈ R0)

theorem held_main_v4_2 (r : PUnit × MemSt nD τ sig (Elt F)) (h : Pipeline.FramePostRG cfgs (dats m) 0 R0 (V m) (hbG0 m) r) (c : Dev nD) :
    r.2.mem ((c : Thread nD τ).loc main_v4_2) = hbG0 m c main_v4_2 :=
  h.written c (by decide : main_v4_2 ∈ R0)

theorem run_blocks : θ_run defs (onTc (τ := τ) (main (F := F))) ⟨m, fun _ => 0, ρ⟩ fun r => ∀ c : Dev nD,
      r.2.mem ((c : Thread nD τ).loc main_v4_0) = (dats m 0 c).arrAt 4 cfg0.N
      ∧ r.2.mem ((c : Thread nD τ).loc main_v4_3) = (dats m 0 c).arrAt 5 cfg0.N
      ∧ r.2.mem ((c : Thread nD τ).loc main_v4_4) = (dats m 0 c).arrAt 6 cfg0.N
      ∧ r.2.mem ((c : Thread nD τ).loc main_v4_5) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_v4_1) = hbG0 m c main_v4_1
      ∧ r.2.mem ((c : Thread nD τ).loc main_v4_2) = hbG0 m c main_v4_2 :=
  (θ_run defs _ _).mono (fun r h c => ⟨post4 m r h c,
      post5 m r h c,
      post6 m r h c,
      post7 m r h c,
      kept_main_arg0 m r h c,
      kept_main_arg1 m r h c,
      kept_main_arg2 m r h c,
      kept_main_arg3 m r h c,
      kept_main_arg4 m r h c,
      kept_main_arg5 m r h c,
      held_main_v4_1 m r h c,
      held_main_v4_2 m r h c⟩)
    (run_main m ρ)

end Cert.KernelIdeal.Value

end
-- ==== Proof.Spec.lean ====
/- The arithmetic of the gated feed-forward layer's backward pass for ONE token, over the extended reals: a token's row of
   activations and its row of output gradients against the two weight matrices. Both programs are read down to these functions. -/
module

public import Idealize.ShloMosaic.Lib.Pointwise

@[expose] public section

noncomputable section

namespace Cert.Spec

open Idealize.ShloMosaic

/-- The gate and up weights side by side. -/
abbrev WG : Type := (⟨2, ![1024, 5632]⟩ : Shape).Idx → EReal

/-- The down weights. -/
abbrev WD : Type := (⟨2, ![2816, 1024]⟩ : Shape).Idx → EReal

/-- Column `f` of the gate half. -/
def gcol (f : Fin 2816) : Fin 5632 := ⟨f.val, by omega⟩

/-- Column `f` of the up half. -/
def ucol (f : Fin 2816) : Fin 5632 := ⟨2816 + f.val, by omega⟩

/-- The gate's pre-activation. -/
def gate (x : Fin 1024 → EReal) (w : WG) (f : Fin 2816) : EReal := ∑ k : Fin 1024, x k * w (ix2 k (gcol f))

/-- The up projection. -/
def up (x : Fin 1024 → EReal) (w : WG) (f : Fin 2816) : EReal := ∑ k : Fin 1024, x k * w (ix2 k (ucol f))

/-- The gradient of the hidden activation. -/
def dh (y : Fin 1024 → EReal) (d : WD) (f : Fin 2816) : EReal := ∑ k : Fin 1024, y k * d (ix2 f k)

/-- The hidden activation from the two projections. -/
def hidOf (g u : EReal) : EReal := g * Ideal.logistic g * u

/-- The gradient of the gate's pre-activation. -/
def dgOf (g u e : EReal) : EReal := e * u * Ideal.logistic g * (1 + g * (1 - Ideal.logistic g))

/-- The gradient of the up projection. -/
def duOf (g e : EReal) : EReal := e * (g * Ideal.logistic g)

def hid (x : Fin 1024 → EReal) (w : WG) (f : Fin 2816) : EReal := hidOf (gate x w f) (up x w f)

def dgate (x y : Fin 1024 → EReal) (w : WG) (d : WD) (f : Fin 2816) : EReal := dgOf (gate x w f) (up x w f) (dh y d f)

def dup (x y : Fin 1024 → EReal) (w : WG) (d : WD) (f : Fin 2816) : EReal := duOf (gate x w f) (dh y d f)

/-- The gradient of the token's activations. -/
def dx (x y : Fin 1024 → EReal) (w : WG) (d : WD) (k : Fin 1024) : EReal :=
  (∑ f : Fin 2816, dgate x y w d f * w (ix2 k (gcol f))) + ∑ f : Fin 2816, dup x y w d f * w (ix2 k (ucol f))

/-- The largest magnitude in group `c` of 128 columns. -/
def amax (v : Fin 2816 → EReal) (c : Fin 22) : EReal :=
  Finset.univ.fold max (Ideal.ofBits .f32 0xFF800000#32) fun l : Fin 128 =>
    max (v ⟨c.val * 128 + l.val, by omega⟩) (-v ⟨c.val * 128 + l.val, by omega⟩)

/-- One row of a dequantised matrix: codes times the scale of their group of 128 columns. -/
def row (q : Fin 1024 → EReal) (s : Fin 8 → EReal) : Fin 1024 → EReal := fun k => q k * s ⟨k.val / 128, by omega⟩

end Cert.Spec

end
-- ==== Proof.Block.lean ====
/- What one block of 256 tokens contributes: the block's matrices, chunk by chunk of 256 hidden columns, in terms of the
   one-token functions. -/
module

public import proofs.«01_k».proof.Proof.Gen.KernelIdeal.Skeleton
public import proofs.«01_k».proof.Proof.Spec

@[expose] public section

noncomputable section

namespace Cert.KernelIdeal.Block

open Cert.KernelIdeal Cert.KernelIdeal.Gen Idealize.ShloMosaic Cert.Spec

variable (x0 : Vec Ideal S256x1024 .fp8e4m3) (x1 : Vec Ideal S256x8 .f32) (x2 : Vec Ideal S256x1024 .fp8e5m2)
  (x3 : Vec Ideal S256x8 .f32) (w : Vec Ideal S1024x5632 .bf16) (d : Vec Ideal S2816x1024 .bf16)

/-- The block's row `r` of dequantised activations. -/
def xr (r : Fin 256) : Fin 1024 → EReal := row (fun k => x0 (ix2 r k)) (fun g => x1 (ix2 r g))

/-- The block's row `r` of dequantised output gradients. -/
def yr (r : Fin 256) : Fin 1024 → EReal := row (fun k => x2 (ix2 r k)) (fun g => x3 (ix2 r g))

/-- The block of activations. -/
def XB : Vec Ideal S256x1024 .bf16 := fun i => xr x0 x1 (i 0) (i 1)

/-- The block of output gradients. -/
def YB : Vec Ideal S256x1024 .bf16 := fun i => yr x2 x3 (i 0) (i 1)

/-- The block of activations, transposed. -/
def XT : Vec Ideal S1024x256 .bf16 := fun i => xr x0 x1 (i 1) (i 0)

/-- Hidden column `l` of chunk `j`. -/
def fi (j : Fin 11) (l : Fin 256) : Fin 2816 := ⟨256 * j.val + l.val, by omega⟩

/-- Chunk `j` of the hidden activation, transposed, as the kernel keeps it. -/
def H3 (j : Fin 11) : Vec Ideal S1x256x256 .bf16 := fun i => hid (xr x0 x1 (i 2)) w (fi j (i 1))

/-- Chunk `j` of the gradient of the gate's pre-activation. -/
def DG3 (j : Fin 11) : Vec Ideal S1x256x256 .bf16 := fun i => dgate (xr x0 x1 (i 1)) (yr x2 x3 (i 1)) w d (fi j (i 2))

/-- Chunk `j` of the gradient of the up projection. -/
def DU3 (j : Fin 11) : Vec Ideal S1x256x256 .bf16 := fun i => dup (xr x0 x1 (i 1)) (yr x2 x3 (i 1)) w d (fi j (i 2))

/-- Chunk `j`'s part of the gradient of the activations. -/
def PX (j : Fin 11) (r : Fin 256) (k : Fin 1024) : EReal :=
  (∑ l : Fin 256, dgate (xr x0 x1 r) (yr x2 x3 r) w d (fi j l) * w (ix2 k (gcol (fi j l)))) +
    ∑ l : Fin 256, dup (xr x0 x1 r) (yr x2 x3 r) w d (fi j l) * w (ix2 k (ucol (fi j l)))

/-- The parts of chunks `0` to `j`, added up. -/
def DXA (j : Fin 11) : Vec Ideal S256x1024 .f32 := fun i =>
  ∑ q : Fin (j.val + 1), PX x0 x1 x2 x3 w d (q.castLE (by omega)) (i 0) (i 1)

theorem XB_apply (r : Fin 256) (k : Fin 1024) : XB x0 x1 (ix2 r k) = xr x0 x1 r k := rfl
theorem YB_apply (r : Fin 256) (k : Fin 1024) : YB x2 x3 (ix2 r k) = yr x2 x3 r k := rfl
theorem XT_apply (k : Fin 1024) (r : Fin 256) : XT x0 x1 (ix2 k r) = xr x0 x1 r k := rfl
theorem H3_apply (j : Fin 11) (b : Fin 1) (l r : Fin 256) : H3 x0 x1 w j (ix3 b l r) = hid (xr x0 x1 r) w (fi j l) := rfl
theorem DG3_apply (j : Fin 11) (b : Fin 1) (r l : Fin 256) :
    DG3 x0 x1 x2 x3 w d j (ix3 b r l) = dgate (xr x0 x1 r) (yr x2 x3 r) w d (fi j l) := rfl
theorem DU3_apply (j : Fin 11) (b : Fin 1) (r l : Fin 256) :
    DU3 x0 x1 x2 x3 w d j (ix3 b r l) = dup (xr x0 x1 r) (yr x2 x3 r) w d (fi j l) := rfl

theorem DXA_zero (r : Fin 256) (k : Fin 1024) : DXA x0 x1 x2 x3 w d 0 (ix2 r k) = PX x0 x1 x2 x3 w d 0 r k :=
  Fin.sum_univ_one _

theorem DXA_succ (n : Nat) (h : n + 1 < 11) (r : Fin 256) (k : Fin 1024) :
    DXA x0 x1 x2 x3 w d ⟨n + 1, h⟩ (ix2 r k) =
      DXA x0 x1 x2 x3 w d ⟨n, by omega⟩ (ix2 r k) + PX x0 x1 x2 x3 w d ⟨n + 1, h⟩ r k :=
  Fin.sum_univ_castSucc _

/-- A product with a column of the gate half of the weights is the gate's pre-activation. -/
theorem gate_at (f₀ : Fin 2816) (n : Nat) (hn : f₀.val = n) (x : Fin 1024 → EReal) (f : Fin 5632) (h : f.val = n) :
    (∑ k : Fin 1024, x k * w (ix2 k f)) = gate x w f₀ := by
  rw [show f = gcol f₀ from Fin.ext (h.trans hn.symm)]; rfl

theorem up_at (f₀ : Fin 2816) (n : Nat) (hn : f₀.val = n) (x : Fin 1024 → EReal) (f : Fin 5632) (h : f.val = 2816 + n) :
    (∑ k : Fin 1024, x k * w (ix2 k f)) = up x w f₀ := by
  rw [show f = ucol f₀ from Fin.ext (h.trans (by rw [← hn]; rfl))]; rfl

theorem dh_at (f₀ : Fin 2816) (n : Nat) (hn : f₀.val = n) (y : Fin 1024 → EReal) (f : Fin 2816) (h : f.val = n) :
    (∑ k : Fin 1024, y k * d (ix2 f k)) = dh y d f₀ := by
  rw [show f = f₀ from Fin.ext (h.trans hn.symm)]; rfl

end Cert.KernelIdeal.Block

end
-- ==== Proof.BlockBwd.lean ====
/- Each chunk of the gradient of the activations and of the two weight gradients. -/
module

public import proofs.«01_k».proof.Proof.Block

@[expose] public section

set_option maxRecDepth 16384

noncomputable section

namespace Cert.KernelIdeal.Block

open Cert.KernelIdeal Cert.KernelIdeal.Gen Idealize.ShloMosaic Cert.Spec

variable (x0 : Vec Ideal S256x1024 .fp8e4m3) (x1 : Vec Ideal S256x8 .f32) (x2 : Vec Ideal S256x1024 .fp8e5m2)
  (x3 : Vec Ideal S256x8 .f32) (w : Vec Ideal S1024x5632 .bf16) (d : Vec Ideal S2816x1024 .bf16)

theorem dxa_0 : k0_pay76 (DG3 x0 x1 x2 x3 w d 0) (View.ld w (Rect.unit (s := S1024x5632) ![0, 0] S1024x256.size inb_S1024x5632_S1024x256_0_0)) (DU3 x0 x1 x2 x3 w d 0) (View.ld w (Rect.unit (s := S1024x5632) ![0, 2816] S1024x256.size inb_S1024x5632_S1024x256_0_2816)) =
    DXA x0 x1 x2 x3 w d 0 := by
  funext i; idx_vars i
  unfold_payloads
  pointwise []
  exact (DXA_zero x0 x1 x2 x3 w d i0 i1).symm

theorem gg_0 (v : Vec Ideal S1024x256 .f32) (k : Fin 1024) (l : Fin 256) :
    (k0_pay78 (k0_pay77 v (XT x0 x1) (DG3 x0 x1 x2 x3 w d 0))) (ix2 k l) =
    v (ix2 k l) + ∑ r : Fin 256, xr x0 x1 r k * dgate (xr x0 x1 r) (yr x2 x3 r) w d (fi 0 l) := by
  unfold_payloads
  pointwise []
  rfl

theorem gu_0 (v : Vec Ideal S1024x256 .f32) (k : Fin 1024) (l : Fin 256) :
    (k0_pay79 v (XT x0 x1) (DU3 x0 x1 x2 x3 w d 0)) (ix2 k l) =
    v (ix2 k l) + ∑ r : Fin 256, xr x0 x1 r k * dup (xr x0 x1 r) (yr x2 x3 r) w d (fi 0 l) := by
  unfold_payloads
  pointwise []
  rfl

theorem dd_0 (v : Vec Ideal S256x1024 .f32) (l : Fin 256) (k : Fin 1024) :
    (k0_pay80 v (H3 x0 x1 w 0) (YB x2 x3)) (ix2 l k) =
    v (ix2 l k) + ∑ r : Fin 256, hid (xr x0 x1 r) w (fi 0 l) * yr x2 x3 r k := by
  unfold_payloads
  pointwise []
  rfl

theorem dxa_1 : k0_pay99 (k0_pay98 (DG3 x0 x1 x2 x3 w d 1)) (View.ld w (Rect.unit (s := S1024x5632) ![0, 256] S1024x256.size inb_S1024x5632_S1024x256_0_256)) (DU3 x0 x1 x2 x3 w d 1) (View.ld w (Rect.unit (s := S1024x5632) ![0, 3072] S1024x256.size inb_S1024x5632_S1024x256_0_3072)) (DXA x0 x1 x2 x3 w d 0) =
    DXA x0 x1 x2 x3 w d 1 := by
  funext i; idx_vars i
  unfold_payloads
  pointwise []
  exact (DXA_succ x0 x1 x2 x3 w d 0 (by omega) i0 i1).symm

theorem gg_1 (v : Vec Ideal S1024x256 .f32) (k : Fin 1024) (l : Fin 256) :
    (k0_pay100 v (XT x0 x1) (DG3 x0 x1 x2 x3 w d 1)) (ix2 k l) =
    v (ix2 k l) + ∑ r : Fin 256, xr x0 x1 r k * dgate (xr x0 x1 r) (yr x2 x3 r) w d (fi 1 l) := by
  unfold_payloads
  pointwise []
  rfl

theorem gu_1 (v : Vec Ideal S1024x256 .f32) (k : Fin 1024) (l : Fin 256) :
    (k0_pay102 (k0_pay101 v (XT x0 x1) (DU3 x0 x1 x2 x3 w d 1))) (ix2 k l) =
    v (ix2 k l) + ∑ r : Fin 256, xr x0 x1 r k * dup (xr x0 x1 r) (yr x2 x3 r) w d (fi 1 l) := by
  unfold_payloads
  pointwise []
  rfl

theorem dd_1 (v : Vec Ideal S256x1024 .f32) (l : Fin 256) (k : Fin 1024) :
    (k0_pay103 v (H3 x0 x1 w 1) (YB x2 x3)) (ix2 l k) =
    v (ix2 l k) + ∑ r : Fin 256, hid (xr x0 x1 r) w (fi 1 l) * yr x2 x3 r k := by
  unfold_payloads
  pointwise []
  rfl

theorem dxa_2 : k0_pay123 (k0_pay122 (DG3 x0 x1 x2 x3 w d 2) (View.ld w (Rect.unit (s := S1024x5632) ![0, 512] S1024x256.size inb_S1024x5632_S1024x256_0_512)) (DU3 x0 x1 x2 x3 w d 2) (View.ld w (Rect.unit (s := S1024x5632) ![0, 3328] S1024x256.size inb_S1024x5632_S1024x256_0_3328))) (DXA x0 x1 x2 x3 w d 1) =
    DXA x0 x1 x2 x3 w d 2 := by
  funext i; idx_vars i
  unfold_payloads
  pointwise []
  exact (DXA_succ x0 x1 x2 x3 w d 1 (by omega) i0 i1).symm

theorem gg_2 (v : Vec Ideal S1024x256 .f32) (k : Fin 1024) (l : Fin 256) :
    (k0_pay124 v (XT x0 x1) (DG3 x0 x1 x2 x3 w d 2)) (ix2 k l) =
    v (ix2 k l) + ∑ r : Fin 256, xr x0 x1 r k * dgate (xr x0 x1 r) (yr x2 x3 r) w d (fi 2 l) := by
  unfold_payloads
  pointwise []
  rfl

theorem gu_2 (v : Vec Ideal S1024x256 .f32) (k : Fin 1024) (l : Fin 256) :
    (k0_pay125 v (XT x0 x1) (DU3 x0 x1 x2 x3 w d 2)) (ix2 k l) =
    v (ix2 k l) + ∑ r : Fin 256, xr x0 x1 r k * dup (xr x0 x1 r) (yr x2 x3 r) w d (fi 2 l) := by
  unfold_payloads
  pointwise []
  rfl

theorem dd_2 (v : Vec Ideal S256x1024 .f32) (l : Fin 256) (k : Fin 1024) :
    (k0_pay127 v (k0_pay126 (H3 x0 x1 w 2)) (YB x2 x3) (constant S256x1024 FTy.f32 0#32)) (ix2 l k) =
    v (ix2 l k) + ∑ r : Fin 256, hid (xr x0 x1 r) w (fi 2 l) * yr x2 x3 r k := by
  unfold_payloads
  pointwise []
  rfl

theorem dxa_3 : k0_pay146 (DG3 x0 x1 x2 x3 w d 3) (View.ld w (Rect.unit (s := S1024x5632) ![0, 768] S1024x256.size inb_S1024x5632_S1024x256_0_768)) (DU3 x0 x1 x2 x3 w d 3) (View.ld w (Rect.unit (s := S1024x5632) ![0, 3584] S1024x256.size inb_S1024x5632_S1024x256_0_3584)) (DXA x0 x1 x2 x3 w d 2) =
    DXA x0 x1 x2 x3 w d 3 := by
  funext i; idx_vars i
  unfold_payloads
  pointwise []
  exact (DXA_succ x0 x1 x2 x3 w d 2 (by omega) i0 i1).symm

theorem gg_3 (v : Vec Ideal S1024x256 .f32) (k : Fin 1024) (l : Fin 256) :
    (k0_pay147 v (XT x0 x1) (DG3 x0 x1 x2 x3 w d 3)) (ix2 k l) =
    v (ix2 k l) + ∑ r : Fin 256, xr x0 x1 r k * dgate (xr x0 x1 r) (yr x2 x3 r) w d (fi 3 l) := by
  unfold_payloads
  pointwise []
  rfl

theorem gu_3 (v : Vec Ideal S1024x256 .f32) (k : Fin 1024) (l : Fin 256) :
    (k0_pay148 v (XT x0 x1) (DU3 x0 x1 x2 x3 w d 3)) (ix2 k l) =
    v (ix2 k l) + ∑ r : Fin 256, xr x0 x1 r k * dup (xr x0 x1 r) (yr x2 x3 r) w d (fi 3 l) := by
  unfold_payloads
  pointwise []
  rfl

theorem dd_3 (v : Vec Ideal S256x1024 .f32) (l : Fin 256) (k : Fin 1024) :
    (k0_pay149 v (H3 x0 x1 w 3) (YB x2 x3)) (ix2 l k) =
    v (ix2 l k) + ∑ r : Fin 256, hid (xr x0 x1 r) w (fi 3 l) * yr x2 x3 r k := by
  unfold_payloads
  pointwise []
  rfl

theorem dxa_4 : k0_pay167 (DG3 x0 x1 x2 x3 w d 4) (View.ld w (Rect.unit (s := S1024x5632) ![0, 1024] S1024x256.size inb_S1024x5632_S1024x256_0_1024)) (DU3 x0 x1 x2 x3 w d 4) (View.ld w (Rect.unit (s := S1024x5632) ![0, 3840] S1024x256.size inb_S1024x5632_S1024x256_0_3840)) (DXA x0 x1 x2 x3 w d 3) =
    DXA x0 x1 x2 x3 w d 4 := by
  funext i; idx_vars i
  unfold_payloads
  pointwise []
  exact (DXA_succ x0 x1 x2 x3 w d 3 (by omega) i0 i1).symm

theorem gg_4 (v : Vec Ideal S1024x256 .f32) (k : Fin 1024) (l : Fin 256) :
    (k0_pay168 v (XT x0 x1) (DG3 x0 x1 x2 x3 w d 4)) (ix2 k l) =
    v (ix2 k l) + ∑ r : Fin 256, xr x0 x1 r k * dgate (xr x0 x1 r) (yr x2 x3 r) w d (fi 4 l) := by
  unfold_payloads
  pointwise []
  rfl

theorem gu_4 (v : Vec Ideal S1024x256 .f32) (k : Fin 1024) (l : Fin 256) :
    (k0_pay169 v (XT x0 x1) (DU3 x0 x1 x2 x3 w d 4)) (ix2 k l) =
    v (ix2 k l) + ∑ r : Fin 256, xr x0 x1 r k * dup (xr x0 x1 r) (yr x2 x3 r) w d (fi 4 l) := by
  unfold_payloads
  pointwise []
  rfl

theorem dd_4 (v : Vec Ideal S256x1024 .f32) (l : Fin 256) (k : Fin 1024) :
    (k0_pay170 v (H3 x0 x1 w 4) (YB x2 x3)) (ix2 l k) =
    v (ix2 l k) + ∑ r : Fin 256, hid (xr x0 x1 r) w (fi 4 l) * yr x2 x3 r k := by
  unfold_payloads
  pointwise []
  rfl

theorem dxa_5 : k0_pay191 (k0_pay190 (DG3 x0 x1 x2 x3 w d 5) (View.ld w (Rect.unit (s := S1024x5632) ![0, 1280] S1024x256.size inb_S1024x5632_S1024x256_0_1280))) (DU3 x0 x1 x2 x3 w d 5) (View.ld w (Rect.unit (s := S1024x5632) ![0, 4096] S1024x256.size inb_S1024x5632_S1024x256_0_4096)) (DXA x0 x1 x2 x3 w d 4) =
    DXA x0 x1 x2 x3 w d 5 := by
  funext i; idx_vars i
  unfold_payloads
  pointwise []
  exact (DXA_succ x0 x1 x2 x3 w d 4 (by omega) i0 i1).symm

theorem gg_5 (v : Vec Ideal S1024x256 .f32) (k : Fin 1024) (l : Fin 256) :
    (k0_pay192 v (XT x0 x1) (DG3 x0 x1 x2 x3 w d 5)) (ix2 k l) =
    v (ix2 k l) + ∑ r : Fin 256, xr x0 x1 r k * dgate (xr x0 x1 r) (yr x2 x3 r) w d (fi 5 l) := by
  unfold_payloads
  pointwise []
  rfl

theorem gu_5 (v : Vec Ideal S1024x256 .f32) (k : Fin 1024) (l : Fin 256) :
    (k0_pay193 v (XT x0 x1) (DU3 x0 x1 x2 x3 w d 5)) (ix2 k l) =
    v (ix2 k l) + ∑ r : Fin 256, xr x0 x1 r k * dup (xr x0 x1 r) (yr x2 x3 r) w d (fi 5 l) := by
  unfold_payloads
  pointwise []
  rfl

theorem dd_5 (v : Vec Ideal S256x1024 .f32) (l : Fin 256) (k : Fin 1024) :
    (k0_pay194 v (H3 x0 x1 w 5) (YB x2 x3)) (ix2 l k) =
    v (ix2 l k) + ∑ r : Fin 256, hid (xr x0 x1 r) w (fi 5 l) * yr x2 x3 r k := by
  unfold_payloads
  pointwise []
  rfl

theorem dxa_6 : k0_pay215 (DG3 x0 x1 x2 x3 w d 6) (View.ld w (Rect.unit (s := S1024x5632) ![0, 1536] S1024x256.size inb_S1024x5632_S1024x256_0_1536)) (DU3 x0 x1 x2 x3 w d 6) (View.ld w (Rect.unit (s := S1024x5632) ![0, 4352] S1024x256.size inb_S1024x5632_S1024x256_0_4352)) (DXA x0 x1 x2 x3 w d 5) =
    DXA x0 x1 x2 x3 w d 6 := by
  funext i; idx_vars i
  unfold_payloads
  pointwise []
  exact (DXA_succ x0 x1 x2 x3 w d 5 (by omega) i0 i1).symm

theorem gg_6 (v : Vec Ideal S1024x256 .f32) (k : Fin 1024) (l : Fin 256) :
    (k0_pay216 v (XT x0 x1) (DG3 x0 x1 x2 x3 w d 6)) (ix2 k l) =
    v (ix2 k l) + ∑ r : Fin 256, xr x0 x1 r k * dgate (xr x0 x1 r) (yr x2 x3 r) w d (fi 6 l) := by
  unfold_payloads
  pointwise []
  rfl

theorem gu_6 (v : Vec Ideal S1024x256 .f32) (k : Fin 1024) (l : Fin 256) :
    (k0_pay217 v (XT x0 x1) (DU3 x0 x1 x2 x3 w d 6)) (ix2 k l) =
    v (ix2 k l) + ∑ r : Fin 256, xr x0 x1 r k * dup (xr x0 x1 r) (yr x2 x3 r) w d (fi 6 l) := by
  unfold_payloads
  pointwise []
  rfl

theorem dd_6 (v : Vec Ideal S256x1024 .f32) (l : Fin 256) (k : Fin 1024) :
    (k0_pay218 v (H3 x0 x1 w 6) (YB x2 x3)) (ix2 l k) =
    v (ix2 l k) + ∑ r : Fin 256, hid (xr x0 x1 r) w (fi 6 l) * yr x2 x3 r k := by
  unfold_payloads
  pointwise []
  rfl

theorem dxa_7 : k0_pay236 (DG3 x0 x1 x2 x3 w d 7) (View.ld w (Rect.unit (s := S1024x5632) ![0, 1792] S1024x256.size inb_S1024x5632_S1024x256_0_1792)) (DU3 x0 x1 x2 x3 w d 7) (View.ld w (Rect.unit (s := S1024x5632) ![0, 4608] S1024x256.size inb_S1024x5632_S1024x256_0_4608)) (DXA x0 x1 x2 x3 w d 6) =
    DXA x0 x1 x2 x3 w d 7 := by
  funext i; idx_vars i
  unfold_payloads
  pointwise []
  exact (DXA_succ x0 x1 x2 x3 w d 6 (by omega) i0 i1).symm

theorem gg_7 (v : Vec Ideal S1024x256 .f32) (k : Fin 1024) (l : Fin 256) :
    (k0_pay238 (k0_pay237 v (XT x0 x1) (DG3 x0 x1 x2 x3 w d 7))) (ix2 k l) =
    v (ix2 k l) + ∑ r : Fin 256, xr x0 x1 r k * dgate (xr x0 x1 r) (yr x2 x3 r) w d (fi 7 l) := by
  unfold_payloads
  pointwise []
  rfl

theorem gu_7 (v : Vec Ideal S1024x256 .f32) (k : Fin 1024) (l : Fin 256) :
    (k0_pay239 v (XT x0 x1) (DU3 x0 x1 x2 x3 w d 7)) (ix2 k l) =
    v (ix2 k l) + ∑ r : Fin 256, xr x0 x1 r k * dup (xr x0 x1 r) (yr x2 x3 r) w d (fi 7 l) := by
  unfold_payloads
  pointwise []
  rfl

theorem dd_7 (v : Vec Ideal S256x1024 .f32) (l : Fin 256) (k : Fin 1024) :
    (k0_pay240 v (H3 x0 x1 w 7) (YB x2 x3)) (ix2 l k) =
    v (ix2 l k) + ∑ r : Fin 256, hid (xr x0 x1 r) w (fi 7 l) * yr x2 x3 r k := by
  unfold_payloads
  pointwise []
  rfl

theorem dxa_8 : k0_pay260 (k0_pay259 (DG3 x0 x1 x2 x3 w d 8)) (View.ld w (Rect.unit (s := S1024x5632) ![0, 2048] S1024x256.size inb_S1024x5632_S1024x256_0_2048)) (DU3 x0 x1 x2 x3 w d 8) (View.ld w (Rect.unit (s := S1024x5632) ![0, 4864] S1024x256.size inb_S1024x5632_S1024x256_0_4864)) (DXA x0 x1 x2 x3 w d 7) =
    DXA x0 x1 x2 x3 w d 8 := by
  funext i; idx_vars i
  unfold_payloads
  pointwise []
  exact (DXA_succ x0 x1 x2 x3 w d 7 (by omega) i0 i1).symm

theorem gg_8 (v : Vec Ideal S1024x256 .f32) (k : Fin 1024) (l : Fin 256) :
    (k0_pay261 v (XT x0 x1) (DG3 x0 x1 x2 x3 w d 8)) (ix2 k l) =
    v (ix2 k l) + ∑ r : Fin 256, xr x0 x1 r k * dgate (xr x0 x1 r) (yr x2 x3 r) w d (fi 8 l) := by
  unfold_payloads
  pointwise []
  rfl

theorem gu_8 (v : Vec Ideal S1024x256 .f32) (k : Fin 1024) (l : Fin 256) :
    (k0_pay263 (k0_pay262 v (XT x0 x1) (DU3 x0 x1 x2 x3 w d 8))) (ix2 k l) =
    v (ix2 k l) + ∑ r : Fin 256, xr x0 x1 r k * dup (xr x0 x1 r) (yr x2 x3 r) w d (fi 8 l) := by
  unfold_payloads
  pointwise []
  rfl

theorem dd_8 (v : Vec Ideal S256x1024 .f32) (l : Fin 256) (k : Fin 1024) :
    (k0_pay264 v (H3 x0 x1 w 8) (YB x2 x3)) (ix2 l k) =
    v (ix2 l k) + ∑ r : Fin 256, hid (xr x0 x1 r) w (fi 8 l) * yr x2 x3 r k := by
  unfold_payloads
  pointwise []
  rfl

theorem dxa_9 : k0_pay284 (k0_pay283 (DG3 x0 x1 x2 x3 w d 9) (View.ld w (Rect.unit (s := S1024x5632) ![0, 2304] S1024x256.size inb_S1024x5632_S1024x256_0_2304)) (DU3 x0 x1 x2 x3 w d 9) (View.ld w (Rect.unit (s := S1024x5632) ![0, 5120] S1024x256.size inb_S1024x5632_S1024x256_0_5120))) (DXA x0 x1 x2 x3 w d 8) =
    DXA x0 x1 x2 x3 w d 9 := by
  funext i; idx_vars i
  unfold_payloads
  pointwise []
  exact (DXA_succ x0 x1 x2 x3 w d 8 (by omega) i0 i1).symm

theorem gg_9 (v : Vec Ideal S1024x256 .f32) (k : Fin 1024) (l : Fin 256) :
    (k0_pay285 v (XT x0 x1) (DG3 x0 x1 x2 x3 w d 9)) (ix2 k l) =
    v (ix2 k l) + ∑ r : Fin 256, xr x0 x1 r k * dgate (xr x0 x1 r) (yr x2 x3 r) w d (fi 9 l) := by
  unfold_payloads
  pointwise []
  rfl

theorem gu_9 (v : Vec Ideal S1024x256 .f32) (k : Fin 1024) (l : Fin 256) :
    (k0_pay286 v (XT x0 x1) (DU3 x0 x1 x2 x3 w d 9)) (ix2 k l) =
    v (ix2 k l) + ∑ r : Fin 256, xr x0 x1 r k * dup (xr x0 x1 r) (yr x2 x3 r) w d (fi 9 l) := by
  unfold_payloads
  pointwise []
  rfl

theorem dd_9 (v : Vec Ideal S256x1024 .f32) (l : Fin 256) (k : Fin 1024) :
    (k0_pay288 v (k0_pay287 (H3 x0 x1 w 9)) (YB x2 x3)) (ix2 l k) =
    v (ix2 l k) + ∑ r : Fin 256, hid (xr x0 x1 r) w (fi 9 l) * yr x2 x3 r k := by
  unfold_payloads
  pointwise []
  rfl

theorem dxa_10 : k0_pay289 (DG3 x0 x1 x2 x3 w d 10) (View.ld w (Rect.unit (s := S1024x5632) ![0, 2560] S1024x256.size inb_S1024x5632_S1024x256_0_2560)) (DU3 x0 x1 x2 x3 w d 10) (View.ld w (Rect.unit (s := S1024x5632) ![0, 5376] S1024x256.size inb_S1024x5632_S1024x256_0_5376)) (DXA x0 x1 x2 x3 w d 9) =
    DXA x0 x1 x2 x3 w d 10 := by
  funext i; idx_vars i
  unfold_payloads
  pointwise []
  exact (DXA_succ x0 x1 x2 x3 w d 9 (by omega) i0 i1).symm

theorem gg_10 (v : Vec Ideal S1024x256 .f32) (k : Fin 1024) (l : Fin 256) :
    (k0_pay290 v (XT x0 x1) (DG3 x0 x1 x2 x3 w d 10)) (ix2 k l) =
    v (ix2 k l) + ∑ r : Fin 256, xr x0 x1 r k * dgate (xr x0 x1 r) (yr x2 x3 r) w d (fi 10 l) := by
  unfold_payloads
  pointwise []
  rfl

theorem gu_10 (v : Vec Ideal S1024x256 .f32) (k : Fin 1024) (l : Fin 256) :
    (k0_pay1 (k0_pay291 v (XT x0 x1) (DU3 x0 x1 x2 x3 w d 10))) (ix2 k l) =
    v (ix2 k l) + ∑ r : Fin 256, xr x0 x1 r k * dup (xr x0 x1 r) (yr x2 x3 r) w d (fi 10 l) := by
  unfold_payloads
  pointwise []
  rfl

theorem dd_10 (v : Vec Ideal S256x1024 .f32) (l : Fin 256) (k : Fin 1024) :
    (k0_pay2 v (H3 x0 x1 w 10) (YB x2 x3)) (ix2 l k) =
    v (ix2 l k) + ∑ r : Fin 256, hid (xr x0 x1 r) w (fi 10 l) * yr x2 x3 r k := by
  unfold_payloads
  pointwise []
  rfl

end Cert.KernelIdeal.Block

end
-- ==== Proof.BlockFwd.lean ====
/- Each chunk of the forward quantities the kernel keeps: the hidden activation and the two gradients. -/
module

public import proofs.«01_k».proof.Proof.Block

@[expose] public section

set_option maxRecDepth 16384

noncomputable section

namespace Cert.KernelIdeal.Block

open Cert.KernelIdeal Cert.KernelIdeal.Gen Idealize.ShloMosaic Cert.Spec

variable (x0 : Vec Ideal S256x1024 .fp8e4m3) (x1 : Vec Ideal S256x8 .f32) (x2 : Vec Ideal S256x1024 .fp8e5m2)
  (x3 : Vec Ideal S256x8 .f32) (w : Vec Ideal S1024x5632 .bf16) (d : Vec Ideal S2816x1024 .bf16)

theorem h_0 : k0_pay49 (k0_pay41 (XB x0 x1) (View.ld w (Rect.unit (s := S1024x5632) ![0, 0] S1024x256.size inb_S1024x5632_S1024x256_0_0))) (XB x0 x1) (View.ld w (Rect.unit (s := S1024x5632) ![0, 2816] S1024x256.size inb_S1024x5632_S1024x256_0_2816)) =
    H3 x0 x1 w 0 := by
  funext i; idx_vars i
  unfold_payloads
  pointwise []
  simp only [XB_apply, YB_apply, zero_sub]
  rw [gate_at w (fi 0 i1) (i1.val) (by simp [fi]) (xr x0 x1 i2) ⟨i1.val, by omega⟩ (by dsimp only <;> omega),
    up_at w (fi 0 i1) (i1.val) (by simp [fi]) (xr x0 x1 i2) ⟨2816 + i1.val, by omega⟩ (by dsimp only <;> omega)]
  rfl

theorem dg_0 : k0_pay50 (k0_pay41 (XB x0 x1) (View.ld w (Rect.unit (s := S1024x5632) ![0, 0] S1024x256.size inb_S1024x5632_S1024x256_0_0))) (XB x0 x1) (View.ld w (Rect.unit (s := S1024x5632) ![0, 2816] S1024x256.size inb_S1024x5632_S1024x256_0_2816)) (YB x2 x3) (View.ld d (Rect.unit (s := S2816x1024) ![0, 0] S256x1024.size inb_S2816x1024_S256x1024_0_0)) =
    DG3 x0 x1 x2 x3 w d 0 := by
  funext i; idx_vars i
  unfold_payloads
  pointwise []
  simp only [XB_apply, YB_apply, zero_sub]
  rw [gate_at w (fi 0 i2) (i2.val) (by simp [fi]) (xr x0 x1 i1) ⟨i2.val, by omega⟩ (by dsimp only <;> omega),
    up_at w (fi 0 i2) (i2.val) (by simp [fi]) (xr x0 x1 i1) ⟨2816 + i2.val, by omega⟩ (by dsimp only <;> omega),
    dh_at d (fi 0 i2) (i2.val) (by simp [fi]) (yr x2 x3 i1) ⟨i2.val, by omega⟩ (by dsimp only <;> omega)]
  rfl

theorem du_0 : k0_pay51 (k0_pay48 (k0_pay41 (XB x0 x1) (View.ld w (Rect.unit (s := S1024x5632) ![0, 0] S1024x256.size inb_S1024x5632_S1024x256_0_0))) (YB x2 x3) (View.ld d (Rect.unit (s := S2816x1024) ![0, 0] S256x1024.size inb_S2816x1024_S256x1024_0_0))) =
    DU3 x0 x1 x2 x3 w d 0 := by
  funext i; idx_vars i
  unfold_payloads
  pointwise []
  simp only [XB_apply, YB_apply, zero_sub]
  rw [gate_at w (fi 0 i2) (i2.val) (by simp [fi]) (xr x0 x1 i1) ⟨i2.val, by omega⟩ (by dsimp only <;> omega),
    dh_at d (fi 0 i2) (i2.val) (by simp [fi]) (yr x2 x3 i1) ⟨i2.val, by omega⟩ (by dsimp only <;> omega)]
  rfl

theorem h_1 : k0_pay66 (XB x0 x1) (View.ld w (Rect.unit (s := S1024x5632) ![0, 256] S1024x256.size inb_S1024x5632_S1024x256_0_256)) (XB x0 x1) (View.ld w (Rect.unit (s := S1024x5632) ![0, 3072] S1024x256.size inb_S1024x5632_S1024x256_0_3072)) =
    H3 x0 x1 w 1 := by
  funext i; idx_vars i
  unfold_payloads
  pointwise []
  simp only [XB_apply, YB_apply, zero_sub]
  rw [gate_at w (fi 1 i1) (256 + i1.val) (by simp [fi]) (xr x0 x1 i2) ⟨256 + i1.val, by omega⟩ (by dsimp only <;> omega),
    up_at w (fi 1 i1) (256 + i1.val) (by simp [fi]) (xr x0 x1 i2) ⟨3072 + i1.val, by omega⟩ (by dsimp only <;> omega)]
  rfl

theorem dg_1 : k0_pay67 (k0_pay64 (XB x0 x1) (View.ld w (Rect.unit (s := S1024x5632) ![0, 256] S1024x256.size inb_S1024x5632_S1024x256_0_256)) (XB x0 x1) (View.ld w (Rect.unit (s := S1024x5632) ![0, 3072] S1024x256.size inb_S1024x5632_S1024x256_0_3072)) (YB x2 x3) (View.ld d (Rect.unit (s := S2816x1024) ![256, 0] S256x1024.size inb_S2816x1024_S256x1024_256_0))) =
    DG3 x0 x1 x2 x3 w d 1 := by
  funext i; idx_vars i
  unfold_payloads
  pointwise []
  simp only [XB_apply, YB_apply, zero_sub]
  rw [gate_at w (fi 1 i2) (256 + i2.val) (by simp [fi]) (xr x0 x1 i1) ⟨256 + i2.val, by omega⟩ (by dsimp only <;> omega),
    up_at w (fi 1 i2) (256 + i2.val) (by simp [fi]) (xr x0 x1 i1) ⟨3072 + i2.val, by omega⟩ (by dsimp only <;> omega),
    dh_at d (fi 1 i2) (256 + i2.val) (by simp [fi]) (yr x2 x3 i1) ⟨256 + i2.val, by omega⟩ (by dsimp only <;> omega)]
  rfl

theorem du_1 : k0_pay68 (k0_pay65 (XB x0 x1) (View.ld w (Rect.unit (s := S1024x5632) ![0, 256] S1024x256.size inb_S1024x5632_S1024x256_0_256)) (YB x2 x3) (View.ld d (Rect.unit (s := S2816x1024) ![256, 0] S256x1024.size inb_S2816x1024_S256x1024_256_0))) =
    DU3 x0 x1 x2 x3 w d 1 := by
  funext i; idx_vars i
  unfold_payloads
  pointwise []
  simp only [XB_apply, YB_apply, zero_sub]
  rw [gate_at w (fi 1 i2) (256 + i2.val) (by simp [fi]) (xr x0 x1 i1) ⟨256 + i2.val, by omega⟩ (by dsimp only <;> omega),
    dh_at d (fi 1 i2) (256 + i2.val) (by simp [fi]) (yr x2 x3 i1) ⟨256 + i2.val, by omega⟩ (by dsimp only <;> omega)]
  rfl

theorem h_2 : k0_pay89 (k0_pay81 (XB x0 x1) (View.ld w (Rect.unit (s := S1024x5632) ![0, 512] S1024x256.size inb_S1024x5632_S1024x256_0_512))) (k0_pay82 (XB x0 x1) (View.ld w (Rect.unit (s := S1024x5632) ![0, 3328] S1024x256.size inb_S1024x5632_S1024x256_0_3328))) =
    H3 x0 x1 w 2 := by
  funext i; idx_vars i
  unfold_payloads
  pointwise []
  simp only [XB_apply, YB_apply, zero_sub]
  rw [gate_at w (fi 2 i1) (512 + i1.val) (by simp [fi]) (xr x0 x1 i2) ⟨512 + i1.val, by omega⟩ (by dsimp only <;> omega),
    up_at w (fi 2 i1) (512 + i1.val) (by simp [fi]) (xr x0 x1 i2) ⟨3328 + i1.val, by omega⟩ (by dsimp only <;> omega)]
  rfl

theorem dg_2 : k0_pay90 (k0_pay81 (XB x0 x1) (View.ld w (Rect.unit (s := S1024x5632) ![0, 512] S1024x256.size inb_S1024x5632_S1024x256_0_512))) (k0_pay82 (XB x0 x1) (View.ld w (Rect.unit (s := S1024x5632) ![0, 3328] S1024x256.size inb_S1024x5632_S1024x256_0_3328))) (YB x2 x3) (View.ld d (Rect.unit (s := S2816x1024) ![512, 0] S256x1024.size inb_S2816x1024_S256x1024_512_0)) =
    DG3 x0 x1 x2 x3 w d 2 := by
  funext i; idx_vars i
  unfold_payloads
  pointwise []
  simp only [XB_apply, YB_apply, zero_sub]
  rw [gate_at w (fi 2 i2) (512 + i2.val) (by simp [fi]) (xr x0 x1 i1) ⟨512 + i2.val, by omega⟩ (by dsimp only <;> omega),
    up_at w (fi 2 i2) (512 + i2.val) (by simp [fi]) (xr x0 x1 i1) ⟨3328 + i2.val, by omega⟩ (by dsimp only <;> omega),
    dh_at d (fi 2 i2) (512 + i2.val) (by simp [fi]) (yr x2 x3 i1) ⟨512 + i2.val, by omega⟩ (by dsimp only <;> omega)]
  rfl

theorem du_2 : k0_pay91 (k0_pay81 (XB x0 x1) (View.ld w (Rect.unit (s := S1024x5632) ![0, 512] S1024x256.size inb_S1024x5632_S1024x256_0_512))) (YB x2 x3) (View.ld d (Rect.unit (s := S2816x1024) ![512, 0] S256x1024.size inb_S2816x1024_S256x1024_512_0)) =
    DU3 x0 x1 x2 x3 w d 2 := by
  funext i; idx_vars i
  unfold_payloads
  pointwise []
  simp only [XB_apply, YB_apply, zero_sub]
  rw [gate_at w (fi 2 i2) (512 + i2.val) (by simp [fi]) (xr x0 x1 i1) ⟨512 + i2.val, by omega⟩ (by dsimp only <;> omega),
    dh_at d (fi 2 i2) (512 + i2.val) (by simp [fi]) (yr x2 x3 i1) ⟨512 + i2.val, by omega⟩ (by dsimp only <;> omega)]
  rfl

theorem h_3 : k0_pay112 (k0_pay105 (XB x0 x1) (View.ld w (Rect.unit (s := S1024x5632) ![0, 3584] S1024x256.size inb_S1024x5632_S1024x256_0_3584))) (k0_pay108 (XB x0 x1) (View.ld w (Rect.unit (s := S1024x5632) ![0, 768] S1024x256.size inb_S1024x5632_S1024x256_0_768))) =
    H3 x0 x1 w 3 := by
  funext i; idx_vars i
  unfold_payloads
  pointwise []
  simp only [XB_apply, YB_apply, zero_sub]
  rw [gate_at w (fi 3 i1) (768 + i1.val) (by simp [fi]) (xr x0 x1 i2) ⟨768 + i1.val, by omega⟩ (by dsimp only <;> omega),
    up_at w (fi 3 i1) (768 + i1.val) (by simp [fi]) (xr x0 x1 i2) ⟨3584 + i1.val, by omega⟩ (by dsimp only <;> omega)]
  rfl

theorem dg_3 : k0_pay113 (k0_pay104 (XB x0 x1) (View.ld w (Rect.unit (s := S1024x5632) ![0, 768] S1024x256.size inb_S1024x5632_S1024x256_0_768))) (k0_pay105 (XB x0 x1) (View.ld w (Rect.unit (s := S1024x5632) ![0, 3584] S1024x256.size inb_S1024x5632_S1024x256_0_3584))) (k0_pay106 (YB x2 x3) (View.ld d (Rect.unit (s := S2816x1024) ![768, 0] S256x1024.size inb_S2816x1024_S256x1024_768_0))) (k0_pay107 (XB x0 x1) (View.ld w (Rect.unit (s := S1024x5632) ![0, 768] S1024x256.size inb_S1024x5632_S1024x256_0_768))) =
    DG3 x0 x1 x2 x3 w d 3 := by
  funext i; idx_vars i
  unfold_payloads
  pointwise []
  simp only [XB_apply, YB_apply, zero_sub]
  rw [gate_at w (fi 3 i2) (768 + i2.val) (by simp [fi]) (xr x0 x1 i1) ⟨768 + i2.val, by omega⟩ (by dsimp only <;> omega),
    up_at w (fi 3 i2) (768 + i2.val) (by simp [fi]) (xr x0 x1 i1) ⟨3584 + i2.val, by omega⟩ (by dsimp only <;> omega),
    dh_at d (fi 3 i2) (768 + i2.val) (by simp [fi]) (yr x2 x3 i1) ⟨768 + i2.val, by omega⟩ (by dsimp only <;> omega)]
  rfl

theorem du_3 : k0_pay114 (k0_pay106 (YB x2 x3) (View.ld d (Rect.unit (s := S2816x1024) ![768, 0] S256x1024.size inb_S2816x1024_S256x1024_768_0))) (k0_pay108 (XB x0 x1) (View.ld w (Rect.unit (s := S1024x5632) ![0, 768] S1024x256.size inb_S1024x5632_S1024x256_0_768))) =
    DU3 x0 x1 x2 x3 w d 3 := by
  funext i; idx_vars i
  unfold_payloads
  pointwise []
  simp only [XB_apply, YB_apply, zero_sub]
  rw [gate_at w (fi 3 i2) (768 + i2.val) (by simp [fi]) (xr x0 x1 i1) ⟨768 + i2.val, by omega⟩ (by dsimp only <;> omega),
    dh_at d (fi 3 i2) (768 + i2.val) (by simp [fi]) (yr x2 x3 i1) ⟨768 + i2.val, by omega⟩ (by dsimp only <;> omega)]
  rfl

theorem h_4 : k0_pay137 (k0_pay136 (XB x0 x1) (View.ld w (Rect.unit (s := S1024x5632) ![0, 1024] S1024x256.size inb_S1024x5632_S1024x256_0_1024)) (XB x0 x1) (View.ld w (Rect.unit (s := S1024x5632) ![0, 3840] S1024x256.size inb_S1024x5632_S1024x256_0_3840))) =
    H3 x0 x1 w 4 := by
  funext i; idx_vars i
  unfold_payloads
  pointwise []
  simp only [XB_apply, YB_apply, zero_sub]
  rw [gate_at w (fi 4 i1) (1024 + i1.val) (by simp [fi]) (xr x0 x1 i2) ⟨1024 + i1.val, by omega⟩ (by dsimp only <;> omega),
    up_at w (fi 4 i1) (1024 + i1.val) (by simp [fi]) (xr x0 x1 i2) ⟨3840 + i1.val, by omega⟩ (by dsimp only <;> omega)]
  rfl

theorem dg_4 : k0_pay138 (k0_pay134 (XB x0 x1) (View.ld w (Rect.unit (s := S1024x5632) ![0, 1024] S1024x256.size inb_S1024x5632_S1024x256_0_1024)) (XB x0 x1) (View.ld w (Rect.unit (s := S1024x5632) ![0, 3840] S1024x256.size inb_S1024x5632_S1024x256_0_3840)) (YB x2 x3) (View.ld d (Rect.unit (s := S2816x1024) ![1024, 0] S256x1024.size inb_S2816x1024_S256x1024_1024_0))) =
    DG3 x0 x1 x2 x3 w d 4 := by
  funext i; idx_vars i
  unfold_payloads
  pointwise []
  simp only [XB_apply, YB_apply, zero_sub]
  rw [gate_at w (fi 4 i2) (1024 + i2.val) (by simp [fi]) (xr x0 x1 i1) ⟨1024 + i2.val, by omega⟩ (by dsimp only <;> omega),
    up_at w (fi 4 i2) (1024 + i2.val) (by simp [fi]) (xr x0 x1 i1) ⟨3840 + i2.val, by omega⟩ (by dsimp only <;> omega),
    dh_at d (fi 4 i2) (1024 + i2.val) (by simp [fi]) (yr x2 x3 i1) ⟨1024 + i2.val, by omega⟩ (by dsimp only <;> omega)]
  rfl

theorem du_4 : k0_pay139 (k0_pay135 (XB x0 x1) (View.ld w (Rect.unit (s := S1024x5632) ![0, 1024] S1024x256.size inb_S1024x5632_S1024x256_0_1024)) (YB x2 x3) (View.ld d (Rect.unit (s := S2816x1024) ![1024, 0] S256x1024.size inb_S2816x1024_S256x1024_1024_0))) =
    DU3 x0 x1 x2 x3 w d 4 := by
  funext i; idx_vars i
  unfold_payloads
  pointwise []
  simp only [XB_apply, YB_apply, zero_sub]
  rw [gate_at w (fi 4 i2) (1024 + i2.val) (by simp [fi]) (xr x0 x1 i1) ⟨1024 + i2.val, by omega⟩ (by dsimp only <;> omega),
    dh_at d (fi 4 i2) (1024 + i2.val) (by simp [fi]) (yr x2 x3 i1) ⟨1024 + i2.val, by omega⟩ (by dsimp only <;> omega)]
  rfl

theorem h_5 : k0_pay158 (k0_pay150 (XB x0 x1) (View.ld w (Rect.unit (s := S1024x5632) ![0, 1280] S1024x256.size inb_S1024x5632_S1024x256_0_1280))) (XB x0 x1) (View.ld w (Rect.unit (s := S1024x5632) ![0, 4096] S1024x256.size inb_S1024x5632_S1024x256_0_4096)) =
    H3 x0 x1 w 5 := by
  funext i; idx_vars i
  unfold_payloads
  pointwise []
  simp only [XB_apply, YB_apply, zero_sub]
  rw [gate_at w (fi 5 i1) (1280 + i1.val) (by simp [fi]) (xr x0 x1 i2) ⟨1280 + i1.val, by omega⟩ (by dsimp only <;> omega),
    up_at w (fi 5 i1) (1280 + i1.val) (by simp [fi]) (xr x0 x1 i2) ⟨4096 + i1.val, by omega⟩ (by dsimp only <;> omega)]
  rfl

theorem dg_5 : k0_pay159 (k0_pay150 (XB x0 x1) (View.ld w (Rect.unit (s := S1024x5632) ![0, 1280] S1024x256.size inb_S1024x5632_S1024x256_0_1280))) (XB x0 x1) (View.ld w (Rect.unit (s := S1024x5632) ![0, 4096] S1024x256.size inb_S1024x5632_S1024x256_0_4096)) (YB x2 x3) (View.ld d (Rect.unit (s := S2816x1024) ![1280, 0] S256x1024.size inb_S2816x1024_S256x1024_1280_0)) =
    DG3 x0 x1 x2 x3 w d 5 := by
  funext i; idx_vars i
  unfold_payloads
  pointwise []
  simp only [XB_apply, YB_apply, zero_sub]
  rw [gate_at w (fi 5 i2) (1280 + i2.val) (by simp [fi]) (xr x0 x1 i1) ⟨1280 + i2.val, by omega⟩ (by dsimp only <;> omega),
    up_at w (fi 5 i2) (1280 + i2.val) (by simp [fi]) (xr x0 x1 i1) ⟨4096 + i2.val, by omega⟩ (by dsimp only <;> omega),
    dh_at d (fi 5 i2) (1280 + i2.val) (by simp [fi]) (yr x2 x3 i1) ⟨1280 + i2.val, by omega⟩ (by dsimp only <;> omega)]
  rfl

theorem du_5 : k0_pay160 (k0_pay157 (k0_pay150 (XB x0 x1) (View.ld w (Rect.unit (s := S1024x5632) ![0, 1280] S1024x256.size inb_S1024x5632_S1024x256_0_1280))) (YB x2 x3) (View.ld d (Rect.unit (s := S2816x1024) ![1280, 0] S256x1024.size inb_S2816x1024_S256x1024_1280_0))) =
    DU3 x0 x1 x2 x3 w d 5 := by
  funext i; idx_vars i
  unfold_payloads
  pointwise []
  simp only [XB_apply, YB_apply, zero_sub]
  rw [gate_at w (fi 5 i2) (1280 + i2.val) (by simp [fi]) (xr x0 x1 i1) ⟨1280 + i2.val, by omega⟩ (by dsimp only <;> omega),
    dh_at d (fi 5 i2) (1280 + i2.val) (by simp [fi]) (yr x2 x3 i1) ⟨1280 + i2.val, by omega⟩ (by dsimp only <;> omega)]
  rfl

theorem h_6 : k0_pay180 (k0_pay171 (XB x0 x1) (View.ld w (Rect.unit (s := S1024x5632) ![0, 1536] S1024x256.size inb_S1024x5632_S1024x256_0_1536))) (k0_pay172 (XB x0 x1) (View.ld w (Rect.unit (s := S1024x5632) ![0, 4352] S1024x256.size inb_S1024x5632_S1024x256_0_4352))) k0_pay174 =
    H3 x0 x1 w 6 := by
  funext i; idx_vars i
  unfold_payloads
  pointwise []
  simp only [XB_apply, YB_apply, zero_sub]
  rw [gate_at w (fi 6 i1) (1536 + i1.val) (by simp [fi]) (xr x0 x1 i2) ⟨1536 + i1.val, by omega⟩ (by dsimp only <;> omega),
    up_at w (fi 6 i1) (1536 + i1.val) (by simp [fi]) (xr x0 x1 i2) ⟨4352 + i1.val, by omega⟩ (by dsimp only <;> omega)]
  rfl

theorem dg_6 : k0_pay181 (k0_pay171 (XB x0 x1) (View.ld w (Rect.unit (s := S1024x5632) ![0, 1536] S1024x256.size inb_S1024x5632_S1024x256_0_1536))) (k0_pay172 (XB x0 x1) (View.ld w (Rect.unit (s := S1024x5632) ![0, 4352] S1024x256.size inb_S1024x5632_S1024x256_0_4352))) (k0_pay173 (YB x2 x3) (View.ld d (Rect.unit (s := S2816x1024) ![1536, 0] S256x1024.size inb_S2816x1024_S256x1024_1536_0))) k0_pay174 =
    DG3 x0 x1 x2 x3 w d 6 := by
  funext i; idx_vars i
  unfold_payloads
  pointwise []
  simp only [XB_apply, YB_apply, zero_sub]
  rw [gate_at w (fi 6 i2) (1536 + i2.val) (by simp [fi]) (xr x0 x1 i1) ⟨1536 + i2.val, by omega⟩ (by dsimp only <;> omega),
    up_at w (fi 6 i2) (1536 + i2.val) (by simp [fi]) (xr x0 x1 i1) ⟨4352 + i2.val, by omega⟩ (by dsimp only <;> omega),
    dh_at d (fi 6 i2) (1536 + i2.val) (by simp [fi]) (yr x2 x3 i1) ⟨1536 + i2.val, by omega⟩ (by dsimp only <;> omega)]
  rfl

theorem du_6 : k0_pay182 (k0_pay171 (XB x0 x1) (View.ld w (Rect.unit (s := S1024x5632) ![0, 1536] S1024x256.size inb_S1024x5632_S1024x256_0_1536))) (k0_pay173 (YB x2 x3) (View.ld d (Rect.unit (s := S2816x1024) ![1536, 0] S256x1024.size inb_S2816x1024_S256x1024_1536_0))) k0_pay174 =
    DU3 x0 x1 x2 x3 w d 6 := by
  funext i; idx_vars i
  unfold_payloads
  pointwise []
  simp only [XB_apply, YB_apply, zero_sub]
  rw [gate_at w (fi 6 i2) (1536 + i2.val) (by simp [fi]) (xr x0 x1 i1) ⟨1536 + i2.val, by omega⟩ (by dsimp only <;> omega),
    dh_at d (fi 6 i2) (1536 + i2.val) (by simp [fi]) (yr x2 x3 i1) ⟨1536 + i2.val, by omega⟩ (by dsimp only <;> omega)]
  rfl

theorem h_7 : k0_pay205 (k0_pay200 (XB x0 x1) (View.ld w (Rect.unit (s := S1024x5632) ![0, 1792] S1024x256.size inb_S1024x5632_S1024x256_0_1792)) (XB x0 x1) (View.ld w (Rect.unit (s := S1024x5632) ![0, 4608] S1024x256.size inb_S1024x5632_S1024x256_0_4608))) =
    H3 x0 x1 w 7 := by
  funext i; idx_vars i
  unfold_payloads
  pointwise []
  simp only [XB_apply, YB_apply, zero_sub]
  rw [gate_at w (fi 7 i1) (1792 + i1.val) (by simp [fi]) (xr x0 x1 i2) ⟨1792 + i1.val, by omega⟩ (by dsimp only <;> omega),
    up_at w (fi 7 i1) (1792 + i1.val) (by simp [fi]) (xr x0 x1 i2) ⟨4608 + i1.val, by omega⟩ (by dsimp only <;> omega)]
  rfl

theorem dg_7 : k0_pay206 (k0_pay201 (XB x0 x1) (View.ld w (Rect.unit (s := S1024x5632) ![0, 1792] S1024x256.size inb_S1024x5632_S1024x256_0_1792)) (XB x0 x1) (View.ld w (Rect.unit (s := S1024x5632) ![0, 4608] S1024x256.size inb_S1024x5632_S1024x256_0_4608)) (YB x2 x3) (View.ld d (Rect.unit (s := S2816x1024) ![1792, 0] S256x1024.size inb_S2816x1024_S256x1024_1792_0))) (k0_pay202 (XB x0 x1) (View.ld w (Rect.unit (s := S1024x5632) ![0, 1792] S1024x256.size inb_S1024x5632_S1024x256_0_1792))) =
    DG3 x0 x1 x2 x3 w d 7 := by
  funext i; idx_vars i
  unfold_payloads
  pointwise []
  simp only [XB_apply, YB_apply, zero_sub]
  rw [gate_at w (fi 7 i2) (1792 + i2.val) (by simp [fi]) (xr x0 x1 i1) ⟨1792 + i2.val, by omega⟩ (by dsimp only <;> omega),
    up_at w (fi 7 i2) (1792 + i2.val) (by simp [fi]) (xr x0 x1 i1) ⟨4608 + i2.val, by omega⟩ (by dsimp only <;> omega),
    dh_at d (fi 7 i2) (1792 + i2.val) (by simp [fi]) (yr x2 x3 i1) ⟨1792 + i2.val, by omega⟩ (by dsimp only <;> omega)]
  rfl

theorem du_7 : k0_pay207 (k0_pay197 (YB x2 x3) (View.ld d (Rect.unit (s := S2816x1024) ![1792, 0] S256x1024.size inb_S2816x1024_S256x1024_1792_0))) (k0_pay199 (XB x0 x1) (View.ld w (Rect.unit (s := S1024x5632) ![0, 1792] S1024x256.size inb_S1024x5632_S1024x256_0_1792))) =
    DU3 x0 x1 x2 x3 w d 7 := by
  funext i; idx_vars i
  unfold_payloads
  pointwise []
  simp only [XB_apply, YB_apply, zero_sub]
  rw [gate_at w (fi 7 i2) (1792 + i2.val) (by simp [fi]) (xr x0 x1 i1) ⟨1792 + i2.val, by omega⟩ (by dsimp only <;> omega),
    dh_at d (fi 7 i2) (1792 + i2.val) (by simp [fi]) (yr x2 x3 i1) ⟨1792 + i2.val, by omega⟩ (by dsimp only <;> omega)]
  rfl

theorem h_8 : k0_pay227 (XB x0 x1) (View.ld w (Rect.unit (s := S1024x5632) ![0, 2048] S1024x256.size inb_S1024x5632_S1024x256_0_2048)) (XB x0 x1) (View.ld w (Rect.unit (s := S1024x5632) ![0, 4864] S1024x256.size inb_S1024x5632_S1024x256_0_4864)) =
    H3 x0 x1 w 8 := by
  funext i; idx_vars i
  unfold_payloads
  pointwise []
  simp only [XB_apply, YB_apply, zero_sub]
  rw [gate_at w (fi 8 i1) (2048 + i1.val) (by simp [fi]) (xr x0 x1 i2) ⟨2048 + i1.val, by omega⟩ (by dsimp only <;> omega),
    up_at w (fi 8 i1) (2048 + i1.val) (by simp [fi]) (xr x0 x1 i2) ⟨4864 + i1.val, by omega⟩ (by dsimp only <;> omega)]
  rfl

theorem dg_8 : k0_pay228 (k0_pay225 (XB x0 x1) (View.ld w (Rect.unit (s := S1024x5632) ![0, 2048] S1024x256.size inb_S1024x5632_S1024x256_0_2048)) (XB x0 x1) (View.ld w (Rect.unit (s := S1024x5632) ![0, 4864] S1024x256.size inb_S1024x5632_S1024x256_0_4864)) (YB x2 x3) (View.ld d (Rect.unit (s := S2816x1024) ![2048, 0] S256x1024.size inb_S2816x1024_S256x1024_2048_0))) =
    DG3 x0 x1 x2 x3 w d 8 := by
  funext i; idx_vars i
  unfold_payloads
  pointwise []
  simp only [XB_apply, YB_apply, zero_sub]
  rw [gate_at w (fi 8 i2) (2048 + i2.val) (by simp [fi]) (xr x0 x1 i1) ⟨2048 + i2.val, by omega⟩ (by dsimp only <;> omega),
    up_at w (fi 8 i2) (2048 + i2.val) (by simp [fi]) (xr x0 x1 i1) ⟨4864 + i2.val, by omega⟩ (by dsimp only <;> omega),
    dh_at d (fi 8 i2) (2048 + i2.val) (by simp [fi]) (yr x2 x3 i1) ⟨2048 + i2.val, by omega⟩ (by dsimp only <;> omega)]
  rfl

theorem du_8 : k0_pay229 (k0_pay226 (XB x0 x1) (View.ld w (Rect.unit (s := S1024x5632) ![0, 2048] S1024x256.size inb_S1024x5632_S1024x256_0_2048)) (YB x2 x3) (View.ld d (Rect.unit (s := S2816x1024) ![2048, 0] S256x1024.size inb_S2816x1024_S256x1024_2048_0))) =
    DU3 x0 x1 x2 x3 w d 8 := by
  funext i; idx_vars i
  unfold_payloads
  pointwise []
  simp only [XB_apply, YB_apply, zero_sub]
  rw [gate_at w (fi 8 i2) (2048 + i2.val) (by simp [fi]) (xr x0 x1 i1) ⟨2048 + i2.val, by omega⟩ (by dsimp only <;> omega),
    dh_at d (fi 8 i2) (2048 + i2.val) (by simp [fi]) (yr x2 x3 i1) ⟨2048 + i2.val, by omega⟩ (by dsimp only <;> omega)]
  rfl

theorem h_9 : k0_pay249 (k0_pay241 (XB x0 x1) (View.ld w (Rect.unit (s := S1024x5632) ![0, 2304] S1024x256.size inb_S1024x5632_S1024x256_0_2304))) (k0_pay242 (XB x0 x1) (View.ld w (Rect.unit (s := S1024x5632) ![0, 5120] S1024x256.size inb_S1024x5632_S1024x256_0_5120))) =
    H3 x0 x1 w 9 := by
  funext i; idx_vars i
  unfold_payloads
  pointwise []
  simp only [XB_apply, YB_apply, zero_sub]
  rw [gate_at w (fi 9 i1) (2304 + i1.val) (by simp [fi]) (xr x0 x1 i2) ⟨2304 + i1.val, by omega⟩ (by dsimp only <;> omega),
    up_at w (fi 9 i1) (2304 + i1.val) (by simp [fi]) (xr x0 x1 i2) ⟨5120 + i1.val, by omega⟩ (by dsimp only <;> omega)]
  rfl

theorem dg_9 : k0_pay250 (k0_pay241 (XB x0 x1) (View.ld w (Rect.unit (s := S1024x5632) ![0, 2304] S1024x256.size inb_S1024x5632_S1024x256_0_2304))) (k0_pay242 (XB x0 x1) (View.ld w (Rect.unit (s := S1024x5632) ![0, 5120] S1024x256.size inb_S1024x5632_S1024x256_0_5120))) (YB x2 x3) (View.ld d (Rect.unit (s := S2816x1024) ![2304, 0] S256x1024.size inb_S2816x1024_S256x1024_2304_0)) =
    DG3 x0 x1 x2 x3 w d 9 := by
  funext i; idx_vars i
  unfold_payloads
  pointwise []
  simp only [XB_apply, YB_apply, zero_sub]
  rw [gate_at w (fi 9 i2) (2304 + i2.val) (by simp [fi]) (xr x0 x1 i1) ⟨2304 + i2.val, by omega⟩ (by dsimp only <;> omega),
    up_at w (fi 9 i2) (2304 + i2.val) (by simp [fi]) (xr x0 x1 i1) ⟨5120 + i2.val, by omega⟩ (by dsimp only <;> omega),
    dh_at d (fi 9 i2) (2304 + i2.val) (by simp [fi]) (yr x2 x3 i1) ⟨2304 + i2.val, by omega⟩ (by dsimp only <;> omega)]
  rfl

theorem du_9 : k0_pay251 (k0_pay241 (XB x0 x1) (View.ld w (Rect.unit (s := S1024x5632) ![0, 2304] S1024x256.size inb_S1024x5632_S1024x256_0_2304))) (YB x2 x3) (View.ld d (Rect.unit (s := S2816x1024) ![2304, 0] S256x1024.size inb_S2816x1024_S256x1024_2304_0)) =
    DU3 x0 x1 x2 x3 w d 9 := by
  funext i; idx_vars i
  unfold_payloads
  pointwise []
  simp only [XB_apply, YB_apply, zero_sub]
  rw [gate_at w (fi 9 i2) (2304 + i2.val) (by simp [fi]) (xr x0 x1 i1) ⟨2304 + i2.val, by omega⟩ (by dsimp only <;> omega),
    dh_at d (fi 9 i2) (2304 + i2.val) (by simp [fi]) (yr x2 x3 i1) ⟨2304 + i2.val, by omega⟩ (by dsimp only <;> omega)]
  rfl

theorem h_10 : k0_pay273 (k0_pay265 (XB x0 x1) (View.ld w (Rect.unit (s := S1024x5632) ![0, 2560] S1024x256.size inb_S1024x5632_S1024x256_0_2560))) (k0_pay266 (XB x0 x1) (View.ld w (Rect.unit (s := S1024x5632) ![0, 5376] S1024x256.size inb_S1024x5632_S1024x256_0_5376))) (k0_pay268 (XB x0 x1) (View.ld w (Rect.unit (s := S1024x5632) ![0, 2560] S1024x256.size inb_S1024x5632_S1024x256_0_2560))) =
    H3 x0 x1 w 10 := by
  funext i; idx_vars i
  unfold_payloads
  pointwise []
  simp only [XB_apply, YB_apply, zero_sub]
  rw [gate_at w (fi 10 i1) (2560 + i1.val) (by simp [fi]) (xr x0 x1 i2) ⟨2560 + i1.val, by omega⟩ (by dsimp only <;> omega),
    up_at w (fi 10 i1) (2560 + i1.val) (by simp [fi]) (xr x0 x1 i2) ⟨5376 + i1.val, by omega⟩ (by dsimp only <;> omega)]
  rfl

theorem dg_10 : k0_pay274 (k0_pay265 (XB x0 x1) (View.ld w (Rect.unit (s := S1024x5632) ![0, 2560] S1024x256.size inb_S1024x5632_S1024x256_0_2560))) (k0_pay266 (XB x0 x1) (View.ld w (Rect.unit (s := S1024x5632) ![0, 5376] S1024x256.size inb_S1024x5632_S1024x256_0_5376))) (k0_pay267 (YB x2 x3) (View.ld d (Rect.unit (s := S2816x1024) ![2560, 0] S256x1024.size inb_S2816x1024_S256x1024_2560_0))) (k0_pay268 (XB x0 x1) (View.ld w (Rect.unit (s := S1024x5632) ![0, 2560] S1024x256.size inb_S1024x5632_S1024x256_0_2560))) =
    DG3 x0 x1 x2 x3 w d 10 := by
  funext i; idx_vars i
  unfold_payloads
  pointwise []
  simp only [XB_apply, YB_apply, zero_sub]
  rw [gate_at w (fi 10 i2) (2560 + i2.val) (by simp [fi]) (xr x0 x1 i1) ⟨2560 + i2.val, by omega⟩ (by dsimp only <;> omega),
    up_at w (fi 10 i2) (2560 + i2.val) (by simp [fi]) (xr x0 x1 i1) ⟨5376 + i2.val, by omega⟩ (by dsimp only <;> omega),
    dh_at d (fi 10 i2) (2560 + i2.val) (by simp [fi]) (yr x2 x3 i1) ⟨2560 + i2.val, by omega⟩ (by dsimp only <;> omega)]
  rfl

theorem du_10 : k0_pay275 (k0_pay265 (XB x0 x1) (View.ld w (Rect.unit (s := S1024x5632) ![0, 2560] S1024x256.size inb_S1024x5632_S1024x256_0_2560))) (k0_pay267 (YB x2 x3) (View.ld d (Rect.unit (s := S2816x1024) ![2560, 0] S256x1024.size inb_S2816x1024_S256x1024_2560_0))) (k0_pay268 (XB x0 x1) (View.ld w (Rect.unit (s := S1024x5632) ![0, 2560] S1024x256.size inb_S1024x5632_S1024x256_0_2560))) =
    DU3 x0 x1 x2 x3 w d 10 := by
  funext i; idx_vars i
  unfold_payloads
  pointwise []
  simp only [XB_apply, YB_apply, zero_sub]
  rw [gate_at w (fi 10 i2) (2560 + i2.val) (by simp [fi]) (xr x0 x1 i1) ⟨2560 + i2.val, by omega⟩ (by dsimp only <;> omega),
    dh_at d (fi 10 i2) (2560 + i2.val) (by simp [fi]) (yr x2 x3 i1) ⟨2560 + i2.val, by omega⟩ (by dsimp only <;> omega)]
  rfl

end Cert.KernelIdeal.Block

end
-- ==== Proof.Pieces.lean ====
/- Each store of the body writes a block of one function of the whole buffer: the functions, and what it takes to see that a
   store's values are such a block. -/
module

public import proofs.«01_k».proof.Proof.Block
public import Idealize.ShloMosaic.Lib.Pipeline.ValueKit
public import Idealize.ShloMosaic.Lib.Pipeline.ReadBack

@[expose] public section

set_option maxRecDepth 16384

noncomputable section

namespace Cert.KernelIdeal.Block

open Cert.KernelIdeal Cert.KernelIdeal.Gen Idealize.ShloMosaic Cert.Spec

variable (x0 : Vec Ideal S256x1024 .fp8e4m3) (x1 : Vec Ideal S256x8 .f32) (x2 : Vec Ideal S256x1024 .fp8e5m2)
  (x3 : Vec Ideal S256x8 .f32) (w : Vec Ideal S1024x5632 .bf16) (d : Vec Ideal S2816x1024 .bf16)

/-- Reading after a store of the whole buffer reads the stored values. -/
theorem readCov_whole {sig : RefSig} {κ : Kind} {sp : Space} {s : Shape} {e : EltTy} {Val : EltTy → Type} [∀ e, Nonempty (Val e)]
    (v : View sig κ sp s e) (Z : (Rect.whole s).shape.Idx → Val e) (L : List (View.Piece Val s e)) (r : Rect s) :
    v.readCov (⟨Rect.whole s, Z⟩ :: L) r.toLoadRect = View.ld Z r := by
  rw [View.readCov_eq_canon']
  funext j
  have h := View.canon_cons_emb (Rect.whole s) Z L (r.idx j)
  rwa [Rect.emb_whole_apply] at h

/-- A store of the whole buffer leaves the stored values. -/
theorem canon_whole {s : Shape} {e : EltTy} {Val : EltTy → Type} [∀ e, Nonempty (Val e)]
    (Z : (Rect.whole s).shape.Idx → Val e) (L : List (View.Piece Val s e)) : View.canon (⟨Rect.whole s, Z⟩ :: L) = Z := by
  funext j
  have h := View.canon_cons_emb (Rect.whole s) Z L j
  rwa [Rect.emb_whole_apply] at h

/-- Reading a whole buffer after stores reads what they left. -/
theorem readCov_all {sig : RefSig} {κ : Kind} {sp : Space} {s : Shape} {e : EltTy} {Val : EltTy → Type} [∀ e, Nonempty (Val e)]
    (v : View sig κ sp s e) (L : List (View.Piece Val s e)) {off : Fin s.rank → Nat} (inb : ∀ a, off a + s.size a ≤ s.size a)
    (h : ∀ a, off a = 0) : v.readCov L (Rect.unit off (no_index s.size) inb).toLoadRect = View.canon L := by
  rw [View.readCov_eq_canon']
  exact View.ld_unit_lit inb (View.canon L) h

section
variable {s : Shape} {e : EltTy} {Val : EltTy → Type}

theorem of_nil (G : s.Idx → Val e) : View.PiecesOf G [] := trivial

theorem of_cons {G : s.Idx → Val e} {r : Rect s} {z : r.shape.Idx → Val e} {L : List (View.Piece Val s e)}
    (h : ∀ x : r.shape.Idx, z x = G (r.emb x)) (hL : View.PiecesOf G L) : View.PiecesOf G (⟨r, z⟩ :: L) := ⟨h, hL⟩

/-- Stores that are blocks of `G` leave `G` where one of them writes. -/
theorem canon_of [∀ e, Nonempty (Val e)] {G : s.Idx → Val e} {L : List (View.Piece Val s e)} (h : View.PiecesOf G L) (y : s.Idx)
    (hc : ∃ p ∈ L, y ∈ p.1.set) : View.canon L y = G y :=
  View.canon_apply_of_pieces G L h.mem y hc

/-- The list is earlier stores `L'` and then blocks of `G`, at the rectangles of the list `Q`. -/
def Upto (G : s.Idx → Val e) (L' L Q : List (View.Piece Val s e)) : Prop :=
  ∃ P, L = P ++ L' ∧ View.PiecesOf G P ∧ P.map (fun p => p.1) = Q.map (fun p => p.1)

theorem upto_nil (G : s.Idx → Val e) (L' : List (View.Piece Val s e)) : Upto G L' L' [] := ⟨[], rfl, trivial, rfl⟩

theorem upto_cons {G : s.Idx → Val e} {r : Rect s} {z z' : r.shape.Idx → Val e} {L' L Q : List (View.Piece Val s e)}
    (h : ∀ x : r.shape.Idx, z x = G (r.emb x)) (hL : Upto G L' L Q) : Upto G L' (⟨r, z⟩ :: L) (⟨r, z'⟩ :: Q) := by
  obtain ⟨P, rfl, hP, hm⟩ := hL
  exact ⟨⟨r, z⟩ :: P, rfl, ⟨h, hP⟩, congrArg (r :: ·) hm⟩

/-- Stores over earlier stores leave `G` where one of the later ones writes. -/
theorem canon_upto [∀ e, Nonempty (Val e)] {G : s.Idx → Val e} {L' L Q : List (View.Piece Val s e)} (h : Upto G L' L Q) (y : s.Idx)
    (hc : ∃ p ∈ Q, y ∈ p.1.set) : View.canon L y = G y := by
  obtain ⟨P, rfl, hP, hm⟩ := h
  refine View.canon_append_of_piecesOf G L' P hP y ?_
  obtain ⟨p, hp, hy⟩ := hc
  have : p.1 ∈ P.map (fun p => p.1) := hm ▸ List.mem_map_of_mem (f := fun p => p.1) hp
  obtain ⟨q, hq, e⟩ := List.mem_map.mp this
  exact ⟨q, hq, e ▸ hy⟩
end

/-- The values a tile's store has at an index are a function's there, from the coordinates. -/
theorem emb_eq {m n a b o p : Nat} (inb) (x : (⟨2, ![a, b]⟩ : Shape).Idx) (y : (⟨2, ![m, n]⟩ : Shape).Idx)
    (h0 : (y 0).val = o + (x 0).val) (h1 : (y 1).val = p + (x 1).val) :
    (Rect.unit (s := ⟨2, ![m, n]⟩) ![o, p] ![a, b] inb).emb x = y := by
  funext q
  refine Fin.ext ?_
  rw [Rect.emb_apply]
  fin_cases q
  · exact (congrArg (o + ·) (Nat.one_mul _)).trans h0.symm
  · exact (congrArg (p + ·) (Nat.one_mul _)).trans h1.symm

theorem xb_piece (g o : Nat) (hg : g < 8) (ho : o = g * 128) (inb) (p : Vec Ideal S256x128 .bf16)
    (hp : ∀ (r : Fin 256) (l : Fin 128), p (ix2 r l) = x0 (ix2 r ⟨o + l.val, by omega⟩) * x1 (ix2 r ⟨g, hg⟩))
    (z : S256x128.Idx) : p z = XB x0 x1 ((Rect.unit (s := S256x1024) ![0, o] S256x128.size inb).emb z) := by
  idx_vars z
  rename' z0 => r, z1 => l
  rw [hp, emb_eq inb (ix2 r l) (ix2 r ⟨o + l.val, by omega⟩) (Nat.zero_add _).symm rfl, XB_apply]
  unfold xr row
  have e : (⟨(o + l.val) / 128, by omega⟩ : Fin 8) = ⟨g, hg⟩ := Fin.ext (by dsimp only; omega)
  rw [e]

theorem yb_piece (g o : Nat) (hg : g < 8) (ho : o = g * 128) (inb) (p : Vec Ideal S256x128 .bf16)
    (hp : ∀ (r : Fin 256) (l : Fin 128), p (ix2 r l) = x2 (ix2 r ⟨o + l.val, by omega⟩) * x3 (ix2 r ⟨g, hg⟩))
    (z : S256x128.Idx) : p z = YB x2 x3 ((Rect.unit (s := S256x1024) ![0, o] S256x128.size inb).emb z) := by
  idx_vars z
  rename' z0 => r, z1 => l
  rw [hp, emb_eq inb (ix2 r l) (ix2 r ⟨o + l.val, by omega⟩) (Nat.zero_add _).symm rfl, YB_apply]
  unfold yr row
  have e : (⟨(o + l.val) / 128, by omega⟩ : Fin 8) = ⟨g, hg⟩ := Fin.ext (by dsimp only; omega)
  rw [e]

theorem xt_piece (g o : Nat) (hg : g < 8) (ho : o = g * 128) (inb) (p : Vec Ideal S128x256 .bf16)
    (hp : ∀ (l : Fin 128) (r : Fin 256), p (ix2 l r) = x0 (ix2 r ⟨o + l.val, by omega⟩) * x1 (ix2 r ⟨g, hg⟩))
    (z : S128x256.Idx) : p z = XT x0 x1 ((Rect.unit (s := S1024x256) ![o, 0] S128x256.size inb).emb z) := by
  idx_vars z
  rename' z0 => l, z1 => r
  rw [hp, emb_eq inb (ix2 l r) (ix2 ⟨o + l.val, by omega⟩ r) rfl (Nat.zero_add _).symm, XT_apply]
  unfold xr row
  have e : (⟨(o + l.val) / 128, by omega⟩ : Fin 8) = ⟨g, hg⟩ := Fin.ext (by dsimp only; omega)
  rw [e]

/-- One token's gradient of the two projections, side by side. -/
def dgu (r : Fin 256) (f : Fin 5632) : EReal :=
  if h : f.val < 2816 then dgate (xr x0 x1 r) (yr x2 x3 r) w d ⟨f.val, h⟩
  else dup (xr x0 x1 r) (yr x2 x3 r) w d ⟨f.val - 2816, by omega⟩

/-- The block's share of the gradient of the first weights, added to `v`. -/
def AccGU (v : Vec Ideal S1024x5632 .f32) : Vec Ideal S1024x5632 .f32 := fun y =>
  v y + ∑ r : Fin 256, xr x0 x1 r (y 0) * dgu x0 x1 x2 x3 w d r (y 1)

/-- The block's share of the gradient of the second weights, added to `v`. -/
def AccD (v : Vec Ideal S2816x1024 .f32) : Vec Ideal S2816x1024 .f32 := fun y =>
  v y + ∑ r : Fin 256, hid (xr x0 x1 r) w (y 0) * yr x2 x3 r (y 1)

/-- The largest magnitudes of a block's rows, group by group. -/
def AM (v : Fin 256 → Fin 2816 → EReal) : Vec Ideal S256x22 .f32 := fun y => amax (v (y 0)) (y 1)

/-- The block's gradient of the activations. -/
def DXO : Vec Ideal S256x1024 .bf16 := fun y => DXA x0 x1 x2 x3 w d 10 y

theorem dx_piece (inb) (p : Vec Ideal S256x1024 .bf16) (hp : p = fun y => DXA x0 x1 x2 x3 w d 10 y) (z : S256x1024.Idx) :
    p z = DXO x0 x1 x2 x3 w d ((Rect.unit (s := S256x1024) ![0, 0] S256x1024.size inb).emb z) := by
  idx_vars z
  rw [hp, emb_eq inb (ix2 z0 z1) (ix2 z0 z1) (Nat.zero_add _).symm (Nat.zero_add _).symm]
  rfl

theorem gate_piece (v : Vec Ideal S1024x5632 .f32) (j : Fin 11) (o : Nat) (ho : o = 256 * j.val) (inb) (p : Vec Ideal S1024x256 .f32)
    (hp : ∀ (k : Fin 1024) (l : Fin 256), p (ix2 k l) = View.ld v (Rect.unit (s := S1024x5632) ![0, o] S1024x256.size inb) (ix2 k l) +
      ∑ r : Fin 256, xr x0 x1 r k * dgate (xr x0 x1 r) (yr x2 x3 r) w d (fi j l))
    (z : S1024x256.Idx) : p z = AccGU x0 x1 x2 x3 w d v ((Rect.unit (s := S1024x5632) ![0, o] S1024x256.size inb).emb z) := by
  idx_vars z
  rename' z0 => k, z1 => l
  rw [hp]
  unfold AccGU
  refine congrArg₂ (· + ·) rfl (Finset.sum_congr rfl fun r _ => ?_)
  rw [emb_eq inb (ix2 k l) (ix2 k ⟨o + l.val, by omega⟩) (Nat.zero_add _).symm rfl]
  refine congrArg₂ (· * ·) rfl ?_
  unfold dgu
  rw [dif_pos (show ((ix2 k ⟨o + l.val, by omega⟩ : S1024x5632.Idx) 1).val < 2816 from by show o + l.val < 2816; omega)]
  refine congrArg _ (Fin.ext ?_)
  show 256 * j.val + l.val = o + l.val
  omega

theorem up_piece (v : Vec Ideal S1024x5632 .f32) (j : Fin 11) (o : Nat) (ho : o = 2816 + 256 * j.val) (inb) (p : Vec Ideal S1024x256 .f32)
    (hp : ∀ (k : Fin 1024) (l : Fin 256), p (ix2 k l) = View.ld v (Rect.unit (s := S1024x5632) ![0, o] S1024x256.size inb) (ix2 k l) +
      ∑ r : Fin 256, xr x0 x1 r k * dup (xr x0 x1 r) (yr x2 x3 r) w d (fi j l))
    (z : S1024x256.Idx) : p z = AccGU x0 x1 x2 x3 w d v ((Rect.unit (s := S1024x5632) ![0, o] S1024x256.size inb).emb z) := by
  idx_vars z
  rename' z0 => k, z1 => l
  rw [hp]
  unfold AccGU
  refine congrArg₂ (· + ·) rfl (Finset.sum_congr rfl fun r _ => ?_)
  rw [emb_eq inb (ix2 k l) (ix2 k ⟨o + l.val, by omega⟩) (Nat.zero_add _).symm rfl]
  refine congrArg₂ (· * ·) rfl ?_
  unfold dgu
  rw [dif_neg (show ¬((ix2 k ⟨o + l.val, by omega⟩ : S1024x5632.Idx) 1).val < 2816 from by show ¬(o + l.val < 2816); omega)]
  refine congrArg _ (Fin.ext ?_)
  show 256 * j.val + l.val = o + l.val - 2816
  omega

theorem down_piece (v : Vec Ideal S2816x1024 .f32) (j : Fin 11) (o : Nat) (ho : o = 256 * j.val) (inb) (p : Vec Ideal S256x1024 .f32)
    (hp : ∀ (l : Fin 256) (k : Fin 1024), p (ix2 l k) = View.ld v (Rect.unit (s := S2816x1024) ![o, 0] S256x1024.size inb) (ix2 l k) +
      ∑ r : Fin 256, hid (xr x0 x1 r) w (fi j l) * yr x2 x3 r k)
    (z : S256x1024.Idx) : p z = AccD x0 x1 x2 x3 w v ((Rect.unit (s := S2816x1024) ![o, 0] S256x1024.size inb).emb z) := by
  idx_vars z
  rename' z0 => l, z1 => k
  rw [hp]
  unfold AccD
  refine congrArg₂ (· + ·) rfl (Finset.sum_congr rfl fun r _ => ?_)
  rw [emb_eq inb (ix2 l k) (ix2 ⟨o + l.val, by omega⟩ k) rfl (Nat.zero_add _).symm]
  refine congrArg₂ (· * ·) (congrArg _ (Fin.ext ?_)) rfl
  show 256 * j.val + l.val = o + l.val
  omega

theorem amax_piece (v : Fin 256 → Fin 2816 → EReal) (q : Fin 22) (o : Nat) (ho : o = q.val) (inb) (p : Vec Ideal S256x1 .f32)
    (hp : ∀ r : Fin 256, p (ix2 r (0 : Fin 1)) = amax (v r) q)
    (z : S256x1.Idx) : p z = AM v ((Rect.unit (s := S256x22) ![0, o] S256x1.size inb).emb z) := by
  idx_vars z
  rename' z0 => r, z1 => e
  obtain rfl : e = 0 := Subsingleton.elim _ _
  rw [hp, emb_eq inb (ix2 r (0 : Fin 1)) (ix2 r q) (Nat.zero_add _).symm ho.symm]
  rfl

end Cert.KernelIdeal.Block

end
-- ==== Proof.WordsA.lean ====
/- What the body reads back of its own stores, at the first point. -/
module

public import proofs.«01_k».proof.Proof.BlockBwd
public import proofs.«01_k».proof.Proof.BlockFwd
public import proofs.«01_k».proof.Proof.Pieces
public import proofs.«01_k».proof.Proof.Gen.KernelIdeal.Frame.RunA

@[expose] public section

set_option maxRecDepth 16384

noncomputable section

namespace Cert.KernelIdeal.CaseA

open Cert.KernelIdeal Cert.KernelIdeal.Gen Cert.KernelIdeal.Block Idealize.ShloMosaic Cert.Spec

variable (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole)
  (hc0 : cond0_0 i) (hc1 : ¬cond0_1 i)
  (x0 : Vec Ideal S256x1024 .fp8e4m3) (x1 : Vec Ideal S256x8 .f32) (x2 : Vec Ideal S256x1024 .fp8e5m2) (x3 : Vec Ideal S256x8 .f32)

  (fh0 : HbBuf0 (F := Ideal) c hbM0_0) (fh1 : HbBuf0 (F := Ideal) c hbM0_1) (fw2 : HbBuf0 (F := Ideal) c hbM0_2) (fw3 : HbBuf0 (F := Ideal) c hbM0_3)

/-- The gate and up weights as the copy in holds them. -/
def WA (fh0 : (Memref.whole main_arg4).view.ty.Contents (Elt Ideal)) : Vec Ideal S1024x5632 .bf16 :=
  View.read (Elt Ideal) (Memref.whole main_arg4).view fh0
/-- The down weights as the copy in holds them. -/
def DA (fh1 : (Memref.whole main_arg5).view.ty.Contents (Elt Ideal)) : Vec Ideal S2816x1024 .bf16 :=
  View.read (Elt Ideal) (Memref.whole main_arg5).view fh1

theorem dma0_eq : kernelRun0_A.sl.dma0 (F := Ideal) c fh0 = WA fh0 := rfl
theorem dma0_1_eq : kernelRun0_A.sl.dma0_1 (F := Ideal) c fh1 = DA fh1 := rfl

theorem v211_eq : kernelRun0_A.sl.v211 (F := Ideal) c arg1 harg1 arg2 harg2 arg17 x0 x1 = XB x0 x1 := by
  unfold kernelRun0_A.sl.v211 kernelRun0_A.sl.HS4_8 kernelRun0_A.sl.r kernelRun0_A.sl.r_1
  simp only [View.readAt_eq_ld, Memref.IsWhole.read_unread]
  rw [readCov_all _ _ _ (by decide)]
  funext y
  refine canon_of (G := XB x0 x1) ?_ y (View.cover_of_tiled_head _ _ _ (by rfl) y)
  refine of_cons (xb_piece x0 x1 7 896 (by decide) rfl _ _ (fun r l => by unfold_payloads; pointwise [])) ?_
  refine of_cons (xb_piece x0 x1 6 768 (by decide) rfl _ _ (fun r l => by unfold_payloads; pointwise [])) ?_
  refine of_cons (xb_piece x0 x1 5 640 (by decide) rfl _ _ (fun r l => by unfold_payloads; pointwise [])) ?_
  refine of_cons (xb_piece x0 x1 4 512 (by decide) rfl _ _ (fun r l => by unfold_payloads; pointwise [])) ?_
  refine of_cons (xb_piece x0 x1 3 384 (by decide) rfl _ _ (fun r l => by unfold_payloads; pointwise [])) ?_
  refine of_cons (xb_piece x0 x1 2 256 (by decide) rfl _ _ (fun r l => by unfold_payloads; pointwise [])) ?_
  refine of_cons (xb_piece x0 x1 1 128 (by decide) rfl _ _ (fun r l => by unfold_payloads; pointwise [])) ?_
  refine of_cons (xb_piece x0 x1 0 0 (by decide) rfl _ _ (fun r l => by unfold_payloads; pointwise [])) ?_
  exact of_nil _

theorem v217_eq : kernelRun0_A.sl.v217 (F := Ideal) c arg3 harg3 arg4 harg4 arg18 x2 x3 = YB x2 x3 := by
  unfold kernelRun0_A.sl.v217 kernelRun0_A.sl.HS5_8 kernelRun0_A.sl.r_3 kernelRun0_A.sl.r_4
  simp only [View.readAt_eq_ld, Memref.IsWhole.read_unread]
  rw [readCov_all _ _ _ (by decide)]
  funext y
  refine canon_of (G := YB x2 x3) ?_ y (View.cover_of_tiled_head _ _ _ (by rfl) y)
  refine of_cons (yb_piece x2 x3 7 896 (by decide) rfl _ _ (fun r l => by unfold_payloads; pointwise [])) ?_
  refine of_cons (yb_piece x2 x3 6 768 (by decide) rfl _ _ (fun r l => by unfold_payloads; pointwise [])) ?_
  refine of_cons (yb_piece x2 x3 5 640 (by decide) rfl _ _ (fun r l => by unfold_payloads; pointwise [])) ?_
  refine of_cons (yb_piece x2 x3 4 512 (by decide) rfl _ _ (fun r l => by unfold_payloads; pointwise [])) ?_
  refine of_cons (yb_piece x2 x3 3 384 (by decide) rfl _ _ (fun r l => by unfold_payloads; pointwise [])) ?_
  refine of_cons (yb_piece x2 x3 2 256 (by decide) rfl _ _ (fun r l => by unfold_payloads; pointwise [])) ?_
  refine of_cons (yb_piece x2 x3 1 128 (by decide) rfl _ _ (fun r l => by unfold_payloads; pointwise [])) ?_
  refine of_cons (yb_piece x2 x3 0 0 (by decide) rfl _ _ (fun r l => by unfold_payloads; pointwise [])) ?_
  exact of_nil _

theorem v376_eq : kernelRun0_A.sl.v376 (F := Ideal) c arg1 harg1 arg2 harg2 arg19 x0 x1 = XT x0 x1 := by
  unfold kernelRun0_A.sl.v376 kernelRun0_A.sl.HS6_8 kernelRun0_A.sl.r_2 kernelRun0_A.sl.r kernelRun0_A.sl.r_1
  simp only [View.readAt_eq_ld, Memref.IsWhole.read_unread]
  rw [readCov_all _ _ _ (by decide)]
  funext y
  refine canon_of (G := XT x0 x1) ?_ y (View.cover_of_tiled_head _ _ _ (by rfl) y)
  refine of_cons (xt_piece x0 x1 7 896 (by decide) rfl _ _ (fun l r => by unfold_payloads; pointwise [])) ?_
  refine of_cons (xt_piece x0 x1 6 768 (by decide) rfl _ _ (fun l r => by unfold_payloads; pointwise [])) ?_
  refine of_cons (xt_piece x0 x1 5 640 (by decide) rfl _ _ (fun l r => by unfold_payloads; pointwise [])) ?_
  refine of_cons (xt_piece x0 x1 4 512 (by decide) rfl _ _ (fun l r => by unfold_payloads; pointwise [])) ?_
  refine of_cons (xt_piece x0 x1 3 384 (by decide) rfl _ _ (fun l r => by unfold_payloads; pointwise [])) ?_
  refine of_cons (xt_piece x0 x1 2 256 (by decide) rfl _ _ (fun l r => by unfold_payloads; pointwise [])) ?_
  refine of_cons (xt_piece x0 x1 1 128 (by decide) rfl _ _ (fun l r => by unfold_payloads; pointwise [])) ?_
  refine of_cons (xt_piece x0 x1 0 0 (by decide) rfl _ _ (fun l r => by unfold_payloads; pointwise [])) ?_
  exact of_nil _

theorem v1489_eq : kernelRun0_A.sl.v1489 (F := Ideal) c arg3 harg3 arg4 harg4 arg18 x2 x3 = YB x2 x3 := v217_eq c arg3 harg3 arg4 harg4 arg18 x2 x3

theorem v363_eq : kernelRun0_A.sl.v363 (F := Ideal) c arg1 harg1 arg2 harg2 arg3 harg3 arg4 harg4 arg13 arg14 arg17 arg18 arg22 x0 x1 x2 x3 fh0 fh1 = DG3 x0 x1 x2 x3 (WA fh0) (DA fh1) 0 := by
  unfold kernelRun0_A.sl.v363 kernelRun0_A.sl.HS9_2
  rw [View.readCov_skip _ _ _ _ _ (by decide)]
  refine (View.readCov_cons_toLoadRect _ _ _ _).trans ?_
  unfold kernelRun0_A.sl.r_5 kernelRun0_A.sl.v212 kernelRun0_A.sl.v215 kernelRun0_A.sl.v218
  simp only [v211_eq, v217_eq, View.readAt_eq_ld, Memref.IsWhole.read_unread, readCov_whole, dma0_eq, dma0_1_eq]
  exact dg_0 x0 x1 x2 x3 (WA fh0) (DA fh1)

theorem v367_eq : kernelRun0_A.sl.v367 (F := Ideal) c arg1 harg1 arg2 harg2 arg3 harg3 arg4 harg4 arg13 arg14 arg17 arg18 arg23 x0 x1 x2 x3 fh0 fh1 = DU3 x0 x1 x2 x3 (WA fh0) (DA fh1) 0 := by
  unfold kernelRun0_A.sl.v367 kernelRun0_A.sl.HS10_2
  rw [View.readCov_skip _ _ _ _ _ (by decide)]
  refine (View.readCov_cons_toLoadRect _ _ _ _).trans ?_
  unfold kernelRun0_A.sl.r_8 kernelRun0_A.sl.r_5 kernelRun0_A.sl.v212 kernelRun0_A.sl.v218
  simp only [v211_eq, v217_eq, View.readAt_eq_ld, Memref.IsWhole.read_unread, readCov_whole, dma0_eq, dma0_1_eq]
  exact du_0 x0 x1 x2 x3 (WA fh0) (DA fh1)

theorem v394_eq : kernelRun0_A.sl.v394 (F := Ideal) c arg1 harg1 arg2 harg2 arg13 arg17 arg21 x0 x1 fh0 = H3 x0 x1 (WA fh0) 0 := by
  unfold kernelRun0_A.sl.v394 kernelRun0_A.sl.HS8_2
  rw [View.readCov_skip _ _ _ _ _ (by decide)]
  refine (View.readCov_cons_toLoadRect _ _ _ _).trans ?_
  unfold kernelRun0_A.sl.r_5 kernelRun0_A.sl.v212 kernelRun0_A.sl.v215
  simp only [v211_eq, v217_eq, View.readAt_eq_ld, Memref.IsWhole.read_unread, readCov_whole, dma0_eq, dma0_1_eq]
  exact h_0 x0 x1 (WA fh0)

theorem v478_eq : kernelRun0_A.sl.v478 (F := Ideal) c arg1 harg1 arg2 harg2 arg3 harg3 arg4 harg4 arg13 arg14 arg17 arg18 arg22 x0 x1 x2 x3 fh0 fh1 = DG3 x0 x1 x2 x3 (WA fh0) (DA fh1) 1 := by
  unfold kernelRun0_A.sl.v478 kernelRun0_A.sl.HS9_3 kernelRun0_A.sl.HS9_2
  rw [View.readCov_skip _ _ _ _ _ (by decide)]
  refine (View.readCov_cons_toLoadRect _ _ _ _).trans ?_
  unfold kernelRun0_A.sl.r_12 kernelRun0_A.sl.v288 kernelRun0_A.sl.v291 kernelRun0_A.sl.v294
  simp only [v211_eq, v217_eq, View.readAt_eq_ld, Memref.IsWhole.read_unread, readCov_whole, dma0_eq, dma0_1_eq]
  exact dg_1 x0 x1 x2 x3 (WA fh0) (DA fh1)

theorem v482_eq : kernelRun0_A.sl.v482 (F := Ideal) c arg1 harg1 arg2 harg2 arg3 harg3 arg4 harg4 arg13 arg14 arg17 arg18 arg23 x0 x1 x2 x3 fh0 fh1 = DU3 x0 x1 x2 x3 (WA fh0) (DA fh1) 1 := by
  unfold kernelRun0_A.sl.v482 kernelRun0_A.sl.HS10_3 kernelRun0_A.sl.HS10_2
  rw [View.readCov_skip _ _ _ _ _ (by decide)]
  refine (View.readCov_cons_toLoadRect _ _ _ _).trans ?_
  unfold kernelRun0_A.sl.r_13 kernelRun0_A.sl.v288 kernelRun0_A.sl.v294
  simp only [v211_eq, v217_eq, View.readAt_eq_ld, Memref.IsWhole.read_unread, readCov_whole, dma0_eq, dma0_1_eq]
  exact du_1 x0 x1 x2 x3 (WA fh0) (DA fh1)

theorem v511_eq : kernelRun0_A.sl.v511 (F := Ideal) c arg1 harg1 arg2 harg2 arg13 arg17 arg21 x0 x1 fh0 = H3 x0 x1 (WA fh0) 1 := by
  unfold kernelRun0_A.sl.v511 kernelRun0_A.sl.HS8_3 kernelRun0_A.sl.HS8_2
  rw [View.readCov_skip _ _ _ _ _ (by decide)]
  refine (View.readCov_cons_toLoadRect _ _ _ _).trans ?_
  unfold kernelRun0_A.sl.r_14 kernelRun0_A.sl.v288 kernelRun0_A.sl.v291
  simp only [v211_eq, v217_eq, View.readAt_eq_ld, Memref.IsWhole.read_unread, readCov_whole, dma0_eq, dma0_1_eq]
  exact h_1 x0 x1 (WA fh0)

theorem v595_eq : kernelRun0_A.sl.v595 (F := Ideal) c arg1 harg1 arg2 harg2 arg3 harg3 arg4 harg4 arg13 arg14 arg17 arg18 arg22 x0 x1 x2 x3 fh0 fh1 = DG3 x0 x1 x2 x3 (WA fh0) (DA fh1) 2 := by
  unfold kernelRun0_A.sl.v595 kernelRun0_A.sl.HS9_4 kernelRun0_A.sl.HS9_3
  rw [View.readCov_skip _ _ _ _ _ (by decide)]
  refine (View.readCov_cons_toLoadRect _ _ _ _).trans ?_
  unfold kernelRun0_A.sl.r_17 kernelRun0_A.sl.r_18 kernelRun0_A.sl.v403 kernelRun0_A.sl.v406 kernelRun0_A.sl.v409
  simp only [v211_eq, v217_eq, View.readAt_eq_ld, Memref.IsWhole.read_unread, readCov_whole, dma0_eq, dma0_1_eq]
  exact dg_2 x0 x1 x2 x3 (WA fh0) (DA fh1)

theorem v599_eq : kernelRun0_A.sl.v599 (F := Ideal) c arg1 harg1 arg2 harg2 arg3 harg3 arg4 harg4 arg13 arg14 arg17 arg18 arg23 x0 x1 x2 x3 fh0 fh1 = DU3 x0 x1 x2 x3 (WA fh0) (DA fh1) 2 := by
  unfold kernelRun0_A.sl.v599 kernelRun0_A.sl.HS10_4 kernelRun0_A.sl.HS10_3
  rw [View.readCov_skip _ _ _ _ _ (by decide)]
  refine (View.readCov_cons_toLoadRect _ _ _ _).trans ?_
  unfold kernelRun0_A.sl.r_17 kernelRun0_A.sl.v403 kernelRun0_A.sl.v409
  simp only [v211_eq, v217_eq, View.readAt_eq_ld, Memref.IsWhole.read_unread, readCov_whole, dma0_eq, dma0_1_eq]
  exact du_2 x0 x1 x2 x3 (WA fh0) (DA fh1)

theorem v628_eq : kernelRun0_A.sl.v628 (F := Ideal) c arg1 harg1 arg2 harg2 arg13 arg17 arg21 x0 x1 fh0 = H3 x0 x1 (WA fh0) 2 := by
  unfold kernelRun0_A.sl.v628 kernelRun0_A.sl.HS8_4 kernelRun0_A.sl.HS8_3
  rw [View.readCov_skip _ _ _ _ _ (by decide)]
  refine (View.readCov_cons_toLoadRect _ _ _ _).trans ?_
  unfold kernelRun0_A.sl.r_17 kernelRun0_A.sl.r_18 kernelRun0_A.sl.v403 kernelRun0_A.sl.v406
  simp only [v211_eq, v217_eq, View.readAt_eq_ld, Memref.IsWhole.read_unread, readCov_whole, dma0_eq, dma0_1_eq]
  exact h_2 x0 x1 (WA fh0)

theorem v712_eq : kernelRun0_A.sl.v712 (F := Ideal) c arg1 harg1 arg2 harg2 arg3 harg3 arg4 harg4 arg13 arg14 arg17 arg18 arg22 x0 x1 x2 x3 fh0 fh1 = DG3 x0 x1 x2 x3 (WA fh0) (DA fh1) 3 := by
  unfold kernelRun0_A.sl.v712 kernelRun0_A.sl.HS9_5 kernelRun0_A.sl.HS9_4
  rw [View.readCov_skip _ _ _ _ _ (by decide)]
  refine (View.readCov_cons_toLoadRect _ _ _ _).trans ?_
  unfold kernelRun0_A.sl.r_25 kernelRun0_A.sl.r_26 kernelRun0_A.sl.r_27 kernelRun0_A.sl.r_28 kernelRun0_A.sl.v520 kernelRun0_A.sl.v523 kernelRun0_A.sl.v526
  simp only [v211_eq, v217_eq, View.readAt_eq_ld, Memref.IsWhole.read_unread, readCov_whole, dma0_eq, dma0_1_eq]
  exact dg_3 x0 x1 x2 x3 (WA fh0) (DA fh1)

theorem v716_eq : kernelRun0_A.sl.v716 (F := Ideal) c arg1 harg1 arg2 harg2 arg3 harg3 arg4 harg4 arg13 arg14 arg17 arg18 arg23 x0 x1 x2 x3 fh0 fh1 = DU3 x0 x1 x2 x3 (WA fh0) (DA fh1) 3 := by
  unfold kernelRun0_A.sl.v716 kernelRun0_A.sl.HS10_5 kernelRun0_A.sl.HS10_4
  rw [View.readCov_skip _ _ _ _ _ (by decide)]
  refine (View.readCov_cons_toLoadRect _ _ _ _).trans ?_
  unfold kernelRun0_A.sl.r_27 kernelRun0_A.sl.r_29 kernelRun0_A.sl.v526 kernelRun0_A.sl.v520
  simp only [v211_eq, v217_eq, View.readAt_eq_ld, Memref.IsWhole.read_unread, readCov_whole, dma0_eq, dma0_1_eq]
  exact du_3 x0 x1 x2 x3 (WA fh0) (DA fh1)

theorem v745_eq : kernelRun0_A.sl.v745 (F := Ideal) c arg1 harg1 arg2 harg2 arg13 arg17 arg21 x0 x1 fh0 = H3 x0 x1 (WA fh0) 3 := by
  unfold kernelRun0_A.sl.v745 kernelRun0_A.sl.HS8_5 kernelRun0_A.sl.HS8_4
  rw [View.readCov_skip _ _ _ _ _ (by decide)]
  refine (View.readCov_cons_toLoadRect _ _ _ _).trans ?_
  unfold kernelRun0_A.sl.r_26 kernelRun0_A.sl.r_29 kernelRun0_A.sl.v523 kernelRun0_A.sl.v520
  simp only [v211_eq, v217_eq, View.readAt_eq_ld, Memref.IsWhole.read_unread, readCov_whole, dma0_eq, dma0_1_eq]
  exact h_3 x0 x1 (WA fh0)

theorem v829_eq : kernelRun0_A.sl.v829 (F := Ideal) c arg1 harg1 arg2 harg2 arg3 harg3 arg4 harg4 arg13 arg14 arg17 arg18 arg22 x0 x1 x2 x3 fh0 fh1 = DG3 x0 x1 x2 x3 (WA fh0) (DA fh1) 4 := by
  unfold kernelRun0_A.sl.v829 kernelRun0_A.sl.HS9_6 kernelRun0_A.sl.HS9_5
  rw [View.readCov_skip _ _ _ _ _ (by decide)]
  refine (View.readCov_cons_toLoadRect _ _ _ _).trans ?_
  unfold kernelRun0_A.sl.r_36 kernelRun0_A.sl.v637 kernelRun0_A.sl.v640 kernelRun0_A.sl.v643
  simp only [v211_eq, v217_eq, View.readAt_eq_ld, Memref.IsWhole.read_unread, readCov_whole, dma0_eq, dma0_1_eq]
  exact dg_4 x0 x1 x2 x3 (WA fh0) (DA fh1)

theorem v833_eq : kernelRun0_A.sl.v833 (F := Ideal) c arg1 harg1 arg2 harg2 arg3 harg3 arg4 harg4 arg13 arg14 arg17 arg18 arg23 x0 x1 x2 x3 fh0 fh1 = DU3 x0 x1 x2 x3 (WA fh0) (DA fh1) 4 := by
  unfold kernelRun0_A.sl.v833 kernelRun0_A.sl.HS10_6 kernelRun0_A.sl.HS10_5
  rw [View.readCov_skip _ _ _ _ _ (by decide)]
  refine (View.readCov_cons_toLoadRect _ _ _ _).trans ?_
  unfold kernelRun0_A.sl.r_37 kernelRun0_A.sl.v637 kernelRun0_A.sl.v643
  simp only [v211_eq, v217_eq, View.readAt_eq_ld, Memref.IsWhole.read_unread, readCov_whole, dma0_eq, dma0_1_eq]
  exact du_4 x0 x1 x2 x3 (WA fh0) (DA fh1)

theorem v862_eq : kernelRun0_A.sl.v862 (F := Ideal) c arg1 harg1 arg2 harg2 arg13 arg17 arg21 x0 x1 fh0 = H3 x0 x1 (WA fh0) 4 := by
  unfold kernelRun0_A.sl.v862 kernelRun0_A.sl.HS8_6 kernelRun0_A.sl.HS8_5
  rw [View.readCov_skip _ _ _ _ _ (by decide)]
  refine (View.readCov_cons_toLoadRect _ _ _ _).trans ?_
  unfold kernelRun0_A.sl.r_38 kernelRun0_A.sl.v637 kernelRun0_A.sl.v640
  simp only [v211_eq, v217_eq, View.readAt_eq_ld, Memref.IsWhole.read_unread, readCov_whole, dma0_eq, dma0_1_eq]
  exact h_4 x0 x1 (WA fh0)

theorem v946_eq : kernelRun0_A.sl.v946 (F := Ideal) c arg1 harg1 arg2 harg2 arg3 harg3 arg4 harg4 arg13 arg14 arg17 arg18 arg22 x0 x1 x2 x3 fh0 fh1 = DG3 x0 x1 x2 x3 (WA fh0) (DA fh1) 5 := by
  unfold kernelRun0_A.sl.v946 kernelRun0_A.sl.HS9_7 kernelRun0_A.sl.HS9_6
  rw [View.readCov_skip _ _ _ _ _ (by decide)]
  refine (View.readCov_cons_toLoadRect _ _ _ _).trans ?_
  unfold kernelRun0_A.sl.r_39 kernelRun0_A.sl.v754 kernelRun0_A.sl.v757 kernelRun0_A.sl.v760
  simp only [v211_eq, v217_eq, View.readAt_eq_ld, Memref.IsWhole.read_unread, readCov_whole, dma0_eq, dma0_1_eq]
  exact dg_5 x0 x1 x2 x3 (WA fh0) (DA fh1)

theorem v950_eq : kernelRun0_A.sl.v950 (F := Ideal) c arg1 harg1 arg2 harg2 arg3 harg3 arg4 harg4 arg13 arg14 arg17 arg18 arg23 x0 x1 x2 x3 fh0 fh1 = DU3 x0 x1 x2 x3 (WA fh0) (DA fh1) 5 := by
  unfold kernelRun0_A.sl.v950 kernelRun0_A.sl.HS10_7 kernelRun0_A.sl.HS10_6
  rw [View.readCov_skip _ _ _ _ _ (by decide)]
  refine (View.readCov_cons_toLoadRect _ _ _ _).trans ?_
  unfold kernelRun0_A.sl.r_42 kernelRun0_A.sl.r_39 kernelRun0_A.sl.v754 kernelRun0_A.sl.v760
  simp only [v211_eq, v217_eq, View.readAt_eq_ld, Memref.IsWhole.read_unread, readCov_whole, dma0_eq, dma0_1_eq]
  exact du_5 x0 x1 x2 x3 (WA fh0) (DA fh1)

theorem v979_eq : kernelRun0_A.sl.v979 (F := Ideal) c arg1 harg1 arg2 harg2 arg13 arg17 arg21 x0 x1 fh0 = H3 x0 x1 (WA fh0) 5 := by
  unfold kernelRun0_A.sl.v979 kernelRun0_A.sl.HS8_7 kernelRun0_A.sl.HS8_6
  rw [View.readCov_skip _ _ _ _ _ (by decide)]
  refine (View.readCov_cons_toLoadRect _ _ _ _).trans ?_
  unfold kernelRun0_A.sl.r_39 kernelRun0_A.sl.v754 kernelRun0_A.sl.v757
  simp only [v211_eq, v217_eq, View.readAt_eq_ld, Memref.IsWhole.read_unread, readCov_whole, dma0_eq, dma0_1_eq]
  exact h_5 x0 x1 (WA fh0)

theorem v1063_eq : kernelRun0_A.sl.v1063 (F := Ideal) c arg1 harg1 arg2 harg2 arg3 harg3 arg4 harg4 arg13 arg14 arg17 arg18 arg22 x0 x1 x2 x3 fh0 fh1 = DG3 x0 x1 x2 x3 (WA fh0) (DA fh1) 6 := by
  unfold kernelRun0_A.sl.v1063 kernelRun0_A.sl.HS9_8 kernelRun0_A.sl.HS9_7
  rw [View.readCov_skip _ _ _ _ _ (by decide)]
  refine (View.readCov_cons_toLoadRect _ _ _ _).trans ?_
  unfold kernelRun0_A.sl.r_44 kernelRun0_A.sl.r_45 kernelRun0_A.sl.r_46 kernelRun0_A.sl.v871 kernelRun0_A.sl.v874 kernelRun0_A.sl.v877
  simp only [v211_eq, v217_eq, View.readAt_eq_ld, Memref.IsWhole.read_unread, readCov_whole, dma0_eq, dma0_1_eq]
  exact dg_6 x0 x1 x2 x3 (WA fh0) (DA fh1)

theorem v1067_eq : kernelRun0_A.sl.v1067 (F := Ideal) c arg1 harg1 arg2 harg2 arg3 harg3 arg4 harg4 arg13 arg14 arg17 arg18 arg23 x0 x1 x2 x3 fh0 fh1 = DU3 x0 x1 x2 x3 (WA fh0) (DA fh1) 6 := by
  unfold kernelRun0_A.sl.v1067 kernelRun0_A.sl.HS10_8 kernelRun0_A.sl.HS10_7
  rw [View.readCov_skip _ _ _ _ _ (by decide)]
  refine (View.readCov_cons_toLoadRect _ _ _ _).trans ?_
  unfold kernelRun0_A.sl.r_44 kernelRun0_A.sl.r_46 kernelRun0_A.sl.v871 kernelRun0_A.sl.v877
  simp only [v211_eq, v217_eq, View.readAt_eq_ld, Memref.IsWhole.read_unread, readCov_whole, dma0_eq, dma0_1_eq]
  exact du_6 x0 x1 x2 x3 (WA fh0) (DA fh1)

theorem v1096_eq : kernelRun0_A.sl.v1096 (F := Ideal) c arg1 harg1 arg2 harg2 arg13 arg17 arg21 x0 x1 fh0 = H3 x0 x1 (WA fh0) 6 := by
  unfold kernelRun0_A.sl.v1096 kernelRun0_A.sl.HS8_8 kernelRun0_A.sl.HS8_7
  rw [View.readCov_skip _ _ _ _ _ (by decide)]
  refine (View.readCov_cons_toLoadRect _ _ _ _).trans ?_
  unfold kernelRun0_A.sl.r_44 kernelRun0_A.sl.r_45 kernelRun0_A.sl.v871 kernelRun0_A.sl.v874
  simp only [v211_eq, v217_eq, View.readAt_eq_ld, Memref.IsWhole.read_unread, readCov_whole, dma0_eq, dma0_1_eq]
  exact h_6 x0 x1 (WA fh0)

theorem v1180_eq : kernelRun0_A.sl.v1180 (F := Ideal) c arg1 harg1 arg2 harg2 arg3 harg3 arg4 harg4 arg13 arg14 arg17 arg18 arg22 x0 x1 x2 x3 fh0 fh1 = DG3 x0 x1 x2 x3 (WA fh0) (DA fh1) 7 := by
  unfold kernelRun0_A.sl.v1180 kernelRun0_A.sl.HS9_9 kernelRun0_A.sl.HS9_8
  rw [View.readCov_skip _ _ _ _ _ (by decide)]
  refine (View.readCov_cons_toLoadRect _ _ _ _).trans ?_
  unfold kernelRun0_A.sl.r_54 kernelRun0_A.sl.r_55 kernelRun0_A.sl.v988 kernelRun0_A.sl.v991 kernelRun0_A.sl.v994
  simp only [v211_eq, v217_eq, View.readAt_eq_ld, Memref.IsWhole.read_unread, readCov_whole, dma0_eq, dma0_1_eq]
  exact dg_7 x0 x1 x2 x3 (WA fh0) (DA fh1)

theorem v1184_eq : kernelRun0_A.sl.v1184 (F := Ideal) c arg1 harg1 arg2 harg2 arg3 harg3 arg4 harg4 arg13 arg14 arg17 arg18 arg23 x0 x1 x2 x3 fh0 fh1 = DU3 x0 x1 x2 x3 (WA fh0) (DA fh1) 7 := by
  unfold kernelRun0_A.sl.v1184 kernelRun0_A.sl.HS10_9 kernelRun0_A.sl.HS10_8
  rw [View.readCov_skip _ _ _ _ _ (by decide)]
  refine (View.readCov_cons_toLoadRect _ _ _ _).trans ?_
  unfold kernelRun0_A.sl.r_51 kernelRun0_A.sl.r_52 kernelRun0_A.sl.v994 kernelRun0_A.sl.v988
  simp only [v211_eq, v217_eq, View.readAt_eq_ld, Memref.IsWhole.read_unread, readCov_whole, dma0_eq, dma0_1_eq]
  exact du_7 x0 x1 x2 x3 (WA fh0) (DA fh1)

theorem v1213_eq : kernelRun0_A.sl.v1213 (F := Ideal) c arg1 harg1 arg2 harg2 arg13 arg17 arg21 x0 x1 fh0 = H3 x0 x1 (WA fh0) 7 := by
  unfold kernelRun0_A.sl.v1213 kernelRun0_A.sl.HS8_9 kernelRun0_A.sl.HS8_8
  rw [View.readCov_skip _ _ _ _ _ (by decide)]
  refine (View.readCov_cons_toLoadRect _ _ _ _).trans ?_
  unfold kernelRun0_A.sl.r_53 kernelRun0_A.sl.v988 kernelRun0_A.sl.v991
  simp only [v211_eq, v217_eq, View.readAt_eq_ld, Memref.IsWhole.read_unread, readCov_whole, dma0_eq, dma0_1_eq]
  exact h_7 x0 x1 (WA fh0)

theorem v1297_eq : kernelRun0_A.sl.v1297 (F := Ideal) c arg1 harg1 arg2 harg2 arg3 harg3 arg4 harg4 arg13 arg14 arg17 arg18 arg22 x0 x1 x2 x3 fh0 fh1 = DG3 x0 x1 x2 x3 (WA fh0) (DA fh1) 8 := by
  unfold kernelRun0_A.sl.v1297 kernelRun0_A.sl.HS9_10 kernelRun0_A.sl.HS9_9
  rw [View.readCov_skip _ _ _ _ _ (by decide)]
  refine (View.readCov_cons_toLoadRect _ _ _ _).trans ?_
  unfold kernelRun0_A.sl.r_59 kernelRun0_A.sl.v1105 kernelRun0_A.sl.v1108 kernelRun0_A.sl.v1111
  simp only [v211_eq, v217_eq, View.readAt_eq_ld, Memref.IsWhole.read_unread, readCov_whole, dma0_eq, dma0_1_eq]
  exact dg_8 x0 x1 x2 x3 (WA fh0) (DA fh1)

theorem v1301_eq : kernelRun0_A.sl.v1301 (F := Ideal) c arg1 harg1 arg2 harg2 arg3 harg3 arg4 harg4 arg13 arg14 arg17 arg18 arg23 x0 x1 x2 x3 fh0 fh1 = DU3 x0 x1 x2 x3 (WA fh0) (DA fh1) 8 := by
  unfold kernelRun0_A.sl.v1301 kernelRun0_A.sl.HS10_10 kernelRun0_A.sl.HS10_9
  rw [View.readCov_skip _ _ _ _ _ (by decide)]
  refine (View.readCov_cons_toLoadRect _ _ _ _).trans ?_
  unfold kernelRun0_A.sl.r_60 kernelRun0_A.sl.v1105 kernelRun0_A.sl.v1111
  simp only [v211_eq, v217_eq, View.readAt_eq_ld, Memref.IsWhole.read_unread, readCov_whole, dma0_eq, dma0_1_eq]
  exact du_8 x0 x1 x2 x3 (WA fh0) (DA fh1)

theorem v1330_eq : kernelRun0_A.sl.v1330 (F := Ideal) c arg1 harg1 arg2 harg2 arg13 arg17 arg21 x0 x1 fh0 = H3 x0 x1 (WA fh0) 8 := by
  unfold kernelRun0_A.sl.v1330 kernelRun0_A.sl.HS8_10 kernelRun0_A.sl.HS8_9
  rw [View.readCov_skip _ _ _ _ _ (by decide)]
  refine (View.readCov_cons_toLoadRect _ _ _ _).trans ?_
  unfold kernelRun0_A.sl.v1105 kernelRun0_A.sl.v1108
  simp only [v211_eq, v217_eq, View.readAt_eq_ld, Memref.IsWhole.read_unread, readCov_whole, dma0_eq, dma0_1_eq]
  exact h_8 x0 x1 (WA fh0)

theorem v1414_eq : kernelRun0_A.sl.v1414 (F := Ideal) c arg1 harg1 arg2 harg2 arg3 harg3 arg4 harg4 arg13 arg14 arg17 arg18 arg22 x0 x1 x2 x3 fh0 fh1 = DG3 x0 x1 x2 x3 (WA fh0) (DA fh1) 9 := by
  unfold kernelRun0_A.sl.v1414 kernelRun0_A.sl.HS9_11 kernelRun0_A.sl.HS9_10
  rw [View.readCov_skip _ _ _ _ _ (by decide)]
  refine (View.readCov_cons_toLoadRect _ _ _ _).trans ?_
  unfold kernelRun0_A.sl.r_63 kernelRun0_A.sl.r_64 kernelRun0_A.sl.v1222 kernelRun0_A.sl.v1225 kernelRun0_A.sl.v1228
  simp only [v211_eq, v217_eq, View.readAt_eq_ld, Memref.IsWhole.read_unread, readCov_whole, dma0_eq, dma0_1_eq]
  exact dg_9 x0 x1 x2 x3 (WA fh0) (DA fh1)

theorem v1418_eq : kernelRun0_A.sl.v1418 (F := Ideal) c arg1 harg1 arg2 harg2 arg3 harg3 arg4 harg4 arg13 arg14 arg17 arg18 arg23 x0 x1 x2 x3 fh0 fh1 = DU3 x0 x1 x2 x3 (WA fh0) (DA fh1) 9 := by
  unfold kernelRun0_A.sl.v1418 kernelRun0_A.sl.HS10_11 kernelRun0_A.sl.HS10_10
  rw [View.readCov_skip _ _ _ _ _ (by decide)]
  refine (View.readCov_cons_toLoadRect _ _ _ _).trans ?_
  unfold kernelRun0_A.sl.r_63 kernelRun0_A.sl.v1222 kernelRun0_A.sl.v1228
  simp only [v211_eq, v217_eq, View.readAt_eq_ld, Memref.IsWhole.read_unread, readCov_whole, dma0_eq, dma0_1_eq]
  exact du_9 x0 x1 x2 x3 (WA fh0) (DA fh1)

theorem v1447_eq : kernelRun0_A.sl.v1447 (F := Ideal) c arg1 harg1 arg2 harg2 arg13 arg17 arg21 x0 x1 fh0 = H3 x0 x1 (WA fh0) 9 := by
  unfold kernelRun0_A.sl.v1447 kernelRun0_A.sl.HS8_11 kernelRun0_A.sl.HS8_10
  rw [View.readCov_skip _ _ _ _ _ (by decide)]
  refine (View.readCov_cons_toLoadRect _ _ _ _).trans ?_
  unfold kernelRun0_A.sl.r_63 kernelRun0_A.sl.r_64 kernelRun0_A.sl.v1222 kernelRun0_A.sl.v1225
  simp only [v211_eq, v217_eq, View.readAt_eq_ld, Memref.IsWhole.read_unread, readCov_whole, dma0_eq, dma0_1_eq]
  exact h_9 x0 x1 (WA fh0)

theorem v1455_eq : kernelRun0_A.sl.v1455 (F := Ideal) c arg1 harg1 arg2 harg2 arg3 harg3 arg4 harg4 arg13 arg14 arg17 arg18 arg22 x0 x1 x2 x3 fh0 fh1 = DG3 x0 x1 x2 x3 (WA fh0) (DA fh1) 10 := by
  unfold kernelRun0_A.sl.v1455 kernelRun0_A.sl.HS9_11
  refine (View.readCov_cons_toLoadRect _ _ _ _).trans ?_
  unfold kernelRun0_A.sl.r_71 kernelRun0_A.sl.r_72 kernelRun0_A.sl.r_73 kernelRun0_A.sl.r_74 kernelRun0_A.sl.v1339 kernelRun0_A.sl.v1342 kernelRun0_A.sl.v1345
  simp only [v211_eq, v217_eq, View.readAt_eq_ld, Memref.IsWhole.read_unread, readCov_whole, dma0_eq, dma0_1_eq]
  exact dg_10 x0 x1 x2 x3 (WA fh0) (DA fh1)

theorem v1459_eq : kernelRun0_A.sl.v1459 (F := Ideal) c arg1 harg1 arg2 harg2 arg3 harg3 arg4 harg4 arg13 arg14 arg17 arg18 arg23 x0 x1 x2 x3 fh0 fh1 = DU3 x0 x1 x2 x3 (WA fh0) (DA fh1) 10 := by
  unfold kernelRun0_A.sl.v1459 kernelRun0_A.sl.HS10_11
  refine (View.readCov_cons_toLoadRect _ _ _ _).trans ?_
  unfold kernelRun0_A.sl.r_71 kernelRun0_A.sl.r_73 kernelRun0_A.sl.r_74 kernelRun0_A.sl.v1339 kernelRun0_A.sl.v1345
  simp only [v211_eq, v217_eq, View.readAt_eq_ld, Memref.IsWhole.read_unread, readCov_whole, dma0_eq, dma0_1_eq]
  exact du_10 x0 x1 x2 x3 (WA fh0) (DA fh1)

theorem v1487_eq : kernelRun0_A.sl.v1487 (F := Ideal) c arg1 harg1 arg2 harg2 arg13 arg17 arg21 x0 x1 fh0 = H3 x0 x1 (WA fh0) 10 := by
  unfold kernelRun0_A.sl.v1487 kernelRun0_A.sl.HS8_11
  refine (View.readCov_cons_toLoadRect _ _ _ _).trans ?_
  unfold kernelRun0_A.sl.r_71 kernelRun0_A.sl.r_72 kernelRun0_A.sl.r_74 kernelRun0_A.sl.v1339 kernelRun0_A.sl.v1342
  simp only [v211_eq, v217_eq, View.readAt_eq_ld, Memref.IsWhole.read_unread, readCov_whole, dma0_eq, dma0_1_eq]
  exact h_10 x0 x1 (WA fh0)

theorem v487_eq : kernelRun0_A.sl.v487 (F := Ideal) c arg1 harg1 arg2 harg2 arg3 harg3 arg4 harg4 arg13 arg14 arg17 arg18 arg20 arg22 arg23 x0 x1 x2 x3 fh0 fh1 = DXA x0 x1 x2 x3 (WA fh0) (DA fh1) 0 := by
  unfold kernelRun0_A.sl.v487 kernelRun0_A.sl.HS7_1 kernelRun0_A.sl.v212 kernelRun0_A.sl.v215
  refine (View.readCov_cons_toLoadRect _ _ _ _).trans ?_
  simp only [View.readAt_eq_ld, Memref.IsWhole.read_unread, readCov_whole, v363_eq, v367_eq, dma0_eq]
  exact dxa_0 x0 x1 x2 x3 (WA fh0) (DA fh1)

theorem v604_eq : kernelRun0_A.sl.v604 (F := Ideal) c arg1 harg1 arg2 harg2 arg3 harg3 arg4 harg4 arg13 arg14 arg17 arg18 arg20 arg22 arg23 x0 x1 x2 x3 fh0 fh1 = DXA x0 x1 x2 x3 (WA fh0) (DA fh1) 1 := by
  unfold kernelRun0_A.sl.v604 kernelRun0_A.sl.HS7_2 kernelRun0_A.sl.r_23 kernelRun0_A.sl.v288 kernelRun0_A.sl.v291
  refine (View.readCov_cons_toLoadRect _ _ _ _).trans ?_
  simp only [View.readAt_eq_ld, Memref.IsWhole.read_unread, readCov_whole, v482_eq, v487_eq, v478_eq, dma0_eq]
  exact dxa_1 x0 x1 x2 x3 (WA fh0) (DA fh1)

theorem v721_eq : kernelRun0_A.sl.v721 (F := Ideal) c arg1 harg1 arg2 harg2 arg3 harg3 arg4 harg4 arg13 arg14 arg17 arg18 arg20 arg22 arg23 x0 x1 x2 x3 fh0 fh1 = DXA x0 x1 x2 x3 (WA fh0) (DA fh1) 2 := by
  unfold kernelRun0_A.sl.v721 kernelRun0_A.sl.HS7_3 kernelRun0_A.sl.r_33 kernelRun0_A.sl.v403 kernelRun0_A.sl.v406
  refine (View.readCov_cons_toLoadRect _ _ _ _).trans ?_
  simp only [View.readAt_eq_ld, Memref.IsWhole.read_unread, readCov_whole, v604_eq, v595_eq, v599_eq, dma0_eq]
  exact dxa_2 x0 x1 x2 x3 (WA fh0) (DA fh1)

theorem v838_eq : kernelRun0_A.sl.v838 (F := Ideal) c arg1 harg1 arg2 harg2 arg3 harg3 arg4 harg4 arg13 arg14 arg17 arg18 arg20 arg22 arg23 x0 x1 x2 x3 fh0 fh1 = DXA x0 x1 x2 x3 (WA fh0) (DA fh1) 3 := by
  unfold kernelRun0_A.sl.v838 kernelRun0_A.sl.HS7_4 kernelRun0_A.sl.v520 kernelRun0_A.sl.v523
  refine (View.readCov_cons_toLoadRect _ _ _ _).trans ?_
  simp only [View.readAt_eq_ld, Memref.IsWhole.read_unread, readCov_whole, v712_eq, v716_eq, v721_eq, dma0_eq]
  exact dxa_3 x0 x1 x2 x3 (WA fh0) (DA fh1)

theorem v955_eq : kernelRun0_A.sl.v955 (F := Ideal) c arg1 harg1 arg2 harg2 arg3 harg3 arg4 harg4 arg13 arg14 arg17 arg18 arg20 arg22 arg23 x0 x1 x2 x3 fh0 fh1 = DXA x0 x1 x2 x3 (WA fh0) (DA fh1) 4 := by
  unfold kernelRun0_A.sl.v955 kernelRun0_A.sl.HS7_5 kernelRun0_A.sl.v637 kernelRun0_A.sl.v640
  refine (View.readCov_cons_toLoadRect _ _ _ _).trans ?_
  simp only [View.readAt_eq_ld, Memref.IsWhole.read_unread, readCov_whole, v829_eq, v833_eq, v838_eq, dma0_eq]
  exact dxa_4 x0 x1 x2 x3 (WA fh0) (DA fh1)

theorem v1072_eq : kernelRun0_A.sl.v1072 (F := Ideal) c arg1 harg1 arg2 harg2 arg3 harg3 arg4 harg4 arg13 arg14 arg17 arg18 arg20 arg22 arg23 x0 x1 x2 x3 fh0 fh1 = DXA x0 x1 x2 x3 (WA fh0) (DA fh1) 5 := by
  unfold kernelRun0_A.sl.v1072 kernelRun0_A.sl.HS7_6 kernelRun0_A.sl.r_50 kernelRun0_A.sl.v754 kernelRun0_A.sl.v757
  refine (View.readCov_cons_toLoadRect _ _ _ _).trans ?_
  simp only [View.readAt_eq_ld, Memref.IsWhole.read_unread, readCov_whole, v950_eq, v955_eq, v946_eq, dma0_eq]
  exact dxa_5 x0 x1 x2 x3 (WA fh0) (DA fh1)

theorem v1189_eq : kernelRun0_A.sl.v1189 (F := Ideal) c arg1 harg1 arg2 harg2 arg3 harg3 arg4 harg4 arg13 arg14 arg17 arg18 arg20 arg22 arg23 x0 x1 x2 x3 fh0 fh1 = DXA x0 x1 x2 x3 (WA fh0) (DA fh1) 6 := by
  unfold kernelRun0_A.sl.v1189 kernelRun0_A.sl.HS7_7 kernelRun0_A.sl.v871 kernelRun0_A.sl.v874
  refine (View.readCov_cons_toLoadRect _ _ _ _).trans ?_
  simp only [View.readAt_eq_ld, Memref.IsWhole.read_unread, readCov_whole, v1063_eq, v1067_eq, v1072_eq, dma0_eq]
  exact dxa_6 x0 x1 x2 x3 (WA fh0) (DA fh1)

theorem v1306_eq : kernelRun0_A.sl.v1306 (F := Ideal) c arg1 harg1 arg2 harg2 arg3 harg3 arg4 harg4 arg13 arg14 arg17 arg18 arg20 arg22 arg23 x0 x1 x2 x3 fh0 fh1 = DXA x0 x1 x2 x3 (WA fh0) (DA fh1) 7 := by
  unfold kernelRun0_A.sl.v1306 kernelRun0_A.sl.HS7_8 kernelRun0_A.sl.v988 kernelRun0_A.sl.v991
  refine (View.readCov_cons_toLoadRect _ _ _ _).trans ?_
  simp only [View.readAt_eq_ld, Memref.IsWhole.read_unread, readCov_whole, v1180_eq, v1184_eq, v1189_eq, dma0_eq]
  exact dxa_7 x0 x1 x2 x3 (WA fh0) (DA fh1)

theorem v1423_eq : kernelRun0_A.sl.v1423 (F := Ideal) c arg1 harg1 arg2 harg2 arg3 harg3 arg4 harg4 arg13 arg14 arg17 arg18 arg20 arg22 arg23 x0 x1 x2 x3 fh0 fh1 = DXA x0 x1 x2 x3 (WA fh0) (DA fh1) 8 := by
  unfold kernelRun0_A.sl.v1423 kernelRun0_A.sl.HS7_9 kernelRun0_A.sl.r_69 kernelRun0_A.sl.v1105 kernelRun0_A.sl.v1108
  refine (View.readCov_cons_toLoadRect _ _ _ _).trans ?_
  simp only [View.readAt_eq_ld, Memref.IsWhole.read_unread, readCov_whole, v1301_eq, v1306_eq, v1297_eq, dma0_eq]
  exact dxa_8 x0 x1 x2 x3 (WA fh0) (DA fh1)

theorem v1464_eq : kernelRun0_A.sl.v1464 (F := Ideal) c arg1 harg1 arg2 harg2 arg3 harg3 arg4 harg4 arg13 arg14 arg17 arg18 arg20 arg22 arg23 x0 x1 x2 x3 fh0 fh1 = DXA x0 x1 x2 x3 (WA fh0) (DA fh1) 9 := by
  unfold kernelRun0_A.sl.v1464 kernelRun0_A.sl.HS7_10 kernelRun0_A.sl.r_78 kernelRun0_A.sl.v1222 kernelRun0_A.sl.v1225
  refine (View.readCov_cons_toLoadRect _ _ _ _).trans ?_
  simp only [View.readAt_eq_ld, Memref.IsWhole.read_unread, readCov_whole, v1423_eq, v1414_eq, v1418_eq, dma0_eq]
  exact dxa_9 x0 x1 x2 x3 (WA fh0) (DA fh1)

end Cert.KernelIdeal.CaseA

end
-- ==== Proof.BlockAmax.lean ====
/- The largest magnitudes of each group of 128 hidden columns. -/
module

public import proofs.«01_k».proof.Proof.Block

@[expose] public section

set_option maxRecDepth 16384

noncomputable section

namespace Cert.KernelIdeal.Block

open Cert.KernelIdeal Cert.KernelIdeal.Gen Idealize.ShloMosaic Cert.Spec

variable (x0 : Vec Ideal S256x1024 .fp8e4m3) (x1 : Vec Ideal S256x8 .f32) (x2 : Vec Ideal S256x1024 .fp8e5m2)
  (x3 : Vec Ideal S256x8 .f32) (w : Vec Ideal S1024x5632 .bf16) (d : Vec Ideal S2816x1024 .bf16)

theorem amh_0 (r : Fin 256) : (k0_pay52 (k0_pay46 (k0_pay41 (XB x0 x1) (View.ld w (Rect.unit (s := S1024x5632) ![0, 0] S1024x256.size inb_S1024x5632_S1024x256_0_0))) (XB x0 x1) (View.ld w (Rect.unit (s := S1024x5632) ![0, 2816] S1024x256.size inb_S1024x5632_S1024x256_0_2816)))) (ix2 r (0 : Fin 1)) =
    amax (fun f => hid (xr x0 x1 r) w f) 0 := by
  unfold_payloads
  pointwise []
  unfold amax
  refine congrArg (fun f => Finset.fold max _ f Finset.univ) (funext fun l => ?_)
  simp only [Ideal.absf_def, XB_apply, YB_apply, zero_sub]
  rw [gate_at w (⟨0 * 128 + l.val, by omega⟩ : Fin 2816) (l.val) (by simp) (xr x0 x1 r) ⟨l.val, by omega⟩ (by dsimp only <;> omega),
    up_at w (⟨0 * 128 + l.val, by omega⟩ : Fin 2816) (l.val) (by simp) (xr x0 x1 r) ⟨2816 + l.val, by omega⟩ (by dsimp only <;> omega)]
  rfl

theorem amg_0 (r : Fin 256) : (k0_pay54 (k0_pay47 (k0_pay41 (XB x0 x1) (View.ld w (Rect.unit (s := S1024x5632) ![0, 0] S1024x256.size inb_S1024x5632_S1024x256_0_0))) (XB x0 x1) (View.ld w (Rect.unit (s := S1024x5632) ![0, 2816] S1024x256.size inb_S1024x5632_S1024x256_0_2816)) (YB x2 x3) (View.ld d (Rect.unit (s := S2816x1024) ![0, 0] S256x1024.size inb_S2816x1024_S256x1024_0_0)))) (ix2 r (0 : Fin 1)) =
    amax (fun f => dgate (xr x0 x1 r) (yr x2 x3 r) w d f) 0 := by
  unfold_payloads
  pointwise []
  unfold amax
  refine congrArg (fun f => Finset.fold max _ f Finset.univ) (funext fun l => ?_)
  simp only [Ideal.absf_def, XB_apply, YB_apply, zero_sub]
  rw [gate_at w (⟨0 * 128 + l.val, by omega⟩ : Fin 2816) (l.val) (by simp) (xr x0 x1 r) ⟨l.val, by omega⟩ (by dsimp only <;> omega),
    up_at w (⟨0 * 128 + l.val, by omega⟩ : Fin 2816) (l.val) (by simp) (xr x0 x1 r) ⟨2816 + l.val, by omega⟩ (by dsimp only <;> omega),
    dh_at d (⟨0 * 128 + l.val, by omega⟩ : Fin 2816) (l.val) (by simp) (yr x2 x3 r) ⟨l.val, by omega⟩ (by dsimp only <;> omega)]
  rfl

theorem amu_0 (r : Fin 256) : (k0_pay56 (k0_pay48 (k0_pay41 (XB x0 x1) (View.ld w (Rect.unit (s := S1024x5632) ![0, 0] S1024x256.size inb_S1024x5632_S1024x256_0_0))) (YB x2 x3) (View.ld d (Rect.unit (s := S2816x1024) ![0, 0] S256x1024.size inb_S2816x1024_S256x1024_0_0)))) (ix2 r (0 : Fin 1)) =
    amax (fun f => dup (xr x0 x1 r) (yr x2 x3 r) w d f) 0 := by
  unfold_payloads
  pointwise []
  unfold amax
  refine congrArg (fun f => Finset.fold max _ f Finset.univ) (funext fun l => ?_)
  simp only [Ideal.absf_def, XB_apply, YB_apply, zero_sub]
  rw [gate_at w (⟨0 * 128 + l.val, by omega⟩ : Fin 2816) (l.val) (by simp) (xr x0 x1 r) ⟨l.val, by omega⟩ (by dsimp only <;> omega),
    dh_at d (⟨0 * 128 + l.val, by omega⟩ : Fin 2816) (l.val) (by simp) (yr x2 x3 r) ⟨l.val, by omega⟩ (by dsimp only <;> omega)]
  rfl

theorem amh_1 (r : Fin 256) : (k0_pay53 (k0_pay46 (k0_pay41 (XB x0 x1) (View.ld w (Rect.unit (s := S1024x5632) ![0, 0] S1024x256.size inb_S1024x5632_S1024x256_0_0))) (XB x0 x1) (View.ld w (Rect.unit (s := S1024x5632) ![0, 2816] S1024x256.size inb_S1024x5632_S1024x256_0_2816)))) (ix2 r (0 : Fin 1)) =
    amax (fun f => hid (xr x0 x1 r) w f) 1 := by
  unfold_payloads
  pointwise []
  unfold amax
  refine congrArg (fun f => Finset.fold max _ f Finset.univ) (funext fun l => ?_)
  simp only [Ideal.absf_def, XB_apply, YB_apply, zero_sub]
  rw [gate_at w (⟨1 * 128 + l.val, by omega⟩ : Fin 2816) (128 + l.val) (by simp) (xr x0 x1 r) ⟨128 + l.val, by omega⟩ (by dsimp only <;> omega),
    up_at w (⟨1 * 128 + l.val, by omega⟩ : Fin 2816) (128 + l.val) (by simp) (xr x0 x1 r) ⟨2816 + (128 + l.val), by omega⟩ (by dsimp only <;> omega)]
  rfl

theorem amg_1 (r : Fin 256) : (k0_pay55 (k0_pay47 (k0_pay41 (XB x0 x1) (View.ld w (Rect.unit (s := S1024x5632) ![0, 0] S1024x256.size inb_S1024x5632_S1024x256_0_0))) (XB x0 x1) (View.ld w (Rect.unit (s := S1024x5632) ![0, 2816] S1024x256.size inb_S1024x5632_S1024x256_0_2816)) (YB x2 x3) (View.ld d (Rect.unit (s := S2816x1024) ![0, 0] S256x1024.size inb_S2816x1024_S256x1024_0_0)))) (ix2 r (0 : Fin 1)) =
    amax (fun f => dgate (xr x0 x1 r) (yr x2 x3 r) w d f) 1 := by
  unfold_payloads
  pointwise []
  unfold amax
  refine congrArg (fun f => Finset.fold max _ f Finset.univ) (funext fun l => ?_)
  simp only [Ideal.absf_def, XB_apply, YB_apply, zero_sub]
  rw [gate_at w (⟨1 * 128 + l.val, by omega⟩ : Fin 2816) (128 + l.val) (by simp) (xr x0 x1 r) ⟨128 + l.val, by omega⟩ (by dsimp only <;> omega),
    up_at w (⟨1 * 128 + l.val, by omega⟩ : Fin 2816) (128 + l.val) (by simp) (xr x0 x1 r) ⟨2816 + (128 + l.val), by omega⟩ (by dsimp only <;> omega),
    dh_at d (⟨1 * 128 + l.val, by omega⟩ : Fin 2816) (128 + l.val) (by simp) (yr x2 x3 r) ⟨128 + l.val, by omega⟩ (by dsimp only <;> omega)]
  rfl

theorem amu_1 (r : Fin 256) : (k0_pay57 (k0_pay48 (k0_pay41 (XB x0 x1) (View.ld w (Rect.unit (s := S1024x5632) ![0, 0] S1024x256.size inb_S1024x5632_S1024x256_0_0))) (YB x2 x3) (View.ld d (Rect.unit (s := S2816x1024) ![0, 0] S256x1024.size inb_S2816x1024_S256x1024_0_0)))) (ix2 r (0 : Fin 1)) =
    amax (fun f => dup (xr x0 x1 r) (yr x2 x3 r) w d f) 1 := by
  unfold_payloads
  pointwise []
  unfold amax
  refine congrArg (fun f => Finset.fold max _ f Finset.univ) (funext fun l => ?_)
  simp only [Ideal.absf_def, XB_apply, YB_apply, zero_sub]
  rw [gate_at w (⟨1 * 128 + l.val, by omega⟩ : Fin 2816) (128 + l.val) (by simp) (xr x0 x1 r) ⟨128 + l.val, by omega⟩ (by dsimp only <;> omega),
    dh_at d (⟨1 * 128 + l.val, by omega⟩ : Fin 2816) (128 + l.val) (by simp) (yr x2 x3 r) ⟨128 + l.val, by omega⟩ (by dsimp only <;> omega)]
  rfl

theorem amh_2 (r : Fin 256) : (k0_pay69 (k0_pay63 (XB x0 x1) (View.ld w (Rect.unit (s := S1024x5632) ![0, 256] S1024x256.size inb_S1024x5632_S1024x256_0_256)) (XB x0 x1) (View.ld w (Rect.unit (s := S1024x5632) ![0, 3072] S1024x256.size inb_S1024x5632_S1024x256_0_3072)))) (ix2 r (0 : Fin 1)) =
    amax (fun f => hid (xr x0 x1 r) w f) 2 := by
  unfold_payloads
  pointwise []
  unfold amax
  refine congrArg (fun f => Finset.fold max _ f Finset.univ) (funext fun l => ?_)
  simp only [Ideal.absf_def, XB_apply, YB_apply, zero_sub]
  rw [gate_at w (⟨2 * 128 + l.val, by omega⟩ : Fin 2816) (256 + l.val) (by simp) (xr x0 x1 r) ⟨256 + l.val, by omega⟩ (by dsimp only <;> omega),
    up_at w (⟨2 * 128 + l.val, by omega⟩ : Fin 2816) (256 + l.val) (by simp) (xr x0 x1 r) ⟨3072 + l.val, by omega⟩ (by dsimp only <;> omega)]
  rfl

theorem amg_2 (r : Fin 256) : (k0_pay71 (k0_pay64 (XB x0 x1) (View.ld w (Rect.unit (s := S1024x5632) ![0, 256] S1024x256.size inb_S1024x5632_S1024x256_0_256)) (XB x0 x1) (View.ld w (Rect.unit (s := S1024x5632) ![0, 3072] S1024x256.size inb_S1024x5632_S1024x256_0_3072)) (YB x2 x3) (View.ld d (Rect.unit (s := S2816x1024) ![256, 0] S256x1024.size inb_S2816x1024_S256x1024_256_0)))) (ix2 r (0 : Fin 1)) =
    amax (fun f => dgate (xr x0 x1 r) (yr x2 x3 r) w d f) 2 := by
  unfold_payloads
  pointwise []
  unfold amax
  refine congrArg (fun f => Finset.fold max _ f Finset.univ) (funext fun l => ?_)
  simp only [Ideal.absf_def, XB_apply, YB_apply, zero_sub]
  rw [gate_at w (⟨2 * 128 + l.val, by omega⟩ : Fin 2816) (256 + l.val) (by simp) (xr x0 x1 r) ⟨256 + l.val, by omega⟩ (by dsimp only <;> omega),
    up_at w (⟨2 * 128 + l.val, by omega⟩ : Fin 2816) (256 + l.val) (by simp) (xr x0 x1 r) ⟨3072 + l.val, by omega⟩ (by dsimp only <;> omega),
    dh_at d (⟨2 * 128 + l.val, by omega⟩ : Fin 2816) (256 + l.val) (by simp) (yr x2 x3 r) ⟨256 + l.val, by omega⟩ (by dsimp only <;> omega)]
  rfl

theorem amu_2 (r : Fin 256) : (k0_pay74 (k0_pay73 (k0_pay65 (XB x0 x1) (View.ld w (Rect.unit (s := S1024x5632) ![0, 256] S1024x256.size inb_S1024x5632_S1024x256_0_256)) (YB x2 x3) (View.ld d (Rect.unit (s := S2816x1024) ![256, 0] S256x1024.size inb_S2816x1024_S256x1024_256_0))))) (ix2 r (0 : Fin 1)) =
    amax (fun f => dup (xr x0 x1 r) (yr x2 x3 r) w d f) 2 := by
  unfold_payloads
  pointwise []
  unfold amax
  refine congrArg (fun f => Finset.fold max _ f Finset.univ) (funext fun l => ?_)
  simp only [Ideal.absf_def, XB_apply, YB_apply, zero_sub]
  rw [gate_at w (⟨2 * 128 + l.val, by omega⟩ : Fin 2816) (256 + l.val) (by simp) (xr x0 x1 r) ⟨256 + l.val, by omega⟩ (by dsimp only <;> omega),
    dh_at d (⟨2 * 128 + l.val, by omega⟩ : Fin 2816) (256 + l.val) (by simp) (yr x2 x3 r) ⟨256 + l.val, by omega⟩ (by dsimp only <;> omega)]
  rfl

theorem amh_3 (r : Fin 256) : (k0_pay70 (k0_pay63 (XB x0 x1) (View.ld w (Rect.unit (s := S1024x5632) ![0, 256] S1024x256.size inb_S1024x5632_S1024x256_0_256)) (XB x0 x1) (View.ld w (Rect.unit (s := S1024x5632) ![0, 3072] S1024x256.size inb_S1024x5632_S1024x256_0_3072)))) (ix2 r (0 : Fin 1)) =
    amax (fun f => hid (xr x0 x1 r) w f) 3 := by
  unfold_payloads
  pointwise []
  unfold amax
  refine congrArg (fun f => Finset.fold max _ f Finset.univ) (funext fun l => ?_)
  simp only [Ideal.absf_def, XB_apply, YB_apply, zero_sub]
  rw [gate_at w (⟨3 * 128 + l.val, by omega⟩ : Fin 2816) (384 + l.val) (by simp) (xr x0 x1 r) ⟨256 + (128 + l.val), by omega⟩ (by dsimp only <;> omega),
    up_at w (⟨3 * 128 + l.val, by omega⟩ : Fin 2816) (384 + l.val) (by simp) (xr x0 x1 r) ⟨3072 + (128 + l.val), by omega⟩ (by dsimp only <;> omega)]
  rfl

theorem amg_3 (r : Fin 256) : (k0_pay72 (k0_pay64 (XB x0 x1) (View.ld w (Rect.unit (s := S1024x5632) ![0, 256] S1024x256.size inb_S1024x5632_S1024x256_0_256)) (XB x0 x1) (View.ld w (Rect.unit (s := S1024x5632) ![0, 3072] S1024x256.size inb_S1024x5632_S1024x256_0_3072)) (YB x2 x3) (View.ld d (Rect.unit (s := S2816x1024) ![256, 0] S256x1024.size inb_S2816x1024_S256x1024_256_0)))) (ix2 r (0 : Fin 1)) =
    amax (fun f => dgate (xr x0 x1 r) (yr x2 x3 r) w d f) 3 := by
  unfold_payloads
  pointwise []
  unfold amax
  refine congrArg (fun f => Finset.fold max _ f Finset.univ) (funext fun l => ?_)
  simp only [Ideal.absf_def, XB_apply, YB_apply, zero_sub]
  rw [gate_at w (⟨3 * 128 + l.val, by omega⟩ : Fin 2816) (384 + l.val) (by simp) (xr x0 x1 r) ⟨256 + (128 + l.val), by omega⟩ (by dsimp only <;> omega),
    up_at w (⟨3 * 128 + l.val, by omega⟩ : Fin 2816) (384 + l.val) (by simp) (xr x0 x1 r) ⟨3072 + (128 + l.val), by omega⟩ (by dsimp only <;> omega),
    dh_at d (⟨3 * 128 + l.val, by omega⟩ : Fin 2816) (384 + l.val) (by simp) (yr x2 x3 r) ⟨256 + (128 + l.val), by omega⟩ (by dsimp only <;> omega)]
  rfl

theorem amu_3 (r : Fin 256) : (k0_pay75 (k0_pay65 (XB x0 x1) (View.ld w (Rect.unit (s := S1024x5632) ![0, 256] S1024x256.size inb_S1024x5632_S1024x256_0_256)) (YB x2 x3) (View.ld d (Rect.unit (s := S2816x1024) ![256, 0] S256x1024.size inb_S2816x1024_S256x1024_256_0)))) (ix2 r (0 : Fin 1)) =
    amax (fun f => dup (xr x0 x1 r) (yr x2 x3 r) w d f) 3 := by
  unfold_payloads
  pointwise []
  unfold amax
  refine congrArg (fun f => Finset.fold max _ f Finset.univ) (funext fun l => ?_)
  simp only [Ideal.absf_def, XB_apply, YB_apply, zero_sub]
  rw [gate_at w (⟨3 * 128 + l.val, by omega⟩ : Fin 2816) (384 + l.val) (by simp) (xr x0 x1 r) ⟨256 + (128 + l.val), by omega⟩ (by dsimp only <;> omega),
    dh_at d (⟨3 * 128 + l.val, by omega⟩ : Fin 2816) (384 + l.val) (by simp) (yr x2 x3 r) ⟨256 + (128 + l.val), by omega⟩ (by dsimp only <;> omega)]
  rfl

theorem amh_4 (r : Fin 256) : (k0_pay92 (k0_pay81 (XB x0 x1) (View.ld w (Rect.unit (s := S1024x5632) ![0, 512] S1024x256.size inb_S1024x5632_S1024x256_0_512))) (k0_pay82 (XB x0 x1) (View.ld w (Rect.unit (s := S1024x5632) ![0, 3328] S1024x256.size inb_S1024x5632_S1024x256_0_3328)))) (ix2 r (0 : Fin 1)) =
    amax (fun f => hid (xr x0 x1 r) w f) 4 := by
  unfold_payloads
  pointwise []
  unfold amax
  refine congrArg (fun f => Finset.fold max _ f Finset.univ) (funext fun l => ?_)
  simp only [Ideal.absf_def, XB_apply, YB_apply, zero_sub]
  rw [gate_at w (⟨4 * 128 + l.val, by omega⟩ : Fin 2816) (512 + l.val) (by simp) (xr x0 x1 r) ⟨512 + l.val, by omega⟩ (by dsimp only <;> omega),
    up_at w (⟨4 * 128 + l.val, by omega⟩ : Fin 2816) (512 + l.val) (by simp) (xr x0 x1 r) ⟨3328 + l.val, by omega⟩ (by dsimp only <;> omega)]
  rfl

theorem amg_4 (r : Fin 256) : (k0_pay94 (k0_pay87 (k0_pay81 (XB x0 x1) (View.ld w (Rect.unit (s := S1024x5632) ![0, 512] S1024x256.size inb_S1024x5632_S1024x256_0_512))) (k0_pay82 (XB x0 x1) (View.ld w (Rect.unit (s := S1024x5632) ![0, 3328] S1024x256.size inb_S1024x5632_S1024x256_0_3328))) (YB x2 x3) (View.ld d (Rect.unit (s := S2816x1024) ![512, 0] S256x1024.size inb_S2816x1024_S256x1024_512_0)))) (ix2 r (0 : Fin 1)) =
    amax (fun f => dgate (xr x0 x1 r) (yr x2 x3 r) w d f) 4 := by
  unfold_payloads
  pointwise []
  unfold amax
  refine congrArg (fun f => Finset.fold max _ f Finset.univ) (funext fun l => ?_)
  simp only [Ideal.absf_def, XB_apply, YB_apply, zero_sub]
  rw [gate_at w (⟨4 * 128 + l.val, by omega⟩ : Fin 2816) (512 + l.val) (by simp) (xr x0 x1 r) ⟨512 + l.val, by omega⟩ (by dsimp only <;> omega),
    up_at w (⟨4 * 128 + l.val, by omega⟩ : Fin 2816) (512 + l.val) (by simp) (xr x0 x1 r) ⟨3328 + l.val, by omega⟩ (by dsimp only <;> omega),
    dh_at d (⟨4 * 128 + l.val, by omega⟩ : Fin 2816) (512 + l.val) (by simp) (yr x2 x3 r) ⟨512 + l.val, by omega⟩ (by dsimp only <;> omega)]
  rfl

theorem amu_4 (r : Fin 256) : (k0_pay96 (k0_pay88 (k0_pay81 (XB x0 x1) (View.ld w (Rect.unit (s := S1024x5632) ![0, 512] S1024x256.size inb_S1024x5632_S1024x256_0_512))) (YB x2 x3) (View.ld d (Rect.unit (s := S2816x1024) ![512, 0] S256x1024.size inb_S2816x1024_S256x1024_512_0)))) (ix2 r (0 : Fin 1)) =
    amax (fun f => dup (xr x0 x1 r) (yr x2 x3 r) w d f) 4 := by
  unfold_payloads
  pointwise []
  unfold amax
  refine congrArg (fun f => Finset.fold max _ f Finset.univ) (funext fun l => ?_)
  simp only [Ideal.absf_def, XB_apply, YB_apply, zero_sub]
  rw [gate_at w (⟨4 * 128 + l.val, by omega⟩ : Fin 2816) (512 + l.val) (by simp) (xr x0 x1 r) ⟨512 + l.val, by omega⟩ (by dsimp only <;> omega),
    dh_at d (⟨4 * 128 + l.val, by omega⟩ : Fin 2816) (512 + l.val) (by simp) (yr x2 x3 r) ⟨512 + l.val, by omega⟩ (by dsimp only <;> omega)]
  rfl

theorem amh_5 (r : Fin 256) : (k0_pay93 (k0_pay86 (k0_pay81 (XB x0 x1) (View.ld w (Rect.unit (s := S1024x5632) ![0, 512] S1024x256.size inb_S1024x5632_S1024x256_0_512))) (k0_pay82 (XB x0 x1) (View.ld w (Rect.unit (s := S1024x5632) ![0, 3328] S1024x256.size inb_S1024x5632_S1024x256_0_3328))))) (ix2 r (0 : Fin 1)) =
    amax (fun f => hid (xr x0 x1 r) w f) 5 := by
  unfold_payloads
  pointwise []
  unfold amax
  refine congrArg (fun f => Finset.fold max _ f Finset.univ) (funext fun l => ?_)
  simp only [Ideal.absf_def, XB_apply, YB_apply, zero_sub]
  rw [gate_at w (⟨5 * 128 + l.val, by omega⟩ : Fin 2816) (640 + l.val) (by simp) (xr x0 x1 r) ⟨512 + (128 + l.val), by omega⟩ (by dsimp only <;> omega),
    up_at w (⟨5 * 128 + l.val, by omega⟩ : Fin 2816) (640 + l.val) (by simp) (xr x0 x1 r) ⟨3328 + (128 + l.val), by omega⟩ (by dsimp only <;> omega)]
  rfl

theorem amg_5 (r : Fin 256) : (k0_pay95 (k0_pay87 (k0_pay81 (XB x0 x1) (View.ld w (Rect.unit (s := S1024x5632) ![0, 512] S1024x256.size inb_S1024x5632_S1024x256_0_512))) (k0_pay82 (XB x0 x1) (View.ld w (Rect.unit (s := S1024x5632) ![0, 3328] S1024x256.size inb_S1024x5632_S1024x256_0_3328))) (YB x2 x3) (View.ld d (Rect.unit (s := S2816x1024) ![512, 0] S256x1024.size inb_S2816x1024_S256x1024_512_0)))) (ix2 r (0 : Fin 1)) =
    amax (fun f => dgate (xr x0 x1 r) (yr x2 x3 r) w d f) 5 := by
  unfold_payloads
  pointwise []
  unfold amax
  refine congrArg (fun f => Finset.fold max _ f Finset.univ) (funext fun l => ?_)
  simp only [Ideal.absf_def, XB_apply, YB_apply, zero_sub]
  rw [gate_at w (⟨5 * 128 + l.val, by omega⟩ : Fin 2816) (640 + l.val) (by simp) (xr x0 x1 r) ⟨512 + (128 + l.val), by omega⟩ (by dsimp only <;> omega),
    up_at w (⟨5 * 128 + l.val, by omega⟩ : Fin 2816) (640 + l.val) (by simp) (xr x0 x1 r) ⟨3328 + (128 + l.val), by omega⟩ (by dsimp only <;> omega),
    dh_at d (⟨5 * 128 + l.val, by omega⟩ : Fin 2816) (640 + l.val) (by simp) (yr x2 x3 r) ⟨512 + (128 + l.val), by omega⟩ (by dsimp only <;> omega)]
  rfl

theorem amu_5 (r : Fin 256) : (k0_pay97 (k0_pay88 (k0_pay81 (XB x0 x1) (View.ld w (Rect.unit (s := S1024x5632) ![0, 512] S1024x256.size inb_S1024x5632_S1024x256_0_512))) (YB x2 x3) (View.ld d (Rect.unit (s := S2816x1024) ![512, 0] S256x1024.size inb_S2816x1024_S256x1024_512_0)))) (ix2 r (0 : Fin 1)) =
    amax (fun f => dup (xr x0 x1 r) (yr x2 x3 r) w d f) 5 := by
  unfold_payloads
  pointwise []
  unfold amax
  refine congrArg (fun f => Finset.fold max _ f Finset.univ) (funext fun l => ?_)
  simp only [Ideal.absf_def, XB_apply, YB_apply, zero_sub]
  rw [gate_at w (⟨5 * 128 + l.val, by omega⟩ : Fin 2816) (640 + l.val) (by simp) (xr x0 x1 r) ⟨512 + (128 + l.val), by omega⟩ (by dsimp only <;> omega),
    dh_at d (⟨5 * 128 + l.val, by omega⟩ : Fin 2816) (640 + l.val) (by simp) (yr x2 x3 r) ⟨512 + (128 + l.val), by omega⟩ (by dsimp only <;> omega)]
  rfl

theorem amh_6 (r : Fin 256) : (k0_pay115 (k0_pay105 (XB x0 x1) (View.ld w (Rect.unit (s := S1024x5632) ![0, 3584] S1024x256.size inb_S1024x5632_S1024x256_0_3584))) (k0_pay108 (XB x0 x1) (View.ld w (Rect.unit (s := S1024x5632) ![0, 768] S1024x256.size inb_S1024x5632_S1024x256_0_768)))) (ix2 r (0 : Fin 1)) =
    amax (fun f => hid (xr x0 x1 r) w f) 6 := by
  unfold_payloads
  pointwise []
  unfold amax
  refine congrArg (fun f => Finset.fold max _ f Finset.univ) (funext fun l => ?_)
  simp only [Ideal.absf_def, XB_apply, YB_apply, zero_sub]
  rw [gate_at w (⟨6 * 128 + l.val, by omega⟩ : Fin 2816) (768 + l.val) (by simp) (xr x0 x1 r) ⟨768 + l.val, by omega⟩ (by dsimp only <;> omega),
    up_at w (⟨6 * 128 + l.val, by omega⟩ : Fin 2816) (768 + l.val) (by simp) (xr x0 x1 r) ⟨3584 + l.val, by omega⟩ (by dsimp only <;> omega)]
  rfl

theorem amg_6 (r : Fin 256) : (k0_pay118 (k0_pay117 (k0_pay104 (XB x0 x1) (View.ld w (Rect.unit (s := S1024x5632) ![0, 768] S1024x256.size inb_S1024x5632_S1024x256_0_768))) (k0_pay105 (XB x0 x1) (View.ld w (Rect.unit (s := S1024x5632) ![0, 3584] S1024x256.size inb_S1024x5632_S1024x256_0_3584))) (k0_pay106 (YB x2 x3) (View.ld d (Rect.unit (s := S2816x1024) ![768, 0] S256x1024.size inb_S2816x1024_S256x1024_768_0))) (k0_pay107 (XB x0 x1) (View.ld w (Rect.unit (s := S1024x5632) ![0, 768] S1024x256.size inb_S1024x5632_S1024x256_0_768))))) (ix2 r (0 : Fin 1)) =
    amax (fun f => dgate (xr x0 x1 r) (yr x2 x3 r) w d f) 6 := by
  unfold_payloads
  pointwise []
  unfold amax
  refine congrArg (fun f => Finset.fold max _ f Finset.univ) (funext fun l => ?_)
  simp only [Ideal.absf_def, XB_apply, YB_apply, zero_sub]
  rw [gate_at w (⟨6 * 128 + l.val, by omega⟩ : Fin 2816) (768 + l.val) (by simp) (xr x0 x1 r) ⟨768 + l.val, by omega⟩ (by dsimp only <;> omega),
    up_at w (⟨6 * 128 + l.val, by omega⟩ : Fin 2816) (768 + l.val) (by simp) (xr x0 x1 r) ⟨3584 + l.val, by omega⟩ (by dsimp only <;> omega),
    dh_at d (⟨6 * 128 + l.val, by omega⟩ : Fin 2816) (768 + l.val) (by simp) (yr x2 x3 r) ⟨768 + l.val, by omega⟩ (by dsimp only <;> omega)]
  rfl

theorem amu_6 (r : Fin 256) : (k0_pay120 (k0_pay111 (k0_pay106 (YB x2 x3) (View.ld d (Rect.unit (s := S2816x1024) ![768, 0] S256x1024.size inb_S2816x1024_S256x1024_768_0))) (k0_pay108 (XB x0 x1) (View.ld w (Rect.unit (s := S1024x5632) ![0, 768] S1024x256.size inb_S1024x5632_S1024x256_0_768))))) (ix2 r (0 : Fin 1)) =
    amax (fun f => dup (xr x0 x1 r) (yr x2 x3 r) w d f) 6 := by
  unfold_payloads
  pointwise []
  unfold amax
  refine congrArg (fun f => Finset.fold max _ f Finset.univ) (funext fun l => ?_)
  simp only [Ideal.absf_def, XB_apply, YB_apply, zero_sub]
  rw [gate_at w (⟨6 * 128 + l.val, by omega⟩ : Fin 2816) (768 + l.val) (by simp) (xr x0 x1 r) ⟨768 + l.val, by omega⟩ (by dsimp only <;> omega),
    dh_at d (⟨6 * 128 + l.val, by omega⟩ : Fin 2816) (768 + l.val) (by simp) (yr x2 x3 r) ⟨768 + l.val, by omega⟩ (by dsimp only <;> omega)]
  rfl

theorem amh_7 (r : Fin 256) : (k0_pay116 (k0_pay105 (XB x0 x1) (View.ld w (Rect.unit (s := S1024x5632) ![0, 3584] S1024x256.size inb_S1024x5632_S1024x256_0_3584))) (k0_pay108 (XB x0 x1) (View.ld w (Rect.unit (s := S1024x5632) ![0, 768] S1024x256.size inb_S1024x5632_S1024x256_0_768)))) (ix2 r (0 : Fin 1)) =
    amax (fun f => hid (xr x0 x1 r) w f) 7 := by
  unfold_payloads
  pointwise []
  unfold amax
  refine congrArg (fun f => Finset.fold max _ f Finset.univ) (funext fun l => ?_)
  simp only [Ideal.absf_def, XB_apply, YB_apply, zero_sub]
  rw [gate_at w (⟨7 * 128 + l.val, by omega⟩ : Fin 2816) (896 + l.val) (by simp) (xr x0 x1 r) ⟨768 + (128 + l.val), by omega⟩ (by dsimp only <;> omega),
    up_at w (⟨7 * 128 + l.val, by omega⟩ : Fin 2816) (896 + l.val) (by simp) (xr x0 x1 r) ⟨3584 + (128 + l.val), by omega⟩ (by dsimp only <;> omega)]
  rfl

theorem amg_7 (r : Fin 256) : (k0_pay119 (k0_pay110 (k0_pay104 (XB x0 x1) (View.ld w (Rect.unit (s := S1024x5632) ![0, 768] S1024x256.size inb_S1024x5632_S1024x256_0_768))) (k0_pay105 (XB x0 x1) (View.ld w (Rect.unit (s := S1024x5632) ![0, 3584] S1024x256.size inb_S1024x5632_S1024x256_0_3584))) (k0_pay106 (YB x2 x3) (View.ld d (Rect.unit (s := S2816x1024) ![768, 0] S256x1024.size inb_S2816x1024_S256x1024_768_0))) (k0_pay107 (XB x0 x1) (View.ld w (Rect.unit (s := S1024x5632) ![0, 768] S1024x256.size inb_S1024x5632_S1024x256_0_768))))) (ix2 r (0 : Fin 1)) =
    amax (fun f => dgate (xr x0 x1 r) (yr x2 x3 r) w d f) 7 := by
  unfold_payloads
  pointwise []
  unfold amax
  refine congrArg (fun f => Finset.fold max _ f Finset.univ) (funext fun l => ?_)
  simp only [Ideal.absf_def, XB_apply, YB_apply, zero_sub]
  rw [gate_at w (⟨7 * 128 + l.val, by omega⟩ : Fin 2816) (896 + l.val) (by simp) (xr x0 x1 r) ⟨768 + (128 + l.val), by omega⟩ (by dsimp only <;> omega),
    up_at w (⟨7 * 128 + l.val, by omega⟩ : Fin 2816) (896 + l.val) (by simp) (xr x0 x1 r) ⟨3584 + (128 + l.val), by omega⟩ (by dsimp only <;> omega),
    dh_at d (⟨7 * 128 + l.val, by omega⟩ : Fin 2816) (896 + l.val) (by simp) (yr x2 x3 r) ⟨768 + (128 + l.val), by omega⟩ (by dsimp only <;> omega)]
  rfl

theorem amu_7 (r : Fin 256) : (k0_pay121 (k0_pay111 (k0_pay106 (YB x2 x3) (View.ld d (Rect.unit (s := S2816x1024) ![768, 0] S256x1024.size inb_S2816x1024_S256x1024_768_0))) (k0_pay108 (XB x0 x1) (View.ld w (Rect.unit (s := S1024x5632) ![0, 768] S1024x256.size inb_S1024x5632_S1024x256_0_768))))) (ix2 r (0 : Fin 1)) =
    amax (fun f => dup (xr x0 x1 r) (yr x2 x3 r) w d f) 7 := by
  unfold_payloads
  pointwise []
  unfold amax
  refine congrArg (fun f => Finset.fold max _ f Finset.univ) (funext fun l => ?_)
  simp only [Ideal.absf_def, XB_apply, YB_apply, zero_sub]
  rw [gate_at w (⟨7 * 128 + l.val, by omega⟩ : Fin 2816) (896 + l.val) (by simp) (xr x0 x1 r) ⟨768 + (128 + l.val), by omega⟩ (by dsimp only <;> omega),
    dh_at d (⟨7 * 128 + l.val, by omega⟩ : Fin 2816) (896 + l.val) (by simp) (yr x2 x3 r) ⟨768 + (128 + l.val), by omega⟩ (by dsimp only <;> omega)]
  rfl

theorem amh_8 (r : Fin 256) : (k0_pay140 (k0_pay133 (XB x0 x1) (View.ld w (Rect.unit (s := S1024x5632) ![0, 1024] S1024x256.size inb_S1024x5632_S1024x256_0_1024)) (XB x0 x1) (View.ld w (Rect.unit (s := S1024x5632) ![0, 3840] S1024x256.size inb_S1024x5632_S1024x256_0_3840)))) (ix2 r (0 : Fin 1)) =
    amax (fun f => hid (xr x0 x1 r) w f) 8 := by
  unfold_payloads
  pointwise []
  unfold amax
  refine congrArg (fun f => Finset.fold max _ f Finset.univ) (funext fun l => ?_)
  simp only [Ideal.absf_def, XB_apply, YB_apply, zero_sub]
  rw [gate_at w (⟨8 * 128 + l.val, by omega⟩ : Fin 2816) (1024 + l.val) (by simp) (xr x0 x1 r) ⟨1024 + l.val, by omega⟩ (by dsimp only <;> omega),
    up_at w (⟨8 * 128 + l.val, by omega⟩ : Fin 2816) (1024 + l.val) (by simp) (xr x0 x1 r) ⟨3840 + l.val, by omega⟩ (by dsimp only <;> omega)]
  rfl

theorem amg_8 (r : Fin 256) : (k0_pay142 (k0_pay134 (XB x0 x1) (View.ld w (Rect.unit (s := S1024x5632) ![0, 1024] S1024x256.size inb_S1024x5632_S1024x256_0_1024)) (XB x0 x1) (View.ld w (Rect.unit (s := S1024x5632) ![0, 3840] S1024x256.size inb_S1024x5632_S1024x256_0_3840)) (YB x2 x3) (View.ld d (Rect.unit (s := S2816x1024) ![1024, 0] S256x1024.size inb_S2816x1024_S256x1024_1024_0)))) (ix2 r (0 : Fin 1)) =
    amax (fun f => dgate (xr x0 x1 r) (yr x2 x3 r) w d f) 8 := by
  unfold_payloads
  pointwise []
  unfold amax
  refine congrArg (fun f => Finset.fold max _ f Finset.univ) (funext fun l => ?_)
  simp only [Ideal.absf_def, XB_apply, YB_apply, zero_sub]
  rw [gate_at w (⟨8 * 128 + l.val, by omega⟩ : Fin 2816) (1024 + l.val) (by simp) (xr x0 x1 r) ⟨1024 + l.val, by omega⟩ (by dsimp only <;> omega),
    up_at w (⟨8 * 128 + l.val, by omega⟩ : Fin 2816) (1024 + l.val) (by simp) (xr x0 x1 r) ⟨3840 + l.val, by omega⟩ (by dsimp only <;> omega),
    dh_at d (⟨8 * 128 + l.val, by omega⟩ : Fin 2816) (1024 + l.val) (by simp) (yr x2 x3 r) ⟨1024 + l.val, by omega⟩ (by dsimp only <;> omega)]
  rfl

theorem amu_8 (r : Fin 256) : (k0_pay144 (k0_pay135 (XB x0 x1) (View.ld w (Rect.unit (s := S1024x5632) ![0, 1024] S1024x256.size inb_S1024x5632_S1024x256_0_1024)) (YB x2 x3) (View.ld d (Rect.unit (s := S2816x1024) ![1024, 0] S256x1024.size inb_S2816x1024_S256x1024_1024_0)))) (ix2 r (0 : Fin 1)) =
    amax (fun f => dup (xr x0 x1 r) (yr x2 x3 r) w d f) 8 := by
  unfold_payloads
  pointwise []
  unfold amax
  refine congrArg (fun f => Finset.fold max _ f Finset.univ) (funext fun l => ?_)
  simp only [Ideal.absf_def, XB_apply, YB_apply, zero_sub]
  rw [gate_at w (⟨8 * 128 + l.val, by omega⟩ : Fin 2816) (1024 + l.val) (by simp) (xr x0 x1 r) ⟨1024 + l.val, by omega⟩ (by dsimp only <;> omega),
    dh_at d (⟨8 * 128 + l.val, by omega⟩ : Fin 2816) (1024 + l.val) (by simp) (yr x2 x3 r) ⟨1024 + l.val, by omega⟩ (by dsimp only <;> omega)]
  rfl

theorem amh_9 (r : Fin 256) : (k0_pay141 (k0_pay133 (XB x0 x1) (View.ld w (Rect.unit (s := S1024x5632) ![0, 1024] S1024x256.size inb_S1024x5632_S1024x256_0_1024)) (XB x0 x1) (View.ld w (Rect.unit (s := S1024x5632) ![0, 3840] S1024x256.size inb_S1024x5632_S1024x256_0_3840)))) (ix2 r (0 : Fin 1)) =
    amax (fun f => hid (xr x0 x1 r) w f) 9 := by
  unfold_payloads
  pointwise []
  unfold amax
  refine congrArg (fun f => Finset.fold max _ f Finset.univ) (funext fun l => ?_)
  simp only [Ideal.absf_def, XB_apply, YB_apply, zero_sub]
  rw [gate_at w (⟨9 * 128 + l.val, by omega⟩ : Fin 2816) (1152 + l.val) (by simp) (xr x0 x1 r) ⟨1024 + (128 + l.val), by omega⟩ (by dsimp only <;> omega),
    up_at w (⟨9 * 128 + l.val, by omega⟩ : Fin 2816) (1152 + l.val) (by simp) (xr x0 x1 r) ⟨3840 + (128 + l.val), by omega⟩ (by dsimp only <;> omega)]
  rfl

theorem amg_9 (r : Fin 256) : (k0_pay143 (k0_pay134 (XB x0 x1) (View.ld w (Rect.unit (s := S1024x5632) ![0, 1024] S1024x256.size inb_S1024x5632_S1024x256_0_1024)) (XB x0 x1) (View.ld w (Rect.unit (s := S1024x5632) ![0, 3840] S1024x256.size inb_S1024x5632_S1024x256_0_3840)) (YB x2 x3) (View.ld d (Rect.unit (s := S2816x1024) ![1024, 0] S256x1024.size inb_S2816x1024_S256x1024_1024_0)))) (ix2 r (0 : Fin 1)) =
    amax (fun f => dgate (xr x0 x1 r) (yr x2 x3 r) w d f) 9 := by
  unfold_payloads
  pointwise []
  unfold amax
  refine congrArg (fun f => Finset.fold max _ f Finset.univ) (funext fun l => ?_)
  simp only [Ideal.absf_def, XB_apply, YB_apply, zero_sub]
  rw [gate_at w (⟨9 * 128 + l.val, by omega⟩ : Fin 2816) (1152 + l.val) (by simp) (xr x0 x1 r) ⟨1024 + (128 + l.val), by omega⟩ (by dsimp only <;> omega),
    up_at w (⟨9 * 128 + l.val, by omega⟩ : Fin 2816) (1152 + l.val) (by simp) (xr x0 x1 r) ⟨3840 + (128 + l.val), by omega⟩ (by dsimp only <;> omega),
    dh_at d (⟨9 * 128 + l.val, by omega⟩ : Fin 2816) (1152 + l.val) (by simp) (yr x2 x3 r) ⟨1024 + (128 + l.val), by omega⟩ (by dsimp only <;> omega)]
  rfl

theorem amu_9 (r : Fin 256) : (k0_pay145 (k0_pay135 (XB x0 x1) (View.ld w (Rect.unit (s := S1024x5632) ![0, 1024] S1024x256.size inb_S1024x5632_S1024x256_0_1024)) (YB x2 x3) (View.ld d (Rect.unit (s := S2816x1024) ![1024, 0] S256x1024.size inb_S2816x1024_S256x1024_1024_0)))) (ix2 r (0 : Fin 1)) =
    amax (fun f => dup (xr x0 x1 r) (yr x2 x3 r) w d f) 9 := by
  unfold_payloads
  pointwise []
  unfold amax
  refine congrArg (fun f => Finset.fold max _ f Finset.univ) (funext fun l => ?_)
  simp only [Ideal.absf_def, XB_apply, YB_apply, zero_sub]
  rw [gate_at w (⟨9 * 128 + l.val, by omega⟩ : Fin 2816) (1152 + l.val) (by simp) (xr x0 x1 r) ⟨1024 + (128 + l.val), by omega⟩ (by dsimp only <;> omega),
    dh_at d (⟨9 * 128 + l.val, by omega⟩ : Fin 2816) (1152 + l.val) (by simp) (yr x2 x3 r) ⟨1024 + (128 + l.val), by omega⟩ (by dsimp only <;> omega)]
  rfl

theorem amh_10 (r : Fin 256) : (k0_pay161 (k0_pay155 (k0_pay150 (XB x0 x1) (View.ld w (Rect.unit (s := S1024x5632) ![0, 1280] S1024x256.size inb_S1024x5632_S1024x256_0_1280))) (XB x0 x1) (View.ld w (Rect.unit (s := S1024x5632) ![0, 4096] S1024x256.size inb_S1024x5632_S1024x256_0_4096)))) (ix2 r (0 : Fin 1)) =
    amax (fun f => hid (xr x0 x1 r) w f) 10 := by
  unfold_payloads
  pointwise []
  unfold amax
  refine congrArg (fun f => Finset.fold max _ f Finset.univ) (funext fun l => ?_)
  simp only [Ideal.absf_def, XB_apply, YB_apply, zero_sub]
  rw [gate_at w (⟨10 * 128 + l.val, by omega⟩ : Fin 2816) (1280 + l.val) (by simp) (xr x0 x1 r) ⟨1280 + l.val, by omega⟩ (by dsimp only <;> omega),
    up_at w (⟨10 * 128 + l.val, by omega⟩ : Fin 2816) (1280 + l.val) (by simp) (xr x0 x1 r) ⟨4096 + l.val, by omega⟩ (by dsimp only <;> omega)]
  rfl

theorem amg_10 (r : Fin 256) : (k0_pay163 (k0_pay156 (k0_pay150 (XB x0 x1) (View.ld w (Rect.unit (s := S1024x5632) ![0, 1280] S1024x256.size inb_S1024x5632_S1024x256_0_1280))) (XB x0 x1) (View.ld w (Rect.unit (s := S1024x5632) ![0, 4096] S1024x256.size inb_S1024x5632_S1024x256_0_4096)) (YB x2 x3) (View.ld d (Rect.unit (s := S2816x1024) ![1280, 0] S256x1024.size inb_S2816x1024_S256x1024_1280_0)))) (ix2 r (0 : Fin 1)) =
    amax (fun f => dgate (xr x0 x1 r) (yr x2 x3 r) w d f) 10 := by
  unfold_payloads
  pointwise []
  unfold amax
  refine congrArg (fun f => Finset.fold max _ f Finset.univ) (funext fun l => ?_)
  simp only [Ideal.absf_def, XB_apply, YB_apply, zero_sub]
  rw [gate_at w (⟨10 * 128 + l.val, by omega⟩ : Fin 2816) (1280 + l.val) (by simp) (xr x0 x1 r) ⟨1280 + l.val, by omega⟩ (by dsimp only <;> omega),
    up_at w (⟨10 * 128 + l.val, by omega⟩ : Fin 2816) (1280 + l.val) (by simp) (xr x0 x1 r) ⟨4096 + l.val, by omega⟩ (by dsimp only <;> omega),
    dh_at d (⟨10 * 128 + l.val, by omega⟩ : Fin 2816) (1280 + l.val) (by simp) (yr x2 x3 r) ⟨1280 + l.val, by omega⟩ (by dsimp only <;> omega)]
  rfl

theorem amu_10 (r : Fin 256) : (k0_pay165 (k0_pay157 (k0_pay150 (XB x0 x1) (View.ld w (Rect.unit (s := S1024x5632) ![0, 1280] S1024x256.size inb_S1024x5632_S1024x256_0_1280))) (YB x2 x3) (View.ld d (Rect.unit (s := S2816x1024) ![1280, 0] S256x1024.size inb_S2816x1024_S256x1024_1280_0)))) (ix2 r (0 : Fin 1)) =
    amax (fun f => dup (xr x0 x1 r) (yr x2 x3 r) w d f) 10 := by
  unfold_payloads
  pointwise []
  unfold amax
  refine congrArg (fun f => Finset.fold max _ f Finset.univ) (funext fun l => ?_)
  simp only [Ideal.absf_def, XB_apply, YB_apply, zero_sub]
  rw [gate_at w (⟨10 * 128 + l.val, by omega⟩ : Fin 2816) (1280 + l.val) (by simp) (xr x0 x1 r) ⟨1280 + l.val, by omega⟩ (by dsimp only <;> omega),
    dh_at d (⟨10 * 128 + l.val, by omega⟩ : Fin 2816) (1280 + l.val) (by simp) (yr x2 x3 r) ⟨1280 + l.val, by omega⟩ (by dsimp only <;> omega)]
  rfl

theorem amh_11 (r : Fin 256) : (k0_pay162 (k0_pay155 (k0_pay150 (XB x0 x1) (View.ld w (Rect.unit (s := S1024x5632) ![0, 1280] S1024x256.size inb_S1024x5632_S1024x256_0_1280))) (XB x0 x1) (View.ld w (Rect.unit (s := S1024x5632) ![0, 4096] S1024x256.size inb_S1024x5632_S1024x256_0_4096)))) (ix2 r (0 : Fin 1)) =
    amax (fun f => hid (xr x0 x1 r) w f) 11 := by
  unfold_payloads
  pointwise []
  unfold amax
  refine congrArg (fun f => Finset.fold max _ f Finset.univ) (funext fun l => ?_)
  simp only [Ideal.absf_def, XB_apply, YB_apply, zero_sub]
  rw [gate_at w (⟨11 * 128 + l.val, by omega⟩ : Fin 2816) (1408 + l.val) (by simp) (xr x0 x1 r) ⟨1280 + (128 + l.val), by omega⟩ (by dsimp only <;> omega),
    up_at w (⟨11 * 128 + l.val, by omega⟩ : Fin 2816) (1408 + l.val) (by simp) (xr x0 x1 r) ⟨4096 + (128 + l.val), by omega⟩ (by dsimp only <;> omega)]
  rfl

theorem amg_11 (r : Fin 256) : (k0_pay164 (k0_pay156 (k0_pay150 (XB x0 x1) (View.ld w (Rect.unit (s := S1024x5632) ![0, 1280] S1024x256.size inb_S1024x5632_S1024x256_0_1280))) (XB x0 x1) (View.ld w (Rect.unit (s := S1024x5632) ![0, 4096] S1024x256.size inb_S1024x5632_S1024x256_0_4096)) (YB x2 x3) (View.ld d (Rect.unit (s := S2816x1024) ![1280, 0] S256x1024.size inb_S2816x1024_S256x1024_1280_0)))) (ix2 r (0 : Fin 1)) =
    amax (fun f => dgate (xr x0 x1 r) (yr x2 x3 r) w d f) 11 := by
  unfold_payloads
  pointwise []
  unfold amax
  refine congrArg (fun f => Finset.fold max _ f Finset.univ) (funext fun l => ?_)
  simp only [Ideal.absf_def, XB_apply, YB_apply, zero_sub]
  rw [gate_at w (⟨11 * 128 + l.val, by omega⟩ : Fin 2816) (1408 + l.val) (by simp) (xr x0 x1 r) ⟨1280 + (128 + l.val), by omega⟩ (by dsimp only <;> omega),
    up_at w (⟨11 * 128 + l.val, by omega⟩ : Fin 2816) (1408 + l.val) (by simp) (xr x0 x1 r) ⟨4096 + (128 + l.val), by omega⟩ (by dsimp only <;> omega),
    dh_at d (⟨11 * 128 + l.val, by omega⟩ : Fin 2816) (1408 + l.val) (by simp) (yr x2 x3 r) ⟨1280 + (128 + l.val), by omega⟩ (by dsimp only <;> omega)]
  rfl

theorem amu_11 (r : Fin 256) : (k0_pay166 (k0_pay157 (k0_pay150 (XB x0 x1) (View.ld w (Rect.unit (s := S1024x5632) ![0, 1280] S1024x256.size inb_S1024x5632_S1024x256_0_1280))) (YB x2 x3) (View.ld d (Rect.unit (s := S2816x1024) ![1280, 0] S256x1024.size inb_S2816x1024_S256x1024_1280_0)))) (ix2 r (0 : Fin 1)) =
    amax (fun f => dup (xr x0 x1 r) (yr x2 x3 r) w d f) 11 := by
  unfold_payloads
  pointwise []
  unfold amax
  refine congrArg (fun f => Finset.fold max _ f Finset.univ) (funext fun l => ?_)
  simp only [Ideal.absf_def, XB_apply, YB_apply, zero_sub]
  rw [gate_at w (⟨11 * 128 + l.val, by omega⟩ : Fin 2816) (1408 + l.val) (by simp) (xr x0 x1 r) ⟨1280 + (128 + l.val), by omega⟩ (by dsimp only <;> omega),
    dh_at d (⟨11 * 128 + l.val, by omega⟩ : Fin 2816) (1408 + l.val) (by simp) (yr x2 x3 r) ⟨1280 + (128 + l.val), by omega⟩ (by dsimp only <;> omega)]
  rfl

theorem amh_12 (r : Fin 256) : (k0_pay183 (k0_pay171 (XB x0 x1) (View.ld w (Rect.unit (s := S1024x5632) ![0, 1536] S1024x256.size inb_S1024x5632_S1024x256_0_1536))) (k0_pay172 (XB x0 x1) (View.ld w (Rect.unit (s := S1024x5632) ![0, 4352] S1024x256.size inb_S1024x5632_S1024x256_0_4352))) k0_pay174) (ix2 r (0 : Fin 1)) =
    amax (fun f => hid (xr x0 x1 r) w f) 12 := by
  unfold_payloads
  pointwise []
  unfold amax
  refine congrArg (fun f => Finset.fold max _ f Finset.univ) (funext fun l => ?_)
  simp only [Ideal.absf_def, XB_apply, YB_apply, zero_sub]
  rw [gate_at w (⟨12 * 128 + l.val, by omega⟩ : Fin 2816) (1536 + l.val) (by simp) (xr x0 x1 r) ⟨1536 + l.val, by omega⟩ (by dsimp only <;> omega),
    up_at w (⟨12 * 128 + l.val, by omega⟩ : Fin 2816) (1536 + l.val) (by simp) (xr x0 x1 r) ⟨4352 + l.val, by omega⟩ (by dsimp only <;> omega)]
  rfl

theorem amg_12 (r : Fin 256) : (k0_pay186 (k0_pay178 (k0_pay171 (XB x0 x1) (View.ld w (Rect.unit (s := S1024x5632) ![0, 1536] S1024x256.size inb_S1024x5632_S1024x256_0_1536))) (k0_pay172 (XB x0 x1) (View.ld w (Rect.unit (s := S1024x5632) ![0, 4352] S1024x256.size inb_S1024x5632_S1024x256_0_4352))) (k0_pay173 (YB x2 x3) (View.ld d (Rect.unit (s := S2816x1024) ![1536, 0] S256x1024.size inb_S2816x1024_S256x1024_1536_0))) k0_pay174)) (ix2 r (0 : Fin 1)) =
    amax (fun f => dgate (xr x0 x1 r) (yr x2 x3 r) w d f) 12 := by
  unfold_payloads
  pointwise []
  unfold amax
  refine congrArg (fun f => Finset.fold max _ f Finset.univ) (funext fun l => ?_)
  simp only [Ideal.absf_def, XB_apply, YB_apply, zero_sub]
  rw [gate_at w (⟨12 * 128 + l.val, by omega⟩ : Fin 2816) (1536 + l.val) (by simp) (xr x0 x1 r) ⟨1536 + l.val, by omega⟩ (by dsimp only <;> omega),
    up_at w (⟨12 * 128 + l.val, by omega⟩ : Fin 2816) (1536 + l.val) (by simp) (xr x0 x1 r) ⟨4352 + l.val, by omega⟩ (by dsimp only <;> omega),
    dh_at d (⟨12 * 128 + l.val, by omega⟩ : Fin 2816) (1536 + l.val) (by simp) (yr x2 x3 r) ⟨1536 + l.val, by omega⟩ (by dsimp only <;> omega)]
  rfl

theorem amu_12 (r : Fin 256) : (k0_pay188 (k0_pay179 (k0_pay171 (XB x0 x1) (View.ld w (Rect.unit (s := S1024x5632) ![0, 1536] S1024x256.size inb_S1024x5632_S1024x256_0_1536))) (k0_pay173 (YB x2 x3) (View.ld d (Rect.unit (s := S2816x1024) ![1536, 0] S256x1024.size inb_S2816x1024_S256x1024_1536_0))) k0_pay174)) (ix2 r (0 : Fin 1)) =
    amax (fun f => dup (xr x0 x1 r) (yr x2 x3 r) w d f) 12 := by
  unfold_payloads
  pointwise []
  unfold amax
  refine congrArg (fun f => Finset.fold max _ f Finset.univ) (funext fun l => ?_)
  simp only [Ideal.absf_def, XB_apply, YB_apply, zero_sub]
  rw [gate_at w (⟨12 * 128 + l.val, by omega⟩ : Fin 2816) (1536 + l.val) (by simp) (xr x0 x1 r) ⟨1536 + l.val, by omega⟩ (by dsimp only <;> omega),
    dh_at d (⟨12 * 128 + l.val, by omega⟩ : Fin 2816) (1536 + l.val) (by simp) (yr x2 x3 r) ⟨1536 + l.val, by omega⟩ (by dsimp only <;> omega)]
  rfl

theorem amh_13 (r : Fin 256) : (k0_pay185 (k0_pay184 (k0_pay171 (XB x0 x1) (View.ld w (Rect.unit (s := S1024x5632) ![0, 1536] S1024x256.size inb_S1024x5632_S1024x256_0_1536))) (k0_pay172 (XB x0 x1) (View.ld w (Rect.unit (s := S1024x5632) ![0, 4352] S1024x256.size inb_S1024x5632_S1024x256_0_4352))) k0_pay174)) (ix2 r (0 : Fin 1)) =
    amax (fun f => hid (xr x0 x1 r) w f) 13 := by
  unfold_payloads
  pointwise []
  unfold amax
  refine congrArg (fun f => Finset.fold max _ f Finset.univ) (funext fun l => ?_)
  simp only [Ideal.absf_def, XB_apply, YB_apply, zero_sub]
  rw [gate_at w (⟨13 * 128 + l.val, by omega⟩ : Fin 2816) (1664 + l.val) (by simp) (xr x0 x1 r) ⟨1536 + (128 + l.val), by omega⟩ (by dsimp only <;> omega),
    up_at w (⟨13 * 128 + l.val, by omega⟩ : Fin 2816) (1664 + l.val) (by simp) (xr x0 x1 r) ⟨4352 + (128 + l.val), by omega⟩ (by dsimp only <;> omega)]
  rfl

theorem amg_13 (r : Fin 256) : (k0_pay187 (k0_pay178 (k0_pay171 (XB x0 x1) (View.ld w (Rect.unit (s := S1024x5632) ![0, 1536] S1024x256.size inb_S1024x5632_S1024x256_0_1536))) (k0_pay172 (XB x0 x1) (View.ld w (Rect.unit (s := S1024x5632) ![0, 4352] S1024x256.size inb_S1024x5632_S1024x256_0_4352))) (k0_pay173 (YB x2 x3) (View.ld d (Rect.unit (s := S2816x1024) ![1536, 0] S256x1024.size inb_S2816x1024_S256x1024_1536_0))) k0_pay174)) (ix2 r (0 : Fin 1)) =
    amax (fun f => dgate (xr x0 x1 r) (yr x2 x3 r) w d f) 13 := by
  unfold_payloads
  pointwise []
  unfold amax
  refine congrArg (fun f => Finset.fold max _ f Finset.univ) (funext fun l => ?_)
  simp only [Ideal.absf_def, XB_apply, YB_apply, zero_sub]
  rw [gate_at w (⟨13 * 128 + l.val, by omega⟩ : Fin 2816) (1664 + l.val) (by simp) (xr x0 x1 r) ⟨1536 + (128 + l.val), by omega⟩ (by dsimp only <;> omega),
    up_at w (⟨13 * 128 + l.val, by omega⟩ : Fin 2816) (1664 + l.val) (by simp) (xr x0 x1 r) ⟨4352 + (128 + l.val), by omega⟩ (by dsimp only <;> omega),
    dh_at d (⟨13 * 128 + l.val, by omega⟩ : Fin 2816) (1664 + l.val) (by simp) (yr x2 x3 r) ⟨1536 + (128 + l.val), by omega⟩ (by dsimp only <;> omega)]
  rfl

theorem amu_13 (r : Fin 256) : (k0_pay189 (k0_pay179 (k0_pay171 (XB x0 x1) (View.ld w (Rect.unit (s := S1024x5632) ![0, 1536] S1024x256.size inb_S1024x5632_S1024x256_0_1536))) (k0_pay173 (YB x2 x3) (View.ld d (Rect.unit (s := S2816x1024) ![1536, 0] S256x1024.size inb_S2816x1024_S256x1024_1536_0))) k0_pay174)) (ix2 r (0 : Fin 1)) =
    amax (fun f => dup (xr x0 x1 r) (yr x2 x3 r) w d f) 13 := by
  unfold_payloads
  pointwise []
  unfold amax
  refine congrArg (fun f => Finset.fold max _ f Finset.univ) (funext fun l => ?_)
  simp only [Ideal.absf_def, XB_apply, YB_apply, zero_sub]
  rw [gate_at w (⟨13 * 128 + l.val, by omega⟩ : Fin 2816) (1664 + l.val) (by simp) (xr x0 x1 r) ⟨1536 + (128 + l.val), by omega⟩ (by dsimp only <;> omega),
    dh_at d (⟨13 * 128 + l.val, by omega⟩ : Fin 2816) (1664 + l.val) (by simp) (yr x2 x3 r) ⟨1536 + (128 + l.val), by omega⟩ (by dsimp only <;> omega)]
  rfl

theorem amh_14 (r : Fin 256) : (k0_pay208 (k0_pay200 (XB x0 x1) (View.ld w (Rect.unit (s := S1024x5632) ![0, 1792] S1024x256.size inb_S1024x5632_S1024x256_0_1792)) (XB x0 x1) (View.ld w (Rect.unit (s := S1024x5632) ![0, 4608] S1024x256.size inb_S1024x5632_S1024x256_0_4608)))) (ix2 r (0 : Fin 1)) =
    amax (fun f => hid (xr x0 x1 r) w f) 14 := by
  unfold_payloads
  pointwise []
  unfold amax
  refine congrArg (fun f => Finset.fold max _ f Finset.univ) (funext fun l => ?_)
  simp only [Ideal.absf_def, XB_apply, YB_apply, zero_sub]
  rw [gate_at w (⟨14 * 128 + l.val, by omega⟩ : Fin 2816) (1792 + l.val) (by simp) (xr x0 x1 r) ⟨1792 + l.val, by omega⟩ (by dsimp only <;> omega),
    up_at w (⟨14 * 128 + l.val, by omega⟩ : Fin 2816) (1792 + l.val) (by simp) (xr x0 x1 r) ⟨4608 + l.val, by omega⟩ (by dsimp only <;> omega)]
  rfl

theorem amg_14 (r : Fin 256) : (k0_pay210 (k0_pay201 (XB x0 x1) (View.ld w (Rect.unit (s := S1024x5632) ![0, 1792] S1024x256.size inb_S1024x5632_S1024x256_0_1792)) (XB x0 x1) (View.ld w (Rect.unit (s := S1024x5632) ![0, 4608] S1024x256.size inb_S1024x5632_S1024x256_0_4608)) (YB x2 x3) (View.ld d (Rect.unit (s := S2816x1024) ![1792, 0] S256x1024.size inb_S2816x1024_S256x1024_1792_0))) (k0_pay202 (XB x0 x1) (View.ld w (Rect.unit (s := S1024x5632) ![0, 1792] S1024x256.size inb_S1024x5632_S1024x256_0_1792)))) (ix2 r (0 : Fin 1)) =
    amax (fun f => dgate (xr x0 x1 r) (yr x2 x3 r) w d f) 14 := by
  unfold_payloads
  pointwise []
  unfold amax
  refine congrArg (fun f => Finset.fold max _ f Finset.univ) (funext fun l => ?_)
  simp only [Ideal.absf_def, XB_apply, YB_apply, zero_sub]
  rw [gate_at w (⟨14 * 128 + l.val, by omega⟩ : Fin 2816) (1792 + l.val) (by simp) (xr x0 x1 r) ⟨1792 + l.val, by omega⟩ (by dsimp only <;> omega),
    up_at w (⟨14 * 128 + l.val, by omega⟩ : Fin 2816) (1792 + l.val) (by simp) (xr x0 x1 r) ⟨4608 + l.val, by omega⟩ (by dsimp only <;> omega),
    dh_at d (⟨14 * 128 + l.val, by omega⟩ : Fin 2816) (1792 + l.val) (by simp) (yr x2 x3 r) ⟨1792 + l.val, by omega⟩ (by dsimp only <;> omega)]
  rfl

theorem amu_14 (r : Fin 256) : (k0_pay213 (k0_pay204 (k0_pay197 (YB x2 x3) (View.ld d (Rect.unit (s := S2816x1024) ![1792, 0] S256x1024.size inb_S2816x1024_S256x1024_1792_0))) (k0_pay199 (XB x0 x1) (View.ld w (Rect.unit (s := S1024x5632) ![0, 1792] S1024x256.size inb_S1024x5632_S1024x256_0_1792))))) (ix2 r (0 : Fin 1)) =
    amax (fun f => dup (xr x0 x1 r) (yr x2 x3 r) w d f) 14 := by
  unfold_payloads
  pointwise []
  unfold amax
  refine congrArg (fun f => Finset.fold max _ f Finset.univ) (funext fun l => ?_)
  simp only [Ideal.absf_def, XB_apply, YB_apply, zero_sub]
  rw [gate_at w (⟨14 * 128 + l.val, by omega⟩ : Fin 2816) (1792 + l.val) (by simp) (xr x0 x1 r) ⟨1792 + l.val, by omega⟩ (by dsimp only <;> omega),
    dh_at d (⟨14 * 128 + l.val, by omega⟩ : Fin 2816) (1792 + l.val) (by simp) (yr x2 x3 r) ⟨1792 + l.val, by omega⟩ (by dsimp only <;> omega)]
  rfl

theorem amh_15 (r : Fin 256) : (k0_pay209 (k0_pay200 (XB x0 x1) (View.ld w (Rect.unit (s := S1024x5632) ![0, 1792] S1024x256.size inb_S1024x5632_S1024x256_0_1792)) (XB x0 x1) (View.ld w (Rect.unit (s := S1024x5632) ![0, 4608] S1024x256.size inb_S1024x5632_S1024x256_0_4608)))) (ix2 r (0 : Fin 1)) =
    amax (fun f => hid (xr x0 x1 r) w f) 15 := by
  unfold_payloads
  pointwise []
  unfold amax
  refine congrArg (fun f => Finset.fold max _ f Finset.univ) (funext fun l => ?_)
  simp only [Ideal.absf_def, XB_apply, YB_apply, zero_sub]
  rw [gate_at w (⟨15 * 128 + l.val, by omega⟩ : Fin 2816) (1920 + l.val) (by simp) (xr x0 x1 r) ⟨1792 + (128 + l.val), by omega⟩ (by dsimp only <;> omega),
    up_at w (⟨15 * 128 + l.val, by omega⟩ : Fin 2816) (1920 + l.val) (by simp) (xr x0 x1 r) ⟨4608 + (128 + l.val), by omega⟩ (by dsimp only <;> omega)]
  rfl

theorem amg_15 (r : Fin 256) : (k0_pay212 (k0_pay211 (k0_pay201 (XB x0 x1) (View.ld w (Rect.unit (s := S1024x5632) ![0, 1792] S1024x256.size inb_S1024x5632_S1024x256_0_1792)) (XB x0 x1) (View.ld w (Rect.unit (s := S1024x5632) ![0, 4608] S1024x256.size inb_S1024x5632_S1024x256_0_4608)) (YB x2 x3) (View.ld d (Rect.unit (s := S2816x1024) ![1792, 0] S256x1024.size inb_S2816x1024_S256x1024_1792_0))) (k0_pay202 (XB x0 x1) (View.ld w (Rect.unit (s := S1024x5632) ![0, 1792] S1024x256.size inb_S1024x5632_S1024x256_0_1792))))) (ix2 r (0 : Fin 1)) =
    amax (fun f => dgate (xr x0 x1 r) (yr x2 x3 r) w d f) 15 := by
  unfold_payloads
  pointwise []
  unfold amax
  refine congrArg (fun f => Finset.fold max _ f Finset.univ) (funext fun l => ?_)
  simp only [Ideal.absf_def, XB_apply, YB_apply, zero_sub]
  rw [gate_at w (⟨15 * 128 + l.val, by omega⟩ : Fin 2816) (1920 + l.val) (by simp) (xr x0 x1 r) ⟨1792 + (128 + l.val), by omega⟩ (by dsimp only <;> omega),
    up_at w (⟨15 * 128 + l.val, by omega⟩ : Fin 2816) (1920 + l.val) (by simp) (xr x0 x1 r) ⟨4608 + (128 + l.val), by omega⟩ (by dsimp only <;> omega),
    dh_at d (⟨15 * 128 + l.val, by omega⟩ : Fin 2816) (1920 + l.val) (by simp) (yr x2 x3 r) ⟨1792 + (128 + l.val), by omega⟩ (by dsimp only <;> omega)]
  rfl

theorem amu_15 (r : Fin 256) : (k0_pay214 (k0_pay204 (k0_pay197 (YB x2 x3) (View.ld d (Rect.unit (s := S2816x1024) ![1792, 0] S256x1024.size inb_S2816x1024_S256x1024_1792_0))) (k0_pay199 (XB x0 x1) (View.ld w (Rect.unit (s := S1024x5632) ![0, 1792] S1024x256.size inb_S1024x5632_S1024x256_0_1792))))) (ix2 r (0 : Fin 1)) =
    amax (fun f => dup (xr x0 x1 r) (yr x2 x3 r) w d f) 15 := by
  unfold_payloads
  pointwise []
  unfold amax
  refine congrArg (fun f => Finset.fold max _ f Finset.univ) (funext fun l => ?_)
  simp only [Ideal.absf_def, XB_apply, YB_apply, zero_sub]
  rw [gate_at w (⟨15 * 128 + l.val, by omega⟩ : Fin 2816) (1920 + l.val) (by simp) (xr x0 x1 r) ⟨1792 + (128 + l.val), by omega⟩ (by dsimp only <;> omega),
    dh_at d (⟨15 * 128 + l.val, by omega⟩ : Fin 2816) (1920 + l.val) (by simp) (yr x2 x3 r) ⟨1792 + (128 + l.val), by omega⟩ (by dsimp only <;> omega)]
  rfl

theorem amh_16 (r : Fin 256) : (k0_pay230 (k0_pay224 (XB x0 x1) (View.ld w (Rect.unit (s := S1024x5632) ![0, 2048] S1024x256.size inb_S1024x5632_S1024x256_0_2048)) (XB x0 x1) (View.ld w (Rect.unit (s := S1024x5632) ![0, 4864] S1024x256.size inb_S1024x5632_S1024x256_0_4864)))) (ix2 r (0 : Fin 1)) =
    amax (fun f => hid (xr x0 x1 r) w f) 16 := by
  unfold_payloads
  pointwise []
  unfold amax
  refine congrArg (fun f => Finset.fold max _ f Finset.univ) (funext fun l => ?_)
  simp only [Ideal.absf_def, XB_apply, YB_apply, zero_sub]
  rw [gate_at w (⟨16 * 128 + l.val, by omega⟩ : Fin 2816) (2048 + l.val) (by simp) (xr x0 x1 r) ⟨2048 + l.val, by omega⟩ (by dsimp only <;> omega),
    up_at w (⟨16 * 128 + l.val, by omega⟩ : Fin 2816) (2048 + l.val) (by simp) (xr x0 x1 r) ⟨4864 + l.val, by omega⟩ (by dsimp only <;> omega)]
  rfl

theorem amg_16 (r : Fin 256) : (k0_pay232 (k0_pay225 (XB x0 x1) (View.ld w (Rect.unit (s := S1024x5632) ![0, 2048] S1024x256.size inb_S1024x5632_S1024x256_0_2048)) (XB x0 x1) (View.ld w (Rect.unit (s := S1024x5632) ![0, 4864] S1024x256.size inb_S1024x5632_S1024x256_0_4864)) (YB x2 x3) (View.ld d (Rect.unit (s := S2816x1024) ![2048, 0] S256x1024.size inb_S2816x1024_S256x1024_2048_0)))) (ix2 r (0 : Fin 1)) =
    amax (fun f => dgate (xr x0 x1 r) (yr x2 x3 r) w d f) 16 := by
  unfold_payloads
  pointwise []
  unfold amax
  refine congrArg (fun f => Finset.fold max _ f Finset.univ) (funext fun l => ?_)
  simp only [Ideal.absf_def, XB_apply, YB_apply, zero_sub]
  rw [gate_at w (⟨16 * 128 + l.val, by omega⟩ : Fin 2816) (2048 + l.val) (by simp) (xr x0 x1 r) ⟨2048 + l.val, by omega⟩ (by dsimp only <;> omega),
    up_at w (⟨16 * 128 + l.val, by omega⟩ : Fin 2816) (2048 + l.val) (by simp) (xr x0 x1 r) ⟨4864 + l.val, by omega⟩ (by dsimp only <;> omega),
    dh_at d (⟨16 * 128 + l.val, by omega⟩ : Fin 2816) (2048 + l.val) (by simp) (yr x2 x3 r) ⟨2048 + l.val, by omega⟩ (by dsimp only <;> omega)]
  rfl

theorem amu_16 (r : Fin 256) : (k0_pay234 (k0_pay226 (XB x0 x1) (View.ld w (Rect.unit (s := S1024x5632) ![0, 2048] S1024x256.size inb_S1024x5632_S1024x256_0_2048)) (YB x2 x3) (View.ld d (Rect.unit (s := S2816x1024) ![2048, 0] S256x1024.size inb_S2816x1024_S256x1024_2048_0)))) (ix2 r (0 : Fin 1)) =
    amax (fun f => dup (xr x0 x1 r) (yr x2 x3 r) w d f) 16 := by
  unfold_payloads
  pointwise []
  unfold amax
  refine congrArg (fun f => Finset.fold max _ f Finset.univ) (funext fun l => ?_)
  simp only [Ideal.absf_def, XB_apply, YB_apply, zero_sub]
  rw [gate_at w (⟨16 * 128 + l.val, by omega⟩ : Fin 2816) (2048 + l.val) (by simp) (xr x0 x1 r) ⟨2048 + l.val, by omega⟩ (by dsimp only <;> omega),
    dh_at d (⟨16 * 128 + l.val, by omega⟩ : Fin 2816) (2048 + l.val) (by simp) (yr x2 x3 r) ⟨2048 + l.val, by omega⟩ (by dsimp only <;> omega)]
  rfl

theorem amh_17 (r : Fin 256) : (k0_pay231 (k0_pay224 (XB x0 x1) (View.ld w (Rect.unit (s := S1024x5632) ![0, 2048] S1024x256.size inb_S1024x5632_S1024x256_0_2048)) (XB x0 x1) (View.ld w (Rect.unit (s := S1024x5632) ![0, 4864] S1024x256.size inb_S1024x5632_S1024x256_0_4864)))) (ix2 r (0 : Fin 1)) =
    amax (fun f => hid (xr x0 x1 r) w f) 17 := by
  unfold_payloads
  pointwise []
  unfold amax
  refine congrArg (fun f => Finset.fold max _ f Finset.univ) (funext fun l => ?_)
  simp only [Ideal.absf_def, XB_apply, YB_apply, zero_sub]
  rw [gate_at w (⟨17 * 128 + l.val, by omega⟩ : Fin 2816) (2176 + l.val) (by simp) (xr x0 x1 r) ⟨2048 + (128 + l.val), by omega⟩ (by dsimp only <;> omega),
    up_at w (⟨17 * 128 + l.val, by omega⟩ : Fin 2816) (2176 + l.val) (by simp) (xr x0 x1 r) ⟨4864 + (128 + l.val), by omega⟩ (by dsimp only <;> omega)]
  rfl

theorem amg_17 (r : Fin 256) : (k0_pay233 (k0_pay225 (XB x0 x1) (View.ld w (Rect.unit (s := S1024x5632) ![0, 2048] S1024x256.size inb_S1024x5632_S1024x256_0_2048)) (XB x0 x1) (View.ld w (Rect.unit (s := S1024x5632) ![0, 4864] S1024x256.size inb_S1024x5632_S1024x256_0_4864)) (YB x2 x3) (View.ld d (Rect.unit (s := S2816x1024) ![2048, 0] S256x1024.size inb_S2816x1024_S256x1024_2048_0)))) (ix2 r (0 : Fin 1)) =
    amax (fun f => dgate (xr x0 x1 r) (yr x2 x3 r) w d f) 17 := by
  unfold_payloads
  pointwise []
  unfold amax
  refine congrArg (fun f => Finset.fold max _ f Finset.univ) (funext fun l => ?_)
  simp only [Ideal.absf_def, XB_apply, YB_apply, zero_sub]
  rw [gate_at w (⟨17 * 128 + l.val, by omega⟩ : Fin 2816) (2176 + l.val) (by simp) (xr x0 x1 r) ⟨2048 + (128 + l.val), by omega⟩ (by dsimp only <;> omega),
    up_at w (⟨17 * 128 + l.val, by omega⟩ : Fin 2816) (2176 + l.val) (by simp) (xr x0 x1 r) ⟨4864 + (128 + l.val), by omega⟩ (by dsimp only <;> omega),
    dh_at d (⟨17 * 128 + l.val, by omega⟩ : Fin 2816) (2176 + l.val) (by simp) (yr x2 x3 r) ⟨2048 + (128 + l.val), by omega⟩ (by dsimp only <;> omega)]
  rfl

theorem amu_17 (r : Fin 256) : (k0_pay235 (k0_pay226 (XB x0 x1) (View.ld w (Rect.unit (s := S1024x5632) ![0, 2048] S1024x256.size inb_S1024x5632_S1024x256_0_2048)) (YB x2 x3) (View.ld d (Rect.unit (s := S2816x1024) ![2048, 0] S256x1024.size inb_S2816x1024_S256x1024_2048_0)))) (ix2 r (0 : Fin 1)) =
    amax (fun f => dup (xr x0 x1 r) (yr x2 x3 r) w d f) 17 := by
  unfold_payloads
  pointwise []
  unfold amax
  refine congrArg (fun f => Finset.fold max _ f Finset.univ) (funext fun l => ?_)
  simp only [Ideal.absf_def, XB_apply, YB_apply, zero_sub]
  rw [gate_at w (⟨17 * 128 + l.val, by omega⟩ : Fin 2816) (2176 + l.val) (by simp) (xr x0 x1 r) ⟨2048 + (128 + l.val), by omega⟩ (by dsimp only <;> omega),
    dh_at d (⟨17 * 128 + l.val, by omega⟩ : Fin 2816) (2176 + l.val) (by simp) (yr x2 x3 r) ⟨2048 + (128 + l.val), by omega⟩ (by dsimp only <;> omega)]
  rfl

theorem amh_18 (r : Fin 256) : (k0_pay253 (k0_pay252 (k0_pay241 (XB x0 x1) (View.ld w (Rect.unit (s := S1024x5632) ![0, 2304] S1024x256.size inb_S1024x5632_S1024x256_0_2304))) (k0_pay242 (XB x0 x1) (View.ld w (Rect.unit (s := S1024x5632) ![0, 5120] S1024x256.size inb_S1024x5632_S1024x256_0_5120))))) (ix2 r (0 : Fin 1)) =
    amax (fun f => hid (xr x0 x1 r) w f) 18 := by
  unfold_payloads
  pointwise []
  unfold amax
  refine congrArg (fun f => Finset.fold max _ f Finset.univ) (funext fun l => ?_)
  simp only [Ideal.absf_def, XB_apply, YB_apply, zero_sub]
  rw [gate_at w (⟨18 * 128 + l.val, by omega⟩ : Fin 2816) (2304 + l.val) (by simp) (xr x0 x1 r) ⟨2304 + l.val, by omega⟩ (by dsimp only <;> omega),
    up_at w (⟨18 * 128 + l.val, by omega⟩ : Fin 2816) (2304 + l.val) (by simp) (xr x0 x1 r) ⟨5120 + l.val, by omega⟩ (by dsimp only <;> omega)]
  rfl

theorem amg_18 (r : Fin 256) : (k0_pay255 (k0_pay247 (k0_pay241 (XB x0 x1) (View.ld w (Rect.unit (s := S1024x5632) ![0, 2304] S1024x256.size inb_S1024x5632_S1024x256_0_2304))) (k0_pay242 (XB x0 x1) (View.ld w (Rect.unit (s := S1024x5632) ![0, 5120] S1024x256.size inb_S1024x5632_S1024x256_0_5120))) (YB x2 x3) (View.ld d (Rect.unit (s := S2816x1024) ![2304, 0] S256x1024.size inb_S2816x1024_S256x1024_2304_0)))) (ix2 r (0 : Fin 1)) =
    amax (fun f => dgate (xr x0 x1 r) (yr x2 x3 r) w d f) 18 := by
  unfold_payloads
  pointwise []
  unfold amax
  refine congrArg (fun f => Finset.fold max _ f Finset.univ) (funext fun l => ?_)
  simp only [Ideal.absf_def, XB_apply, YB_apply, zero_sub]
  rw [gate_at w (⟨18 * 128 + l.val, by omega⟩ : Fin 2816) (2304 + l.val) (by simp) (xr x0 x1 r) ⟨2304 + l.val, by omega⟩ (by dsimp only <;> omega),
    up_at w (⟨18 * 128 + l.val, by omega⟩ : Fin 2816) (2304 + l.val) (by simp) (xr x0 x1 r) ⟨5120 + l.val, by omega⟩ (by dsimp only <;> omega),
    dh_at d (⟨18 * 128 + l.val, by omega⟩ : Fin 2816) (2304 + l.val) (by simp) (yr x2 x3 r) ⟨2304 + l.val, by omega⟩ (by dsimp only <;> omega)]
  rfl

theorem amu_18 (r : Fin 256) : (k0_pay257 (k0_pay248 (k0_pay241 (XB x0 x1) (View.ld w (Rect.unit (s := S1024x5632) ![0, 2304] S1024x256.size inb_S1024x5632_S1024x256_0_2304))) (YB x2 x3) (View.ld d (Rect.unit (s := S2816x1024) ![2304, 0] S256x1024.size inb_S2816x1024_S256x1024_2304_0)))) (ix2 r (0 : Fin 1)) =
    amax (fun f => dup (xr x0 x1 r) (yr x2 x3 r) w d f) 18 := by
  unfold_payloads
  pointwise []
  unfold amax
  refine congrArg (fun f => Finset.fold max _ f Finset.univ) (funext fun l => ?_)
  simp only [Ideal.absf_def, XB_apply, YB_apply, zero_sub]
  rw [gate_at w (⟨18 * 128 + l.val, by omega⟩ : Fin 2816) (2304 + l.val) (by simp) (xr x0 x1 r) ⟨2304 + l.val, by omega⟩ (by dsimp only <;> omega),
    dh_at d (⟨18 * 128 + l.val, by omega⟩ : Fin 2816) (2304 + l.val) (by simp) (yr x2 x3 r) ⟨2304 + l.val, by omega⟩ (by dsimp only <;> omega)]
  rfl

theorem amh_19 (r : Fin 256) : (k0_pay254 (k0_pay246 (k0_pay241 (XB x0 x1) (View.ld w (Rect.unit (s := S1024x5632) ![0, 2304] S1024x256.size inb_S1024x5632_S1024x256_0_2304))) (k0_pay242 (XB x0 x1) (View.ld w (Rect.unit (s := S1024x5632) ![0, 5120] S1024x256.size inb_S1024x5632_S1024x256_0_5120))))) (ix2 r (0 : Fin 1)) =
    amax (fun f => hid (xr x0 x1 r) w f) 19 := by
  unfold_payloads
  pointwise []
  unfold amax
  refine congrArg (fun f => Finset.fold max _ f Finset.univ) (funext fun l => ?_)
  simp only [Ideal.absf_def, XB_apply, YB_apply, zero_sub]
  rw [gate_at w (⟨19 * 128 + l.val, by omega⟩ : Fin 2816) (2432 + l.val) (by simp) (xr x0 x1 r) ⟨2304 + (128 + l.val), by omega⟩ (by dsimp only <;> omega),
    up_at w (⟨19 * 128 + l.val, by omega⟩ : Fin 2816) (2432 + l.val) (by simp) (xr x0 x1 r) ⟨5120 + (128 + l.val), by omega⟩ (by dsimp only <;> omega)]
  rfl

theorem amg_19 (r : Fin 256) : (k0_pay256 (k0_pay247 (k0_pay241 (XB x0 x1) (View.ld w (Rect.unit (s := S1024x5632) ![0, 2304] S1024x256.size inb_S1024x5632_S1024x256_0_2304))) (k0_pay242 (XB x0 x1) (View.ld w (Rect.unit (s := S1024x5632) ![0, 5120] S1024x256.size inb_S1024x5632_S1024x256_0_5120))) (YB x2 x3) (View.ld d (Rect.unit (s := S2816x1024) ![2304, 0] S256x1024.size inb_S2816x1024_S256x1024_2304_0)))) (ix2 r (0 : Fin 1)) =
    amax (fun f => dgate (xr x0 x1 r) (yr x2 x3 r) w d f) 19 := by
  unfold_payloads
  pointwise []
  unfold amax
  refine congrArg (fun f => Finset.fold max _ f Finset.univ) (funext fun l => ?_)
  simp only [Ideal.absf_def, XB_apply, YB_apply, zero_sub]
  rw [gate_at w (⟨19 * 128 + l.val, by omega⟩ : Fin 2816) (2432 + l.val) (by simp) (xr x0 x1 r) ⟨2304 + (128 + l.val), by omega⟩ (by dsimp only <;> omega),
    up_at w (⟨19 * 128 + l.val, by omega⟩ : Fin 2816) (2432 + l.val) (by simp) (xr x0 x1 r) ⟨5120 + (128 + l.val), by omega⟩ (by dsimp only <;> omega),
    dh_at d (⟨19 * 128 + l.val, by omega⟩ : Fin 2816) (2432 + l.val) (by simp) (yr x2 x3 r) ⟨2304 + (128 + l.val), by omega⟩ (by dsimp only <;> omega)]
  rfl

theorem amu_19 (r : Fin 256) : (k0_pay258 (k0_pay248 (k0_pay241 (XB x0 x1) (View.ld w (Rect.unit (s := S1024x5632) ![0, 2304] S1024x256.size inb_S1024x5632_S1024x256_0_2304))) (YB x2 x3) (View.ld d (Rect.unit (s := S2816x1024) ![2304, 0] S256x1024.size inb_S2816x1024_S256x1024_2304_0)))) (ix2 r (0 : Fin 1)) =
    amax (fun f => dup (xr x0 x1 r) (yr x2 x3 r) w d f) 19 := by
  unfold_payloads
  pointwise []
  unfold amax
  refine congrArg (fun f => Finset.fold max _ f Finset.univ) (funext fun l => ?_)
  simp only [Ideal.absf_def, XB_apply, YB_apply, zero_sub]
  rw [gate_at w (⟨19 * 128 + l.val, by omega⟩ : Fin 2816) (2432 + l.val) (by simp) (xr x0 x1 r) ⟨2304 + (128 + l.val), by omega⟩ (by dsimp only <;> omega),
    dh_at d (⟨19 * 128 + l.val, by omega⟩ : Fin 2816) (2432 + l.val) (by simp) (yr x2 x3 r) ⟨2304 + (128 + l.val), by omega⟩ (by dsimp only <;> omega)]
  rfl

theorem amh_20 (r : Fin 256) : (k0_pay276 (k0_pay265 (XB x0 x1) (View.ld w (Rect.unit (s := S1024x5632) ![0, 2560] S1024x256.size inb_S1024x5632_S1024x256_0_2560))) (k0_pay266 (XB x0 x1) (View.ld w (Rect.unit (s := S1024x5632) ![0, 5376] S1024x256.size inb_S1024x5632_S1024x256_0_5376))) (k0_pay268 (XB x0 x1) (View.ld w (Rect.unit (s := S1024x5632) ![0, 2560] S1024x256.size inb_S1024x5632_S1024x256_0_2560)))) (ix2 r (0 : Fin 1)) =
    amax (fun f => hid (xr x0 x1 r) w f) 20 := by
  unfold_payloads
  pointwise []
  unfold amax
  refine congrArg (fun f => Finset.fold max _ f Finset.univ) (funext fun l => ?_)
  simp only [Ideal.absf_def, XB_apply, YB_apply, zero_sub]
  rw [gate_at w (⟨20 * 128 + l.val, by omega⟩ : Fin 2816) (2560 + l.val) (by simp) (xr x0 x1 r) ⟨2560 + l.val, by omega⟩ (by dsimp only <;> omega),
    up_at w (⟨20 * 128 + l.val, by omega⟩ : Fin 2816) (2560 + l.val) (by simp) (xr x0 x1 r) ⟨5376 + l.val, by omega⟩ (by dsimp only <;> omega)]
  rfl

theorem amg_20 (r : Fin 256) : (k0_pay279 (k0_pay278 (k0_pay265 (XB x0 x1) (View.ld w (Rect.unit (s := S1024x5632) ![0, 2560] S1024x256.size inb_S1024x5632_S1024x256_0_2560))) (k0_pay266 (XB x0 x1) (View.ld w (Rect.unit (s := S1024x5632) ![0, 5376] S1024x256.size inb_S1024x5632_S1024x256_0_5376))) (k0_pay267 (YB x2 x3) (View.ld d (Rect.unit (s := S2816x1024) ![2560, 0] S256x1024.size inb_S2816x1024_S256x1024_2560_0))) (k0_pay268 (XB x0 x1) (View.ld w (Rect.unit (s := S1024x5632) ![0, 2560] S1024x256.size inb_S1024x5632_S1024x256_0_2560))))) (ix2 r (0 : Fin 1)) =
    amax (fun f => dgate (xr x0 x1 r) (yr x2 x3 r) w d f) 20 := by
  unfold_payloads
  pointwise []
  unfold amax
  refine congrArg (fun f => Finset.fold max _ f Finset.univ) (funext fun l => ?_)
  simp only [Ideal.absf_def, XB_apply, YB_apply, zero_sub]
  rw [gate_at w (⟨20 * 128 + l.val, by omega⟩ : Fin 2816) (2560 + l.val) (by simp) (xr x0 x1 r) ⟨2560 + l.val, by omega⟩ (by dsimp only <;> omega),
    up_at w (⟨20 * 128 + l.val, by omega⟩ : Fin 2816) (2560 + l.val) (by simp) (xr x0 x1 r) ⟨5376 + l.val, by omega⟩ (by dsimp only <;> omega),
    dh_at d (⟨20 * 128 + l.val, by omega⟩ : Fin 2816) (2560 + l.val) (by simp) (yr x2 x3 r) ⟨2560 + l.val, by omega⟩ (by dsimp only <;> omega)]
  rfl

theorem amu_20 (r : Fin 256) : (k0_pay281 (k0_pay272 (k0_pay265 (XB x0 x1) (View.ld w (Rect.unit (s := S1024x5632) ![0, 2560] S1024x256.size inb_S1024x5632_S1024x256_0_2560))) (k0_pay267 (YB x2 x3) (View.ld d (Rect.unit (s := S2816x1024) ![2560, 0] S256x1024.size inb_S2816x1024_S256x1024_2560_0))) (k0_pay268 (XB x0 x1) (View.ld w (Rect.unit (s := S1024x5632) ![0, 2560] S1024x256.size inb_S1024x5632_S1024x256_0_2560))))) (ix2 r (0 : Fin 1)) =
    amax (fun f => dup (xr x0 x1 r) (yr x2 x3 r) w d f) 20 := by
  unfold_payloads
  pointwise []
  unfold amax
  refine congrArg (fun f => Finset.fold max _ f Finset.univ) (funext fun l => ?_)
  simp only [Ideal.absf_def, XB_apply, YB_apply, zero_sub]
  rw [gate_at w (⟨20 * 128 + l.val, by omega⟩ : Fin 2816) (2560 + l.val) (by simp) (xr x0 x1 r) ⟨2560 + l.val, by omega⟩ (by dsimp only <;> omega),
    dh_at d (⟨20 * 128 + l.val, by omega⟩ : Fin 2816) (2560 + l.val) (by simp) (yr x2 x3 r) ⟨2560 + l.val, by omega⟩ (by dsimp only <;> omega)]
  rfl

theorem amh_21 (r : Fin 256) : (k0_pay277 (k0_pay265 (XB x0 x1) (View.ld w (Rect.unit (s := S1024x5632) ![0, 2560] S1024x256.size inb_S1024x5632_S1024x256_0_2560))) (k0_pay266 (XB x0 x1) (View.ld w (Rect.unit (s := S1024x5632) ![0, 5376] S1024x256.size inb_S1024x5632_S1024x256_0_5376))) (k0_pay268 (XB x0 x1) (View.ld w (Rect.unit (s := S1024x5632) ![0, 2560] S1024x256.size inb_S1024x5632_S1024x256_0_2560)))) (ix2 r (0 : Fin 1)) =
    amax (fun f => hid (xr x0 x1 r) w f) 21 := by
  unfold_payloads
  pointwise []
  unfold amax
  refine congrArg (fun f => Finset.fold max _ f Finset.univ) (funext fun l => ?_)
  simp only [Ideal.absf_def, XB_apply, YB_apply, zero_sub]
  rw [gate_at w (⟨21 * 128 + l.val, by omega⟩ : Fin 2816) (2688 + l.val) (by simp) (xr x0 x1 r) ⟨2560 + (128 + l.val), by omega⟩ (by dsimp only <;> omega),
    up_at w (⟨21 * 128 + l.val, by omega⟩ : Fin 2816) (2688 + l.val) (by simp) (xr x0 x1 r) ⟨5376 + (128 + l.val), by omega⟩ (by dsimp only <;> omega)]
  rfl

theorem amg_21 (r : Fin 256) : (k0_pay280 (k0_pay271 (k0_pay265 (XB x0 x1) (View.ld w (Rect.unit (s := S1024x5632) ![0, 2560] S1024x256.size inb_S1024x5632_S1024x256_0_2560))) (k0_pay266 (XB x0 x1) (View.ld w (Rect.unit (s := S1024x5632) ![0, 5376] S1024x256.size inb_S1024x5632_S1024x256_0_5376))) (k0_pay267 (YB x2 x3) (View.ld d (Rect.unit (s := S2816x1024) ![2560, 0] S256x1024.size inb_S2816x1024_S256x1024_2560_0))) (k0_pay268 (XB x0 x1) (View.ld w (Rect.unit (s := S1024x5632) ![0, 2560] S1024x256.size inb_S1024x5632_S1024x256_0_2560))))) (ix2 r (0 : Fin 1)) =
    amax (fun f => dgate (xr x0 x1 r) (yr x2 x3 r) w d f) 21 := by
  unfold_payloads
  pointwise []
  unfold amax
  refine congrArg (fun f => Finset.fold max _ f Finset.univ) (funext fun l => ?_)
  simp only [Ideal.absf_def, XB_apply, YB_apply, zero_sub]
  rw [gate_at w (⟨21 * 128 + l.val, by omega⟩ : Fin 2816) (2688 + l.val) (by simp) (xr x0 x1 r) ⟨2560 + (128 + l.val), by omega⟩ (by dsimp only <;> omega),
    up_at w (⟨21 * 128 + l.val, by omega⟩ : Fin 2816) (2688 + l.val) (by simp) (xr x0 x1 r) ⟨5376 + (128 + l.val), by omega⟩ (by dsimp only <;> omega),
    dh_at d (⟨21 * 128 + l.val, by omega⟩ : Fin 2816) (2688 + l.val) (by simp) (yr x2 x3 r) ⟨2560 + (128 + l.val), by omega⟩ (by dsimp only <;> omega)]
  rfl

theorem amu_21 (r : Fin 256) : (k0_pay282 (k0_pay272 (k0_pay265 (XB x0 x1) (View.ld w (Rect.unit (s := S1024x5632) ![0, 2560] S1024x256.size inb_S1024x5632_S1024x256_0_2560))) (k0_pay267 (YB x2 x3) (View.ld d (Rect.unit (s := S2816x1024) ![2560, 0] S256x1024.size inb_S2816x1024_S256x1024_2560_0))) (k0_pay268 (XB x0 x1) (View.ld w (Rect.unit (s := S1024x5632) ![0, 2560] S1024x256.size inb_S1024x5632_S1024x256_0_2560))))) (ix2 r (0 : Fin 1)) =
    amax (fun f => dup (xr x0 x1 r) (yr x2 x3 r) w d f) 21 := by
  unfold_payloads
  pointwise []
  unfold amax
  refine congrArg (fun f => Finset.fold max _ f Finset.univ) (funext fun l => ?_)
  simp only [Ideal.absf_def, XB_apply, YB_apply, zero_sub]
  rw [gate_at w (⟨21 * 128 + l.val, by omega⟩ : Fin 2816) (2688 + l.val) (by simp) (xr x0 x1 r) ⟨2560 + (128 + l.val), by omega⟩ (by dsimp only <;> omega),
    dh_at d (⟨21 * 128 + l.val, by omega⟩ : Fin 2816) (2688 + l.val) (by simp) (yr x2 x3 r) ⟨2560 + (128 + l.val), by omega⟩ (by dsimp only <;> omega)]
  rfl

end Cert.KernelIdeal.Block

end
-- ==== Proof.OutsA.lean ====
/- What the first point of the run leaves in each output block and in the held buffers. -/
module

public import proofs.«01_k».proof.Proof.WordsA
public import proofs.«01_k».proof.Proof.BlockAmax
public import proofs.«01_k».proof.Proof.RunOuts

@[expose] public section

set_option maxRecDepth 16384

noncomputable section

namespace Cert.KernelIdeal.CaseA

open Cert.KernelIdeal Cert.KernelIdeal.Gen Cert.KernelIdeal.Block Idealize.ShloMosaic Cert.Spec

variable (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole)
  (hc0 : cond0_0 i) (hc1 : ¬cond0_1 i)
  (x0 : Vec Ideal S256x1024 .fp8e4m3) (x1 : Vec Ideal S256x8 .f32) (x2 : Vec Ideal S256x1024 .fp8e5m2) (x3 : Vec Ideal S256x8 .f32)

  (fh0 : HbBuf0 (F := Ideal) c hbM0_0) (fh1 : HbBuf0 (F := Ideal) c hbM0_1) (fw2 : HbBuf0 (F := Ideal) c hbM0_2) (fw3 : HbBuf0 (F := Ideal) c hbM0_3)

theorem v375_eq : kernelRun0_A.sl.v375 (F := Ideal) c arg15 = View.ld ((k0_pay3 (F := Ideal)) : Vec Ideal S1024x5632 .f32) (Idealize.ShloMosaic.Rect.unit (s := S1024x5632) ![0, 0] Cert.KernelIdeal.S1024x256.size inb_S1024x5632_S1024x256_0_0) := by
  unfold kernelRun0_A.sl.v375 kernelRun0_A.sl.HS2_1
  exact View.readCov_fill _ _ _ _ _ (by decide)

theorem v384_eq : kernelRun0_A.sl.v384 (F := Ideal) c arg1 harg1 arg2 harg2 arg3 harg3 arg4 harg4 arg13 arg14 arg15 arg17 arg18 arg19 arg22 x0 x1 x2 x3 fh0 fh1 = View.ld ((k0_pay3 (F := Ideal)) : Vec Ideal S1024x5632 .f32) (Idealize.ShloMosaic.Rect.unit (s := S1024x5632) ![0, 2816] Cert.KernelIdeal.S1024x256.size inb_S1024x5632_S1024x256_0_2816) := by
  unfold kernelRun0_A.sl.v384 kernelRun0_A.sl.HS2_2 kernelRun0_A.sl.HS2_1
  refine (View.readCov_skip _ _ _ _ _ (by decide)).trans ?_
  exact View.readCov_fill _ _ _ _ _ (by decide)

theorem v492_eq : kernelRun0_A.sl.v492 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 256] Cert.KernelIdeal.S1024x256.size inb_S1024x5632_S1024x256_0_256) := by
  unfold kernelRun0_A.sl.v492 kernelRun0_A.sl.HS2_3 kernelRun0_A.sl.HS2_2 kernelRun0_A.sl.HS2_1
  refine (View.readCov_skip _ _ _ _ _ (by decide)).trans ?_
  refine (View.readCov_skip _ _ _ _ _ (by decide)).trans ?_
  exact View.readCov_fill _ _ _ _ _ (by decide)

theorem v501_eq : kernelRun0_A.sl.v501 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 3072] Cert.KernelIdeal.S1024x256.size inb_S1024x5632_S1024x256_0_3072) := by
  unfold kernelRun0_A.sl.v501 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v609_eq : kernelRun0_A.sl.v609 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 512] Cert.KernelIdeal.S1024x256.size inb_S1024x5632_S1024x256_0_512) := by
  unfold kernelRun0_A.sl.v609 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v618_eq : kernelRun0_A.sl.v618 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 3328] Cert.KernelIdeal.S1024x256.size inb_S1024x5632_S1024x256_0_3328) := by
  unfold kernelRun0_A.sl.v618 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v726_eq : kernelRun0_A.sl.v726 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 768] Cert.KernelIdeal.S1024x256.size inb_S1024x5632_S1024x256_0_768) := by
  unfold kernelRun0_A.sl.v726 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v735_eq : kernelRun0_A.sl.v735 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 3584] Cert.KernelIdeal.S1024x256.size inb_S1024x5632_S1024x256_0_3584) := by
  unfold kernelRun0_A.sl.v735 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v843_eq : kernelRun0_A.sl.v843 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 1024] Cert.KernelIdeal.S1024x256.size inb_S1024x5632_S1024x256_0_1024) := by
  unfold kernelRun0_A.sl.v843 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v852_eq : kernelRun0_A.sl.v852 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 3840] Cert.KernelIdeal.S1024x256.size inb_S1024x5632_S1024x256_0_3840) := by
  unfold kernelRun0_A.sl.v852 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v960_eq : kernelRun0_A.sl.v960 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 1280] Cert.KernelIdeal.S1024x256.size inb_S1024x5632_S1024x256_0_1280) := by
  unfold kernelRun0_A.sl.v960 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v969_eq : kernelRun0_A.sl.v969 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 4096] Cert.KernelIdeal.S1024x256.size inb_S1024x5632_S1024x256_0_4096) := by
  unfold kernelRun0_A.sl.v969 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1077_eq : kernelRun0_A.sl.v1077 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 1536] Cert.KernelIdeal.S1024x256.size inb_S1024x5632_S1024x256_0_1536) := by
  unfold kernelRun0_A.sl.v1077 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1086_eq : kernelRun0_A.sl.v1086 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 4352] Cert.KernelIdeal.S1024x256.size inb_S1024x5632_S1024x256_0_4352) := by
  unfold kernelRun0_A.sl.v1086 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1194_eq : kernelRun0_A.sl.v1194 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 1792] Cert.KernelIdeal.S1024x256.size inb_S1024x5632_S1024x256_0_1792) := by
  unfold kernelRun0_A.sl.v1194 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1203_eq : kernelRun0_A.sl.v1203 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 4608] Cert.KernelIdeal.S1024x256.size inb_S1024x5632_S1024x256_0_4608) := by
  unfold kernelRun0_A.sl.v1203 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1311_eq : kernelRun0_A.sl.v1311 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 2048] Cert.KernelIdeal.S1024x256.size inb_S1024x5632_S1024x256_0_2048) := by
  unfold kernelRun0_A.sl.v1311 kernelRun0_A.sl.HS2_17 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1320_eq : kernelRun0_A.sl.v1320 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 4864] Cert.KernelIdeal.S1024x256.size inb_S1024x5632_S1024x256_0_4864) := by
  unfold kernelRun0_A.sl.v1320 kernelRun0_A.sl.HS2_18 kernelRun0_A.sl.HS2_17 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1428_eq : kernelRun0_A.sl.v1428 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 2304] Cert.KernelIdeal.S1024x256.size inb_S1024x5632_S1024x256_0_2304) := by
  unfold kernelRun0_A.sl.v1428 kernelRun0_A.sl.HS2_19 kernelRun0_A.sl.HS2_18 kernelRun0_A.sl.HS2_17 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1437_eq : kernelRun0_A.sl.v1437 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 5120] Cert.KernelIdeal.S1024x256.size inb_S1024x5632_S1024x256_0_5120) := by
  unfold kernelRun0_A.sl.v1437 kernelRun0_A.sl.HS2_20 kernelRun0_A.sl.HS2_19 kernelRun0_A.sl.HS2_18 kernelRun0_A.sl.HS2_17 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1468_eq : kernelRun0_A.sl.v1468 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 2560] Cert.KernelIdeal.S1024x256.size inb_S1024x5632_S1024x256_0_2560) := by
  unfold kernelRun0_A.sl.v1468 kernelRun0_A.sl.HS2_21 kernelRun0_A.sl.HS2_20 kernelRun0_A.sl.HS2_19 kernelRun0_A.sl.HS2_18 kernelRun0_A.sl.HS2_17 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1477_eq : kernelRun0_A.sl.v1477 (F := Ideal) c arg1 harg1 arg2 harg2 arg3 harg3 arg4 harg4 arg13 arg14 arg15 arg17 arg18 arg19 arg22 arg23 x0 x1 x2 x3 fh0 fh1 = View.ld ((k0_pay3 (F := Ideal)) : Vec Ideal S1024x5632 .f32) (Idealize.ShloMosaic.Rect.unit (s := S1024x5632) ![0, 5376] Cert.KernelIdeal.S1024x256.size inb_S1024x5632_S1024x256_0_5376) := by
  unfold kernelRun0_A.sl.v1477 kernelRun0_A.sl.HS2_22 kernelRun0_A.sl.HS2_21 kernelRun0_A.sl.HS2_20 kernelRun0_A.sl.HS2_19 kernelRun0_A.sl.HS2_18 kernelRun0_A.sl.HS2_17 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v393_eq : kernelRun0_A.sl.v393 (F := Ideal) c arg16 = View.ld ((k0_pay4 (F := Ideal)) : Vec Ideal S2816x1024 .f32) (Idealize.ShloMosaic.Rect.unit (s := S2816x1024) ![0, 0] Cert.KernelIdeal.S256x1024.size inb_S2816x1024_S256x1024_0_0) := by
  unfold kernelRun0_A.sl.v393 kernelRun0_A.sl.HS3_1
  exact View.readCov_fill _ _ _ _ _ (by decide)

theorem v510_eq : kernelRun0_A.sl.v510 (F := Ideal) c arg1 harg1 arg2 harg2 arg3 harg3 arg4 harg4 arg13 arg16 arg17 arg18 arg21 x0 x1 x2 x3 fh0 = View.ld ((k0_pay4 (F := Ideal)) : Vec Ideal S2816x1024 .f32) (Idealize.ShloMosaic.Rect.unit (s := S2816x1024) ![256, 0] Cert.KernelIdeal.S256x1024.size inb_S2816x1024_S256x1024_256_0) := by
  unfold kernelRun0_A.sl.v510 kernelRun0_A.sl.HS3_2 kernelRun0_A.sl.HS3_1
  refine (View.readCov_skip _ _ _ _ _ (by decide)).trans ?_
  exact View.readCov_fill _ _ _ _ _ (by decide)

theorem v627_eq : kernelRun0_A.sl.v627 (F := Ideal) c arg1 harg1 arg2 harg2 arg3 harg3 arg4 harg4 arg13 arg16 arg17 arg18 arg21 x0 x1 x2 x3 fh0 = View.ld ((k0_pay4 (F := Ideal)) : Vec Ideal S2816x1024 .f32) (Idealize.ShloMosaic.Rect.unit (s := S2816x1024) ![512, 0] Cert.KernelIdeal.S256x1024.size inb_S2816x1024_S256x1024_512_0) := by
  unfold kernelRun0_A.sl.v627 kernelRun0_A.sl.HS3_3 kernelRun0_A.sl.HS3_2 kernelRun0_A.sl.HS3_1
  refine (View.readCov_skip _ _ _ _ _ (by decide)).trans ?_
  refine (View.readCov_skip _ _ _ _ _ (by decide)).trans ?_
  exact View.readCov_fill _ _ _ _ _ (by decide)

theorem v744_eq : kernelRun0_A.sl.v744 (F := Ideal) c arg1 harg1 arg2 harg2 arg3 harg3 arg4 harg4 arg13 arg16 arg17 arg18 arg21 x0 x1 x2 x3 fh0 = View.ld ((k0_pay4 (F := Ideal)) : Vec Ideal S2816x1024 .f32) (Idealize.ShloMosaic.Rect.unit (s := S2816x1024) ![768, 0] Cert.KernelIdeal.S256x1024.size inb_S2816x1024_S256x1024_768_0) := by
  unfold kernelRun0_A.sl.v744 kernelRun0_A.sl.HS3_4 kernelRun0_A.sl.HS3_3 kernelRun0_A.sl.HS3_2 kernelRun0_A.sl.HS3_1
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v861_eq : kernelRun0_A.sl.v861 (F := Ideal) c arg1 harg1 arg2 harg2 arg3 harg3 arg4 harg4 arg13 arg16 arg17 arg18 arg21 x0 x1 x2 x3 fh0 = View.ld ((k0_pay4 (F := Ideal)) : Vec Ideal S2816x1024 .f32) (Idealize.ShloMosaic.Rect.unit (s := S2816x1024) ![1024, 0] Cert.KernelIdeal.S256x1024.size inb_S2816x1024_S256x1024_1024_0) := by
  unfold kernelRun0_A.sl.v861 kernelRun0_A.sl.HS3_5 kernelRun0_A.sl.HS3_4 kernelRun0_A.sl.HS3_3 kernelRun0_A.sl.HS3_2 kernelRun0_A.sl.HS3_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v_eq : kernelRun0_A.sl.v (F := Ideal) c arg1 harg1 arg2 harg2 arg3 harg3 arg4 harg4 arg13 arg16 arg17 arg18 arg21 x0 x1 x2 x3 fh0 = View.ld ((k0_pay4 (F := Ideal)) : Vec Ideal S2816x1024 .f32) (Idealize.ShloMosaic.Rect.unit (s := S2816x1024) ![1280, 0] Cert.KernelIdeal.S256x1024.size inb_S2816x1024_S256x1024_1280_0) := by
  unfold kernelRun0_A.sl.v kernelRun0_A.sl.HS3_6 kernelRun0_A.sl.HS3_5 kernelRun0_A.sl.HS3_4 kernelRun0_A.sl.HS3_3 kernelRun0_A.sl.HS3_2 kernelRun0_A.sl.HS3_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1095_eq : kernelRun0_A.sl.v1095 (F := Ideal) c arg1 harg1 arg2 harg2 arg3 harg3 arg4 harg4 arg13 arg16 arg17 arg18 arg21 x0 x1 x2 x3 fh0 = View.ld ((k0_pay4 (F := Ideal)) : Vec Ideal S2816x1024 .f32) (Idealize.ShloMosaic.Rect.unit (s := S2816x1024) ![1536, 0] Cert.KernelIdeal.S256x1024.size inb_S2816x1024_S256x1024_1536_0) := by
  unfold kernelRun0_A.sl.v1095 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1212_eq : kernelRun0_A.sl.v1212 (F := Ideal) c arg1 harg1 arg2 harg2 arg3 harg3 arg4 harg4 arg13 arg16 arg17 arg18 arg21 x0 x1 x2 x3 fh0 = View.ld ((k0_pay4 (F := Ideal)) : Vec Ideal S2816x1024 .f32) (Idealize.ShloMosaic.Rect.unit (s := S2816x1024) ![1792, 0] Cert.KernelIdeal.S256x1024.size inb_S2816x1024_S256x1024_1792_0) := by
  unfold kernelRun0_A.sl.v1212 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1329_eq : kernelRun0_A.sl.v1329 (F := Ideal) c arg1 harg1 arg2 harg2 arg3 harg3 arg4 harg4 arg13 arg16 arg17 arg18 arg21 x0 x1 x2 x3 fh0 = View.ld ((k0_pay4 (F := Ideal)) : Vec Ideal S2816x1024 .f32) (Idealize.ShloMosaic.Rect.unit (s := S2816x1024) ![2048, 0] Cert.KernelIdeal.S256x1024.size inb_S2816x1024_S256x1024_2048_0) := by
  unfold kernelRun0_A.sl.v1329 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1446_eq : kernelRun0_A.sl.v1446 (F := Ideal) c arg1 harg1 arg2 harg2 arg3 harg3 arg4 harg4 arg13 arg16 arg17 arg18 arg21 x0 x1 x2 x3 fh0 = View.ld ((k0_pay4 (F := Ideal)) : Vec Ideal S2816x1024 .f32) (Idealize.ShloMosaic.Rect.unit (s := S2816x1024) ![2304, 0] Cert.KernelIdeal.S256x1024.size inb_S2816x1024_S256x1024_2304_0) := by
  unfold kernelRun0_A.sl.v1446 kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

theorem v1486_eq : kernelRun0_A.sl.v1486 (F := Ideal) c arg1 harg1 arg2 harg2 arg3 harg3 arg4 harg4 arg13 arg16 arg17 arg18 arg21 x0 x1 x2 x3 fh0 = View.ld ((k0_pay4 (F := Ideal)) : Vec Ideal S2816x1024 .f32) (Idealize.ShloMosaic.Rect.unit (s := S2816x1024) ![2560, 0] ![256, 1024] inb_S2816x1024_S256x1024_2560_0) := by
  unfold kernelRun0_A.sl.v1486 kernelRun0_A.sl.HS3_11 kernelRun0_A.sl.HS3_10 kernelRun0_A.sl.HS3_9 kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  exact View.readCov_fill _ _ _ _ _ (by decide)

/-- The gradient of the activations this point writes. -/
theorem out4_eq : out0_A_4 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3 = DXO x0 x1 x2 x3 (WA fh0) (DA fh1) := by
  unfold out0_A_4
  rw [View.read_writes_junk_eq_canon]
  funext y
  refine canon_of (G := DXO x0 x1 x2 x3 (WA fh0) (DA fh1)) ?_ y (cover0_A_4 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3 y)
  refine of_cons ?_ (of_nil _)
  refine dx_piece x0 x1 x2 x3 (WA fh0) (DA fh1) _ _ ?_
  unfold kernelRun0_A.sl.v1339 kernelRun0_A.sl.v1342
  simp only [View.readAt_eq_ld, Memref.IsWhole.read_unread, readCov_whole, v1455_eq, v1459_eq, v1464_eq, dma0_eq]
  exact dxa_10 x0 x1 x2 x3 (WA fh0) (DA fh1)

theorem out5_eq : out0_A_5 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3 = AM (fun r => hid (xr x0 x1 r) (WA fh0)) := by
  unfold out0_A_5
  rw [View.read_writes_junk_eq_canon]
  funext y
  refine canon_of (G := AM (fun r => hid (xr x0 x1 r) (WA fh0))) ?_ y (cover0_A_5 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3 y)
  refine of_cons (amax_piece (fun r => hid (xr x0 x1 r) (WA fh0)) 21 21 rfl _ _ fun r => ?_) ?_
  · unfold kernelRun0_A.sl.r_71 kernelRun0_A.sl.r_72 kernelRun0_A.sl.r_74 kernelRun0_A.sl.v1339 kernelRun0_A.sl.v1342
    simp only [View.readAt_eq_ld, Memref.IsWhole.read_unread, readCov_whole, v211_eq, dma0_eq]
    exact amh_21 x0 x1 (WA fh0) r
  refine of_cons (amax_piece (fun r => hid (xr x0 x1 r) (WA fh0)) 20 20 rfl _ _ fun r => ?_) ?_
  · unfold kernelRun0_A.sl.r_71 kernelRun0_A.sl.r_72 kernelRun0_A.sl.r_74 kernelRun0_A.sl.v1339 kernelRun0_A.sl.v1342
    simp only [View.readAt_eq_ld, Memref.IsWhole.read_unread, readCov_whole, v211_eq, dma0_eq]
    exact amh_20 x0 x1 (WA fh0) r
  refine of_cons (amax_piece (fun r => hid (xr x0 x1 r) (WA fh0)) 19 19 rfl _ _ fun r => ?_) ?_
  · unfold kernelRun0_A.sl.r_65 kernelRun0_A.sl.r_63 kernelRun0_A.sl.r_64 kernelRun0_A.sl.v1222 kernelRun0_A.sl.v1225
    simp only [View.readAt_eq_ld, Memref.IsWhole.read_unread, readCov_whole, v211_eq, dma0_eq]
    exact amh_19 x0 x1 (WA fh0) r
  refine of_cons (amax_piece (fun r => hid (xr x0 x1 r) (WA fh0)) 18 18 rfl _ _ fun r => ?_) ?_
  · unfold kernelRun0_A.sl.r_68 kernelRun0_A.sl.r_63 kernelRun0_A.sl.r_64 kernelRun0_A.sl.v1222 kernelRun0_A.sl.v1225
    simp only [View.readAt_eq_ld, Memref.IsWhole.read_unread, readCov_whole, v211_eq, dma0_eq]
    exact amh_18 x0 x1 (WA fh0) r
  refine of_cons (amax_piece (fun r => hid (xr x0 x1 r) (WA fh0)) 17 17 rfl _ _ fun r => ?_) ?_
  · unfold kernelRun0_A.sl.r_58 kernelRun0_A.sl.v1105 kernelRun0_A.sl.v1108
    simp only [View.readAt_eq_ld, Memref.IsWhole.read_unread, readCov_whole, v211_eq, dma0_eq]
    exact amh_17 x0 x1 (WA fh0) r
  refine of_cons (amax_piece (fun r => hid (xr x0 x1 r) (WA fh0)) 16 16 rfl _ _ fun r => ?_) ?_
  · unfold kernelRun0_A.sl.r_58 kernelRun0_A.sl.v1105 kernelRun0_A.sl.v1108
    simp only [View.readAt_eq_ld, Memref.IsWhole.read_unread, readCov_whole, v211_eq, dma0_eq]
    exact amh_16 x0 x1 (WA fh0) r
  refine of_cons (amax_piece (fun r => hid (xr x0 x1 r) (WA fh0)) 15 15 rfl _ _ fun r => ?_) ?_
  · unfold kernelRun0_A.sl.r_53 kernelRun0_A.sl.v988 kernelRun0_A.sl.v991
    simp only [View.readAt_eq_ld, Memref.IsWhole.read_unread, readCov_whole, v211_eq, dma0_eq]
    exact amh_15 x0 x1 (WA fh0) r
  refine of_cons (amax_piece (fun r => hid (xr x0 x1 r) (WA fh0)) 14 14 rfl _ _ fun r => ?_) ?_
  · unfold kernelRun0_A.sl.r_53 kernelRun0_A.sl.v988 kernelRun0_A.sl.v991
    simp only [View.readAt_eq_ld, Memref.IsWhole.read_unread, readCov_whole, v211_eq, dma0_eq]
    exact amh_14 x0 x1 (WA fh0) r
  refine of_cons (amax_piece (fun r => hid (xr x0 x1 r) (WA fh0)) 13 13 rfl _ _ fun r => ?_) ?_
  · unfold kernelRun0_A.sl.r_49 kernelRun0_A.sl.r_44 kernelRun0_A.sl.r_45 kernelRun0_A.sl.v871 kernelRun0_A.sl.v874
    simp only [View.readAt_eq_ld, Memref.IsWhole.read_unread, readCov_whole, v211_eq, dma0_eq]
    exact amh_13 x0 x1 (WA fh0) r
  refine of_cons (amax_piece (fun r => hid (xr x0 x1 r) (WA fh0)) 12 12 rfl _ _ fun r => ?_) ?_
  · unfold kernelRun0_A.sl.r_44 kernelRun0_A.sl.r_45 kernelRun0_A.sl.v871 kernelRun0_A.sl.v874
    simp only [View.readAt_eq_ld, Memref.IsWhole.read_unread, readCov_whole, v211_eq, dma0_eq]
    exact amh_12 x0 x1 (WA fh0) r
  refine of_cons (amax_piece (fun r => hid (xr x0 x1 r) (WA fh0)) 11 11 rfl _ _ fun r => ?_) ?_
  · unfold kernelRun0_A.sl.r_40 kernelRun0_A.sl.r_39 kernelRun0_A.sl.v754 kernelRun0_A.sl.v757
    simp only [View.readAt_eq_ld, Memref.IsWhole.read_unread, readCov_whole, v211_eq, dma0_eq]
    exact amh_11 x0 x1 (WA fh0) r
  refine of_cons (amax_piece (fun r => hid (xr x0 x1 r) (WA fh0)) 10 10 rfl _ _ fun r => ?_) ?_
  · unfold kernelRun0_A.sl.r_40 kernelRun0_A.sl.r_39 kernelRun0_A.sl.v754 kernelRun0_A.sl.v757
    simp only [View.readAt_eq_ld, Memref.IsWhole.read_unread, readCov_whole, v211_eq, dma0_eq]
    exact amh_10 x0 x1 (WA fh0) r
  refine of_cons (amax_piece (fun r => hid (xr x0 x1 r) (WA fh0)) 9 9 rfl _ _ fun r => ?_) ?_
  · unfold kernelRun0_A.sl.r_35 kernelRun0_A.sl.v637 kernelRun0_A.sl.v640
    simp only [View.readAt_eq_ld, Memref.IsWhole.read_unread, readCov_whole, v211_eq, dma0_eq]
    exact amh_9 x0 x1 (WA fh0) r
  refine of_cons (amax_piece (fun r => hid (xr x0 x1 r) (WA fh0)) 8 8 rfl _ _ fun r => ?_) ?_
  · unfold kernelRun0_A.sl.r_35 kernelRun0_A.sl.v637 kernelRun0_A.sl.v640
    simp only [View.readAt_eq_ld, Memref.IsWhole.read_unread, readCov_whole, v211_eq, dma0_eq]
    exact amh_8 x0 x1 (WA fh0) r
  refine of_cons (amax_piece (fun r => hid (xr x0 x1 r) (WA fh0)) 7 7 rfl _ _ fun r => ?_) ?_
  · unfold kernelRun0_A.sl.r_26 kernelRun0_A.sl.r_29 kernelRun0_A.sl.v523 kernelRun0_A.sl.v520
    simp only [View.readAt_eq_ld, Memref.IsWhole.read_unread, readCov_whole, v211_eq, dma0_eq]
    exact amh_7 x0 x1 (WA fh0) r
  refine of_cons (amax_piece (fun r => hid (xr x0 x1 r) (WA fh0)) 6 6 rfl _ _ fun r => ?_) ?_
  · unfold kernelRun0_A.sl.r_26 kernelRun0_A.sl.r_29 kernelRun0_A.sl.v523 kernelRun0_A.sl.v520
    simp only [View.readAt_eq_ld, Memref.IsWhole.read_unread, readCov_whole, v211_eq, dma0_eq]
    exact amh_6 x0 x1 (WA fh0) r
  refine of_cons (amax_piece (fun r => hid (xr x0 x1 r) (WA fh0)) 5 5 rfl _ _ fun r => ?_) ?_
  · unfold kernelRun0_A.sl.r_19 kernelRun0_A.sl.r_17 kernelRun0_A.sl.r_18 kernelRun0_A.sl.v403 kernelRun0_A.sl.v406
    simp only [View.readAt_eq_ld, Memref.IsWhole.read_unread, readCov_whole, v211_eq, dma0_eq]
    exact amh_5 x0 x1 (WA fh0) r
  refine of_cons (amax_piece (fun r => hid (xr x0 x1 r) (WA fh0)) 4 4 rfl _ _ fun r => ?_) ?_
  · unfold kernelRun0_A.sl.r_22 kernelRun0_A.sl.r_17 kernelRun0_A.sl.r_18 kernelRun0_A.sl.v403 kernelRun0_A.sl.v406
    simp only [View.readAt_eq_ld, Memref.IsWhole.read_unread, readCov_whole, v211_eq, dma0_eq]
    exact amh_4 x0 x1 (WA fh0) r
  refine of_cons (amax_piece (fun r => hid (xr x0 x1 r) (WA fh0)) 3 3 rfl _ _ fun r => ?_) ?_
  · unfold kernelRun0_A.sl.r_11 kernelRun0_A.sl.v288 kernelRun0_A.sl.v291
    simp only [View.readAt_eq_ld, Memref.IsWhole.read_unread, readCov_whole, v211_eq, dma0_eq]
    exact amh_3 x0 x1 (WA fh0) r
  refine of_cons (amax_piece (fun r => hid (xr x0 x1 r) (WA fh0)) 2 2 rfl _ _ fun r => ?_) ?_
  · unfold kernelRun0_A.sl.r_11 kernelRun0_A.sl.v288 kernelRun0_A.sl.v291
    simp only [View.readAt_eq_ld, Memref.IsWhole.read_unread, readCov_whole, v211_eq, dma0_eq]
    exact amh_2 x0 x1 (WA fh0) r
  refine of_cons (amax_piece (fun r => hid (xr x0 x1 r) (WA fh0)) 1 1 rfl _ _ fun r => ?_) ?_
  · unfold kernelRun0_A.sl.r_6 kernelRun0_A.sl.r_5 kernelRun0_A.sl.v212 kernelRun0_A.sl.v215
    simp only [View.readAt_eq_ld, Memref.IsWhole.read_unread, readCov_whole, v211_eq, dma0_eq]
    exact amh_1 x0 x1 (WA fh0) r
  refine of_cons (amax_piece (fun r => hid (xr x0 x1 r) (WA fh0)) 0 0 rfl _ _ fun r => ?_) ?_
  · unfold kernelRun0_A.sl.r_6 kernelRun0_A.sl.r_5 kernelRun0_A.sl.v212 kernelRun0_A.sl.v215
    simp only [View.readAt_eq_ld, Memref.IsWhole.read_unread, readCov_whole, v211_eq, dma0_eq]
    exact amh_0 x0 x1 (WA fh0) r
  exact of_nil _

theorem out6_eq : out0_A_6 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3 = AM (fun r => dgate (xr x0 x1 r) (yr x2 x3 r) (WA fh0) (DA fh1)) := by
  unfold out0_A_6
  rw [View.read_writes_junk_eq_canon]
  funext y
  refine canon_of (G := AM (fun r => dgate (xr x0 x1 r) (yr x2 x3 r) (WA fh0) (DA fh1))) ?_ y (cover0_A_6 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3 y)
  refine of_cons (amax_piece (fun r => dgate (xr x0 x1 r) (yr x2 x3 r) (WA fh0) (DA fh1)) 21 21 rfl _ _ fun r => ?_) ?_
  · unfold kernelRun0_A.sl.r_75 kernelRun0_A.sl.r_71 kernelRun0_A.sl.r_72 kernelRun0_A.sl.r_73 kernelRun0_A.sl.r_74 kernelRun0_A.sl.v1339 kernelRun0_A.sl.v1342 kernelRun0_A.sl.v1345
    simp only [View.readAt_eq_ld, Memref.IsWhole.read_unread, readCov_whole, v211_eq, v217_eq, dma0_eq, dma0_1_eq]
    exact amg_21 x0 x1 x2 x3 (WA fh0) (DA fh1) r
  refine of_cons (amax_piece (fun r => dgate (xr x0 x1 r) (yr x2 x3 r) (WA fh0) (DA fh1)) 20 20 rfl _ _ fun r => ?_) ?_
  · unfold kernelRun0_A.sl.r_77 kernelRun0_A.sl.r_71 kernelRun0_A.sl.r_72 kernelRun0_A.sl.r_73 kernelRun0_A.sl.r_74 kernelRun0_A.sl.v1339 kernelRun0_A.sl.v1342 kernelRun0_A.sl.v1345
    simp only [View.readAt_eq_ld, Memref.IsWhole.read_unread, readCov_whole, v211_eq, v217_eq, dma0_eq, dma0_1_eq]
    exact amg_20 x0 x1 x2 x3 (WA fh0) (DA fh1) r
  refine of_cons (amax_piece (fun r => dgate (xr x0 x1 r) (yr x2 x3 r) (WA fh0) (DA fh1)) 19 19 rfl _ _ fun r => ?_) ?_
  · unfold kernelRun0_A.sl.r_66 kernelRun0_A.sl.r_63 kernelRun0_A.sl.r_64 kernelRun0_A.sl.v1222 kernelRun0_A.sl.v1225 kernelRun0_A.sl.v1228
    simp only [View.readAt_eq_ld, Memref.IsWhole.read_unread, readCov_whole, v217_eq, v211_eq, dma0_eq, dma0_1_eq]
    exact amg_19 x0 x1 x2 x3 (WA fh0) (DA fh1) r
  refine of_cons (amax_piece (fun r => dgate (xr x0 x1 r) (yr x2 x3 r) (WA fh0) (DA fh1)) 18 18 rfl _ _ fun r => ?_) ?_
  · unfold kernelRun0_A.sl.r_66 kernelRun0_A.sl.r_63 kernelRun0_A.sl.r_64 kernelRun0_A.sl.v1222 kernelRun0_A.sl.v1225 kernelRun0_A.sl.v1228
    simp only [View.readAt_eq_ld, Memref.IsWhole.read_unread, readCov_whole, v217_eq, v211_eq, dma0_eq, dma0_1_eq]
    exact amg_18 x0 x1 x2 x3 (WA fh0) (DA fh1) r
  refine of_cons (amax_piece (fun r => dgate (xr x0 x1 r) (yr x2 x3 r) (WA fh0) (DA fh1)) 17 17 rfl _ _ fun r => ?_) ?_
  · unfold kernelRun0_A.sl.r_59 kernelRun0_A.sl.v1105 kernelRun0_A.sl.v1108 kernelRun0_A.sl.v1111
    simp only [View.readAt_eq_ld, Memref.IsWhole.read_unread, readCov_whole, v211_eq, v217_eq, dma0_eq, dma0_1_eq]
    exact amg_17 x0 x1 x2 x3 (WA fh0) (DA fh1) r
  refine of_cons (amax_piece (fun r => dgate (xr x0 x1 r) (yr x2 x3 r) (WA fh0) (DA fh1)) 16 16 rfl _ _ fun r => ?_) ?_
  · unfold kernelRun0_A.sl.r_59 kernelRun0_A.sl.v1105 kernelRun0_A.sl.v1108 kernelRun0_A.sl.v1111
    simp only [View.readAt_eq_ld, Memref.IsWhole.read_unread, readCov_whole, v211_eq, v217_eq, dma0_eq, dma0_1_eq]
    exact amg_16 x0 x1 x2 x3 (WA fh0) (DA fh1) r
  refine of_cons (amax_piece (fun r => dgate (xr x0 x1 r) (yr x2 x3 r) (WA fh0) (DA fh1)) 15 15 rfl _ _ fun r => ?_) ?_
  · unfold kernelRun0_A.sl.r_57 kernelRun0_A.sl.r_54 kernelRun0_A.sl.r_55 kernelRun0_A.sl.v988 kernelRun0_A.sl.v991 kernelRun0_A.sl.v994
    simp only [View.readAt_eq_ld, Memref.IsWhole.read_unread, readCov_whole, v211_eq, v217_eq, dma0_eq, dma0_1_eq]
    exact amg_15 x0 x1 x2 x3 (WA fh0) (DA fh1) r
  refine of_cons (amax_piece (fun r => dgate (xr x0 x1 r) (yr x2 x3 r) (WA fh0) (DA fh1)) 14 14 rfl _ _ fun r => ?_) ?_
  · unfold kernelRun0_A.sl.r_54 kernelRun0_A.sl.r_55 kernelRun0_A.sl.v988 kernelRun0_A.sl.v991 kernelRun0_A.sl.v994
    simp only [View.readAt_eq_ld, Memref.IsWhole.read_unread, readCov_whole, v211_eq, v217_eq, dma0_eq, dma0_1_eq]
    exact amg_14 x0 x1 x2 x3 (WA fh0) (DA fh1) r
  refine of_cons (amax_piece (fun r => dgate (xr x0 x1 r) (yr x2 x3 r) (WA fh0) (DA fh1)) 13 13 rfl _ _ fun r => ?_) ?_
  · unfold kernelRun0_A.sl.r_47 kernelRun0_A.sl.r_44 kernelRun0_A.sl.r_45 kernelRun0_A.sl.r_46 kernelRun0_A.sl.v871 kernelRun0_A.sl.v874 kernelRun0_A.sl.v877
    simp only [View.readAt_eq_ld, Memref.IsWhole.read_unread, readCov_whole, v211_eq, v217_eq, dma0_eq, dma0_1_eq]
    exact amg_13 x0 x1 x2 x3 (WA fh0) (DA fh1) r
  refine of_cons (amax_piece (fun r => dgate (xr x0 x1 r) (yr x2 x3 r) (WA fh0) (DA fh1)) 12 12 rfl _ _ fun r => ?_) ?_
  · unfold kernelRun0_A.sl.r_47 kernelRun0_A.sl.r_44 kernelRun0_A.sl.r_45 kernelRun0_A.sl.r_46 kernelRun0_A.sl.v871 kernelRun0_A.sl.v874 kernelRun0_A.sl.v877
    simp only [View.readAt_eq_ld, Memref.IsWhole.read_unread, readCov_whole, v211_eq, v217_eq, dma0_eq, dma0_1_eq]
    exact amg_12 x0 x1 x2 x3 (WA fh0) (DA fh1) r
  refine of_cons (amax_piece (fun r => dgate (xr x0 x1 r) (yr x2 x3 r) (WA fh0) (DA fh1)) 11 11 rfl _ _ fun r => ?_) ?_
  · unfold kernelRun0_A.sl.r_41 kernelRun0_A.sl.r_39 kernelRun0_A.sl.v754 kernelRun0_A.sl.v757 kernelRun0_A.sl.v760
    simp only [View.readAt_eq_ld, Memref.IsWhole.read_unread, readCov_whole, v211_eq, v217_eq, dma0_eq, dma0_1_eq]
    exact amg_11 x0 x1 x2 x3 (WA fh0) (DA fh1) r
  refine of_cons (amax_piece (fun r => dgate (xr x0 x1 r) (yr x2 x3 r) (WA fh0) (DA fh1)) 10 10 rfl _ _ fun r => ?_) ?_
  · unfold kernelRun0_A.sl.r_41 kernelRun0_A.sl.r_39 kernelRun0_A.sl.v754 kernelRun0_A.sl.v757 kernelRun0_A.sl.v760
    simp only [View.readAt_eq_ld, Memref.IsWhole.read_unread, readCov_whole, v211_eq, v217_eq, dma0_eq, dma0_1_eq]
    exact amg_10 x0 x1 x2 x3 (WA fh0) (DA fh1) r
  refine of_cons (amax_piece (fun r => dgate (xr x0 x1 r) (yr x2 x3 r) (WA fh0) (DA fh1)) 9 9 rfl _ _ fun r => ?_) ?_
  · unfold kernelRun0_A.sl.r_36 kernelRun0_A.sl.v637 kernelRun0_A.sl.v640 kernelRun0_A.sl.v643
    simp only [View.readAt_eq_ld, Memref.IsWhole.read_unread, readCov_whole, v211_eq, v217_eq, dma0_eq, dma0_1_eq]
    exact amg_9 x0 x1 x2 x3 (WA fh0) (DA fh1) r
  refine of_cons (amax_piece (fun r => dgate (xr x0 x1 r) (yr x2 x3 r) (WA fh0) (DA fh1)) 8 8 rfl _ _ fun r => ?_) ?_
  · unfold kernelRun0_A.sl.r_36 kernelRun0_A.sl.v637 kernelRun0_A.sl.v640 kernelRun0_A.sl.v643
    simp only [View.readAt_eq_ld, Memref.IsWhole.read_unread, readCov_whole, v211_eq, v217_eq, dma0_eq, dma0_1_eq]
    exact amg_8 x0 x1 x2 x3 (WA fh0) (DA fh1) r
  refine of_cons (amax_piece (fun r => dgate (xr x0 x1 r) (yr x2 x3 r) (WA fh0) (DA fh1)) 7 7 rfl _ _ fun r => ?_) ?_
  · unfold kernelRun0_A.sl.r_30 kernelRun0_A.sl.r_25 kernelRun0_A.sl.r_26 kernelRun0_A.sl.r_27 kernelRun0_A.sl.r_28 kernelRun0_A.sl.v520 kernelRun0_A.sl.v523 kernelRun0_A.sl.v526
    simp only [View.readAt_eq_ld, Memref.IsWhole.read_unread, readCov_whole, v211_eq, v217_eq, dma0_eq, dma0_1_eq]
    exact amg_7 x0 x1 x2 x3 (WA fh0) (DA fh1) r
  refine of_cons (amax_piece (fun r => dgate (xr x0 x1 r) (yr x2 x3 r) (WA fh0) (DA fh1)) 6 6 rfl _ _ fun r => ?_) ?_
  · unfold kernelRun0_A.sl.r_32 kernelRun0_A.sl.r_25 kernelRun0_A.sl.r_26 kernelRun0_A.sl.r_27 kernelRun0_A.sl.r_28 kernelRun0_A.sl.v520 kernelRun0_A.sl.v523 kernelRun0_A.sl.v526
    simp only [View.readAt_eq_ld, Memref.IsWhole.read_unread, readCov_whole, v211_eq, v217_eq, dma0_eq, dma0_1_eq]
    exact amg_6 x0 x1 x2 x3 (WA fh0) (DA fh1) r
  refine of_cons (amax_piece (fun r => dgate (xr x0 x1 r) (yr x2 x3 r) (WA fh0) (DA fh1)) 5 5 rfl _ _ fun r => ?_) ?_
  · unfold kernelRun0_A.sl.r_20 kernelRun0_A.sl.r_17 kernelRun0_A.sl.r_18 kernelRun0_A.sl.v403 kernelRun0_A.sl.v406 kernelRun0_A.sl.v409
    simp only [View.readAt_eq_ld, Memref.IsWhole.read_unread, readCov_whole, v217_eq, v211_eq, dma0_eq, dma0_1_eq]
    exact amg_5 x0 x1 x2 x3 (WA fh0) (DA fh1) r
  refine of_cons (amax_piece (fun r => dgate (xr x0 x1 r) (yr x2 x3 r) (WA fh0) (DA fh1)) 4 4 rfl _ _ fun r => ?_) ?_
  · unfold kernelRun0_A.sl.r_20 kernelRun0_A.sl.r_17 kernelRun0_A.sl.r_18 kernelRun0_A.sl.v403 kernelRun0_A.sl.v406 kernelRun0_A.sl.v409
    simp only [View.readAt_eq_ld, Memref.IsWhole.read_unread, readCov_whole, v217_eq, v211_eq, dma0_eq, dma0_1_eq]
    exact amg_4 x0 x1 x2 x3 (WA fh0) (DA fh1) r
  refine of_cons (amax_piece (fun r => dgate (xr x0 x1 r) (yr x2 x3 r) (WA fh0) (DA fh1)) 3 3 rfl _ _ fun r => ?_) ?_
  · unfold kernelRun0_A.sl.r_12 kernelRun0_A.sl.v288 kernelRun0_A.sl.v291 kernelRun0_A.sl.v294
    simp only [View.readAt_eq_ld, Memref.IsWhole.read_unread, readCov_whole, v211_eq, v217_eq, dma0_eq, dma0_1_eq]
    exact amg_3 x0 x1 x2 x3 (WA fh0) (DA fh1) r
  refine of_cons (amax_piece (fun r => dgate (xr x0 x1 r) (yr x2 x3 r) (WA fh0) (DA fh1)) 2 2 rfl _ _ fun r => ?_) ?_
  · unfold kernelRun0_A.sl.r_12 kernelRun0_A.sl.v288 kernelRun0_A.sl.v291 kernelRun0_A.sl.v294
    simp only [View.readAt_eq_ld, Memref.IsWhole.read_unread, readCov_whole, v211_eq, v217_eq, dma0_eq, dma0_1_eq]
    exact amg_2 x0 x1 x2 x3 (WA fh0) (DA fh1) r
  refine of_cons (amax_piece (fun r => dgate (xr x0 x1 r) (yr x2 x3 r) (WA fh0) (DA fh1)) 1 1 rfl _ _ fun r => ?_) ?_
  · unfold kernelRun0_A.sl.r_7 kernelRun0_A.sl.r_5 kernelRun0_A.sl.v212 kernelRun0_A.sl.v215 kernelRun0_A.sl.v218
    simp only [View.readAt_eq_ld, Memref.IsWhole.read_unread, readCov_whole, v211_eq, v217_eq, dma0_eq, dma0_1_eq]
    exact amg_1 x0 x1 x2 x3 (WA fh0) (DA fh1) r
  refine of_cons (amax_piece (fun r => dgate (xr x0 x1 r) (yr x2 x3 r) (WA fh0) (DA fh1)) 0 0 rfl _ _ fun r => ?_) ?_
  · unfold kernelRun0_A.sl.r_7 kernelRun0_A.sl.r_5 kernelRun0_A.sl.v212 kernelRun0_A.sl.v215 kernelRun0_A.sl.v218
    simp only [View.readAt_eq_ld, Memref.IsWhole.read_unread, readCov_whole, v211_eq, v217_eq, dma0_eq, dma0_1_eq]
    exact amg_0 x0 x1 x2 x3 (WA fh0) (DA fh1) r
  exact of_nil _

theorem out7_eq : out0_A_7 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3 = AM (fun r => dup (xr x0 x1 r) (yr x2 x3 r) (WA fh0) (DA fh1)) := by
  unfold out0_A_7
  rw [View.read_writes_junk_eq_canon]
  funext y
  refine canon_of (G := AM (fun r => dup (xr x0 x1 r) (yr x2 x3 r) (WA fh0) (DA fh1))) ?_ y (cover0_A_7 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3 y)
  refine of_cons (amax_piece (fun r => dup (xr x0 x1 r) (yr x2 x3 r) (WA fh0) (DA fh1)) 21 21 rfl _ _ fun r => ?_) ?_
  · unfold kernelRun0_A.sl.r_76 kernelRun0_A.sl.r_71 kernelRun0_A.sl.r_73 kernelRun0_A.sl.r_74 kernelRun0_A.sl.v1339 kernelRun0_A.sl.v1345
    simp only [View.readAt_eq_ld, Memref.IsWhole.read_unread, readCov_whole, v211_eq, v217_eq, dma0_eq, dma0_1_eq]
    exact amu_21 x0 x1 x2 x3 (WA fh0) (DA fh1) r
  refine of_cons (amax_piece (fun r => dup (xr x0 x1 r) (yr x2 x3 r) (WA fh0) (DA fh1)) 20 20 rfl _ _ fun r => ?_) ?_
  · unfold kernelRun0_A.sl.r_76 kernelRun0_A.sl.r_71 kernelRun0_A.sl.r_73 kernelRun0_A.sl.r_74 kernelRun0_A.sl.v1339 kernelRun0_A.sl.v1345
    simp only [View.readAt_eq_ld, Memref.IsWhole.read_unread, readCov_whole, v211_eq, v217_eq, dma0_eq, dma0_1_eq]
    exact amu_20 x0 x1 x2 x3 (WA fh0) (DA fh1) r
  refine of_cons (amax_piece (fun r => dup (xr x0 x1 r) (yr x2 x3 r) (WA fh0) (DA fh1)) 19 19 rfl _ _ fun r => ?_) ?_
  · unfold kernelRun0_A.sl.r_67 kernelRun0_A.sl.r_63 kernelRun0_A.sl.v1222 kernelRun0_A.sl.v1228
    simp only [View.readAt_eq_ld, Memref.IsWhole.read_unread, readCov_whole, v217_eq, v211_eq, dma0_eq, dma0_1_eq]
    exact amu_19 x0 x1 x2 x3 (WA fh0) (DA fh1) r
  refine of_cons (amax_piece (fun r => dup (xr x0 x1 r) (yr x2 x3 r) (WA fh0) (DA fh1)) 18 18 rfl _ _ fun r => ?_) ?_
  · unfold kernelRun0_A.sl.r_67 kernelRun0_A.sl.r_63 kernelRun0_A.sl.v1222 kernelRun0_A.sl.v1228
    simp only [View.readAt_eq_ld, Memref.IsWhole.read_unread, readCov_whole, v217_eq, v211_eq, dma0_eq, dma0_1_eq]
    exact amu_18 x0 x1 x2 x3 (WA fh0) (DA fh1) r
  refine of_cons (amax_piece (fun r => dup (xr x0 x1 r) (yr x2 x3 r) (WA fh0) (DA fh1)) 17 17 rfl _ _ fun r => ?_) ?_
  · unfold kernelRun0_A.sl.r_60 kernelRun0_A.sl.v1105 kernelRun0_A.sl.v1111
    simp only [View.readAt_eq_ld, Memref.IsWhole.read_unread, readCov_whole, v211_eq, v217_eq, dma0_eq, dma0_1_eq]
    exact amu_17 x0 x1 x2 x3 (WA fh0) (DA fh1) r
  refine of_cons (amax_piece (fun r => dup (xr x0 x1 r) (yr x2 x3 r) (WA fh0) (DA fh1)) 16 16 rfl _ _ fun r => ?_) ?_
  · unfold kernelRun0_A.sl.r_61 kernelRun0_A.sl.r_60 kernelRun0_A.sl.v1105 kernelRun0_A.sl.v1111
    simp only [View.readAt_eq_ld, Memref.IsWhole.read_unread, readCov_whole, v211_eq, v217_eq, dma0_eq, dma0_1_eq]
    exact amu_16 x0 x1 x2 x3 (WA fh0) (DA fh1) r
  refine of_cons (amax_piece (fun r => dup (xr x0 x1 r) (yr x2 x3 r) (WA fh0) (DA fh1)) 15 15 rfl _ _ fun r => ?_) ?_
  · unfold kernelRun0_A.sl.r_56 kernelRun0_A.sl.r_51 kernelRun0_A.sl.r_52 kernelRun0_A.sl.v994 kernelRun0_A.sl.v988
    simp only [View.readAt_eq_ld, Memref.IsWhole.read_unread, readCov_whole, v217_eq, v211_eq, dma0_1_eq, dma0_eq]
    exact amu_15 x0 x1 x2 x3 (WA fh0) (DA fh1) r
  refine of_cons (amax_piece (fun r => dup (xr x0 x1 r) (yr x2 x3 r) (WA fh0) (DA fh1)) 14 14 rfl _ _ fun r => ?_) ?_
  · unfold kernelRun0_A.sl.r_56 kernelRun0_A.sl.r_51 kernelRun0_A.sl.r_52 kernelRun0_A.sl.v994 kernelRun0_A.sl.v988
    simp only [View.readAt_eq_ld, Memref.IsWhole.read_unread, readCov_whole, v217_eq, v211_eq, dma0_1_eq, dma0_eq]
    exact amu_14 x0 x1 x2 x3 (WA fh0) (DA fh1) r
  refine of_cons (amax_piece (fun r => dup (xr x0 x1 r) (yr x2 x3 r) (WA fh0) (DA fh1)) 13 13 rfl _ _ fun r => ?_) ?_
  · unfold kernelRun0_A.sl.r_48 kernelRun0_A.sl.r_44 kernelRun0_A.sl.r_46 kernelRun0_A.sl.v871 kernelRun0_A.sl.v877
    simp only [View.readAt_eq_ld, Memref.IsWhole.read_unread, readCov_whole, v211_eq, v217_eq, dma0_eq, dma0_1_eq]
    exact amu_13 x0 x1 x2 x3 (WA fh0) (DA fh1) r
  refine of_cons (amax_piece (fun r => dup (xr x0 x1 r) (yr x2 x3 r) (WA fh0) (DA fh1)) 12 12 rfl _ _ fun r => ?_) ?_
  · unfold kernelRun0_A.sl.r_48 kernelRun0_A.sl.r_44 kernelRun0_A.sl.r_46 kernelRun0_A.sl.v871 kernelRun0_A.sl.v877
    simp only [View.readAt_eq_ld, Memref.IsWhole.read_unread, readCov_whole, v211_eq, v217_eq, dma0_eq, dma0_1_eq]
    exact amu_12 x0 x1 x2 x3 (WA fh0) (DA fh1) r
  refine of_cons (amax_piece (fun r => dup (xr x0 x1 r) (yr x2 x3 r) (WA fh0) (DA fh1)) 11 11 rfl _ _ fun r => ?_) ?_
  · unfold kernelRun0_A.sl.r_43 kernelRun0_A.sl.r_42 kernelRun0_A.sl.r_39 kernelRun0_A.sl.v754 kernelRun0_A.sl.v760
    simp only [View.readAt_eq_ld, Memref.IsWhole.read_unread, readCov_whole, v217_eq, v211_eq, dma0_eq, dma0_1_eq]
    exact amu_11 x0 x1 x2 x3 (WA fh0) (DA fh1) r
  refine of_cons (amax_piece (fun r => dup (xr x0 x1 r) (yr x2 x3 r) (WA fh0) (DA fh1)) 10 10 rfl _ _ fun r => ?_) ?_
  · unfold kernelRun0_A.sl.r_42 kernelRun0_A.sl.r_39 kernelRun0_A.sl.v754 kernelRun0_A.sl.v760
    simp only [View.readAt_eq_ld, Memref.IsWhole.read_unread, readCov_whole, v217_eq, v211_eq, dma0_eq, dma0_1_eq]
    exact amu_10 x0 x1 x2 x3 (WA fh0) (DA fh1) r
  refine of_cons (amax_piece (fun r => dup (xr x0 x1 r) (yr x2 x3 r) (WA fh0) (DA fh1)) 9 9 rfl _ _ fun r => ?_) ?_
  · unfold kernelRun0_A.sl.r_37 kernelRun0_A.sl.v637 kernelRun0_A.sl.v643
    simp only [View.readAt_eq_ld, Memref.IsWhole.read_unread, readCov_whole, v211_eq, v217_eq, dma0_eq, dma0_1_eq]
    exact amu_9 x0 x1 x2 x3 (WA fh0) (DA fh1) r
  refine of_cons (amax_piece (fun r => dup (xr x0 x1 r) (yr x2 x3 r) (WA fh0) (DA fh1)) 8 8 rfl _ _ fun r => ?_) ?_
  · unfold kernelRun0_A.sl.r_37 kernelRun0_A.sl.v637 kernelRun0_A.sl.v643
    simp only [View.readAt_eq_ld, Memref.IsWhole.read_unread, readCov_whole, v211_eq, v217_eq, dma0_eq, dma0_1_eq]
    exact amu_8 x0 x1 x2 x3 (WA fh0) (DA fh1) r
  refine of_cons (amax_piece (fun r => dup (xr x0 x1 r) (yr x2 x3 r) (WA fh0) (DA fh1)) 7 7 rfl _ _ fun r => ?_) ?_
  · unfold kernelRun0_A.sl.r_31 kernelRun0_A.sl.r_27 kernelRun0_A.sl.r_29 kernelRun0_A.sl.v526 kernelRun0_A.sl.v520
    simp only [View.readAt_eq_ld, Memref.IsWhole.read_unread, readCov_whole, v217_eq, v211_eq, dma0_1_eq, dma0_eq]
    exact amu_7 x0 x1 x2 x3 (WA fh0) (DA fh1) r
  refine of_cons (amax_piece (fun r => dup (xr x0 x1 r) (yr x2 x3 r) (WA fh0) (DA fh1)) 6 6 rfl _ _ fun r => ?_) ?_
  · unfold kernelRun0_A.sl.r_31 kernelRun0_A.sl.r_27 kernelRun0_A.sl.r_29 kernelRun0_A.sl.v526 kernelRun0_A.sl.v520
    simp only [View.readAt_eq_ld, Memref.IsWhole.read_unread, readCov_whole, v217_eq, v211_eq, dma0_1_eq, dma0_eq]
    exact amu_6 x0 x1 x2 x3 (WA fh0) (DA fh1) r
  refine of_cons (amax_piece (fun r => dup (xr x0 x1 r) (yr x2 x3 r) (WA fh0) (DA fh1)) 5 5 rfl _ _ fun r => ?_) ?_
  · unfold kernelRun0_A.sl.r_21 kernelRun0_A.sl.r_17 kernelRun0_A.sl.v403 kernelRun0_A.sl.v409
    simp only [View.readAt_eq_ld, Memref.IsWhole.read_unread, readCov_whole, v217_eq, v211_eq, dma0_eq, dma0_1_eq]
    exact amu_5 x0 x1 x2 x3 (WA fh0) (DA fh1) r
  refine of_cons (amax_piece (fun r => dup (xr x0 x1 r) (yr x2 x3 r) (WA fh0) (DA fh1)) 4 4 rfl _ _ fun r => ?_) ?_
  · unfold kernelRun0_A.sl.r_21 kernelRun0_A.sl.r_17 kernelRun0_A.sl.v403 kernelRun0_A.sl.v409
    simp only [View.readAt_eq_ld, Memref.IsWhole.read_unread, readCov_whole, v217_eq, v211_eq, dma0_eq, dma0_1_eq]
    exact amu_4 x0 x1 x2 x3 (WA fh0) (DA fh1) r
  refine of_cons (amax_piece (fun r => dup (xr x0 x1 r) (yr x2 x3 r) (WA fh0) (DA fh1)) 3 3 rfl _ _ fun r => ?_) ?_
  · unfold kernelRun0_A.sl.r_13 kernelRun0_A.sl.v288 kernelRun0_A.sl.v294
    simp only [View.readAt_eq_ld, Memref.IsWhole.read_unread, readCov_whole, v211_eq, v217_eq, dma0_eq, dma0_1_eq]
    exact amu_3 x0 x1 x2 x3 (WA fh0) (DA fh1) r
  refine of_cons (amax_piece (fun r => dup (xr x0 x1 r) (yr x2 x3 r) (WA fh0) (DA fh1)) 2 2 rfl _ _ fun r => ?_) ?_
  · unfold kernelRun0_A.sl.r_15 kernelRun0_A.sl.r_13 kernelRun0_A.sl.v288 kernelRun0_A.sl.v294
    simp only [View.readAt_eq_ld, Memref.IsWhole.read_unread, readCov_whole, v211_eq, v217_eq, dma0_eq, dma0_1_eq]
    exact amu_2 x0 x1 x2 x3 (WA fh0) (DA fh1) r
  refine of_cons (amax_piece (fun r => dup (xr x0 x1 r) (yr x2 x3 r) (WA fh0) (DA fh1)) 1 1 rfl _ _ fun r => ?_) ?_
  · unfold kernelRun0_A.sl.r_10 kernelRun0_A.sl.r_8 kernelRun0_A.sl.r_5 kernelRun0_A.sl.v212 kernelRun0_A.sl.v218
    simp only [View.readAt_eq_ld, Memref.IsWhole.read_unread, readCov_whole, v217_eq, v211_eq, dma0_eq, dma0_1_eq]
    exact amu_1 x0 x1 x2 x3 (WA fh0) (DA fh1) r
  refine of_cons (amax_piece (fun r => dup (xr x0 x1 r) (yr x2 x3 r) (WA fh0) (DA fh1)) 0 0 rfl _ _ fun r => ?_) ?_
  · unfold kernelRun0_A.sl.r_8 kernelRun0_A.sl.r_5 kernelRun0_A.sl.v212 kernelRun0_A.sl.v218
    simp only [View.readAt_eq_ld, Memref.IsWhole.read_unread, readCov_whole, v217_eq, v211_eq, dma0_eq, dma0_1_eq]
    exact amu_0 x0 x1 x2 x3 (WA fh0) (DA fh1) r
  exact of_nil _

def tiles2 : List (View.Piece (Elt Ideal) S1024x5632 .f32) := [⟨Rect.unit (s := S1024x5632) ![0, 5376] S1024x256.size inb_S1024x5632_S1024x256_0_5376, fun _ => (0 : ℝ)⟩, ⟨Rect.unit (s := S1024x5632) ![0, 2560] S1024x256.size inb_S1024x5632_S1024x256_0_2560, fun _ => (0 : ℝ)⟩, ⟨Rect.unit (s := S1024x5632) ![0, 5120] S1024x256.size inb_S1024x5632_S1024x256_0_5120, fun _ => (0 : ℝ)⟩, ⟨Rect.unit (s := S1024x5632) ![0, 2304] S1024x256.size inb_S1024x5632_S1024x256_0_2304, fun _ => (0 : ℝ)⟩, ⟨Rect.unit (s := S1024x5632) ![0, 4864] S1024x256.size inb_S1024x5632_S1024x256_0_4864, fun _ => (0 : ℝ)⟩, ⟨Rect.unit (s := S1024x5632) ![0, 2048] S1024x256.size inb_S1024x5632_S1024x256_0_2048, fun _ => (0 : ℝ)⟩, ⟨Rect.unit (s := S1024x5632) ![0, 4608] S1024x256.size inb_S1024x5632_S1024x256_0_4608, fun _ => (0 : ℝ)⟩, ⟨Rect.unit (s := S1024x5632) ![0, 1792] S1024x256.size inb_S1024x5632_S1024x256_0_1792, fun _ => (0 : ℝ)⟩, ⟨Rect.unit (s := S1024x5632) ![0, 4352] S1024x256.size inb_S1024x5632_S1024x256_0_4352, fun _ => (0 : ℝ)⟩, ⟨Rect.unit (s := S1024x5632) ![0, 1536] S1024x256.size inb_S1024x5632_S1024x256_0_1536, fun _ => (0 : ℝ)⟩, ⟨Rect.unit (s := S1024x5632) ![0, 4096] S1024x256.size inb_S1024x5632_S1024x256_0_4096, fun _ => (0 : ℝ)⟩, ⟨Rect.unit (s := S1024x5632) ![0, 1280] S1024x256.size inb_S1024x5632_S1024x256_0_1280, fun _ => (0 : ℝ)⟩, ⟨Rect.unit (s := S1024x5632) ![0, 3840] S1024x256.size inb_S1024x5632_S1024x256_0_3840, fun _ => (0 : ℝ)⟩, ⟨Rect.unit (s := S1024x5632) ![0, 1024] S1024x256.size inb_S1024x5632_S1024x256_0_1024, fun _ => (0 : ℝ)⟩, ⟨Rect.unit (s := S1024x5632) ![0, 3584] S1024x256.size inb_S1024x5632_S1024x256_0_3584, fun _ => (0 : ℝ)⟩, ⟨Rect.unit (s := S1024x5632) ![0, 768] S1024x256.size inb_S1024x5632_S1024x256_0_768, fun _ => (0 : ℝ)⟩, ⟨Rect.unit (s := S1024x5632) ![0, 3328] S1024x256.size inb_S1024x5632_S1024x256_0_3328, fun _ => (0 : ℝ)⟩, ⟨Rect.unit (s := S1024x5632) ![0, 512] S1024x256.size inb_S1024x5632_S1024x256_0_512, fun _ => (0 : ℝ)⟩, ⟨Rect.unit (s := S1024x5632) ![0, 3072] S1024x256.size inb_S1024x5632_S1024x256_0_3072, fun _ => (0 : ℝ)⟩, ⟨Rect.unit (s := S1024x5632) ![0, 256] S1024x256.size inb_S1024x5632_S1024x256_0_256, fun _ => (0 : ℝ)⟩, ⟨Rect.unit (s := S1024x5632) ![0, 2816] S1024x256.size inb_S1024x5632_S1024x256_0_2816, fun _ => (0 : ℝ)⟩, ⟨Rect.unit (s := S1024x5632) ![0, 0] S1024x256.size inb_S1024x5632_S1024x256_0_0, fun _ => (0 : ℝ)⟩]

set_option maxHeartbeats 1000000 in
theorem sout2_eq : sout0_A_2 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3 = AccGU x0 x1 x2 x3 (WA fh0) (DA fh1) (k0_pay3 (F := Ideal)) := by
  unfold sout0_A_2
  rw [View.read_writes_junk_eq_canon]
  funext y
  refine canon_upto (G := AccGU x0 x1 x2 x3 (WA fh0) (DA fh1) (k0_pay3 (F := Ideal))) (L' := [⟨Rect.unit (s := S1024x5632) ![0, 0] S1024x5632.size inb_S1024x5632_S1024x5632_0_0, (k0_pay3 (F := Ideal))⟩]) (Q := tiles2) ?_ y (View.cover_of_tiledL tiles2 S1024x256.size (by rfl) y)
  refine upto_cons (up_piece x0 x1 x2 x3 (WA fh0) (DA fh1) (k0_pay3 (F := Ideal)) 10 5376 rfl _ _ fun k l => ?_) ?_
  · unfold kernelRun0_A.sl.r_80
    simp only [View.readAt_eq_ld, Memref.IsWhole.read_unread, readCov_whole, v1477_eq, v376_eq, v1459_eq]
    exact gu_10 x0 x1 x2 x3 (WA fh0) (DA fh1) _ k l
  refine upto_cons (gate_piece x0 x1 x2 x3 (WA fh0) (DA fh1) (k0_pay3 (F := Ideal)) 10 2560 rfl _ _ fun k l => ?_) ?_
  · simp only [View.readAt_eq_ld, Memref.IsWhole.read_unread, readCov_whole, v1468_eq, v376_eq, v1455_eq]
    exact gg_10 x0 x1 x2 x3 (WA fh0) (DA fh1) _ k l
  refine upto_cons (up_piece x0 x1 x2 x3 (WA fh0) (DA fh1) (k0_pay3 (F := Ideal)) 9 5120 rfl _ _ fun k l => ?_) ?_
  · simp only [View.readAt_eq_ld, Memref.IsWhole.read_unread, readCov_whole, v1437_eq, v376_eq, v1418_eq]
    exact gu_9 x0 x1 x2 x3 (WA fh0) (DA fh1) _ k l
  refine upto_cons (gate_piece x0 x1 x2 x3 (WA fh0) (DA fh1) (k0_pay3 (F := Ideal)) 9 2304 rfl _ _ fun k l => ?_) ?_
  · simp only [View.readAt_eq_ld, Memref.IsWhole.read_unread, readCov_whole, v1428_eq, v376_eq, v1414_eq]
    exact gg_9 x0 x1 x2 x3 (WA fh0) (DA fh1) _ k l
  refine upto_cons (up_piece x0 x1 x2 x3 (WA fh0) (DA fh1) (k0_pay3 (F := Ideal)) 8 4864 rfl _ _ fun k l => ?_) ?_
  · unfold kernelRun0_A.sl.r_70
    simp only [View.readAt_eq_ld, Memref.IsWhole.read_unread, readCov_whole, v1320_eq, v376_eq, v1301_eq]
    exact gu_8 x0 x1 x2 x3 (WA fh0) (DA fh1) _ k l
  refine upto_cons (gate_piece x0 x1 x2 x3 (WA fh0) (DA fh1) (k0_pay3 (F := Ideal)) 8 2048 rfl _ _ fun k l => ?_) ?_
  · simp only [View.readAt_eq_ld, Memref.IsWhole.read_unread, readCov_whole, v1311_eq, v376_eq, v1297_eq]
    exact gg_8 x0 x1 x2 x3 (WA fh0) (DA fh1) _ k l
  refine upto_cons (up_piece x0 x1 x2 x3 (WA fh0) (DA fh1) (k0_pay3 (F := Ideal)) 7 4608 rfl _ _ fun k l => ?_) ?_
  · simp only [View.readAt_eq_ld, Memref.IsWhole.read_unread, readCov_whole, v1203_eq, v376_eq, v1184_eq]
    exact gu_7 x0 x1 x2 x3 (WA fh0) (DA fh1) _ k l
  refine upto_cons (gate_piece x0 x1 x2 x3 (WA fh0) (DA fh1) (k0_pay3 (F := Ideal)) 7 1792 rfl _ _ fun k l => ?_) ?_
  · unfold kernelRun0_A.sl.r_62
    simp only [View.readAt_eq_ld, Memref.IsWhole.read_unread, readCov_whole, v1194_eq, v376_eq, v1180_eq]
    exact gg_7 x0 x1 x2 x3 (WA fh0) (DA fh1) _ k l
  refine upto_cons (up_piece x0 x1 x2 x3 (WA fh0) (DA fh1) (k0_pay3 (F := Ideal)) 6 4352 rfl _ _ fun k l => ?_) ?_
  · simp only [View.readAt_eq_ld, Memref.IsWhole.read_unread, readCov_whole, v1086_eq, v376_eq, v1067_eq]
    exact gu_6 x0 x1 x2 x3 (WA fh0) (DA fh1) _ k l
  refine upto_cons (gate_piece x0 x1 x2 x3 (WA fh0) (DA fh1) (k0_pay3 (F := Ideal)) 6 1536 rfl _ _ fun k l => ?_) ?_
  · simp only [View.readAt_eq_ld, Memref.IsWhole.read_unread, readCov_whole, v1077_eq, v376_eq, v1063_eq]
    exact gg_6 x0 x1 x2 x3 (WA fh0) (DA fh1) _ k l
  refine upto_cons (up_piece x0 x1 x2 x3 (WA fh0) (DA fh1) (k0_pay3 (F := Ideal)) 5 4096 rfl _ _ fun k l => ?_) ?_
  · simp only [View.readAt_eq_ld, Memref.IsWhole.read_unread, readCov_whole, v969_eq, v376_eq, v950_eq]
    exact gu_5 x0 x1 x2 x3 (WA fh0) (DA fh1) _ k l
  refine upto_cons (gate_piece x0 x1 x2 x3 (WA fh0) (DA fh1) (k0_pay3 (F := Ideal)) 5 1280 rfl _ _ fun k l => ?_) ?_
  · simp only [View.readAt_eq_ld, Memref.IsWhole.read_unread, readCov_whole, v960_eq, v376_eq, v946_eq]
    exact gg_5 x0 x1 x2 x3 (WA fh0) (DA fh1) _ k l
  refine upto_cons (up_piece x0 x1 x2 x3 (WA fh0) (DA fh1) (k0_pay3 (F := Ideal)) 4 3840 rfl _ _ fun k l => ?_) ?_
  · simp only [View.readAt_eq_ld, Memref.IsWhole.read_unread, readCov_whole, v852_eq, v376_eq, v833_eq]
    exact gu_4 x0 x1 x2 x3 (WA fh0) (DA fh1) _ k l
  refine upto_cons (gate_piece x0 x1 x2 x3 (WA fh0) (DA fh1) (k0_pay3 (F := Ideal)) 4 1024 rfl _ _ fun k l => ?_) ?_
  · simp only [View.readAt_eq_ld, Memref.IsWhole.read_unread, readCov_whole, v843_eq, v376_eq, v829_eq]
    exact gg_4 x0 x1 x2 x3 (WA fh0) (DA fh1) _ k l
  refine upto_cons (up_piece x0 x1 x2 x3 (WA fh0) (DA fh1) (k0_pay3 (F := Ideal)) 3 3584 rfl _ _ fun k l => ?_) ?_
  · simp only [View.readAt_eq_ld, Memref.IsWhole.read_unread, readCov_whole, v735_eq, v376_eq, v716_eq]
    exact gu_3 x0 x1 x2 x3 (WA fh0) (DA fh1) _ k l
  refine upto_cons (gate_piece x0 x1 x2 x3 (WA fh0) (DA fh1) (k0_pay3 (F := Ideal)) 3 768 rfl _ _ fun k l => ?_) ?_
  · simp only [View.readAt_eq_ld, Memref.IsWhole.read_unread, readCov_whole, v726_eq, v376_eq, v712_eq]
    exact gg_3 x0 x1 x2 x3 (WA fh0) (DA fh1) _ k l
  refine upto_cons (up_piece x0 x1 x2 x3 (WA fh0) (DA fh1) (k0_pay3 (F := Ideal)) 2 3328 rfl _ _ fun k l => ?_) ?_
  · simp only [View.readAt_eq_ld, Memref.IsWhole.read_unread, readCov_whole, v618_eq, v376_eq, v599_eq]
    exact gu_2 x0 x1 x2 x3 (WA fh0) (DA fh1) _ k l
  refine upto_cons (gate_piece x0 x1 x2 x3 (WA fh0) (DA fh1) (k0_pay3 (F := Ideal)) 2 512 rfl _ _ fun k l => ?_) ?_
  · simp only [View.readAt_eq_ld, Memref.IsWhole.read_unread, readCov_whole, v609_eq, v376_eq, v595_eq]
    exact gg_2 x0 x1 x2 x3 (WA fh0) (DA fh1) _ k l
  refine upto_cons (up_piece x0 x1 x2 x3 (WA fh0) (DA fh1) (k0_pay3 (F := Ideal)) 1 3072 rfl _ _ fun k l => ?_) ?_
  · unfold kernelRun0_A.sl.r_24
    simp only [View.readAt_eq_ld, Memref.IsWhole.read_unread, readCov_whole, v501_eq, v376_eq, v482_eq]
    exact gu_1 x0 x1 x2 x3 (WA fh0) (DA fh1) _ k l
  refine upto_cons (gate_piece x0 x1 x2 x3 (WA fh0) (DA fh1) (k0_pay3 (F := Ideal)) 1 256 rfl _ _ fun k l => ?_) ?_
  · simp only [View.readAt_eq_ld, Memref.IsWhole.read_unread, readCov_whole, v492_eq, v376_eq, v478_eq]
    exact gg_1 x0 x1 x2 x3 (WA fh0) (DA fh1) _ k l
  refine upto_cons (up_piece x0 x1 x2 x3 (WA fh0) (DA fh1) (k0_pay3 (F := Ideal)) 0 2816 rfl _ _ fun k l => ?_) ?_
  · simp only [View.readAt_eq_ld, Memref.IsWhole.read_unread, readCov_whole, v384_eq, v376_eq, v367_eq]
    exact gu_0 x0 x1 x2 x3 (WA fh0) (DA fh1) _ k l
  refine upto_cons (gate_piece x0 x1 x2 x3 (WA fh0) (DA fh1) (k0_pay3 (F := Ideal)) 0 0 rfl _ _ fun k l => ?_) ?_
  · unfold kernelRun0_A.sl.r_16
    simp only [View.readAt_eq_ld, Memref.IsWhole.read_unread, readCov_whole, v375_eq, v376_eq, v363_eq]
    exact gg_0 x0 x1 x2 x3 (WA fh0) (DA fh1) _ k l
  exact upto_nil _ _

def tiles3 : List (View.Piece (Elt Ideal) S2816x1024 .f32) := [⟨Rect.unit (s := S2816x1024) ![2560, 0] S256x1024.size inb_S2816x1024_S256x1024_2560_0, fun _ => (0 : ℝ)⟩, ⟨Rect.unit (s := S2816x1024) ![2304, 0] S256x1024.size inb_S2816x1024_S256x1024_2304_0, fun _ => (0 : ℝ)⟩, ⟨Rect.unit (s := S2816x1024) ![2048, 0] S256x1024.size inb_S2816x1024_S256x1024_2048_0, fun _ => (0 : ℝ)⟩, ⟨Rect.unit (s := S2816x1024) ![1792, 0] S256x1024.size inb_S2816x1024_S256x1024_1792_0, fun _ => (0 : ℝ)⟩, ⟨Rect.unit (s := S2816x1024) ![1536, 0] S256x1024.size inb_S2816x1024_S256x1024_1536_0, fun _ => (0 : ℝ)⟩, ⟨Rect.unit (s := S2816x1024) ![1280, 0] S256x1024.size inb_S2816x1024_S256x1024_1280_0, fun _ => (0 : ℝ)⟩, ⟨Rect.unit (s := S2816x1024) ![1024, 0] S256x1024.size inb_S2816x1024_S256x1024_1024_0, fun _ => (0 : ℝ)⟩, ⟨Rect.unit (s := S2816x1024) ![768, 0] S256x1024.size inb_S2816x1024_S256x1024_768_0, fun _ => (0 : ℝ)⟩, ⟨Rect.unit (s := S2816x1024) ![512, 0] S256x1024.size inb_S2816x1024_S256x1024_512_0, fun _ => (0 : ℝ)⟩, ⟨Rect.unit (s := S2816x1024) ![256, 0] S256x1024.size inb_S2816x1024_S256x1024_256_0, fun _ => (0 : ℝ)⟩, ⟨Rect.unit (s := S2816x1024) ![0, 0] S256x1024.size inb_S2816x1024_S256x1024_0_0, fun _ => (0 : ℝ)⟩]

set_option maxHeartbeats 1000000 in
theorem sout3_eq : sout0_A_3 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3 = AccD x0 x1 x2 x3 (WA fh0) (k0_pay4 (F := Ideal)) := by
  unfold sout0_A_3
  rw [View.read_writes_junk_eq_canon]
  funext y
  refine canon_upto (G := AccD x0 x1 x2 x3 (WA fh0) (k0_pay4 (F := Ideal))) (L' := [⟨Rect.unit (s := S2816x1024) ![0, 0] S2816x1024.size inb_S2816x1024_S2816x1024_0_0, (k0_pay4 (F := Ideal))⟩]) (Q := tiles3) ?_ y (View.cover_of_tiledL tiles3 S256x1024.size (by rfl) y)
  refine upto_cons (down_piece x0 x1 x2 x3 (WA fh0) (k0_pay4 (F := Ideal)) 10 2560 rfl _ _ fun l k => ?_) ?_
  · simp only [View.readAt_eq_ld, Memref.IsWhole.read_unread, readCov_whole, v1486_eq, v1487_eq, v1489_eq]
    exact dd_10 x0 x1 x2 x3 (WA fh0) _ l k
  refine upto_cons (down_piece x0 x1 x2 x3 (WA fh0) (k0_pay4 (F := Ideal)) 9 2304 rfl _ _ fun l k => ?_) ?_
  · unfold kernelRun0_A.sl.r_79
    simp only [View.readAt_eq_ld, Memref.IsWhole.read_unread, readCov_whole, v1446_eq, v217_eq, v1447_eq]
    exact dd_9 x0 x1 x2 x3 (WA fh0) _ l k
  refine upto_cons (down_piece x0 x1 x2 x3 (WA fh0) (k0_pay4 (F := Ideal)) 8 2048 rfl _ _ fun l k => ?_) ?_
  · simp only [View.readAt_eq_ld, Memref.IsWhole.read_unread, readCov_whole, v1329_eq, v1330_eq, v217_eq]
    exact dd_8 x0 x1 x2 x3 (WA fh0) _ l k
  refine upto_cons (down_piece x0 x1 x2 x3 (WA fh0) (k0_pay4 (F := Ideal)) 7 1792 rfl _ _ fun l k => ?_) ?_
  · simp only [View.readAt_eq_ld, Memref.IsWhole.read_unread, readCov_whole, v1212_eq, v1213_eq, v217_eq]
    exact dd_7 x0 x1 x2 x3 (WA fh0) _ l k
  refine upto_cons (down_piece x0 x1 x2 x3 (WA fh0) (k0_pay4 (F := Ideal)) 6 1536 rfl _ _ fun l k => ?_) ?_
  · simp only [View.readAt_eq_ld, Memref.IsWhole.read_unread, readCov_whole, v1095_eq, v1096_eq, v217_eq]
    exact dd_6 x0 x1 x2 x3 (WA fh0) _ l k
  refine upto_cons (down_piece x0 x1 x2 x3 (WA fh0) (k0_pay4 (F := Ideal)) 5 1280 rfl _ _ fun l k => ?_) ?_
  · simp only [View.readAt_eq_ld, Memref.IsWhole.read_unread, readCov_whole, v_eq, v979_eq, v217_eq]
    exact dd_5 x0 x1 x2 x3 (WA fh0) _ l k
  refine upto_cons (down_piece x0 x1 x2 x3 (WA fh0) (k0_pay4 (F := Ideal)) 4 1024 rfl _ _ fun l k => ?_) ?_
  · simp only [View.readAt_eq_ld, Memref.IsWhole.read_unread, readCov_whole, v861_eq, v862_eq, v217_eq]
    exact dd_4 x0 x1 x2 x3 (WA fh0) _ l k
  refine upto_cons (down_piece x0 x1 x2 x3 (WA fh0) (k0_pay4 (F := Ideal)) 3 768 rfl _ _ fun l k => ?_) ?_
  · simp only [View.readAt_eq_ld, Memref.IsWhole.read_unread, readCov_whole, v744_eq, v745_eq, v217_eq]
    exact dd_3 x0 x1 x2 x3 (WA fh0) _ l k
  refine upto_cons (down_piece x0 x1 x2 x3 (WA fh0) (k0_pay4 (F := Ideal)) 2 512 rfl _ _ fun l k => ?_) ?_
  · unfold kernelRun0_A.sl.r_34 kernelRun0_A.sl.cst_414
    simp only [View.readAt_eq_ld, Memref.IsWhole.read_unread, readCov_whole, v627_eq, v217_eq, v628_eq]
    exact dd_2 x0 x1 x2 x3 (WA fh0) _ l k
  refine upto_cons (down_piece x0 x1 x2 x3 (WA fh0) (k0_pay4 (F := Ideal)) 1 256 rfl _ _ fun l k => ?_) ?_
  · simp only [View.readAt_eq_ld, Memref.IsWhole.read_unread, readCov_whole, v510_eq, v511_eq, v217_eq]
    exact dd_1 x0 x1 x2 x3 (WA fh0) _ l k
  refine upto_cons (down_piece x0 x1 x2 x3 (WA fh0) (k0_pay4 (F := Ideal)) 0 0 rfl _ _ fun l k => ?_) ?_
  · simp only [View.readAt_eq_ld, Memref.IsWhole.read_unread, readCov_whole, v393_eq, v394_eq, v217_eq]
    exact dd_0 x0 x1 x2 x3 (WA fh0) _ l k
  exact upto_nil _ _

theorem sout0_eq : sout0_A_0 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3 = WA fh0 := by
  unfold sout0_A_0
  rw [View.read_writes_junk_eq_canon]
  exact canon_whole _ _

theorem sout1_eq : sout0_A_1 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 fh0 fh1 fw2 fw3 = DA fh1 := by
  unfold sout0_A_1
  rw [View.read_writes_junk_eq_canon]
  exact canon_whole _ _

end Cert.KernelIdeal.CaseA

end
-- ==== Proof.WordsB.lean ====
/- What the body reads back of its own stores, in one case of its branches. -/
module

public import proofs.«01_k».proof.Proof.BlockBwd
public import proofs.«01_k».proof.Proof.BlockFwd
public import proofs.«01_k».proof.Proof.Pieces
public import proofs.«01_k».proof.Proof.Gen.KernelIdeal.Frame.RunC

@[expose] public section

set_option maxRecDepth 16384

noncomputable section

namespace Cert.KernelIdeal.CaseB

open Cert.KernelIdeal Cert.KernelIdeal.Gen Cert.KernelIdeal.Block Idealize.ShloMosaic Cert.Spec

variable (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole)
  (hc0 : ¬cond0_0 i) (hc1 : ¬cond0_1 i)
  (x0 : Vec Ideal S256x1024 .fp8e4m3) (x1 : Vec Ideal S256x8 .f32) (x2 : Vec Ideal S256x1024 .fp8e5m2) (x3 : Vec Ideal S256x8 .f32)
  (xs0 : Vec Ideal S1024x5632 .bf16) (xs1 : Vec Ideal S2816x1024 .bf16) (xs2 : Vec Ideal S1024x5632 .f32) (xs3 : Vec Ideal S2816x1024 .f32)
  (fh0 : HbBuf0 (F := Ideal) c hbM0_0) (fh1 : HbBuf0 (F := Ideal) c hbM0_1) (fw2 : HbBuf0 (F := Ideal) c hbM0_2) (fw3 : HbBuf0 (F := Ideal) c hbM0_3)

theorem v211_eq : kernelRun0_B.sl.v211 (F := Ideal) c arg1 harg1 arg2 harg2 arg17 x0 x1 = XB x0 x1 := by
  unfold kernelRun0_B.sl.v211 kernelRun0_B.sl.HS4_8 kernelRun0_B.sl.r kernelRun0_B.sl.r_1
  simp only [View.readAt_eq_ld, Memref.IsWhole.read_unread]
  rw [readCov_all _ _ _ (by decide)]
  funext y
  refine canon_of (G := XB x0 x1) ?_ y (View.cover_of_tiled_head _ _ _ (by rfl) y)
  refine of_cons (xb_piece x0 x1 7 896 (by decide) rfl _ _ (fun r l => by unfold_payloads; pointwise [])) ?_
  refine of_cons (xb_piece x0 x1 6 768 (by decide) rfl _ _ (fun r l => by unfold_payloads; pointwise [])) ?_
  refine of_cons (xb_piece x0 x1 5 640 (by decide) rfl _ _ (fun r l => by unfold_payloads; pointwise [])) ?_
  refine of_cons (xb_piece x0 x1 4 512 (by decide) rfl _ _ (fun r l => by unfold_payloads; pointwise [])) ?_
  refine of_cons (xb_piece x0 x1 3 384 (by decide) rfl _ _ (fun r l => by unfold_payloads; pointwise [])) ?_
  refine of_cons (xb_piece x0 x1 2 256 (by decide) rfl _ _ (fun r l => by unfold_payloads; pointwise [])) ?_
  refine of_cons (xb_piece x0 x1 1 128 (by decide) rfl _ _ (fun r l => by unfold_payloads; pointwise [])) ?_
  refine of_cons (xb_piece x0 x1 0 0 (by decide) rfl _ _ (fun r l => by unfold_payloads; pointwise [])) ?_
  exact of_nil _

theorem v217_eq : kernelRun0_B.sl.v217 (F := Ideal) c arg3 harg3 arg4 harg4 arg18 x2 x3 = YB x2 x3 := by
  unfold kernelRun0_B.sl.v217 kernelRun0_B.sl.HS5_8 kernelRun0_B.sl.r_3 kernelRun0_B.sl.r_4
  simp only [View.readAt_eq_ld, Memref.IsWhole.read_unread]
  rw [readCov_all _ _ _ (by decide)]
  funext y
  refine canon_of (G := YB x2 x3) ?_ y (View.cover_of_tiled_head _ _ _ (by rfl) y)
  refine of_cons (yb_piece x2 x3 7 896 (by decide) rfl _ _ (fun r l => by unfold_payloads; pointwise [])) ?_
  refine of_cons (yb_piece x2 x3 6 768 (by decide) rfl _ _ (fun r l => by unfold_payloads; pointwise [])) ?_
  refine of_cons (yb_piece x2 x3 5 640 (by decide) rfl _ _ (fun r l => by unfold_payloads; pointwise [])) ?_
  refine of_cons (yb_piece x2 x3 4 512 (by decide) rfl _ _ (fun r l => by unfold_payloads; pointwise [])) ?_
  refine of_cons (yb_piece x2 x3 3 384 (by decide) rfl _ _ (fun r l => by unfold_payloads; pointwise [])) ?_
  refine of_cons (yb_piece x2 x3 2 256 (by decide) rfl _ _ (fun r l => by unfold_payloads; pointwise [])) ?_
  refine of_cons (yb_piece x2 x3 1 128 (by decide) rfl _ _ (fun r l => by unfold_payloads; pointwise [])) ?_
  refine of_cons (yb_piece x2 x3 0 0 (by decide) rfl _ _ (fun r l => by unfold_payloads; pointwise [])) ?_
  exact of_nil _

theorem v376_eq : kernelRun0_B.sl.v376 (F := Ideal) c arg1 harg1 arg2 harg2 arg19 x0 x1 = XT x0 x1 := by
  unfold kernelRun0_B.sl.v376 kernelRun0_B.sl.HS6_8 kernelRun0_B.sl.r_2 kernelRun0_B.sl.r kernelRun0_B.sl.r_1
  simp only [View.readAt_eq_ld, Memref.IsWhole.read_unread]
  rw [readCov_all _ _ _ (by decide)]
  funext y
  refine canon_of (G := XT x0 x1) ?_ y (View.cover_of_tiled_head _ _ _ (by rfl) y)
  refine of_cons (xt_piece x0 x1 7 896 (by decide) rfl _ _ (fun l r => by unfold_payloads; pointwise [])) ?_
  refine of_cons (xt_piece x0 x1 6 768 (by decide) rfl _ _ (fun l r => by unfold_payloads; pointwise [])) ?_
  refine of_cons (xt_piece x0 x1 5 640 (by decide) rfl _ _ (fun l r => by unfold_payloads; pointwise [])) ?_
  refine of_cons (xt_piece x0 x1 4 512 (by decide) rfl _ _ (fun l r => by unfold_payloads; pointwise [])) ?_
  refine of_cons (xt_piece x0 x1 3 384 (by decide) rfl _ _ (fun l r => by unfold_payloads; pointwise [])) ?_
  refine of_cons (xt_piece x0 x1 2 256 (by decide) rfl _ _ (fun l r => by unfold_payloads; pointwise [])) ?_
  refine of_cons (xt_piece x0 x1 1 128 (by decide) rfl _ _ (fun l r => by unfold_payloads; pointwise [])) ?_
  refine of_cons (xt_piece x0 x1 0 0 (by decide) rfl _ _ (fun l r => by unfold_payloads; pointwise [])) ?_
  exact of_nil _

theorem v1489_eq : kernelRun0_B.sl.v1489 (F := Ideal) c arg3 harg3 arg4 harg4 arg18 x2 x3 = YB x2 x3 := v217_eq c arg3 harg3 arg4 harg4 arg18 x2 x3

theorem v363_eq : kernelRun0_B.sl.v363 (F := Ideal) c arg1 harg1 arg2 harg2 arg3 harg3 arg4 harg4 arg13 harg13 arg14 harg14 arg17 arg18 arg22 x0 x1 x2 x3 xs0 xs1 = DG3 x0 x1 x2 x3 xs0 xs1 0 := by
  unfold kernelRun0_B.sl.v363 kernelRun0_B.sl.HS9_2
  rw [View.readCov_skip _ _ _ _ _ (by decide)]
  refine (View.readCov_cons_toLoadRect _ _ _ _).trans ?_
  unfold kernelRun0_B.sl.r_5
  simp only [v211_eq, v217_eq, View.readAt_eq_ld, Memref.IsWhole.read_unread]
  exact dg_0 x0 x1 x2 x3 xs0 xs1

theorem v367_eq : kernelRun0_B.sl.v367 (F := Ideal) c arg1 harg1 arg2 harg2 arg3 harg3 arg4 harg4 arg13 harg13 arg14 harg14 arg17 arg18 arg23 x0 x1 x2 x3 xs0 xs1 = DU3 x0 x1 x2 x3 xs0 xs1 0 := by
  unfold kernelRun0_B.sl.v367 kernelRun0_B.sl.HS10_2
  rw [View.readCov_skip _ _ _ _ _ (by decide)]
  refine (View.readCov_cons_toLoadRect _ _ _ _).trans ?_
  unfold kernelRun0_B.sl.r_8 kernelRun0_B.sl.r_5
  simp only [v211_eq, v217_eq, View.readAt_eq_ld, Memref.IsWhole.read_unread]
  exact du_0 x0 x1 x2 x3 xs0 xs1

theorem v394_eq : kernelRun0_B.sl.v394 (F := Ideal) c arg1 harg1 arg2 harg2 arg13 harg13 arg17 arg21 x0 x1 xs0 = H3 x0 x1 xs0 0 := by
  unfold kernelRun0_B.sl.v394 kernelRun0_B.sl.HS8_2
  rw [View.readCov_skip _ _ _ _ _ (by decide)]
  refine (View.readCov_cons_toLoadRect _ _ _ _).trans ?_
  unfold kernelRun0_B.sl.r_5
  simp only [v211_eq, v217_eq, View.readAt_eq_ld, Memref.IsWhole.read_unread]
  exact h_0 x0 x1 xs0

theorem v478_eq : kernelRun0_B.sl.v478 (F := Ideal) c arg1 harg1 arg2 harg2 arg3 harg3 arg4 harg4 arg13 harg13 arg14 harg14 arg17 arg18 arg22 x0 x1 x2 x3 xs0 xs1 = DG3 x0 x1 x2 x3 xs0 xs1 1 := by
  unfold kernelRun0_B.sl.v478 kernelRun0_B.sl.HS9_3 kernelRun0_B.sl.HS9_2
  rw [View.readCov_skip _ _ _ _ _ (by decide)]
  refine (View.readCov_cons_toLoadRect _ _ _ _).trans ?_
  unfold kernelRun0_B.sl.r_12
  simp only [v211_eq, v217_eq, View.readAt_eq_ld, Memref.IsWhole.read_unread]
  exact dg_1 x0 x1 x2 x3 xs0 xs1

theorem v482_eq : kernelRun0_B.sl.v482 (F := Ideal) c arg1 harg1 arg2 harg2 arg3 harg3 arg4 harg4 arg13 harg13 arg14 harg14 arg17 arg18 arg23 x0 x1 x2 x3 xs0 xs1 = DU3 x0 x1 x2 x3 xs0 xs1 1 := by
  unfold kernelRun0_B.sl.v482 kernelRun0_B.sl.HS10_3 kernelRun0_B.sl.HS10_2
  rw [View.readCov_skip _ _ _ _ _ (by decide)]
  refine (View.readCov_cons_toLoadRect _ _ _ _).trans ?_
  unfold kernelRun0_B.sl.r_13
  simp only [v211_eq, v217_eq, View.readAt_eq_ld, Memref.IsWhole.read_unread]
  exact du_1 x0 x1 x2 x3 xs0 xs1

theorem v511_eq : kernelRun0_B.sl.v511 (F := Ideal) c arg1 harg1 arg2 harg2 arg13 harg13 arg17 arg21 x0 x1 xs0 = H3 x0 x1 xs0 1 := by
  unfold kernelRun0_B.sl.v511 kernelRun0_B.sl.HS8_3 kernelRun0_B.sl.HS8_2
  rw [View.readCov_skip _ _ _ _ _ (by decide)]
  refine (View.readCov_cons_toLoadRect _ _ _ _).trans ?_
  unfold kernelRun0_B.sl.r_14
  simp only [v211_eq, v217_eq, View.readAt_eq_ld, Memref.IsWhole.read_unread]
  exact h_1 x0 x1 xs0

theorem v595_eq : kernelRun0_B.sl.v595 (F := Ideal) c arg1 harg1 arg2 harg2 arg3 harg3 arg4 harg4 arg13 harg13 arg14 harg14 arg17 arg18 arg22 x0 x1 x2 x3 xs0 xs1 = DG3 x0 x1 x2 x3 xs0 xs1 2 := by
  unfold kernelRun0_B.sl.v595 kernelRun0_B.sl.HS9_4 kernelRun0_B.sl.HS9_3
  rw [View.readCov_skip _ _ _ _ _ (by decide)]
  refine (View.readCov_cons_toLoadRect _ _ _ _).trans ?_
  unfold kernelRun0_B.sl.r_17 kernelRun0_B.sl.r_18
  simp only [v211_eq, v217_eq, View.readAt_eq_ld, Memref.IsWhole.read_unread]
  exact dg_2 x0 x1 x2 x3 xs0 xs1

theorem v599_eq : kernelRun0_B.sl.v599 (F := Ideal) c arg1 harg1 arg2 harg2 arg3 harg3 arg4 harg4 arg13 harg13 arg14 harg14 arg17 arg18 arg23 x0 x1 x2 x3 xs0 xs1 = DU3 x0 x1 x2 x3 xs0 xs1 2 := by
  unfold kernelRun0_B.sl.v599 kernelRun0_B.sl.HS10_4 kernelRun0_B.sl.HS10_3
  rw [View.readCov_skip _ _ _ _ _ (by decide)]
  refine (View.readCov_cons_toLoadRect _ _ _ _).trans ?_
  unfold kernelRun0_B.sl.r_17
  simp only [v211_eq, v217_eq, View.readAt_eq_ld, Memref.IsWhole.read_unread]
  exact du_2 x0 x1 x2 x3 xs0 xs1

theorem v628_eq : kernelRun0_B.sl.v628 (F := Ideal) c arg1 harg1 arg2 harg2 arg13 harg13 arg17 arg21 x0 x1 xs0 = H3 x0 x1 xs0 2 := by
  unfold kernelRun0_B.sl.v628 kernelRun0_B.sl.HS8_4 kernelRun0_B.sl.HS8_3
  rw [View.readCov_skip _ _ _ _ _ (by decide)]
  refine (View.readCov_cons_toLoadRect _ _ _ _).trans ?_
  unfold kernelRun0_B.sl.r_17 kernelRun0_B.sl.r_18
  simp only [v211_eq, v217_eq, View.readAt_eq_ld, Memref.IsWhole.read_unread]
  exact h_2 x0 x1 xs0

theorem v712_eq : kernelRun0_B.sl.v712 (F := Ideal) c arg1 harg1 arg2 harg2 arg3 harg3 arg4 harg4 arg13 harg13 arg14 harg14 arg17 arg18 arg22 x0 x1 x2 x3 xs0 xs1 = DG3 x0 x1 x2 x3 xs0 xs1 3 := by
  unfold kernelRun0_B.sl.v712 kernelRun0_B.sl.HS9_5 kernelRun0_B.sl.HS9_4
  rw [View.readCov_skip _ _ _ _ _ (by decide)]
  refine (View.readCov_cons_toLoadRect _ _ _ _).trans ?_
  unfold kernelRun0_B.sl.r_25 kernelRun0_B.sl.r_26 kernelRun0_B.sl.r_27 kernelRun0_B.sl.r_28
  simp only [v211_eq, v217_eq, View.readAt_eq_ld, Memref.IsWhole.read_unread]
  exact dg_3 x0 x1 x2 x3 xs0 xs1

theorem v716_eq : kernelRun0_B.sl.v716 (F := Ideal) c arg1 harg1 arg2 harg2 arg3 harg3 arg4 harg4 arg13 harg13 arg14 harg14 arg17 arg18 arg23 x0 x1 x2 x3 xs0 xs1 = DU3 x0 x1 x2 x3 xs0 xs1 3 := by
  unfold kernelRun0_B.sl.v716 kernelRun0_B.sl.HS10_5 kernelRun0_B.sl.HS10_4
  rw [View.readCov_skip _ _ _ _ _ (by decide)]
  refine (View.readCov_cons_toLoadRect _ _ _ _).trans ?_
  unfold kernelRun0_B.sl.r_27 kernelRun0_B.sl.r_29
  simp only [v211_eq, v217_eq, View.readAt_eq_ld, Memref.IsWhole.read_unread]
  exact du_3 x0 x1 x2 x3 xs0 xs1

theorem v745_eq : kernelRun0_B.sl.v745 (F := Ideal) c arg1 harg1 arg2 harg2 arg13 harg13 arg17 arg21 x0 x1 xs0 = H3 x0 x1 xs0 3 := by
  unfold kernelRun0_B.sl.v745 kernelRun0_B.sl.HS8_5 kernelRun0_B.sl.HS8_4
  rw [View.readCov_skip _ _ _ _ _ (by decide)]
  refine (View.readCov_cons_toLoadRect _ _ _ _).trans ?_
  unfold kernelRun0_B.sl.r_26 kernelRun0_B.sl.r_29
  simp only [v211_eq, v217_eq, View.readAt_eq_ld, Memref.IsWhole.read_unread]
  exact h_3 x0 x1 xs0

theorem v829_eq : kernelRun0_B.sl.v829 (F := Ideal) c arg1 harg1 arg2 harg2 arg3 harg3 arg4 harg4 arg13 harg13 arg14 harg14 arg17 arg18 arg22 x0 x1 x2 x3 xs0 xs1 = DG3 x0 x1 x2 x3 xs0 xs1 4 := by
  unfold kernelRun0_B.sl.v829 kernelRun0_B.sl.HS9_6 kernelRun0_B.sl.HS9_5
  rw [View.readCov_skip _ _ _ _ _ (by decide)]
  refine (View.readCov_cons_toLoadRect _ _ _ _).trans ?_
  unfold kernelRun0_B.sl.r_36
  simp only [v211_eq, v217_eq, View.readAt_eq_ld, Memref.IsWhole.read_unread]
  exact dg_4 x0 x1 x2 x3 xs0 xs1

theorem v833_eq : kernelRun0_B.sl.v833 (F := Ideal) c arg1 harg1 arg2 harg2 arg3 harg3 arg4 harg4 arg13 harg13 arg14 harg14 arg17 arg18 arg23 x0 x1 x2 x3 xs0 xs1 = DU3 x0 x1 x2 x3 xs0 xs1 4 := by
  unfold kernelRun0_B.sl.v833 kernelRun0_B.sl.HS10_6 kernelRun0_B.sl.HS10_5
  rw [View.readCov_skip _ _ _ _ _ (by decide)]
  refine (View.readCov_cons_toLoadRect _ _ _ _).trans ?_
  unfold kernelRun0_B.sl.r_37
  simp only [v211_eq, v217_eq, View.readAt_eq_ld, Memref.IsWhole.read_unread]
  exact du_4 x0 x1 x2 x3 xs0 xs1

theorem v862_eq : kernelRun0_B.sl.v862 (F := Ideal) c arg1 harg1 arg2 harg2 arg13 harg13 arg17 arg21 x0 x1 xs0 = H3 x0 x1 xs0 4 := by
  unfold kernelRun0_B.sl.v862 kernelRun0_B.sl.HS8_6 kernelRun0_B.sl.HS8_5
  rw [View.readCov_skip _ _ _ _ _ (by decide)]
  refine (View.readCov_cons_toLoadRect _ _ _ _).trans ?_
  unfold kernelRun0_B.sl.r_38
  simp only [v211_eq, v217_eq, View.readAt_eq_ld, Memref.IsWhole.read_unread]
  exact h_4 x0 x1 xs0

theorem v946_eq : kernelRun0_B.sl.v946 (F := Ideal) c arg1 harg1 arg2 harg2 arg3 harg3 arg4 harg4 arg13 harg13 arg14 harg14 arg17 arg18 arg22 x0 x1 x2 x3 xs0 xs1 = DG3 x0 x1 x2 x3 xs0 xs1 5 := by
  unfold kernelRun0_B.sl.v946 kernelRun0_B.sl.HS9_7 kernelRun0_B.sl.HS9_6
  rw [View.readCov_skip _ _ _ _ _ (by decide)]
  refine (View.readCov_cons_toLoadRect _ _ _ _).trans ?_
  unfold kernelRun0_B.sl.r_39
  simp only [v211_eq, v217_eq, View.readAt_eq_ld, Memref.IsWhole.read_unread]
  exact dg_5 x0 x1 x2 x3 xs0 xs1

theorem v950_eq : kernelRun0_B.sl.v950 (F := Ideal) c arg1 harg1 arg2 harg2 arg3 harg3 arg4 harg4 arg13 harg13 arg14 harg14 arg17 arg18 arg23 x0 x1 x2 x3 xs0 xs1 = DU3 x0 x1 x2 x3 xs0 xs1 5 := by
  unfold kernelRun0_B.sl.v950 kernelRun0_B.sl.HS10_7 kernelRun0_B.sl.HS10_6
  rw [View.readCov_skip _ _ _ _ _ (by decide)]
  refine (View.readCov_cons_toLoadRect _ _ _ _).trans ?_
  unfold kernelRun0_B.sl.r_42 kernelRun0_B.sl.r_39
  simp only [v211_eq, v217_eq, View.readAt_eq_ld, Memref.IsWhole.read_unread]
  exact du_5 x0 x1 x2 x3 xs0 xs1

theorem v979_eq : kernelRun0_B.sl.v979 (F := Ideal) c arg1 harg1 arg2 harg2 arg13 harg13 arg17 arg21 x0 x1 xs0 = H3 x0 x1 xs0 5 := by
  unfold kernelRun0_B.sl.v979 kernelRun0_B.sl.HS8_7 kernelRun0_B.sl.HS8_6
  rw [View.readCov_skip _ _ _ _ _ (by decide)]
  refine (View.readCov_cons_toLoadRect _ _ _ _).trans ?_
  unfold kernelRun0_B.sl.r_39
  simp only [v211_eq, v217_eq, View.readAt_eq_ld, Memref.IsWhole.read_unread]
  exact h_5 x0 x1 xs0

theorem v1063_eq : kernelRun0_B.sl.v1063 (F := Ideal) c arg1 harg1 arg2 harg2 arg3 harg3 arg4 harg4 arg13 harg13 arg14 harg14 arg17 arg18 arg22 x0 x1 x2 x3 xs0 xs1 = DG3 x0 x1 x2 x3 xs0 xs1 6 := by
  unfold kernelRun0_B.sl.v1063 kernelRun0_B.sl.HS9_8 kernelRun0_B.sl.HS9_7
  rw [View.readCov_skip _ _ _ _ _ (by decide)]
  refine (View.readCov_cons_toLoadRect _ _ _ _).trans ?_
  unfold kernelRun0_B.sl.r_44 kernelRun0_B.sl.r_45 kernelRun0_B.sl.r_46
  simp only [v211_eq, v217_eq, View.readAt_eq_ld, Memref.IsWhole.read_unread]
  exact dg_6 x0 x1 x2 x3 xs0 xs1

theorem v1067_eq : kernelRun0_B.sl.v1067 (F := Ideal) c arg1 harg1 arg2 harg2 arg3 harg3 arg4 harg4 arg13 harg13 arg14 harg14 arg17 arg18 arg23 x0 x1 x2 x3 xs0 xs1 = DU3 x0 x1 x2 x3 xs0 xs1 6 := by
  unfold kernelRun0_B.sl.v1067 kernelRun0_B.sl.HS10_8 kernelRun0_B.sl.HS10_7
  rw [View.readCov_skip _ _ _ _ _ (by decide)]
  refine (View.readCov_cons_toLoadRect _ _ _ _).trans ?_
  unfold kernelRun0_B.sl.r_44 kernelRun0_B.sl.r_46
  simp only [v211_eq, v217_eq, View.readAt_eq_ld, Memref.IsWhole.read_unread]
  exact du_6 x0 x1 x2 x3 xs0 xs1

theorem v1096_eq : kernelRun0_B.sl.v1096 (F := Ideal) c arg1 harg1 arg2 harg2 arg13 harg13 arg17 arg21 x0 x1 xs0 = H3 x0 x1 xs0 6 := by
  unfold kernelRun0_B.sl.v1096 kernelRun0_B.sl.HS8_8 kernelRun0_B.sl.HS8_7
  rw [View.readCov_skip _ _ _ _ _ (by decide)]
  refine (View.readCov_cons_toLoadRect _ _ _ _).trans ?_
  unfold kernelRun0_B.sl.r_44 kernelRun0_B.sl.r_45
  simp only [v211_eq, v217_eq, View.readAt_eq_ld, Memref.IsWhole.read_unread]
  exact h_6 x0 x1 xs0

theorem v1180_eq : kernelRun0_B.sl.v1180 (F := Ideal) c arg1 harg1 arg2 harg2 arg3 harg3 arg4 harg4 arg13 harg13 arg14 harg14 arg17 arg18 arg22 x0 x1 x2 x3 xs0 xs1 = DG3 x0 x1 x2 x3 xs0 xs1 7 := by
  unfold kernelRun0_B.sl.v1180 kernelRun0_B.sl.HS9_9 kernelRun0_B.sl.HS9_8
  rw [View.readCov_skip _ _ _ _ _ (by decide)]
  refine (View.readCov_cons_toLoadRect _ _ _ _).trans ?_
  unfold kernelRun0_B.sl.r_54 kernelRun0_B.sl.r_55
  simp only [v211_eq, v217_eq, View.readAt_eq_ld, Memref.IsWhole.read_unread]
  exact dg_7 x0 x1 x2 x3 xs0 xs1

theorem v1184_eq : kernelRun0_B.sl.v1184 (F := Ideal) c arg1 harg1 arg2 harg2 arg3 harg3 arg4 harg4 arg13 harg13 arg14 harg14 arg17 arg18 arg23 x0 x1 x2 x3 xs0 xs1 = DU3 x0 x1 x2 x3 xs0 xs1 7 := by
  unfold kernelRun0_B.sl.v1184 kernelRun0_B.sl.HS10_9 kernelRun0_B.sl.HS10_8
  rw [View.readCov_skip _ _ _ _ _ (by decide)]
  refine (View.readCov_cons_toLoadRect _ _ _ _).trans ?_
  unfold kernelRun0_B.sl.r_51 kernelRun0_B.sl.r_52
  simp only [v211_eq, v217_eq, View.readAt_eq_ld, Memref.IsWhole.read_unread]
  exact du_7 x0 x1 x2 x3 xs0 xs1

theorem v1213_eq : kernelRun0_B.sl.v1213 (F := Ideal) c arg1 harg1 arg2 harg2 arg13 harg13 arg17 arg21 x0 x1 xs0 = H3 x0 x1 xs0 7 := by
  unfold kernelRun0_B.sl.v1213 kernelRun0_B.sl.HS8_9 kernelRun0_B.sl.HS8_8
  rw [View.readCov_skip _ _ _ _ _ (by decide)]
  refine (View.readCov_cons_toLoadRect _ _ _ _).trans ?_
  unfold kernelRun0_B.sl.r_53
  simp only [v211_eq, v217_eq, View.readAt_eq_ld, Memref.IsWhole.read_unread]
  exact h_7 x0 x1 xs0

theorem v1297_eq : kernelRun0_B.sl.v1297 (F := Ideal) c arg1 harg1 arg2 harg2 arg3 harg3 arg4 harg4 arg13 harg13 arg14 harg14 arg17 arg18 arg22 x0 x1 x2 x3 xs0 xs1 = DG3 x0 x1 x2 x3 xs0 xs1 8 := by
  unfold kernelRun0_B.sl.v1297 kernelRun0_B.sl.HS9_10 kernelRun0_B.sl.HS9_9
  rw [View.readCov_skip _ _ _ _ _ (by decide)]
  refine (View.readCov_cons_toLoadRect _ _ _ _).trans ?_
  unfold kernelRun0_B.sl.r_59
  simp only [v211_eq, v217_eq, View.readAt_eq_ld, Memref.IsWhole.read_unread]
  exact dg_8 x0 x1 x2 x3 xs0 xs1

theorem v1301_eq : kernelRun0_B.sl.v1301 (F := Ideal) c arg1 harg1 arg2 harg2 arg3 harg3 arg4 harg4 arg13 harg13 arg14 harg14 arg17 arg18 arg23 x0 x1 x2 x3 xs0 xs1 = DU3 x0 x1 x2 x3 xs0 xs1 8 := by
  unfold kernelRun0_B.sl.v1301 kernelRun0_B.sl.HS10_10 kernelRun0_B.sl.HS10_9
  rw [View.readCov_skip _ _ _ _ _ (by decide)]
  refine (View.readCov_cons_toLoadRect _ _ _ _).trans ?_
  unfold kernelRun0_B.sl.r_60
  simp only [v211_eq, v217_eq, View.readAt_eq_ld, Memref.IsWhole.read_unread]
  exact du_8 x0 x1 x2 x3 xs0 xs1

theorem v1330_eq : kernelRun0_B.sl.v1330 (F := Ideal) c arg1 harg1 arg2 harg2 arg13 harg13 arg17 arg21 x0 x1 xs0 = H3 x0 x1 xs0 8 := by
  unfold kernelRun0_B.sl.v1330 kernelRun0_B.sl.HS8_10 kernelRun0_B.sl.HS8_9
  rw [View.readCov_skip _ _ _ _ _ (by decide)]
  refine (View.readCov_cons_toLoadRect _ _ _ _).trans ?_
  simp only [v211_eq, v217_eq, View.readAt_eq_ld, Memref.IsWhole.read_unread]
  exact h_8 x0 x1 xs0

theorem v1414_eq : kernelRun0_B.sl.v1414 (F := Ideal) c arg1 harg1 arg2 harg2 arg3 harg3 arg4 harg4 arg13 harg13 arg14 harg14 arg17 arg18 arg22 x0 x1 x2 x3 xs0 xs1 = DG3 x0 x1 x2 x3 xs0 xs1 9 := by
  unfold kernelRun0_B.sl.v1414 kernelRun0_B.sl.HS9_11 kernelRun0_B.sl.HS9_10
  rw [View.readCov_skip _ _ _ _ _ (by decide)]
  refine (View.readCov_cons_toLoadRect _ _ _ _).trans ?_
  unfold kernelRun0_B.sl.r_63 kernelRun0_B.sl.r_64
  simp only [v211_eq, v217_eq, View.readAt_eq_ld, Memref.IsWhole.read_unread]
  exact dg_9 x0 x1 x2 x3 xs0 xs1

theorem v1418_eq : kernelRun0_B.sl.v1418 (F := Ideal) c arg1 harg1 arg2 harg2 arg3 harg3 arg4 harg4 arg13 harg13 arg14 harg14 arg17 arg18 arg23 x0 x1 x2 x3 xs0 xs1 = DU3 x0 x1 x2 x3 xs0 xs1 9 := by
  unfold kernelRun0_B.sl.v1418 kernelRun0_B.sl.HS10_11 kernelRun0_B.sl.HS10_10
  rw [View.readCov_skip _ _ _ _ _ (by decide)]
  refine (View.readCov_cons_toLoadRect _ _ _ _).trans ?_
  unfold kernelRun0_B.sl.r_63
  simp only [v211_eq, v217_eq, View.readAt_eq_ld, Memref.IsWhole.read_unread]
  exact du_9 x0 x1 x2 x3 xs0 xs1

theorem v1447_eq : kernelRun0_B.sl.v1447 (F := Ideal) c arg1 harg1 arg2 harg2 arg13 harg13 arg17 arg21 x0 x1 xs0 = H3 x0 x1 xs0 9 := by
  unfold kernelRun0_B.sl.v1447 kernelRun0_B.sl.HS8_11 kernelRun0_B.sl.HS8_10
  rw [View.readCov_skip _ _ _ _ _ (by decide)]
  refine (View.readCov_cons_toLoadRect _ _ _ _).trans ?_
  unfold kernelRun0_B.sl.r_63 kernelRun0_B.sl.r_64
  simp only [v211_eq, v217_eq, View.readAt_eq_ld, Memref.IsWhole.read_unread]
  exact h_9 x0 x1 xs0

theorem v1455_eq : kernelRun0_B.sl.v1455 (F := Ideal) c arg1 harg1 arg2 harg2 arg3 harg3 arg4 harg4 arg13 harg13 arg14 harg14 arg17 arg18 arg22 x0 x1 x2 x3 xs0 xs1 = DG3 x0 x1 x2 x3 xs0 xs1 10 := by
  unfold kernelRun0_B.sl.v1455 kernelRun0_B.sl.HS9_11
  refine (View.readCov_cons_toLoadRect _ _ _ _).trans ?_
  unfold kernelRun0_B.sl.r_71 kernelRun0_B.sl.r_72 kernelRun0_B.sl.r_73 kernelRun0_B.sl.r_74
  simp only [v211_eq, v217_eq, View.readAt_eq_ld, Memref.IsWhole.read_unread]
  exact dg_10 x0 x1 x2 x3 xs0 xs1

theorem v1459_eq : kernelRun0_B.sl.v1459 (F := Ideal) c arg1 harg1 arg2 harg2 arg3 harg3 arg4 harg4 arg13 harg13 arg14 harg14 arg17 arg18 arg23 x0 x1 x2 x3 xs0 xs1 = DU3 x0 x1 x2 x3 xs0 xs1 10 := by
  unfold kernelRun0_B.sl.v1459 kernelRun0_B.sl.HS10_11
  refine (View.readCov_cons_toLoadRect _ _ _ _).trans ?_
  unfold kernelRun0_B.sl.r_71 kernelRun0_B.sl.r_73 kernelRun0_B.sl.r_74
  simp only [v211_eq, v217_eq, View.readAt_eq_ld, Memref.IsWhole.read_unread]
  exact du_10 x0 x1 x2 x3 xs0 xs1

theorem v1487_eq : kernelRun0_B.sl.v1487 (F := Ideal) c arg1 harg1 arg2 harg2 arg13 harg13 arg17 arg21 x0 x1 xs0 = H3 x0 x1 xs0 10 := by
  unfold kernelRun0_B.sl.v1487 kernelRun0_B.sl.HS8_11
  refine (View.readCov_cons_toLoadRect _ _ _ _).trans ?_
  unfold kernelRun0_B.sl.r_71 kernelRun0_B.sl.r_72 kernelRun0_B.sl.r_74
  simp only [v211_eq, v217_eq, View.readAt_eq_ld, Memref.IsWhole.read_unread]
  exact h_10 x0 x1 xs0

theorem v487_eq : kernelRun0_B.sl.v487 (F := Ideal) c arg1 harg1 arg2 harg2 arg3 harg3 arg4 harg4 arg13 harg13 arg14 harg14 arg17 arg18 arg20 arg22 arg23 x0 x1 x2 x3 xs0 xs1 = DXA x0 x1 x2 x3 xs0 xs1 0 := by
  unfold kernelRun0_B.sl.v487 kernelRun0_B.sl.HS7_1
  refine (View.readCov_cons_toLoadRect _ _ _ _).trans ?_
  simp only [View.readAt_eq_ld, Memref.IsWhole.read_unread, v363_eq, v367_eq]
  exact dxa_0 x0 x1 x2 x3 xs0 xs1

theorem v604_eq : kernelRun0_B.sl.v604 (F := Ideal) c arg1 harg1 arg2 harg2 arg3 harg3 arg4 harg4 arg13 harg13 arg14 harg14 arg17 arg18 arg20 arg22 arg23 x0 x1 x2 x3 xs0 xs1 = DXA x0 x1 x2 x3 xs0 xs1 1 := by
  unfold kernelRun0_B.sl.v604 kernelRun0_B.sl.HS7_2 kernelRun0_B.sl.r_23
  refine (View.readCov_cons_toLoadRect _ _ _ _).trans ?_
  simp only [View.readAt_eq_ld, Memref.IsWhole.read_unread, v482_eq, v487_eq, v478_eq]
  exact dxa_1 x0 x1 x2 x3 xs0 xs1

theorem v721_eq : kernelRun0_B.sl.v721 (F := Ideal) c arg1 harg1 arg2 harg2 arg3 harg3 arg4 harg4 arg13 harg13 arg14 harg14 arg17 arg18 arg20 arg22 arg23 x0 x1 x2 x3 xs0 xs1 = DXA x0 x1 x2 x3 xs0 xs1 2 := by
  unfold kernelRun0_B.sl.v721 kernelRun0_B.sl.HS7_3 kernelRun0_B.sl.r_33
  refine (View.readCov_cons_toLoadRect _ _ _ _).trans ?_
  simp only [View.readAt_eq_ld, Memref.IsWhole.read_unread, v604_eq, v595_eq, v599_eq]
  exact dxa_2 x0 x1 x2 x3 xs0 xs1

theorem v838_eq : kernelRun0_B.sl.v838 (F := Ideal) c arg1 harg1 arg2 harg2 arg3 harg3 arg4 harg4 arg13 harg13 arg14 harg14 arg17 arg18 arg20 arg22 arg23 x0 x1 x2 x3 xs0 xs1 = DXA x0 x1 x2 x3 xs0 xs1 3 := by
  unfold kernelRun0_B.sl.v838 kernelRun0_B.sl.HS7_4
  refine (View.readCov_cons_toLoadRect _ _ _ _).trans ?_
  simp only [View.readAt_eq_ld, Memref.IsWhole.read_unread, v712_eq, v716_eq, v721_eq]
  exact dxa_3 x0 x1 x2 x3 xs0 xs1

theorem v955_eq : kernelRun0_B.sl.v955 (F := Ideal) c arg1 harg1 arg2 harg2 arg3 harg3 arg4 harg4 arg13 harg13 arg14 harg14 arg17 arg18 arg20 arg22 arg23 x0 x1 x2 x3 xs0 xs1 = DXA x0 x1 x2 x3 xs0 xs1 4 := by
  unfold kernelRun0_B.sl.v955 kernelRun0_B.sl.HS7_5
  refine (View.readCov_cons_toLoadRect _ _ _ _).trans ?_
  simp only [View.readAt_eq_ld, Memref.IsWhole.read_unread, v829_eq, v833_eq, v838_eq]
  exact dxa_4 x0 x1 x2 x3 xs0 xs1

theorem v1072_eq : kernelRun0_B.sl.v1072 (F := Ideal) c arg1 harg1 arg2 harg2 arg3 harg3 arg4 harg4 arg13 harg13 arg14 harg14 arg17 arg18 arg20 arg22 arg23 x0 x1 x2 x3 xs0 xs1 = DXA x0 x1 x2 x3 xs0 xs1 5 := by
  unfold kernelRun0_B.sl.v1072 kernelRun0_B.sl.HS7_6 kernelRun0_B.sl.r_50
  refine (View.readCov_cons_toLoadRect _ _ _ _).trans ?_
  simp only [View.readAt_eq_ld, Memref.IsWhole.read_unread, v950_eq, v955_eq, v946_eq]
  exact dxa_5 x0 x1 x2 x3 xs0 xs1

theorem v1189_eq : kernelRun0_B.sl.v1189 (F := Ideal) c arg1 harg1 arg2 harg2 arg3 harg3 arg4 harg4 arg13 harg13 arg14 harg14 arg17 arg18 arg20 arg22 arg23 x0 x1 x2 x3 xs0 xs1 = DXA x0 x1 x2 x3 xs0 xs1 6 := by
  unfold kernelRun0_B.sl.v1189 kernelRun0_B.sl.HS7_7
  refine (View.readCov_cons_toLoadRect _ _ _ _).trans ?_
  simp only [View.readAt_eq_ld, Memref.IsWhole.read_unread, v1063_eq, v1067_eq, v1072_eq]
  exact dxa_6 x0 x1 x2 x3 xs0 xs1

theorem v1306_eq : kernelRun0_B.sl.v1306 (F := Ideal) c arg1 harg1 arg2 harg2 arg3 harg3 arg4 harg4 arg13 harg13 arg14 harg14 arg17 arg18 arg20 arg22 arg23 x0 x1 x2 x3 xs0 xs1 = DXA x0 x1 x2 x3 xs0 xs1 7 := by
  unfold kernelRun0_B.sl.v1306 kernelRun0_B.sl.HS7_8
  refine (View.readCov_cons_toLoadRect _ _ _ _).trans ?_
  simp only [View.readAt_eq_ld, Memref.IsWhole.read_unread, v1180_eq, v1184_eq, v1189_eq]
  exact dxa_7 x0 x1 x2 x3 xs0 xs1

theorem v1423_eq : kernelRun0_B.sl.v1423 (F := Ideal) c arg1 harg1 arg2 harg2 arg3 harg3 arg4 harg4 arg13 harg13 arg14 harg14 arg17 arg18 arg20 arg22 arg23 x0 x1 x2 x3 xs0 xs1 = DXA x0 x1 x2 x3 xs0 xs1 8 := by
  unfold kernelRun0_B.sl.v1423 kernelRun0_B.sl.HS7_9 kernelRun0_B.sl.r_69
  refine (View.readCov_cons_toLoadRect _ _ _ _).trans ?_
  simp only [View.readAt_eq_ld, Memref.IsWhole.read_unread, v1301_eq, v1306_eq, v1297_eq]
  exact dxa_8 x0 x1 x2 x3 xs0 xs1

theorem v1464_eq : kernelRun0_B.sl.v1464 (F := Ideal) c arg1 harg1 arg2 harg2 arg3 harg3 arg4 harg4 arg13 harg13 arg14 harg14 arg17 arg18 arg20 arg22 arg23 x0 x1 x2 x3 xs0 xs1 = DXA x0 x1 x2 x3 xs0 xs1 9 := by
  unfold kernelRun0_B.sl.v1464 kernelRun0_B.sl.HS7_10 kernelRun0_B.sl.r_78
  refine (View.readCov_cons_toLoadRect _ _ _ _).trans ?_
  simp only [View.readAt_eq_ld, Memref.IsWhole.read_unread, v1423_eq, v1414_eq, v1418_eq]
  exact dxa_9 x0 x1 x2 x3 xs0 xs1

end Cert.KernelIdeal.CaseB

end
-- ==== Proof.OutsB.lean ====
/- What one point leaves in each output block and in the two accumulators, in one case of its branches. -/
module

public import proofs.«01_k».proof.Proof.WordsB
public import proofs.«01_k».proof.Proof.BlockAmax
public import proofs.«01_k».proof.Proof.RunOuts

@[expose] public section

set_option maxRecDepth 16384

noncomputable section

namespace Cert.KernelIdeal.CaseB

open Cert.KernelIdeal Cert.KernelIdeal.Gen Cert.KernelIdeal.Block Idealize.ShloMosaic Cert.Spec

variable (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole)
  (hc0 : ¬cond0_0 i) (hc1 : ¬cond0_1 i)
  (x0 : Vec Ideal S256x1024 .fp8e4m3) (x1 : Vec Ideal S256x8 .f32) (x2 : Vec Ideal S256x1024 .fp8e5m2) (x3 : Vec Ideal S256x8 .f32)
  (xs0 : Vec Ideal S1024x5632 .bf16) (xs1 : Vec Ideal S2816x1024 .bf16) (xs2 : Vec Ideal S1024x5632 .f32) (xs3 : Vec Ideal S2816x1024 .f32)
  (fh0 : HbBuf0 (F := Ideal) c hbM0_0) (fh1 : HbBuf0 (F := Ideal) c hbM0_1) (fw2 : HbBuf0 (F := Ideal) c hbM0_2) (fw3 : HbBuf0 (F := Ideal) c hbM0_3)

/-- The gradient of the activations this point writes. -/
theorem out4_eq : out0_B_4 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = DXO x0 x1 x2 x3 xs0 xs1 := by
  unfold out0_B_4
  rw [View.read_writes_junk_eq_canon]
  funext y
  refine canon_of (G := DXO x0 x1 x2 x3 xs0 xs1) ?_ y (cover0_B_4 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 y)
  refine of_cons ?_ (of_nil _)
  refine dx_piece x0 x1 x2 x3 xs0 xs1 _ _ ?_
  simp only [View.readAt_eq_ld, Memref.IsWhole.read_unread, v1455_eq, v1459_eq, v1464_eq]
  exact dxa_10 x0 x1 x2 x3 xs0 xs1

theorem out5_eq : out0_B_5 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = AM (fun r => hid (xr x0 x1 r) xs0) := by
  unfold out0_B_5
  rw [View.read_writes_junk_eq_canon]
  funext y
  refine canon_of (G := AM (fun r => hid (xr x0 x1 r) xs0)) ?_ y (cover0_B_5 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 y)
  refine of_cons (amax_piece (fun r => hid (xr x0 x1 r) xs0) 21 21 rfl _ _ fun r => ?_) ?_
  · unfold kernelRun0_B.sl.r_71 kernelRun0_B.sl.r_72 kernelRun0_B.sl.r_74
    simp only [View.readAt_eq_ld, Memref.IsWhole.read_unread, v211_eq]
    exact amh_21 x0 x1 xs0 r
  refine of_cons (amax_piece (fun r => hid (xr x0 x1 r) xs0) 20 20 rfl _ _ fun r => ?_) ?_
  · unfold kernelRun0_B.sl.r_71 kernelRun0_B.sl.r_72 kernelRun0_B.sl.r_74
    simp only [View.readAt_eq_ld, Memref.IsWhole.read_unread, v211_eq]
    exact amh_20 x0 x1 xs0 r
  refine of_cons (amax_piece (fun r => hid (xr x0 x1 r) xs0) 19 19 rfl _ _ fun r => ?_) ?_
  · unfold kernelRun0_B.sl.r_65 kernelRun0_B.sl.r_63 kernelRun0_B.sl.r_64
    simp only [View.readAt_eq_ld, Memref.IsWhole.read_unread, v211_eq]
    exact amh_19 x0 x1 xs0 r
  refine of_cons (amax_piece (fun r => hid (xr x0 x1 r) xs0) 18 18 rfl _ _ fun r => ?_) ?_
  · unfold kernelRun0_B.sl.r_68 kernelRun0_B.sl.r_63 kernelRun0_B.sl.r_64
    simp only [View.readAt_eq_ld, Memref.IsWhole.read_unread, v211_eq]
    exact amh_18 x0 x1 xs0 r
  refine of_cons (amax_piece (fun r => hid (xr x0 x1 r) xs0) 17 17 rfl _ _ fun r => ?_) ?_
  · unfold kernelRun0_B.sl.r_58
    simp only [View.readAt_eq_ld, Memref.IsWhole.read_unread, v211_eq]
    exact amh_17 x0 x1 xs0 r
  refine of_cons (amax_piece (fun r => hid (xr x0 x1 r) xs0) 16 16 rfl _ _ fun r => ?_) ?_
  · unfold kernelRun0_B.sl.r_58
    simp only [View.readAt_eq_ld, Memref.IsWhole.read_unread, v211_eq]
    exact amh_16 x0 x1 xs0 r
  refine of_cons (amax_piece (fun r => hid (xr x0 x1 r) xs0) 15 15 rfl _ _ fun r => ?_) ?_
  · unfold kernelRun0_B.sl.r_53
    simp only [View.readAt_eq_ld, Memref.IsWhole.read_unread, v211_eq]
    exact amh_15 x0 x1 xs0 r
  refine of_cons (amax_piece (fun r => hid (xr x0 x1 r) xs0) 14 14 rfl _ _ fun r => ?_) ?_
  · unfold kernelRun0_B.sl.r_53
    simp only [View.readAt_eq_ld, Memref.IsWhole.read_unread, v211_eq]
    exact amh_14 x0 x1 xs0 r
  refine of_cons (amax_piece (fun r => hid (xr x0 x1 r) xs0) 13 13 rfl _ _ fun r => ?_) ?_
  · unfold kernelRun0_B.sl.r_49 kernelRun0_B.sl.r_44 kernelRun0_B.sl.r_45
    simp only [View.readAt_eq_ld, Memref.IsWhole.read_unread, v211_eq]
    exact amh_13 x0 x1 xs0 r
  refine of_cons (amax_piece (fun r => hid (xr x0 x1 r) xs0) 12 12 rfl _ _ fun r => ?_) ?_
  · unfold kernelRun0_B.sl.r_44 kernelRun0_B.sl.r_45
    simp only [View.readAt_eq_ld, Memref.IsWhole.read_unread, v211_eq]
    exact amh_12 x0 x1 xs0 r
  refine of_cons (amax_piece (fun r => hid (xr x0 x1 r) xs0) 11 11 rfl _ _ fun r => ?_) ?_
  · unfold kernelRun0_B.sl.r_40 kernelRun0_B.sl.r_39
    simp only [View.readAt_eq_ld, Memref.IsWhole.read_unread, v211_eq]
    exact amh_11 x0 x1 xs0 r
  refine of_cons (amax_piece (fun r => hid (xr x0 x1 r) xs0) 10 10 rfl _ _ fun r => ?_) ?_
  · unfold kernelRun0_B.sl.r_40 kernelRun0_B.sl.r_39
    simp only [View.readAt_eq_ld, Memref.IsWhole.read_unread, v211_eq]
    exact amh_10 x0 x1 xs0 r
  refine of_cons (amax_piece (fun r => hid (xr x0 x1 r) xs0) 9 9 rfl _ _ fun r => ?_) ?_
  · unfold kernelRun0_B.sl.r_35
    simp only [View.readAt_eq_ld, Memref.IsWhole.read_unread, v211_eq]
    exact amh_9 x0 x1 xs0 r
  refine of_cons (amax_piece (fun r => hid (xr x0 x1 r) xs0) 8 8 rfl _ _ fun r => ?_) ?_
  · unfold kernelRun0_B.sl.r_35
    simp only [View.readAt_eq_ld, Memref.IsWhole.read_unread, v211_eq]
    exact amh_8 x0 x1 xs0 r
  refine of_cons (amax_piece (fun r => hid (xr x0 x1 r) xs0) 7 7 rfl _ _ fun r => ?_) ?_
  · unfold kernelRun0_B.sl.r_26 kernelRun0_B.sl.r_29
    simp only [View.readAt_eq_ld, Memref.IsWhole.read_unread, v211_eq]
    exact amh_7 x0 x1 xs0 r
  refine of_cons (amax_piece (fun r => hid (xr x0 x1 r) xs0) 6 6 rfl _ _ fun r => ?_) ?_
  · unfold kernelRun0_B.sl.r_26 kernelRun0_B.sl.r_29
    simp only [View.readAt_eq_ld, Memref.IsWhole.read_unread, v211_eq]
    exact amh_6 x0 x1 xs0 r
  refine of_cons (amax_piece (fun r => hid (xr x0 x1 r) xs0) 5 5 rfl _ _ fun r => ?_) ?_
  · unfold kernelRun0_B.sl.r_19 kernelRun0_B.sl.r_17 kernelRun0_B.sl.r_18
    simp only [View.readAt_eq_ld, Memref.IsWhole.read_unread, v211_eq]
    exact amh_5 x0 x1 xs0 r
  refine of_cons (amax_piece (fun r => hid (xr x0 x1 r) xs0) 4 4 rfl _ _ fun r => ?_) ?_
  · unfold kernelRun0_B.sl.r_22 kernelRun0_B.sl.r_17 kernelRun0_B.sl.r_18
    simp only [View.readAt_eq_ld, Memref.IsWhole.read_unread, v211_eq]
    exact amh_4 x0 x1 xs0 r
  refine of_cons (amax_piece (fun r => hid (xr x0 x1 r) xs0) 3 3 rfl _ _ fun r => ?_) ?_
  · unfold kernelRun0_B.sl.r_11
    simp only [View.readAt_eq_ld, Memref.IsWhole.read_unread, v211_eq]
    exact amh_3 x0 x1 xs0 r
  refine of_cons (amax_piece (fun r => hid (xr x0 x1 r) xs0) 2 2 rfl _ _ fun r => ?_) ?_
  · unfold kernelRun0_B.sl.r_11
    simp only [View.readAt_eq_ld, Memref.IsWhole.read_unread, v211_eq]
    exact amh_2 x0 x1 xs0 r
  refine of_cons (amax_piece (fun r => hid (xr x0 x1 r) xs0) 1 1 rfl _ _ fun r => ?_) ?_
  · unfold kernelRun0_B.sl.r_6 kernelRun0_B.sl.r_5
    simp only [View.readAt_eq_ld, Memref.IsWhole.read_unread, v211_eq]
    exact amh_1 x0 x1 xs0 r
  refine of_cons (amax_piece (fun r => hid (xr x0 x1 r) xs0) 0 0 rfl _ _ fun r => ?_) ?_
  · unfold kernelRun0_B.sl.r_6 kernelRun0_B.sl.r_5
    simp only [View.readAt_eq_ld, Memref.IsWhole.read_unread, v211_eq]
    exact amh_0 x0 x1 xs0 r
  exact of_nil _

theorem out6_eq : out0_B_6 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = AM (fun r => dgate (xr x0 x1 r) (yr x2 x3 r) xs0 xs1) := by
  unfold out0_B_6
  rw [View.read_writes_junk_eq_canon]
  funext y
  refine canon_of (G := AM (fun r => dgate (xr x0 x1 r) (yr x2 x3 r) xs0 xs1)) ?_ y (cover0_B_6 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 y)
  refine of_cons (amax_piece (fun r => dgate (xr x0 x1 r) (yr x2 x3 r) xs0 xs1) 21 21 rfl _ _ fun r => ?_) ?_
  · unfold kernelRun0_B.sl.r_75 kernelRun0_B.sl.r_71 kernelRun0_B.sl.r_72 kernelRun0_B.sl.r_73 kernelRun0_B.sl.r_74
    simp only [View.readAt_eq_ld, Memref.IsWhole.read_unread, v211_eq, v217_eq]
    exact amg_21 x0 x1 x2 x3 xs0 xs1 r
  refine of_cons (amax_piece (fun r => dgate (xr x0 x1 r) (yr x2 x3 r) xs0 xs1) 20 20 rfl _ _ fun r => ?_) ?_
  · unfold kernelRun0_B.sl.r_77 kernelRun0_B.sl.r_71 kernelRun0_B.sl.r_72 kernelRun0_B.sl.r_73 kernelRun0_B.sl.r_74
    simp only [View.readAt_eq_ld, Memref.IsWhole.read_unread, v211_eq, v217_eq]
    exact amg_20 x0 x1 x2 x3 xs0 xs1 r
  refine of_cons (amax_piece (fun r => dgate (xr x0 x1 r) (yr x2 x3 r) xs0 xs1) 19 19 rfl _ _ fun r => ?_) ?_
  · unfold kernelRun0_B.sl.r_66 kernelRun0_B.sl.r_63 kernelRun0_B.sl.r_64
    simp only [View.readAt_eq_ld, Memref.IsWhole.read_unread, v217_eq, v211_eq]
    exact amg_19 x0 x1 x2 x3 xs0 xs1 r
  refine of_cons (amax_piece (fun r => dgate (xr x0 x1 r) (yr x2 x3 r) xs0 xs1) 18 18 rfl _ _ fun r => ?_) ?_
  · unfold kernelRun0_B.sl.r_66 kernelRun0_B.sl.r_63 kernelRun0_B.sl.r_64
    simp only [View.readAt_eq_ld, Memref.IsWhole.read_unread, v217_eq, v211_eq]
    exact amg_18 x0 x1 x2 x3 xs0 xs1 r
  refine of_cons (amax_piece (fun r => dgate (xr x0 x1 r) (yr x2 x3 r) xs0 xs1) 17 17 rfl _ _ fun r => ?_) ?_
  · unfold kernelRun0_B.sl.r_59
    simp only [View.readAt_eq_ld, Memref.IsWhole.read_unread, v211_eq, v217_eq]
    exact amg_17 x0 x1 x2 x3 xs0 xs1 r
  refine of_cons (amax_piece (fun r => dgate (xr x0 x1 r) (yr x2 x3 r) xs0 xs1) 16 16 rfl _ _ fun r => ?_) ?_
  · unfold kernelRun0_B.sl.r_59
    simp only [View.readAt_eq_ld, Memref.IsWhole.read_unread, v211_eq, v217_eq]
    exact amg_16 x0 x1 x2 x3 xs0 xs1 r
  refine of_cons (amax_piece (fun r => dgate (xr x0 x1 r) (yr x2 x3 r) xs0 xs1) 15 15 rfl _ _ fun r => ?_) ?_
  · unfold kernelRun0_B.sl.r_57 kernelRun0_B.sl.r_54 kernelRun0_B.sl.r_55
    simp only [View.readAt_eq_ld, Memref.IsWhole.read_unread, v211_eq, v217_eq]
    exact amg_15 x0 x1 x2 x3 xs0 xs1 r
  refine of_cons (amax_piece (fun r => dgate (xr x0 x1 r) (yr x2 x3 r) xs0 xs1) 14 14 rfl _ _ fun r => ?_) ?_
  · unfold kernelRun0_B.sl.r_54 kernelRun0_B.sl.r_55
    simp only [View.readAt_eq_ld, Memref.IsWhole.read_unread, v211_eq, v217_eq]
    exact amg_14 x0 x1 x2 x3 xs0 xs1 r
  refine of_cons (amax_piece (fun r => dgate (xr x0 x1 r) (yr x2 x3 r) xs0 xs1) 13 13 rfl _ _ fun r => ?_) ?_
  · unfold kernelRun0_B.sl.r_47 kernelRun0_B.sl.r_44 kernelRun0_B.sl.r_45 kernelRun0_B.sl.r_46
    simp only [View.readAt_eq_ld, Memref.IsWhole.read_unread, v211_eq, v217_eq]
    exact amg_13 x0 x1 x2 x3 xs0 xs1 r
  refine of_cons (amax_piece (fun r => dgate (xr x0 x1 r) (yr x2 x3 r) xs0 xs1) 12 12 rfl _ _ fun r => ?_) ?_
  · unfold kernelRun0_B.sl.r_47 kernelRun0_B.sl.r_44 kernelRun0_B.sl.r_45 kernelRun0_B.sl.r_46
    simp only [View.readAt_eq_ld, Memref.IsWhole.read_unread, v211_eq, v217_eq]
    exact amg_12 x0 x1 x2 x3 xs0 xs1 r
  refine of_cons (amax_piece (fun r => dgate (xr x0 x1 r) (yr x2 x3 r) xs0 xs1) 11 11 rfl _ _ fun r => ?_) ?_
  · unfold kernelRun0_B.sl.r_41 kernelRun0_B.sl.r_39
    simp only [View.readAt_eq_ld, Memref.IsWhole.read_unread, v211_eq, v217_eq]
    exact amg_11 x0 x1 x2 x3 xs0 xs1 r
  refine of_cons (amax_piece (fun r => dgate (xr x0 x1 r) (yr x2 x3 r) xs0 xs1) 10 10 rfl _ _ fun r => ?_) ?_
  · unfold kernelRun0_B.sl.r_41 kernelRun0_B.sl.r_39
    simp only [View.readAt_eq_ld, Memref.IsWhole.read_unread, v211_eq, v217_eq]
    exact amg_10 x0 x1 x2 x3 xs0 xs1 r
  refine of_cons (amax_piece (fun r => dgate (xr x0 x1 r) (yr x2 x3 r) xs0 xs1) 9 9 rfl _ _ fun r => ?_) ?_
  · unfold kernelRun0_B.sl.r_36
    simp only [View.readAt_eq_ld, Memref.IsWhole.read_unread, v211_eq, v217_eq]
    exact amg_9 x0 x1 x2 x3 xs0 xs1 r
  refine of_cons (amax_piece (fun r => dgate (xr x0 x1 r) (yr x2 x3 r) xs0 xs1) 8 8 rfl _ _ fun r => ?_) ?_
  · unfold kernelRun0_B.sl.r_36
    simp only [View.readAt_eq_ld, Memref.IsWhole.read_unread, v211_eq, v217_eq]
    exact amg_8 x0 x1 x2 x3 xs0 xs1 r
  refine of_cons (amax_piece (fun r => dgate (xr x0 x1 r) (yr x2 x3 r) xs0 xs1) 7 7 rfl _ _ fun r => ?_) ?_
  · unfold kernelRun0_B.sl.r_30 kernelRun0_B.sl.r_25 kernelRun0_B.sl.r_26 kernelRun0_B.sl.r_27 kernelRun0_B.sl.r_28
    simp only [View.readAt_eq_ld, Memref.IsWhole.read_unread, v211_eq, v217_eq]
    exact amg_7 x0 x1 x2 x3 xs0 xs1 r
  refine of_cons (amax_piece (fun r => dgate (xr x0 x1 r) (yr x2 x3 r) xs0 xs1) 6 6 rfl _ _ fun r => ?_) ?_
  · unfold kernelRun0_B.sl.r_32 kernelRun0_B.sl.r_25 kernelRun0_B.sl.r_26 kernelRun0_B.sl.r_27 kernelRun0_B.sl.r_28
    simp only [View.readAt_eq_ld, Memref.IsWhole.read_unread, v211_eq, v217_eq]
    exact amg_6 x0 x1 x2 x3 xs0 xs1 r
  refine of_cons (amax_piece (fun r => dgate (xr x0 x1 r) (yr x2 x3 r) xs0 xs1) 5 5 rfl _ _ fun r => ?_) ?_
  · unfold kernelRun0_B.sl.r_20 kernelRun0_B.sl.r_17 kernelRun0_B.sl.r_18
    simp only [View.readAt_eq_ld, Memref.IsWhole.read_unread, v217_eq, v211_eq]
    exact amg_5 x0 x1 x2 x3 xs0 xs1 r
  refine of_cons (amax_piece (fun r => dgate (xr x0 x1 r) (yr x2 x3 r) xs0 xs1) 4 4 rfl _ _ fun r => ?_) ?_
  · unfold kernelRun0_B.sl.r_20 kernelRun0_B.sl.r_17 kernelRun0_B.sl.r_18
    simp only [View.readAt_eq_ld, Memref.IsWhole.read_unread, v217_eq, v211_eq]
    exact amg_4 x0 x1 x2 x3 xs0 xs1 r
  refine of_cons (amax_piece (fun r => dgate (xr x0 x1 r) (yr x2 x3 r) xs0 xs1) 3 3 rfl _ _ fun r => ?_) ?_
  · unfold kernelRun0_B.sl.r_12
    simp only [View.readAt_eq_ld, Memref.IsWhole.read_unread, v211_eq, v217_eq]
    exact amg_3 x0 x1 x2 x3 xs0 xs1 r
  refine of_cons (amax_piece (fun r => dgate (xr x0 x1 r) (yr x2 x3 r) xs0 xs1) 2 2 rfl _ _ fun r => ?_) ?_
  · unfold kernelRun0_B.sl.r_12
    simp only [View.readAt_eq_ld, Memref.IsWhole.read_unread, v211_eq, v217_eq]
    exact amg_2 x0 x1 x2 x3 xs0 xs1 r
  refine of_cons (amax_piece (fun r => dgate (xr x0 x1 r) (yr x2 x3 r) xs0 xs1) 1 1 rfl _ _ fun r => ?_) ?_
  · unfold kernelRun0_B.sl.r_7 kernelRun0_B.sl.r_5
    simp only [View.readAt_eq_ld, Memref.IsWhole.read_unread, v211_eq, v217_eq]
    exact amg_1 x0 x1 x2 x3 xs0 xs1 r
  refine of_cons (amax_piece (fun r => dgate (xr x0 x1 r) (yr x2 x3 r) xs0 xs1) 0 0 rfl _ _ fun r => ?_) ?_
  · unfold kernelRun0_B.sl.r_7 kernelRun0_B.sl.r_5
    simp only [View.readAt_eq_ld, Memref.IsWhole.read_unread, v211_eq, v217_eq]
    exact amg_0 x0 x1 x2 x3 xs0 xs1 r
  exact of_nil _

theorem out7_eq : out0_B_7 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = AM (fun r => dup (xr x0 x1 r) (yr x2 x3 r) xs0 xs1) := by
  unfold out0_B_7
  rw [View.read_writes_junk_eq_canon]
  funext y
  refine canon_of (G := AM (fun r => dup (xr x0 x1 r) (yr x2 x3 r) xs0 xs1)) ?_ y (cover0_B_7 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 y)
  refine of_cons (amax_piece (fun r => dup (xr x0 x1 r) (yr x2 x3 r) xs0 xs1) 21 21 rfl _ _ fun r => ?_) ?_
  · unfold kernelRun0_B.sl.r_76 kernelRun0_B.sl.r_71 kernelRun0_B.sl.r_73 kernelRun0_B.sl.r_74
    simp only [View.readAt_eq_ld, Memref.IsWhole.read_unread, v211_eq, v217_eq]
    exact amu_21 x0 x1 x2 x3 xs0 xs1 r
  refine of_cons (amax_piece (fun r => dup (xr x0 x1 r) (yr x2 x3 r) xs0 xs1) 20 20 rfl _ _ fun r => ?_) ?_
  · unfold kernelRun0_B.sl.r_76 kernelRun0_B.sl.r_71 kernelRun0_B.sl.r_73 kernelRun0_B.sl.r_74
    simp only [View.readAt_eq_ld, Memref.IsWhole.read_unread, v211_eq, v217_eq]
    exact amu_20 x0 x1 x2 x3 xs0 xs1 r
  refine of_cons (amax_piece (fun r => dup (xr x0 x1 r) (yr x2 x3 r) xs0 xs1) 19 19 rfl _ _ fun r => ?_) ?_
  · unfold kernelRun0_B.sl.r_67 kernelRun0_B.sl.r_63
    simp only [View.readAt_eq_ld, Memref.IsWhole.read_unread, v217_eq, v211_eq]
    exact amu_19 x0 x1 x2 x3 xs0 xs1 r
  refine of_cons (amax_piece (fun r => dup (xr x0 x1 r) (yr x2 x3 r) xs0 xs1) 18 18 rfl _ _ fun r => ?_) ?_
  · unfold kernelRun0_B.sl.r_67 kernelRun0_B.sl.r_63
    simp only [View.readAt_eq_ld, Memref.IsWhole.read_unread, v217_eq, v211_eq]
    exact amu_18 x0 x1 x2 x3 xs0 xs1 r
  refine of_cons (amax_piece (fun r => dup (xr x0 x1 r) (yr x2 x3 r) xs0 xs1) 17 17 rfl _ _ fun r => ?_) ?_
  · unfold kernelRun0_B.sl.r_60
    simp only [View.readAt_eq_ld, Memref.IsWhole.read_unread, v211_eq, v217_eq]
    exact amu_17 x0 x1 x2 x3 xs0 xs1 r
  refine of_cons (amax_piece (fun r => dup (xr x0 x1 r) (yr x2 x3 r) xs0 xs1) 16 16 rfl _ _ fun r => ?_) ?_
  · unfold kernelRun0_B.sl.r_61 kernelRun0_B.sl.r_60
    simp only [View.readAt_eq_ld, Memref.IsWhole.read_unread, v211_eq, v217_eq]
    exact amu_16 x0 x1 x2 x3 xs0 xs1 r
  refine of_cons (amax_piece (fun r => dup (xr x0 x1 r) (yr x2 x3 r) xs0 xs1) 15 15 rfl _ _ fun r => ?_) ?_
  · unfold kernelRun0_B.sl.r_56 kernelRun0_B.sl.r_51 kernelRun0_B.sl.r_52
    simp only [View.readAt_eq_ld, Memref.IsWhole.read_unread, v217_eq, v211_eq]
    exact amu_15 x0 x1 x2 x3 xs0 xs1 r
  refine of_cons (amax_piece (fun r => dup (xr x0 x1 r) (yr x2 x3 r) xs0 xs1) 14 14 rfl _ _ fun r => ?_) ?_
  · unfold kernelRun0_B.sl.r_56 kernelRun0_B.sl.r_51 kernelRun0_B.sl.r_52
    simp only [View.readAt_eq_ld, Memref.IsWhole.read_unread, v217_eq, v211_eq]
    exact amu_14 x0 x1 x2 x3 xs0 xs1 r
  refine of_cons (amax_piece (fun r => dup (xr x0 x1 r) (yr x2 x3 r) xs0 xs1) 13 13 rfl _ _ fun r => ?_) ?_
  · unfold kernelRun0_B.sl.r_48 kernelRun0_B.sl.r_44 kernelRun0_B.sl.r_46
    simp only [View.readAt_eq_ld, Memref.IsWhole.read_unread, v211_eq, v217_eq]
    exact amu_13 x0 x1 x2 x3 xs0 xs1 r
  refine of_cons (amax_piece (fun r => dup (xr x0 x1 r) (yr x2 x3 r) xs0 xs1) 12 12 rfl _ _ fun r => ?_) ?_
  · unfold kernelRun0_B.sl.r_48 kernelRun0_B.sl.r_44 kernelRun0_B.sl.r_46
    simp only [View.readAt_eq_ld, Memref.IsWhole.read_unread, v211_eq, v217_eq]
    exact amu_12 x0 x1 x2 x3 xs0 xs1 r
  refine of_cons (amax_piece (fun r => dup (xr x0 x1 r) (yr x2 x3 r) xs0 xs1) 11 11 rfl _ _ fun r => ?_) ?_
  · unfold kernelRun0_B.sl.r_43 kernelRun0_B.sl.r_42 kernelRun0_B.sl.r_39
    simp only [View.readAt_eq_ld, Memref.IsWhole.read_unread, v217_eq, v211_eq]
    exact amu_11 x0 x1 x2 x3 xs0 xs1 r
  refine of_cons (amax_piece (fun r => dup (xr x0 x1 r) (yr x2 x3 r) xs0 xs1) 10 10 rfl _ _ fun r => ?_) ?_
  · unfold kernelRun0_B.sl.r_42 kernelRun0_B.sl.r_39
    simp only [View.readAt_eq_ld, Memref.IsWhole.read_unread, v217_eq, v211_eq]
    exact amu_10 x0 x1 x2 x3 xs0 xs1 r
  refine of_cons (amax_piece (fun r => dup (xr x0 x1 r) (yr x2 x3 r) xs0 xs1) 9 9 rfl _ _ fun r => ?_) ?_
  · unfold kernelRun0_B.sl.r_37
    simp only [View.readAt_eq_ld, Memref.IsWhole.read_unread, v211_eq, v217_eq]
    exact amu_9 x0 x1 x2 x3 xs0 xs1 r
  refine of_cons (amax_piece (fun r => dup (xr x0 x1 r) (yr x2 x3 r) xs0 xs1) 8 8 rfl _ _ fun r => ?_) ?_
  · unfold kernelRun0_B.sl.r_37
    simp only [View.readAt_eq_ld, Memref.IsWhole.read_unread, v211_eq, v217_eq]
    exact amu_8 x0 x1 x2 x3 xs0 xs1 r
  refine of_cons (amax_piece (fun r => dup (xr x0 x1 r) (yr x2 x3 r) xs0 xs1) 7 7 rfl _ _ fun r => ?_) ?_
  · unfold kernelRun0_B.sl.r_31 kernelRun0_B.sl.r_27 kernelRun0_B.sl.r_29
    simp only [View.readAt_eq_ld, Memref.IsWhole.read_unread, v217_eq, v211_eq]
    exact amu_7 x0 x1 x2 x3 xs0 xs1 r
  refine of_cons (amax_piece (fun r => dup (xr x0 x1 r) (yr x2 x3 r) xs0 xs1) 6 6 rfl _ _ fun r => ?_) ?_
  · unfold kernelRun0_B.sl.r_31 kernelRun0_B.sl.r_27 kernelRun0_B.sl.r_29
    simp only [View.readAt_eq_ld, Memref.IsWhole.read_unread, v217_eq, v211_eq]
    exact amu_6 x0 x1 x2 x3 xs0 xs1 r
  refine of_cons (amax_piece (fun r => dup (xr x0 x1 r) (yr x2 x3 r) xs0 xs1) 5 5 rfl _ _ fun r => ?_) ?_
  · unfold kernelRun0_B.sl.r_21 kernelRun0_B.sl.r_17
    simp only [View.readAt_eq_ld, Memref.IsWhole.read_unread, v217_eq, v211_eq]
    exact amu_5 x0 x1 x2 x3 xs0 xs1 r
  refine of_cons (amax_piece (fun r => dup (xr x0 x1 r) (yr x2 x3 r) xs0 xs1) 4 4 rfl _ _ fun r => ?_) ?_
  · unfold kernelRun0_B.sl.r_21 kernelRun0_B.sl.r_17
    simp only [View.readAt_eq_ld, Memref.IsWhole.read_unread, v217_eq, v211_eq]
    exact amu_4 x0 x1 x2 x3 xs0 xs1 r
  refine of_cons (amax_piece (fun r => dup (xr x0 x1 r) (yr x2 x3 r) xs0 xs1) 3 3 rfl _ _ fun r => ?_) ?_
  · unfold kernelRun0_B.sl.r_13
    simp only [View.readAt_eq_ld, Memref.IsWhole.read_unread, v211_eq, v217_eq]
    exact amu_3 x0 x1 x2 x3 xs0 xs1 r
  refine of_cons (amax_piece (fun r => dup (xr x0 x1 r) (yr x2 x3 r) xs0 xs1) 2 2 rfl _ _ fun r => ?_) ?_
  · unfold kernelRun0_B.sl.r_15 kernelRun0_B.sl.r_13
    simp only [View.readAt_eq_ld, Memref.IsWhole.read_unread, v211_eq, v217_eq]
    exact amu_2 x0 x1 x2 x3 xs0 xs1 r
  refine of_cons (amax_piece (fun r => dup (xr x0 x1 r) (yr x2 x3 r) xs0 xs1) 1 1 rfl _ _ fun r => ?_) ?_
  · unfold kernelRun0_B.sl.r_10 kernelRun0_B.sl.r_8 kernelRun0_B.sl.r_5
    simp only [View.readAt_eq_ld, Memref.IsWhole.read_unread, v217_eq, v211_eq]
    exact amu_1 x0 x1 x2 x3 xs0 xs1 r
  refine of_cons (amax_piece (fun r => dup (xr x0 x1 r) (yr x2 x3 r) xs0 xs1) 0 0 rfl _ _ fun r => ?_) ?_
  · unfold kernelRun0_B.sl.r_8 kernelRun0_B.sl.r_5
    simp only [View.readAt_eq_ld, Memref.IsWhole.read_unread, v217_eq, v211_eq]
    exact amu_0 x0 x1 x2 x3 xs0 xs1 r
  exact of_nil _

theorem sout2_eq : sout0_B_2 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = AccGU x0 x1 x2 x3 xs0 xs1 xs2 := by
  unfold sout0_B_2
  rw [View.read_writes_junk_eq_canon]
  funext y
  refine canon_of (G := AccGU x0 x1 x2 x3 xs0 xs1 xs2) ?_ y (scover0_B_2 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 y)
  refine of_cons (up_piece x0 x1 x2 x3 xs0 xs1 xs2 10 5376 rfl _ _ fun k l => ?_) ?_
  · unfold kernelRun0_B.sl.r_80 kernelRun0_B.sl.v1477
    simp only [View.readAt_eq_ld, Memref.IsWhole.read_unread, v376_eq, v1459_eq]
    exact gu_10 x0 x1 x2 x3 xs0 xs1 _ k l
  refine of_cons (gate_piece x0 x1 x2 x3 xs0 xs1 xs2 10 2560 rfl _ _ fun k l => ?_) ?_
  · unfold kernelRun0_B.sl.v1468
    simp only [View.readAt_eq_ld, Memref.IsWhole.read_unread, v376_eq, v1455_eq]
    exact gg_10 x0 x1 x2 x3 xs0 xs1 _ k l
  refine of_cons (up_piece x0 x1 x2 x3 xs0 xs1 xs2 9 5120 rfl _ _ fun k l => ?_) ?_
  · unfold kernelRun0_B.sl.v1437
    simp only [View.readAt_eq_ld, Memref.IsWhole.read_unread, v376_eq, v1418_eq]
    exact gu_9 x0 x1 x2 x3 xs0 xs1 _ k l
  refine of_cons (gate_piece x0 x1 x2 x3 xs0 xs1 xs2 9 2304 rfl _ _ fun k l => ?_) ?_
  · unfold kernelRun0_B.sl.v1428
    simp only [View.readAt_eq_ld, Memref.IsWhole.read_unread, v376_eq, v1414_eq]
    exact gg_9 x0 x1 x2 x3 xs0 xs1 _ k l
  refine of_cons (up_piece x0 x1 x2 x3 xs0 xs1 xs2 8 4864 rfl _ _ fun k l => ?_) ?_
  · unfold kernelRun0_B.sl.r_70 kernelRun0_B.sl.v1320
    simp only [View.readAt_eq_ld, Memref.IsWhole.read_unread, v376_eq, v1301_eq]
    exact gu_8 x0 x1 x2 x3 xs0 xs1 _ k l
  refine of_cons (gate_piece x0 x1 x2 x3 xs0 xs1 xs2 8 2048 rfl _ _ fun k l => ?_) ?_
  · unfold kernelRun0_B.sl.v1311
    simp only [View.readAt_eq_ld, Memref.IsWhole.read_unread, v376_eq, v1297_eq]
    exact gg_8 x0 x1 x2 x3 xs0 xs1 _ k l
  refine of_cons (up_piece x0 x1 x2 x3 xs0 xs1 xs2 7 4608 rfl _ _ fun k l => ?_) ?_
  · unfold kernelRun0_B.sl.v1203
    simp only [View.readAt_eq_ld, Memref.IsWhole.read_unread, v376_eq, v1184_eq]
    exact gu_7 x0 x1 x2 x3 xs0 xs1 _ k l
  refine of_cons (gate_piece x0 x1 x2 x3 xs0 xs1 xs2 7 1792 rfl _ _ fun k l => ?_) ?_
  · unfold kernelRun0_B.sl.r_62 kernelRun0_B.sl.v1194
    simp only [View.readAt_eq_ld, Memref.IsWhole.read_unread, v376_eq, v1180_eq]
    exact gg_7 x0 x1 x2 x3 xs0 xs1 _ k l
  refine of_cons (up_piece x0 x1 x2 x3 xs0 xs1 xs2 6 4352 rfl _ _ fun k l => ?_) ?_
  · unfold kernelRun0_B.sl.v1086
    simp only [View.readAt_eq_ld, Memref.IsWhole.read_unread, v376_eq, v1067_eq]
    exact gu_6 x0 x1 x2 x3 xs0 xs1 _ k l
  refine of_cons (gate_piece x0 x1 x2 x3 xs0 xs1 xs2 6 1536 rfl _ _ fun k l => ?_) ?_
  · unfold kernelRun0_B.sl.v1077
    simp only [View.readAt_eq_ld, Memref.IsWhole.read_unread, v376_eq, v1063_eq]
    exact gg_6 x0 x1 x2 x3 xs0 xs1 _ k l
  refine of_cons (up_piece x0 x1 x2 x3 xs0 xs1 xs2 5 4096 rfl _ _ fun k l => ?_) ?_
  · unfold kernelRun0_B.sl.v969
    simp only [View.readAt_eq_ld, Memref.IsWhole.read_unread, v376_eq, v950_eq]
    exact gu_5 x0 x1 x2 x3 xs0 xs1 _ k l
  refine of_cons (gate_piece x0 x1 x2 x3 xs0 xs1 xs2 5 1280 rfl _ _ fun k l => ?_) ?_
  · unfold kernelRun0_B.sl.v960
    simp only [View.readAt_eq_ld, Memref.IsWhole.read_unread, v376_eq, v946_eq]
    exact gg_5 x0 x1 x2 x3 xs0 xs1 _ k l
  refine of_cons (up_piece x0 x1 x2 x3 xs0 xs1 xs2 4 3840 rfl _ _ fun k l => ?_) ?_
  · unfold kernelRun0_B.sl.v852
    simp only [View.readAt_eq_ld, Memref.IsWhole.read_unread, v376_eq, v833_eq]
    exact gu_4 x0 x1 x2 x3 xs0 xs1 _ k l
  refine of_cons (gate_piece x0 x1 x2 x3 xs0 xs1 xs2 4 1024 rfl _ _ fun k l => ?_) ?_
  · unfold kernelRun0_B.sl.v843
    simp only [View.readAt_eq_ld, Memref.IsWhole.read_unread, v376_eq, v829_eq]
    exact gg_4 x0 x1 x2 x3 xs0 xs1 _ k l
  refine of_cons (up_piece x0 x1 x2 x3 xs0 xs1 xs2 3 3584 rfl _ _ fun k l => ?_) ?_
  · unfold kernelRun0_B.sl.v735
    simp only [View.readAt_eq_ld, Memref.IsWhole.read_unread, v376_eq, v716_eq]
    exact gu_3 x0 x1 x2 x3 xs0 xs1 _ k l
  refine of_cons (gate_piece x0 x1 x2 x3 xs0 xs1 xs2 3 768 rfl _ _ fun k l => ?_) ?_
  · unfold kernelRun0_B.sl.v726
    simp only [View.readAt_eq_ld, Memref.IsWhole.read_unread, v376_eq, v712_eq]
    exact gg_3 x0 x1 x2 x3 xs0 xs1 _ k l
  refine of_cons (up_piece x0 x1 x2 x3 xs0 xs1 xs2 2 3328 rfl _ _ fun k l => ?_) ?_
  · unfold kernelRun0_B.sl.v618
    simp only [View.readAt_eq_ld, Memref.IsWhole.read_unread, v376_eq, v599_eq]
    exact gu_2 x0 x1 x2 x3 xs0 xs1 _ k l
  refine of_cons (gate_piece x0 x1 x2 x3 xs0 xs1 xs2 2 512 rfl _ _ fun k l => ?_) ?_
  · unfold kernelRun0_B.sl.v609
    simp only [View.readAt_eq_ld, Memref.IsWhole.read_unread, v376_eq, v595_eq]
    exact gg_2 x0 x1 x2 x3 xs0 xs1 _ k l
  refine of_cons (up_piece x0 x1 x2 x3 xs0 xs1 xs2 1 3072 rfl _ _ fun k l => ?_) ?_
  · unfold kernelRun0_B.sl.r_24 kernelRun0_B.sl.v501
    simp only [View.readAt_eq_ld, Memref.IsWhole.read_unread, v376_eq, v482_eq]
    exact gu_1 x0 x1 x2 x3 xs0 xs1 _ k l
  refine of_cons (gate_piece x0 x1 x2 x3 xs0 xs1 xs2 1 256 rfl _ _ fun k l => ?_) ?_
  · unfold kernelRun0_B.sl.v492
    simp only [View.readAt_eq_ld, Memref.IsWhole.read_unread, v376_eq, v478_eq]
    exact gg_1 x0 x1 x2 x3 xs0 xs1 _ k l
  refine of_cons (up_piece x0 x1 x2 x3 xs0 xs1 xs2 0 2816 rfl _ _ fun k l => ?_) ?_
  · unfold kernelRun0_B.sl.v384
    simp only [View.readAt_eq_ld, Memref.IsWhole.read_unread, v376_eq, v367_eq]
    exact gu_0 x0 x1 x2 x3 xs0 xs1 _ k l
  refine of_cons (gate_piece x0 x1 x2 x3 xs0 xs1 xs2 0 0 rfl _ _ fun k l => ?_) ?_
  · unfold kernelRun0_B.sl.r_16
    simp only [View.readAt_eq_ld, Memref.IsWhole.read_unread, v376_eq, v363_eq]
    exact gg_0 x0 x1 x2 x3 xs0 xs1 _ k l
  exact of_nil _

theorem sout3_eq : sout0_B_3 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = AccD x0 x1 x2 x3 xs0 xs3 := by
  unfold sout0_B_3
  rw [View.read_writes_junk_eq_canon]
  funext y
  refine canon_of (G := AccD x0 x1 x2 x3 xs0 xs3) ?_ y (scover0_B_3 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 y)
  refine of_cons (down_piece x0 x1 x2 x3 xs0 xs3 10 2560 rfl _ _ fun l k => ?_) ?_
  · unfold kernelRun0_B.sl.v1486
    simp only [View.readAt_eq_ld, Memref.IsWhole.read_unread, v1487_eq, v1489_eq]
    exact dd_10 x0 x1 x2 x3 xs0 _ l k
  refine of_cons (down_piece x0 x1 x2 x3 xs0 xs3 9 2304 rfl _ _ fun l k => ?_) ?_
  · unfold kernelRun0_B.sl.r_79 kernelRun0_B.sl.v1446
    simp only [View.readAt_eq_ld, Memref.IsWhole.read_unread, v217_eq, v1447_eq]
    exact dd_9 x0 x1 x2 x3 xs0 _ l k
  refine of_cons (down_piece x0 x1 x2 x3 xs0 xs3 8 2048 rfl _ _ fun l k => ?_) ?_
  · unfold kernelRun0_B.sl.v1329
    simp only [View.readAt_eq_ld, Memref.IsWhole.read_unread, v1330_eq, v217_eq]
    exact dd_8 x0 x1 x2 x3 xs0 _ l k
  refine of_cons (down_piece x0 x1 x2 x3 xs0 xs3 7 1792 rfl _ _ fun l k => ?_) ?_
  · unfold kernelRun0_B.sl.v1212
    simp only [View.readAt_eq_ld, Memref.IsWhole.read_unread, v1213_eq, v217_eq]
    exact dd_7 x0 x1 x2 x3 xs0 _ l k
  refine of_cons (down_piece x0 x1 x2 x3 xs0 xs3 6 1536 rfl _ _ fun l k => ?_) ?_
  · unfold kernelRun0_B.sl.v1095
    simp only [View.readAt_eq_ld, Memref.IsWhole.read_unread, v1096_eq, v217_eq]
    exact dd_6 x0 x1 x2 x3 xs0 _ l k
  refine of_cons (down_piece x0 x1 x2 x3 xs0 xs3 5 1280 rfl _ _ fun l k => ?_) ?_
  · unfold kernelRun0_B.sl.v
    simp only [View.readAt_eq_ld, Memref.IsWhole.read_unread, v979_eq, v217_eq]
    exact dd_5 x0 x1 x2 x3 xs0 _ l k
  refine of_cons (down_piece x0 x1 x2 x3 xs0 xs3 4 1024 rfl _ _ fun l k => ?_) ?_
  · unfold kernelRun0_B.sl.v861
    simp only [View.readAt_eq_ld, Memref.IsWhole.read_unread, v862_eq, v217_eq]
    exact dd_4 x0 x1 x2 x3 xs0 _ l k
  refine of_cons (down_piece x0 x1 x2 x3 xs0 xs3 3 768 rfl _ _ fun l k => ?_) ?_
  · unfold kernelRun0_B.sl.v744
    simp only [View.readAt_eq_ld, Memref.IsWhole.read_unread, v745_eq, v217_eq]
    exact dd_3 x0 x1 x2 x3 xs0 _ l k
  refine of_cons (down_piece x0 x1 x2 x3 xs0 xs3 2 512 rfl _ _ fun l k => ?_) ?_
  · unfold kernelRun0_B.sl.r_34 kernelRun0_B.sl.cst_414 kernelRun0_B.sl.v627
    simp only [View.readAt_eq_ld, Memref.IsWhole.read_unread, v217_eq, v628_eq]
    exact dd_2 x0 x1 x2 x3 xs0 _ l k
  refine of_cons (down_piece x0 x1 x2 x3 xs0 xs3 1 256 rfl _ _ fun l k => ?_) ?_
  · unfold kernelRun0_B.sl.v510
    simp only [View.readAt_eq_ld, Memref.IsWhole.read_unread, v511_eq, v217_eq]
    exact dd_1 x0 x1 x2 x3 xs0 _ l k
  refine of_cons (down_piece x0 x1 x2 x3 xs0 xs3 0 0 rfl _ _ fun l k => ?_) ?_
  · simp only [View.readAt_eq_ld, Memref.IsWhole.read_unread, v394_eq, v217_eq]
    exact dd_0 x0 x1 x2 x3 xs0 _ l k
  exact of_nil _

end Cert.KernelIdeal.CaseB

end
-- ==== Proof.WordsC.lean ====
/- What the body reads back of its own stores, in one case of its branches. -/
module

public import proofs.«01_k».proof.Proof.BlockBwd
public import proofs.«01_k».proof.Proof.BlockFwd
public import proofs.«01_k».proof.Proof.Pieces
public import proofs.«01_k».proof.Proof.Gen.KernelIdeal.Frame.RunC

@[expose] public section

set_option maxRecDepth 16384

noncomputable section

namespace Cert.KernelIdeal.CaseC

open Cert.KernelIdeal Cert.KernelIdeal.Gen Cert.KernelIdeal.Block Idealize.ShloMosaic Cert.Spec

variable (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole)
  (hc0 : ¬cond0_0 i) (hc1 : cond0_1 i)
  (x0 : Vec Ideal S256x1024 .fp8e4m3) (x1 : Vec Ideal S256x8 .f32) (x2 : Vec Ideal S256x1024 .fp8e5m2) (x3 : Vec Ideal S256x8 .f32)
  (xs0 : Vec Ideal S1024x5632 .bf16) (xs1 : Vec Ideal S2816x1024 .bf16) (xs2 : Vec Ideal S1024x5632 .f32) (xs3 : Vec Ideal S2816x1024 .f32)
  (fh0 : HbBuf0 (F := Ideal) c hbM0_0) (fh1 : HbBuf0 (F := Ideal) c hbM0_1) (fw2 : HbBuf0 (F := Ideal) c hbM0_2) (fw3 : HbBuf0 (F := Ideal) c hbM0_3)

theorem v211_eq : kernelRun0_C.sl.v211 (F := Ideal) c arg1 harg1 arg2 harg2 arg17 x0 x1 = XB x0 x1 := by
  unfold kernelRun0_C.sl.v211 kernelRun0_C.sl.HS4_8 kernelRun0_C.sl.r kernelRun0_C.sl.r_1
  simp only [View.readAt_eq_ld, Memref.IsWhole.read_unread]
  rw [readCov_all _ _ _ (by decide)]
  funext y
  refine canon_of (G := XB x0 x1) ?_ y (View.cover_of_tiled_head _ _ _ (by rfl) y)
  refine of_cons (xb_piece x0 x1 7 896 (by decide) rfl _ _ (fun r l => by unfold_payloads; pointwise [])) ?_
  refine of_cons (xb_piece x0 x1 6 768 (by decide) rfl _ _ (fun r l => by unfold_payloads; pointwise [])) ?_
  refine of_cons (xb_piece x0 x1 5 640 (by decide) rfl _ _ (fun r l => by unfold_payloads; pointwise [])) ?_
  refine of_cons (xb_piece x0 x1 4 512 (by decide) rfl _ _ (fun r l => by unfold_payloads; pointwise [])) ?_
  refine of_cons (xb_piece x0 x1 3 384 (by decide) rfl _ _ (fun r l => by unfold_payloads; pointwise [])) ?_
  refine of_cons (xb_piece x0 x1 2 256 (by decide) rfl _ _ (fun r l => by unfold_payloads; pointwise [])) ?_
  refine of_cons (xb_piece x0 x1 1 128 (by decide) rfl _ _ (fun r l => by unfold_payloads; pointwise [])) ?_
  refine of_cons (xb_piece x0 x1 0 0 (by decide) rfl _ _ (fun r l => by unfold_payloads; pointwise [])) ?_
  exact of_nil _

theorem v217_eq : kernelRun0_C.sl.v217 (F := Ideal) c arg3 harg3 arg4 harg4 arg18 x2 x3 = YB x2 x3 := by
  unfold kernelRun0_C.sl.v217 kernelRun0_C.sl.HS5_8 kernelRun0_C.sl.r_3 kernelRun0_C.sl.r_4
  simp only [View.readAt_eq_ld, Memref.IsWhole.read_unread]
  rw [readCov_all _ _ _ (by decide)]
  funext y
  refine canon_of (G := YB x2 x3) ?_ y (View.cover_of_tiled_head _ _ _ (by rfl) y)
  refine of_cons (yb_piece x2 x3 7 896 (by decide) rfl _ _ (fun r l => by unfold_payloads; pointwise [])) ?_
  refine of_cons (yb_piece x2 x3 6 768 (by decide) rfl _ _ (fun r l => by unfold_payloads; pointwise [])) ?_
  refine of_cons (yb_piece x2 x3 5 640 (by decide) rfl _ _ (fun r l => by unfold_payloads; pointwise [])) ?_
  refine of_cons (yb_piece x2 x3 4 512 (by decide) rfl _ _ (fun r l => by unfold_payloads; pointwise [])) ?_
  refine of_cons (yb_piece x2 x3 3 384 (by decide) rfl _ _ (fun r l => by unfold_payloads; pointwise [])) ?_
  refine of_cons (yb_piece x2 x3 2 256 (by decide) rfl _ _ (fun r l => by unfold_payloads; pointwise [])) ?_
  refine of_cons (yb_piece x2 x3 1 128 (by decide) rfl _ _ (fun r l => by unfold_payloads; pointwise [])) ?_
  refine of_cons (yb_piece x2 x3 0 0 (by decide) rfl _ _ (fun r l => by unfold_payloads; pointwise [])) ?_
  exact of_nil _

theorem v376_eq : kernelRun0_C.sl.v376 (F := Ideal) c arg1 harg1 arg2 harg2 arg19 x0 x1 = XT x0 x1 := by
  unfold kernelRun0_C.sl.v376 kernelRun0_C.sl.HS6_8 kernelRun0_C.sl.r_2 kernelRun0_C.sl.r kernelRun0_C.sl.r_1
  simp only [View.readAt_eq_ld, Memref.IsWhole.read_unread]
  rw [readCov_all _ _ _ (by decide)]
  funext y
  refine canon_of (G := XT x0 x1) ?_ y (View.cover_of_tiled_head _ _ _ (by rfl) y)
  refine of_cons (xt_piece x0 x1 7 896 (by decide) rfl _ _ (fun l r => by unfold_payloads; pointwise [])) ?_
  refine of_cons (xt_piece x0 x1 6 768 (by decide) rfl _ _ (fun l r => by unfold_payloads; pointwise [])) ?_
  refine of_cons (xt_piece x0 x1 5 640 (by decide) rfl _ _ (fun l r => by unfold_payloads; pointwise [])) ?_
  refine of_cons (xt_piece x0 x1 4 512 (by decide) rfl _ _ (fun l r => by unfold_payloads; pointwise [])) ?_
  refine of_cons (xt_piece x0 x1 3 384 (by decide) rfl _ _ (fun l r => by unfold_payloads; pointwise [])) ?_
  refine of_cons (xt_piece x0 x1 2 256 (by decide) rfl _ _ (fun l r => by unfold_payloads; pointwise [])) ?_
  refine of_cons (xt_piece x0 x1 1 128 (by decide) rfl _ _ (fun l r => by unfold_payloads; pointwise [])) ?_
  refine of_cons (xt_piece x0 x1 0 0 (by decide) rfl _ _ (fun l r => by unfold_payloads; pointwise [])) ?_
  exact of_nil _

theorem v1489_eq : kernelRun0_C.sl.v1489 (F := Ideal) c arg3 harg3 arg4 harg4 arg18 x2 x3 = YB x2 x3 := v217_eq c arg3 harg3 arg4 harg4 arg18 x2 x3

theorem v363_eq : kernelRun0_C.sl.v363 (F := Ideal) c arg1 harg1 arg2 harg2 arg3 harg3 arg4 harg4 arg13 harg13 arg14 harg14 arg17 arg18 arg22 x0 x1 x2 x3 xs0 xs1 = DG3 x0 x1 x2 x3 xs0 xs1 0 := by
  unfold kernelRun0_C.sl.v363 kernelRun0_C.sl.HS9_2
  rw [View.readCov_skip _ _ _ _ _ (by decide)]
  refine (View.readCov_cons_toLoadRect _ _ _ _).trans ?_
  unfold kernelRun0_C.sl.r_5
  simp only [v211_eq, v217_eq, View.readAt_eq_ld, Memref.IsWhole.read_unread]
  exact dg_0 x0 x1 x2 x3 xs0 xs1

theorem v367_eq : kernelRun0_C.sl.v367 (F := Ideal) c arg1 harg1 arg2 harg2 arg3 harg3 arg4 harg4 arg13 harg13 arg14 harg14 arg17 arg18 arg23 x0 x1 x2 x3 xs0 xs1 = DU3 x0 x1 x2 x3 xs0 xs1 0 := by
  unfold kernelRun0_C.sl.v367 kernelRun0_C.sl.HS10_2
  rw [View.readCov_skip _ _ _ _ _ (by decide)]
  refine (View.readCov_cons_toLoadRect _ _ _ _).trans ?_
  unfold kernelRun0_C.sl.r_8 kernelRun0_C.sl.r_5
  simp only [v211_eq, v217_eq, View.readAt_eq_ld, Memref.IsWhole.read_unread]
  exact du_0 x0 x1 x2 x3 xs0 xs1

theorem v394_eq : kernelRun0_C.sl.v394 (F := Ideal) c arg1 harg1 arg2 harg2 arg13 harg13 arg17 arg21 x0 x1 xs0 = H3 x0 x1 xs0 0 := by
  unfold kernelRun0_C.sl.v394 kernelRun0_C.sl.HS8_2
  rw [View.readCov_skip _ _ _ _ _ (by decide)]
  refine (View.readCov_cons_toLoadRect _ _ _ _).trans ?_
  unfold kernelRun0_C.sl.r_5
  simp only [v211_eq, v217_eq, View.readAt_eq_ld, Memref.IsWhole.read_unread]
  exact h_0 x0 x1 xs0

theorem v478_eq : kernelRun0_C.sl.v478 (F := Ideal) c arg1 harg1 arg2 harg2 arg3 harg3 arg4 harg4 arg13 harg13 arg14 harg14 arg17 arg18 arg22 x0 x1 x2 x3 xs0 xs1 = DG3 x0 x1 x2 x3 xs0 xs1 1 := by
  unfold kernelRun0_C.sl.v478 kernelRun0_C.sl.HS9_3 kernelRun0_C.sl.HS9_2
  rw [View.readCov_skip _ _ _ _ _ (by decide)]
  refine (View.readCov_cons_toLoadRect _ _ _ _).trans ?_
  unfold kernelRun0_C.sl.r_12
  simp only [v211_eq, v217_eq, View.readAt_eq_ld, Memref.IsWhole.read_unread]
  exact dg_1 x0 x1 x2 x3 xs0 xs1

theorem v482_eq : kernelRun0_C.sl.v482 (F := Ideal) c arg1 harg1 arg2 harg2 arg3 harg3 arg4 harg4 arg13 harg13 arg14 harg14 arg17 arg18 arg23 x0 x1 x2 x3 xs0 xs1 = DU3 x0 x1 x2 x3 xs0 xs1 1 := by
  unfold kernelRun0_C.sl.v482 kernelRun0_C.sl.HS10_3 kernelRun0_C.sl.HS10_2
  rw [View.readCov_skip _ _ _ _ _ (by decide)]
  refine (View.readCov_cons_toLoadRect _ _ _ _).trans ?_
  unfold kernelRun0_C.sl.r_13
  simp only [v211_eq, v217_eq, View.readAt_eq_ld, Memref.IsWhole.read_unread]
  exact du_1 x0 x1 x2 x3 xs0 xs1

theorem v511_eq : kernelRun0_C.sl.v511 (F := Ideal) c arg1 harg1 arg2 harg2 arg13 harg13 arg17 arg21 x0 x1 xs0 = H3 x0 x1 xs0 1 := by
  unfold kernelRun0_C.sl.v511 kernelRun0_C.sl.HS8_3 kernelRun0_C.sl.HS8_2
  rw [View.readCov_skip _ _ _ _ _ (by decide)]
  refine (View.readCov_cons_toLoadRect _ _ _ _).trans ?_
  unfold kernelRun0_C.sl.r_14
  simp only [v211_eq, v217_eq, View.readAt_eq_ld, Memref.IsWhole.read_unread]
  exact h_1 x0 x1 xs0

theorem v595_eq : kernelRun0_C.sl.v595 (F := Ideal) c arg1 harg1 arg2 harg2 arg3 harg3 arg4 harg4 arg13 harg13 arg14 harg14 arg17 arg18 arg22 x0 x1 x2 x3 xs0 xs1 = DG3 x0 x1 x2 x3 xs0 xs1 2 := by
  unfold kernelRun0_C.sl.v595 kernelRun0_C.sl.HS9_4 kernelRun0_C.sl.HS9_3
  rw [View.readCov_skip _ _ _ _ _ (by decide)]
  refine (View.readCov_cons_toLoadRect _ _ _ _).trans ?_
  unfold kernelRun0_C.sl.r_17 kernelRun0_C.sl.r_18
  simp only [v211_eq, v217_eq, View.readAt_eq_ld, Memref.IsWhole.read_unread]
  exact dg_2 x0 x1 x2 x3 xs0 xs1

theorem v599_eq : kernelRun0_C.sl.v599 (F := Ideal) c arg1 harg1 arg2 harg2 arg3 harg3 arg4 harg4 arg13 harg13 arg14 harg14 arg17 arg18 arg23 x0 x1 x2 x3 xs0 xs1 = DU3 x0 x1 x2 x3 xs0 xs1 2 := by
  unfold kernelRun0_C.sl.v599 kernelRun0_C.sl.HS10_4 kernelRun0_C.sl.HS10_3
  rw [View.readCov_skip _ _ _ _ _ (by decide)]
  refine (View.readCov_cons_toLoadRect _ _ _ _).trans ?_
  unfold kernelRun0_C.sl.r_17
  simp only [v211_eq, v217_eq, View.readAt_eq_ld, Memref.IsWhole.read_unread]
  exact du_2 x0 x1 x2 x3 xs0 xs1

theorem v628_eq : kernelRun0_C.sl.v628 (F := Ideal) c arg1 harg1 arg2 harg2 arg13 harg13 arg17 arg21 x0 x1 xs0 = H3 x0 x1 xs0 2 := by
  unfold kernelRun0_C.sl.v628 kernelRun0_C.sl.HS8_4 kernelRun0_C.sl.HS8_3
  rw [View.readCov_skip _ _ _ _ _ (by decide)]
  refine (View.readCov_cons_toLoadRect _ _ _ _).trans ?_
  unfold kernelRun0_C.sl.r_17 kernelRun0_C.sl.r_18
  simp only [v211_eq, v217_eq, View.readAt_eq_ld, Memref.IsWhole.read_unread]
  exact h_2 x0 x1 xs0

theorem v712_eq : kernelRun0_C.sl.v712 (F := Ideal) c arg1 harg1 arg2 harg2 arg3 harg3 arg4 harg4 arg13 harg13 arg14 harg14 arg17 arg18 arg22 x0 x1 x2 x3 xs0 xs1 = DG3 x0 x1 x2 x3 xs0 xs1 3 := by
  unfold kernelRun0_C.sl.v712 kernelRun0_C.sl.HS9_5 kernelRun0_C.sl.HS9_4
  rw [View.readCov_skip _ _ _ _ _ (by decide)]
  refine (View.readCov_cons_toLoadRect _ _ _ _).trans ?_
  unfold kernelRun0_C.sl.r_25 kernelRun0_C.sl.r_26 kernelRun0_C.sl.r_27 kernelRun0_C.sl.r_28
  simp only [v211_eq, v217_eq, View.readAt_eq_ld, Memref.IsWhole.read_unread]
  exact dg_3 x0 x1 x2 x3 xs0 xs1

theorem v716_eq : kernelRun0_C.sl.v716 (F := Ideal) c arg1 harg1 arg2 harg2 arg3 harg3 arg4 harg4 arg13 harg13 arg14 harg14 arg17 arg18 arg23 x0 x1 x2 x3 xs0 xs1 = DU3 x0 x1 x2 x3 xs0 xs1 3 := by
  unfold kernelRun0_C.sl.v716 kernelRun0_C.sl.HS10_5 kernelRun0_C.sl.HS10_4
  rw [View.readCov_skip _ _ _ _ _ (by decide)]
  refine (View.readCov_cons_toLoadRect _ _ _ _).trans ?_
  unfold kernelRun0_C.sl.r_27 kernelRun0_C.sl.r_29
  simp only [v211_eq, v217_eq, View.readAt_eq_ld, Memref.IsWhole.read_unread]
  exact du_3 x0 x1 x2 x3 xs0 xs1

theorem v745_eq : kernelRun0_C.sl.v745 (F := Ideal) c arg1 harg1 arg2 harg2 arg13 harg13 arg17 arg21 x0 x1 xs0 = H3 x0 x1 xs0 3 := by
  unfold kernelRun0_C.sl.v745 kernelRun0_C.sl.HS8_5 kernelRun0_C.sl.HS8_4
  rw [View.readCov_skip _ _ _ _ _ (by decide)]
  refine (View.readCov_cons_toLoadRect _ _ _ _).trans ?_
  unfold kernelRun0_C.sl.r_26 kernelRun0_C.sl.r_29
  simp only [v211_eq, v217_eq, View.readAt_eq_ld, Memref.IsWhole.read_unread]
  exact h_3 x0 x1 xs0

theorem v829_eq : kernelRun0_C.sl.v829 (F := Ideal) c arg1 harg1 arg2 harg2 arg3 harg3 arg4 harg4 arg13 harg13 arg14 harg14 arg17 arg18 arg22 x0 x1 x2 x3 xs0 xs1 = DG3 x0 x1 x2 x3 xs0 xs1 4 := by
  unfold kernelRun0_C.sl.v829 kernelRun0_C.sl.HS9_6 kernelRun0_C.sl.HS9_5
  rw [View.readCov_skip _ _ _ _ _ (by decide)]
  refine (View.readCov_cons_toLoadRect _ _ _ _).trans ?_
  unfold kernelRun0_C.sl.r_36
  simp only [v211_eq, v217_eq, View.readAt_eq_ld, Memref.IsWhole.read_unread]
  exact dg_4 x0 x1 x2 x3 xs0 xs1

theorem v833_eq : kernelRun0_C.sl.v833 (F := Ideal) c arg1 harg1 arg2 harg2 arg3 harg3 arg4 harg4 arg13 harg13 arg14 harg14 arg17 arg18 arg23 x0 x1 x2 x3 xs0 xs1 = DU3 x0 x1 x2 x3 xs0 xs1 4 := by
  unfold kernelRun0_C.sl.v833 kernelRun0_C.sl.HS10_6 kernelRun0_C.sl.HS10_5
  rw [View.readCov_skip _ _ _ _ _ (by decide)]
  refine (View.readCov_cons_toLoadRect _ _ _ _).trans ?_
  unfold kernelRun0_C.sl.r_37
  simp only [v211_eq, v217_eq, View.readAt_eq_ld, Memref.IsWhole.read_unread]
  exact du_4 x0 x1 x2 x3 xs0 xs1

theorem v862_eq : kernelRun0_C.sl.v862 (F := Ideal) c arg1 harg1 arg2 harg2 arg13 harg13 arg17 arg21 x0 x1 xs0 = H3 x0 x1 xs0 4 := by
  unfold kernelRun0_C.sl.v862 kernelRun0_C.sl.HS8_6 kernelRun0_C.sl.HS8_5
  rw [View.readCov_skip _ _ _ _ _ (by decide)]
  refine (View.readCov_cons_toLoadRect _ _ _ _).trans ?_
  unfold kernelRun0_C.sl.r_38
  simp only [v211_eq, v217_eq, View.readAt_eq_ld, Memref.IsWhole.read_unread]
  exact h_4 x0 x1 xs0

theorem v946_eq : kernelRun0_C.sl.v946 (F := Ideal) c arg1 harg1 arg2 harg2 arg3 harg3 arg4 harg4 arg13 harg13 arg14 harg14 arg17 arg18 arg22 x0 x1 x2 x3 xs0 xs1 = DG3 x0 x1 x2 x3 xs0 xs1 5 := by
  unfold kernelRun0_C.sl.v946 kernelRun0_C.sl.HS9_7 kernelRun0_C.sl.HS9_6
  rw [View.readCov_skip _ _ _ _ _ (by decide)]
  refine (View.readCov_cons_toLoadRect _ _ _ _).trans ?_
  unfold kernelRun0_C.sl.r_39
  simp only [v211_eq, v217_eq, View.readAt_eq_ld, Memref.IsWhole.read_unread]
  exact dg_5 x0 x1 x2 x3 xs0 xs1

theorem v950_eq : kernelRun0_C.sl.v950 (F := Ideal) c arg1 harg1 arg2 harg2 arg3 harg3 arg4 harg4 arg13 harg13 arg14 harg14 arg17 arg18 arg23 x0 x1 x2 x3 xs0 xs1 = DU3 x0 x1 x2 x3 xs0 xs1 5 := by
  unfold kernelRun0_C.sl.v950 kernelRun0_C.sl.HS10_7 kernelRun0_C.sl.HS10_6
  rw [View.readCov_skip _ _ _ _ _ (by decide)]
  refine (View.readCov_cons_toLoadRect _ _ _ _).trans ?_
  unfold kernelRun0_C.sl.r_42 kernelRun0_C.sl.r_39
  simp only [v211_eq, v217_eq, View.readAt_eq_ld, Memref.IsWhole.read_unread]
  exact du_5 x0 x1 x2 x3 xs0 xs1

theorem v979_eq : kernelRun0_C.sl.v979 (F := Ideal) c arg1 harg1 arg2 harg2 arg13 harg13 arg17 arg21 x0 x1 xs0 = H3 x0 x1 xs0 5 := by
  unfold kernelRun0_C.sl.v979 kernelRun0_C.sl.HS8_7 kernelRun0_C.sl.HS8_6
  rw [View.readCov_skip _ _ _ _ _ (by decide)]
  refine (View.readCov_cons_toLoadRect _ _ _ _).trans ?_
  unfold kernelRun0_C.sl.r_39
  simp only [v211_eq, v217_eq, View.readAt_eq_ld, Memref.IsWhole.read_unread]
  exact h_5 x0 x1 xs0

theorem v1063_eq : kernelRun0_C.sl.v1063 (F := Ideal) c arg1 harg1 arg2 harg2 arg3 harg3 arg4 harg4 arg13 harg13 arg14 harg14 arg17 arg18 arg22 x0 x1 x2 x3 xs0 xs1 = DG3 x0 x1 x2 x3 xs0 xs1 6 := by
  unfold kernelRun0_C.sl.v1063 kernelRun0_C.sl.HS9_8 kernelRun0_C.sl.HS9_7
  rw [View.readCov_skip _ _ _ _ _ (by decide)]
  refine (View.readCov_cons_toLoadRect _ _ _ _).trans ?_
  unfold kernelRun0_C.sl.r_44 kernelRun0_C.sl.r_45 kernelRun0_C.sl.r_46
  simp only [v211_eq, v217_eq, View.readAt_eq_ld, Memref.IsWhole.read_unread]
  exact dg_6 x0 x1 x2 x3 xs0 xs1

theorem v1067_eq : kernelRun0_C.sl.v1067 (F := Ideal) c arg1 harg1 arg2 harg2 arg3 harg3 arg4 harg4 arg13 harg13 arg14 harg14 arg17 arg18 arg23 x0 x1 x2 x3 xs0 xs1 = DU3 x0 x1 x2 x3 xs0 xs1 6 := by
  unfold kernelRun0_C.sl.v1067 kernelRun0_C.sl.HS10_8 kernelRun0_C.sl.HS10_7
  rw [View.readCov_skip _ _ _ _ _ (by decide)]
  refine (View.readCov_cons_toLoadRect _ _ _ _).trans ?_
  unfold kernelRun0_C.sl.r_44 kernelRun0_C.sl.r_46
  simp only [v211_eq, v217_eq, View.readAt_eq_ld, Memref.IsWhole.read_unread]
  exact du_6 x0 x1 x2 x3 xs0 xs1

theorem v1096_eq : kernelRun0_C.sl.v1096 (F := Ideal) c arg1 harg1 arg2 harg2 arg13 harg13 arg17 arg21 x0 x1 xs0 = H3 x0 x1 xs0 6 := by
  unfold kernelRun0_C.sl.v1096 kernelRun0_C.sl.HS8_8 kernelRun0_C.sl.HS8_7
  rw [View.readCov_skip _ _ _ _ _ (by decide)]
  refine (View.readCov_cons_toLoadRect _ _ _ _).trans ?_
  unfold kernelRun0_C.sl.r_44 kernelRun0_C.sl.r_45
  simp only [v211_eq, v217_eq, View.readAt_eq_ld, Memref.IsWhole.read_unread]
  exact h_6 x0 x1 xs0

theorem v1180_eq : kernelRun0_C.sl.v1180 (F := Ideal) c arg1 harg1 arg2 harg2 arg3 harg3 arg4 harg4 arg13 harg13 arg14 harg14 arg17 arg18 arg22 x0 x1 x2 x3 xs0 xs1 = DG3 x0 x1 x2 x3 xs0 xs1 7 := by
  unfold kernelRun0_C.sl.v1180 kernelRun0_C.sl.HS9_9 kernelRun0_C.sl.HS9_8
  rw [View.readCov_skip _ _ _ _ _ (by decide)]
  refine (View.readCov_cons_toLoadRect _ _ _ _).trans ?_
  unfold kernelRun0_C.sl.r_54 kernelRun0_C.sl.r_55
  simp only [v211_eq, v217_eq, View.readAt_eq_ld, Memref.IsWhole.read_unread]
  exact dg_7 x0 x1 x2 x3 xs0 xs1

theorem v1184_eq : kernelRun0_C.sl.v1184 (F := Ideal) c arg1 harg1 arg2 harg2 arg3 harg3 arg4 harg4 arg13 harg13 arg14 harg14 arg17 arg18 arg23 x0 x1 x2 x3 xs0 xs1 = DU3 x0 x1 x2 x3 xs0 xs1 7 := by
  unfold kernelRun0_C.sl.v1184 kernelRun0_C.sl.HS10_9 kernelRun0_C.sl.HS10_8
  rw [View.readCov_skip _ _ _ _ _ (by decide)]
  refine (View.readCov_cons_toLoadRect _ _ _ _).trans ?_
  unfold kernelRun0_C.sl.r_51 kernelRun0_C.sl.r_52
  simp only [v211_eq, v217_eq, View.readAt_eq_ld, Memref.IsWhole.read_unread]
  exact du_7 x0 x1 x2 x3 xs0 xs1

theorem v1213_eq : kernelRun0_C.sl.v1213 (F := Ideal) c arg1 harg1 arg2 harg2 arg13 harg13 arg17 arg21 x0 x1 xs0 = H3 x0 x1 xs0 7 := by
  unfold kernelRun0_C.sl.v1213 kernelRun0_C.sl.HS8_9 kernelRun0_C.sl.HS8_8
  rw [View.readCov_skip _ _ _ _ _ (by decide)]
  refine (View.readCov_cons_toLoadRect _ _ _ _).trans ?_
  unfold kernelRun0_C.sl.r_53
  simp only [v211_eq, v217_eq, View.readAt_eq_ld, Memref.IsWhole.read_unread]
  exact h_7 x0 x1 xs0

theorem v1297_eq : kernelRun0_C.sl.v1297 (F := Ideal) c arg1 harg1 arg2 harg2 arg3 harg3 arg4 harg4 arg13 harg13 arg14 harg14 arg17 arg18 arg22 x0 x1 x2 x3 xs0 xs1 = DG3 x0 x1 x2 x3 xs0 xs1 8 := by
  unfold kernelRun0_C.sl.v1297 kernelRun0_C.sl.HS9_10 kernelRun0_C.sl.HS9_9
  rw [View.readCov_skip _ _ _ _ _ (by decide)]
  refine (View.readCov_cons_toLoadRect _ _ _ _).trans ?_
  unfold kernelRun0_C.sl.r_59
  simp only [v211_eq, v217_eq, View.readAt_eq_ld, Memref.IsWhole.read_unread]
  exact dg_8 x0 x1 x2 x3 xs0 xs1

theorem v1301_eq : kernelRun0_C.sl.v1301 (F := Ideal) c arg1 harg1 arg2 harg2 arg3 harg3 arg4 harg4 arg13 harg13 arg14 harg14 arg17 arg18 arg23 x0 x1 x2 x3 xs0 xs1 = DU3 x0 x1 x2 x3 xs0 xs1 8 := by
  unfold kernelRun0_C.sl.v1301 kernelRun0_C.sl.HS10_10 kernelRun0_C.sl.HS10_9
  rw [View.readCov_skip _ _ _ _ _ (by decide)]
  refine (View.readCov_cons_toLoadRect _ _ _ _).trans ?_
  unfold kernelRun0_C.sl.r_60
  simp only [v211_eq, v217_eq, View.readAt_eq_ld, Memref.IsWhole.read_unread]
  exact du_8 x0 x1 x2 x3 xs0 xs1

theorem v1330_eq : kernelRun0_C.sl.v1330 (F := Ideal) c arg1 harg1 arg2 harg2 arg13 harg13 arg17 arg21 x0 x1 xs0 = H3 x0 x1 xs0 8 := by
  unfold kernelRun0_C.sl.v1330 kernelRun0_C.sl.HS8_10 kernelRun0_C.sl.HS8_9
  rw [View.readCov_skip _ _ _ _ _ (by decide)]
  refine (View.readCov_cons_toLoadRect _ _ _ _).trans ?_
  simp only [v211_eq, v217_eq, View.readAt_eq_ld, Memref.IsWhole.read_unread]
  exact h_8 x0 x1 xs0

theorem v1414_eq : kernelRun0_C.sl.v1414 (F := Ideal) c arg1 harg1 arg2 harg2 arg3 harg3 arg4 harg4 arg13 harg13 arg14 harg14 arg17 arg18 arg22 x0 x1 x2 x3 xs0 xs1 = DG3 x0 x1 x2 x3 xs0 xs1 9 := by
  unfold kernelRun0_C.sl.v1414 kernelRun0_C.sl.HS9_11 kernelRun0_C.sl.HS9_10
  rw [View.readCov_skip _ _ _ _ _ (by decide)]
  refine (View.readCov_cons_toLoadRect _ _ _ _).trans ?_
  unfold kernelRun0_C.sl.r_63 kernelRun0_C.sl.r_64
  simp only [v211_eq, v217_eq, View.readAt_eq_ld, Memref.IsWhole.read_unread]
  exact dg_9 x0 x1 x2 x3 xs0 xs1

theorem v1418_eq : kernelRun0_C.sl.v1418 (F := Ideal) c arg1 harg1 arg2 harg2 arg3 harg3 arg4 harg4 arg13 harg13 arg14 harg14 arg17 arg18 arg23 x0 x1 x2 x3 xs0 xs1 = DU3 x0 x1 x2 x3 xs0 xs1 9 := by
  unfold kernelRun0_C.sl.v1418 kernelRun0_C.sl.HS10_11 kernelRun0_C.sl.HS10_10
  rw [View.readCov_skip _ _ _ _ _ (by decide)]
  refine (View.readCov_cons_toLoadRect _ _ _ _).trans ?_
  unfold kernelRun0_C.sl.r_63
  simp only [v211_eq, v217_eq, View.readAt_eq_ld, Memref.IsWhole.read_unread]
  exact du_9 x0 x1 x2 x3 xs0 xs1

theorem v1447_eq : kernelRun0_C.sl.v1447 (F := Ideal) c arg1 harg1 arg2 harg2 arg13 harg13 arg17 arg21 x0 x1 xs0 = H3 x0 x1 xs0 9 := by
  unfold kernelRun0_C.sl.v1447 kernelRun0_C.sl.HS8_11 kernelRun0_C.sl.HS8_10
  rw [View.readCov_skip _ _ _ _ _ (by decide)]
  refine (View.readCov_cons_toLoadRect _ _ _ _).trans ?_
  unfold kernelRun0_C.sl.r_63 kernelRun0_C.sl.r_64
  simp only [v211_eq, v217_eq, View.readAt_eq_ld, Memref.IsWhole.read_unread]
  exact h_9 x0 x1 xs0

theorem v1455_eq : kernelRun0_C.sl.v1455 (F := Ideal) c arg1 harg1 arg2 harg2 arg3 harg3 arg4 harg4 arg13 harg13 arg14 harg14 arg17 arg18 arg22 x0 x1 x2 x3 xs0 xs1 = DG3 x0 x1 x2 x3 xs0 xs1 10 := by
  unfold kernelRun0_C.sl.v1455 kernelRun0_C.sl.HS9_11
  refine (View.readCov_cons_toLoadRect _ _ _ _).trans ?_
  unfold kernelRun0_C.sl.r_71 kernelRun0_C.sl.r_72 kernelRun0_C.sl.r_73 kernelRun0_C.sl.r_74
  simp only [v211_eq, v217_eq, View.readAt_eq_ld, Memref.IsWhole.read_unread]
  exact dg_10 x0 x1 x2 x3 xs0 xs1

theorem v1459_eq : kernelRun0_C.sl.v1459 (F := Ideal) c arg1 harg1 arg2 harg2 arg3 harg3 arg4 harg4 arg13 harg13 arg14 harg14 arg17 arg18 arg23 x0 x1 x2 x3 xs0 xs1 = DU3 x0 x1 x2 x3 xs0 xs1 10 := by
  unfold kernelRun0_C.sl.v1459 kernelRun0_C.sl.HS10_11
  refine (View.readCov_cons_toLoadRect _ _ _ _).trans ?_
  unfold kernelRun0_C.sl.r_71 kernelRun0_C.sl.r_73 kernelRun0_C.sl.r_74
  simp only [v211_eq, v217_eq, View.readAt_eq_ld, Memref.IsWhole.read_unread]
  exact du_10 x0 x1 x2 x3 xs0 xs1

theorem v1487_eq : kernelRun0_C.sl.v1487 (F := Ideal) c arg1 harg1 arg2 harg2 arg13 harg13 arg17 arg21 x0 x1 xs0 = H3 x0 x1 xs0 10 := by
  unfold kernelRun0_C.sl.v1487 kernelRun0_C.sl.HS8_11
  refine (View.readCov_cons_toLoadRect _ _ _ _).trans ?_
  unfold kernelRun0_C.sl.r_71 kernelRun0_C.sl.r_72 kernelRun0_C.sl.r_74
  simp only [v211_eq, v217_eq, View.readAt_eq_ld, Memref.IsWhole.read_unread]
  exact h_10 x0 x1 xs0

theorem v487_eq : kernelRun0_C.sl.v487 (F := Ideal) c arg1 harg1 arg2 harg2 arg3 harg3 arg4 harg4 arg13 harg13 arg14 harg14 arg17 arg18 arg20 arg22 arg23 x0 x1 x2 x3 xs0 xs1 = DXA x0 x1 x2 x3 xs0 xs1 0 := by
  unfold kernelRun0_C.sl.v487 kernelRun0_C.sl.HS7_1
  refine (View.readCov_cons_toLoadRect _ _ _ _).trans ?_
  simp only [View.readAt_eq_ld, Memref.IsWhole.read_unread, v363_eq, v367_eq]
  exact dxa_0 x0 x1 x2 x3 xs0 xs1

theorem v604_eq : kernelRun0_C.sl.v604 (F := Ideal) c arg1 harg1 arg2 harg2 arg3 harg3 arg4 harg4 arg13 harg13 arg14 harg14 arg17 arg18 arg20 arg22 arg23 x0 x1 x2 x3 xs0 xs1 = DXA x0 x1 x2 x3 xs0 xs1 1 := by
  unfold kernelRun0_C.sl.v604 kernelRun0_C.sl.HS7_2 kernelRun0_C.sl.r_23
  refine (View.readCov_cons_toLoadRect _ _ _ _).trans ?_
  simp only [View.readAt_eq_ld, Memref.IsWhole.read_unread, v482_eq, v487_eq, v478_eq]
  exact dxa_1 x0 x1 x2 x3 xs0 xs1

theorem v721_eq : kernelRun0_C.sl.v721 (F := Ideal) c arg1 harg1 arg2 harg2 arg3 harg3 arg4 harg4 arg13 harg13 arg14 harg14 arg17 arg18 arg20 arg22 arg23 x0 x1 x2 x3 xs0 xs1 = DXA x0 x1 x2 x3 xs0 xs1 2 := by
  unfold kernelRun0_C.sl.v721 kernelRun0_C.sl.HS7_3 kernelRun0_C.sl.r_33
  refine (View.readCov_cons_toLoadRect _ _ _ _).trans ?_
  simp only [View.readAt_eq_ld, Memref.IsWhole.read_unread, v604_eq, v595_eq, v599_eq]
  exact dxa_2 x0 x1 x2 x3 xs0 xs1

theorem v838_eq : kernelRun0_C.sl.v838 (F := Ideal) c arg1 harg1 arg2 harg2 arg3 harg3 arg4 harg4 arg13 harg13 arg14 harg14 arg17 arg18 arg20 arg22 arg23 x0 x1 x2 x3 xs0 xs1 = DXA x0 x1 x2 x3 xs0 xs1 3 := by
  unfold kernelRun0_C.sl.v838 kernelRun0_C.sl.HS7_4
  refine (View.readCov_cons_toLoadRect _ _ _ _).trans ?_
  simp only [View.readAt_eq_ld, Memref.IsWhole.read_unread, v712_eq, v716_eq, v721_eq]
  exact dxa_3 x0 x1 x2 x3 xs0 xs1

theorem v955_eq : kernelRun0_C.sl.v955 (F := Ideal) c arg1 harg1 arg2 harg2 arg3 harg3 arg4 harg4 arg13 harg13 arg14 harg14 arg17 arg18 arg20 arg22 arg23 x0 x1 x2 x3 xs0 xs1 = DXA x0 x1 x2 x3 xs0 xs1 4 := by
  unfold kernelRun0_C.sl.v955 kernelRun0_C.sl.HS7_5
  refine (View.readCov_cons_toLoadRect _ _ _ _).trans ?_
  simp only [View.readAt_eq_ld, Memref.IsWhole.read_unread, v829_eq, v833_eq, v838_eq]
  exact dxa_4 x0 x1 x2 x3 xs0 xs1

theorem v1072_eq : kernelRun0_C.sl.v1072 (F := Ideal) c arg1 harg1 arg2 harg2 arg3 harg3 arg4 harg4 arg13 harg13 arg14 harg14 arg17 arg18 arg20 arg22 arg23 x0 x1 x2 x3 xs0 xs1 = DXA x0 x1 x2 x3 xs0 xs1 5 := by
  unfold kernelRun0_C.sl.v1072 kernelRun0_C.sl.HS7_6 kernelRun0_C.sl.r_50
  refine (View.readCov_cons_toLoadRect _ _ _ _).trans ?_
  simp only [View.readAt_eq_ld, Memref.IsWhole.read_unread, v950_eq, v955_eq, v946_eq]
  exact dxa_5 x0 x1 x2 x3 xs0 xs1

theorem v1189_eq : kernelRun0_C.sl.v1189 (F := Ideal) c arg1 harg1 arg2 harg2 arg3 harg3 arg4 harg4 arg13 harg13 arg14 harg14 arg17 arg18 arg20 arg22 arg23 x0 x1 x2 x3 xs0 xs1 = DXA x0 x1 x2 x3 xs0 xs1 6 := by
  unfold kernelRun0_C.sl.v1189 kernelRun0_C.sl.HS7_7
  refine (View.readCov_cons_toLoadRect _ _ _ _).trans ?_
  simp only [View.readAt_eq_ld, Memref.IsWhole.read_unread, v1063_eq, v1067_eq, v1072_eq]
  exact dxa_6 x0 x1 x2 x3 xs0 xs1

theorem v1306_eq : kernelRun0_C.sl.v1306 (F := Ideal) c arg1 harg1 arg2 harg2 arg3 harg3 arg4 harg4 arg13 harg13 arg14 harg14 arg17 arg18 arg20 arg22 arg23 x0 x1 x2 x3 xs0 xs1 = DXA x0 x1 x2 x3 xs0 xs1 7 := by
  unfold kernelRun0_C.sl.v1306 kernelRun0_C.sl.HS7_8
  refine (View.readCov_cons_toLoadRect _ _ _ _).trans ?_
  simp only [View.readAt_eq_ld, Memref.IsWhole.read_unread, v1180_eq, v1184_eq, v1189_eq]
  exact dxa_7 x0 x1 x2 x3 xs0 xs1

theorem v1423_eq : kernelRun0_C.sl.v1423 (F := Ideal) c arg1 harg1 arg2 harg2 arg3 harg3 arg4 harg4 arg13 harg13 arg14 harg14 arg17 arg18 arg20 arg22 arg23 x0 x1 x2 x3 xs0 xs1 = DXA x0 x1 x2 x3 xs0 xs1 8 := by
  unfold kernelRun0_C.sl.v1423 kernelRun0_C.sl.HS7_9 kernelRun0_C.sl.r_69
  refine (View.readCov_cons_toLoadRect _ _ _ _).trans ?_
  simp only [View.readAt_eq_ld, Memref.IsWhole.read_unread, v1301_eq, v1306_eq, v1297_eq]
  exact dxa_8 x0 x1 x2 x3 xs0 xs1

theorem v1464_eq : kernelRun0_C.sl.v1464 (F := Ideal) c arg1 harg1 arg2 harg2 arg3 harg3 arg4 harg4 arg13 harg13 arg14 harg14 arg17 arg18 arg20 arg22 arg23 x0 x1 x2 x3 xs0 xs1 = DXA x0 x1 x2 x3 xs0 xs1 9 := by
  unfold kernelRun0_C.sl.v1464 kernelRun0_C.sl.HS7_10 kernelRun0_C.sl.r_78
  refine (View.readCov_cons_toLoadRect _ _ _ _).trans ?_
  simp only [View.readAt_eq_ld, Memref.IsWhole.read_unread, v1423_eq, v1414_eq, v1418_eq]
  exact dxa_9 x0 x1 x2 x3 xs0 xs1

end Cert.KernelIdeal.CaseC

end
-- ==== Proof.OutsC.lean ====
/- What one point leaves in each output block and in the two accumulators, in one case of its branches. -/
module

public import proofs.«01_k».proof.Proof.WordsC
public import proofs.«01_k».proof.Proof.BlockAmax
public import proofs.«01_k».proof.Proof.RunOuts

@[expose] public section

set_option maxRecDepth 16384

noncomputable section

namespace Cert.KernelIdeal.CaseC

open Cert.KernelIdeal Cert.KernelIdeal.Gen Cert.KernelIdeal.Block Idealize.ShloMosaic Cert.Spec

variable (c : Dev nD) (i : grid0.Coords) (arg1 : Memref sig .tc .vmem S256x1024 .fp8e4m3) (harg1 : arg1.IsWhole) (arg2 : Memref sig .tc .vmem S256x8 .f32) (harg2 : arg2.IsWhole) (arg3 : Memref sig .tc .vmem S256x1024 .fp8e5m2) (harg3 : arg3.IsWhole) (arg4 : Memref sig .tc .vmem S256x8 .f32) (harg4 : arg4.IsWhole) (arg7 : Memref sig .tc .vmem S256x1024 .bf16) (harg7 : arg7.IsWhole) (arg10 : Memref sig .tc .vmem S256x22 .f32) (harg10 : arg10.IsWhole) (arg11 : Memref sig .tc .vmem S256x22 .f32) (harg11 : arg11.IsWhole) (arg12 : Memref sig .tc .vmem S256x22 .f32) (harg12 : arg12.IsWhole) (arg13 : Memref sig .tc .vmem S1024x5632 .bf16) (harg13 : arg13.IsWhole) (arg14 : Memref sig .tc .vmem S2816x1024 .bf16) (harg14 : arg14.IsWhole) (arg15 : Memref sig .tc .vmem S1024x5632 .f32) (harg15 : arg15.IsWhole) (arg16 : Memref sig .tc .vmem S2816x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S1024x256 .bf16) (harg19 : arg19.IsWhole) (arg20 : Memref sig .tc .vmem S256x1024 .f32) (harg20 : arg20.IsWhole) (arg21 : Memref sig .tc .vmem S2x256x256 .bf16) (harg21 : arg21.IsWhole) (arg22 : Memref sig .tc .vmem S2x256x256 .bf16) (harg22 : arg22.IsWhole) (arg23 : Memref sig .tc .vmem S2x256x256 .bf16) (harg23 : arg23.IsWhole)
  (hc0 : ¬cond0_0 i) (hc1 : cond0_1 i)
  (x0 : Vec Ideal S256x1024 .fp8e4m3) (x1 : Vec Ideal S256x8 .f32) (x2 : Vec Ideal S256x1024 .fp8e5m2) (x3 : Vec Ideal S256x8 .f32)
  (xs0 : Vec Ideal S1024x5632 .bf16) (xs1 : Vec Ideal S2816x1024 .bf16) (xs2 : Vec Ideal S1024x5632 .f32) (xs3 : Vec Ideal S2816x1024 .f32)
  (fh0 : HbBuf0 (F := Ideal) c hbM0_0) (fh1 : HbBuf0 (F := Ideal) c hbM0_1) (fw2 : HbBuf0 (F := Ideal) c hbM0_2) (fw3 : HbBuf0 (F := Ideal) c hbM0_3)

/-- The gradient of the activations this point writes. -/
theorem out4_eq : out0_C_4 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = DXO x0 x1 x2 x3 xs0 xs1 := by
  unfold out0_C_4
  rw [View.read_writes_junk_eq_canon]
  funext y
  refine canon_of (G := DXO x0 x1 x2 x3 xs0 xs1) ?_ y (cover0_C_4 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 y)
  refine of_cons ?_ (of_nil _)
  refine dx_piece x0 x1 x2 x3 xs0 xs1 _ _ ?_
  simp only [View.readAt_eq_ld, Memref.IsWhole.read_unread, v1455_eq, v1459_eq, v1464_eq]
  exact dxa_10 x0 x1 x2 x3 xs0 xs1

theorem out5_eq : out0_C_5 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = AM (fun r => hid (xr x0 x1 r) xs0) := by
  unfold out0_C_5
  rw [View.read_writes_junk_eq_canon]
  funext y
  refine canon_of (G := AM (fun r => hid (xr x0 x1 r) xs0)) ?_ y (cover0_C_5 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 y)
  refine of_cons (amax_piece (fun r => hid (xr x0 x1 r) xs0) 21 21 rfl _ _ fun r => ?_) ?_
  · unfold kernelRun0_C.sl.r_71 kernelRun0_C.sl.r_72 kernelRun0_C.sl.r_74
    simp only [View.readAt_eq_ld, Memref.IsWhole.read_unread, v211_eq]
    exact amh_21 x0 x1 xs0 r
  refine of_cons (amax_piece (fun r => hid (xr x0 x1 r) xs0) 20 20 rfl _ _ fun r => ?_) ?_
  · unfold kernelRun0_C.sl.r_71 kernelRun0_C.sl.r_72 kernelRun0_C.sl.r_74
    simp only [View.readAt_eq_ld, Memref.IsWhole.read_unread, v211_eq]
    exact amh_20 x0 x1 xs0 r
  refine of_cons (amax_piece (fun r => hid (xr x0 x1 r) xs0) 19 19 rfl _ _ fun r => ?_) ?_
  · unfold kernelRun0_C.sl.r_65 kernelRun0_C.sl.r_63 kernelRun0_C.sl.r_64
    simp only [View.readAt_eq_ld, Memref.IsWhole.read_unread, v211_eq]
    exact amh_19 x0 x1 xs0 r
  refine of_cons (amax_piece (fun r => hid (xr x0 x1 r) xs0) 18 18 rfl _ _ fun r => ?_) ?_
  · unfold kernelRun0_C.sl.r_68 kernelRun0_C.sl.r_63 kernelRun0_C.sl.r_64
    simp only [View.readAt_eq_ld, Memref.IsWhole.read_unread, v211_eq]
    exact amh_18 x0 x1 xs0 r
  refine of_cons (amax_piece (fun r => hid (xr x0 x1 r) xs0) 17 17 rfl _ _ fun r => ?_) ?_
  · unfold kernelRun0_C.sl.r_58
    simp only [View.readAt_eq_ld, Memref.IsWhole.read_unread, v211_eq]
    exact amh_17 x0 x1 xs0 r
  refine of_cons (amax_piece (fun r => hid (xr x0 x1 r) xs0) 16 16 rfl _ _ fun r => ?_) ?_
  · unfold kernelRun0_C.sl.r_58
    simp only [View.readAt_eq_ld, Memref.IsWhole.read_unread, v211_eq]
    exact amh_16 x0 x1 xs0 r
  refine of_cons (amax_piece (fun r => hid (xr x0 x1 r) xs0) 15 15 rfl _ _ fun r => ?_) ?_
  · unfold kernelRun0_C.sl.r_53
    simp only [View.readAt_eq_ld, Memref.IsWhole.read_unread, v211_eq]
    exact amh_15 x0 x1 xs0 r
  refine of_cons (amax_piece (fun r => hid (xr x0 x1 r) xs0) 14 14 rfl _ _ fun r => ?_) ?_
  · unfold kernelRun0_C.sl.r_53
    simp only [View.readAt_eq_ld, Memref.IsWhole.read_unread, v211_eq]
    exact amh_14 x0 x1 xs0 r
  refine of_cons (amax_piece (fun r => hid (xr x0 x1 r) xs0) 13 13 rfl _ _ fun r => ?_) ?_
  · unfold kernelRun0_C.sl.r_49 kernelRun0_C.sl.r_44 kernelRun0_C.sl.r_45
    simp only [View.readAt_eq_ld, Memref.IsWhole.read_unread, v211_eq]
    exact amh_13 x0 x1 xs0 r
  refine of_cons (amax_piece (fun r => hid (xr x0 x1 r) xs0) 12 12 rfl _ _ fun r => ?_) ?_
  · unfold kernelRun0_C.sl.r_44 kernelRun0_C.sl.r_45
    simp only [View.readAt_eq_ld, Memref.IsWhole.read_unread, v211_eq]
    exact amh_12 x0 x1 xs0 r
  refine of_cons (amax_piece (fun r => hid (xr x0 x1 r) xs0) 11 11 rfl _ _ fun r => ?_) ?_
  · unfold kernelRun0_C.sl.r_40 kernelRun0_C.sl.r_39
    simp only [View.readAt_eq_ld, Memref.IsWhole.read_unread, v211_eq]
    exact amh_11 x0 x1 xs0 r
  refine of_cons (amax_piece (fun r => hid (xr x0 x1 r) xs0) 10 10 rfl _ _ fun r => ?_) ?_
  · unfold kernelRun0_C.sl.r_40 kernelRun0_C.sl.r_39
    simp only [View.readAt_eq_ld, Memref.IsWhole.read_unread, v211_eq]
    exact amh_10 x0 x1 xs0 r
  refine of_cons (amax_piece (fun r => hid (xr x0 x1 r) xs0) 9 9 rfl _ _ fun r => ?_) ?_
  · unfold kernelRun0_C.sl.r_35
    simp only [View.readAt_eq_ld, Memref.IsWhole.read_unread, v211_eq]
    exact amh_9 x0 x1 xs0 r
  refine of_cons (amax_piece (fun r => hid (xr x0 x1 r) xs0) 8 8 rfl _ _ fun r => ?_) ?_
  · unfold kernelRun0_C.sl.r_35
    simp only [View.readAt_eq_ld, Memref.IsWhole.read_unread, v211_eq]
    exact amh_8 x0 x1 xs0 r
  refine of_cons (amax_piece (fun r => hid (xr x0 x1 r) xs0) 7 7 rfl _ _ fun r => ?_) ?_
  · unfold kernelRun0_C.sl.r_26 kernelRun0_C.sl.r_29
    simp only [View.readAt_eq_ld, Memref.IsWhole.read_unread, v211_eq]
    exact amh_7 x0 x1 xs0 r
  refine of_cons (amax_piece (fun r => hid (xr x0 x1 r) xs0) 6 6 rfl _ _ fun r => ?_) ?_
  · unfold kernelRun0_C.sl.r_26 kernelRun0_C.sl.r_29
    simp only [View.readAt_eq_ld, Memref.IsWhole.read_unread, v211_eq]
    exact amh_6 x0 x1 xs0 r
  refine of_cons (amax_piece (fun r => hid (xr x0 x1 r) xs0) 5 5 rfl _ _ fun r => ?_) ?_
  · unfold kernelRun0_C.sl.r_19 kernelRun0_C.sl.r_17 kernelRun0_C.sl.r_18
    simp only [View.readAt_eq_ld, Memref.IsWhole.read_unread, v211_eq]
    exact amh_5 x0 x1 xs0 r
  refine of_cons (amax_piece (fun r => hid (xr x0 x1 r) xs0) 4 4 rfl _ _ fun r => ?_) ?_
  · unfold kernelRun0_C.sl.r_22 kernelRun0_C.sl.r_17 kernelRun0_C.sl.r_18
    simp only [View.readAt_eq_ld, Memref.IsWhole.read_unread, v211_eq]
    exact amh_4 x0 x1 xs0 r
  refine of_cons (amax_piece (fun r => hid (xr x0 x1 r) xs0) 3 3 rfl _ _ fun r => ?_) ?_
  · unfold kernelRun0_C.sl.r_11
    simp only [View.readAt_eq_ld, Memref.IsWhole.read_unread, v211_eq]
    exact amh_3 x0 x1 xs0 r
  refine of_cons (amax_piece (fun r => hid (xr x0 x1 r) xs0) 2 2 rfl _ _ fun r => ?_) ?_
  · unfold kernelRun0_C.sl.r_11
    simp only [View.readAt_eq_ld, Memref.IsWhole.read_unread, v211_eq]
    exact amh_2 x0 x1 xs0 r
  refine of_cons (amax_piece (fun r => hid (xr x0 x1 r) xs0) 1 1 rfl _ _ fun r => ?_) ?_
  · unfold kernelRun0_C.sl.r_6 kernelRun0_C.sl.r_5
    simp only [View.readAt_eq_ld, Memref.IsWhole.read_unread, v211_eq]
    exact amh_1 x0 x1 xs0 r
  refine of_cons (amax_piece (fun r => hid (xr x0 x1 r) xs0) 0 0 rfl _ _ fun r => ?_) ?_
  · unfold kernelRun0_C.sl.r_6 kernelRun0_C.sl.r_5
    simp only [View.readAt_eq_ld, Memref.IsWhole.read_unread, v211_eq]
    exact amh_0 x0 x1 xs0 r
  exact of_nil _

theorem out6_eq : out0_C_6 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = AM (fun r => dgate (xr x0 x1 r) (yr x2 x3 r) xs0 xs1) := by
  unfold out0_C_6
  rw [View.read_writes_junk_eq_canon]
  funext y
  refine canon_of (G := AM (fun r => dgate (xr x0 x1 r) (yr x2 x3 r) xs0 xs1)) ?_ y (cover0_C_6 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 y)
  refine of_cons (amax_piece (fun r => dgate (xr x0 x1 r) (yr x2 x3 r) xs0 xs1) 21 21 rfl _ _ fun r => ?_) ?_
  · unfold kernelRun0_C.sl.r_75 kernelRun0_C.sl.r_71 kernelRun0_C.sl.r_72 kernelRun0_C.sl.r_73 kernelRun0_C.sl.r_74
    simp only [View.readAt_eq_ld, Memref.IsWhole.read_unread, v211_eq, v217_eq]
    exact amg_21 x0 x1 x2 x3 xs0 xs1 r
  refine of_cons (amax_piece (fun r => dgate (xr x0 x1 r) (yr x2 x3 r) xs0 xs1) 20 20 rfl _ _ fun r => ?_) ?_
  · unfold kernelRun0_C.sl.r_77 kernelRun0_C.sl.r_71 kernelRun0_C.sl.r_72 kernelRun0_C.sl.r_73 kernelRun0_C.sl.r_74
    simp only [View.readAt_eq_ld, Memref.IsWhole.read_unread, v211_eq, v217_eq]
    exact amg_20 x0 x1 x2 x3 xs0 xs1 r
  refine of_cons (amax_piece (fun r => dgate (xr x0 x1 r) (yr x2 x3 r) xs0 xs1) 19 19 rfl _ _ fun r => ?_) ?_
  · unfold kernelRun0_C.sl.r_66 kernelRun0_C.sl.r_63 kernelRun0_C.sl.r_64
    simp only [View.readAt_eq_ld, Memref.IsWhole.read_unread, v217_eq, v211_eq]
    exact amg_19 x0 x1 x2 x3 xs0 xs1 r
  refine of_cons (amax_piece (fun r => dgate (xr x0 x1 r) (yr x2 x3 r) xs0 xs1) 18 18 rfl _ _ fun r => ?_) ?_
  · unfold kernelRun0_C.sl.r_66 kernelRun0_C.sl.r_63 kernelRun0_C.sl.r_64
    simp only [View.readAt_eq_ld, Memref.IsWhole.read_unread, v217_eq, v211_eq]
    exact amg_18 x0 x1 x2 x3 xs0 xs1 r
  refine of_cons (amax_piece (fun r => dgate (xr x0 x1 r) (yr x2 x3 r) xs0 xs1) 17 17 rfl _ _ fun r => ?_) ?_
  · unfold kernelRun0_C.sl.r_59
    simp only [View.readAt_eq_ld, Memref.IsWhole.read_unread, v211_eq, v217_eq]
    exact amg_17 x0 x1 x2 x3 xs0 xs1 r
  refine of_cons (amax_piece (fun r => dgate (xr x0 x1 r) (yr x2 x3 r) xs0 xs1) 16 16 rfl _ _ fun r => ?_) ?_
  · unfold kernelRun0_C.sl.r_59
    simp only [View.readAt_eq_ld, Memref.IsWhole.read_unread, v211_eq, v217_eq]
    exact amg_16 x0 x1 x2 x3 xs0 xs1 r
  refine of_cons (amax_piece (fun r => dgate (xr x0 x1 r) (yr x2 x3 r) xs0 xs1) 15 15 rfl _ _ fun r => ?_) ?_
  · unfold kernelRun0_C.sl.r_57 kernelRun0_C.sl.r_54 kernelRun0_C.sl.r_55
    simp only [View.readAt_eq_ld, Memref.IsWhole.read_unread, v211_eq, v217_eq]
    exact amg_15 x0 x1 x2 x3 xs0 xs1 r
  refine of_cons (amax_piece (fun r => dgate (xr x0 x1 r) (yr x2 x3 r) xs0 xs1) 14 14 rfl _ _ fun r => ?_) ?_
  · unfold kernelRun0_C.sl.r_54 kernelRun0_C.sl.r_55
    simp only [View.readAt_eq_ld, Memref.IsWhole.read_unread, v211_eq, v217_eq]
    exact amg_14 x0 x1 x2 x3 xs0 xs1 r
  refine of_cons (amax_piece (fun r => dgate (xr x0 x1 r) (yr x2 x3 r) xs0 xs1) 13 13 rfl _ _ fun r => ?_) ?_
  · unfold kernelRun0_C.sl.r_47 kernelRun0_C.sl.r_44 kernelRun0_C.sl.r_45 kernelRun0_C.sl.r_46
    simp only [View.readAt_eq_ld, Memref.IsWhole.read_unread, v211_eq, v217_eq]
    exact amg_13 x0 x1 x2 x3 xs0 xs1 r
  refine of_cons (amax_piece (fun r => dgate (xr x0 x1 r) (yr x2 x3 r) xs0 xs1) 12 12 rfl _ _ fun r => ?_) ?_
  · unfold kernelRun0_C.sl.r_47 kernelRun0_C.sl.r_44 kernelRun0_C.sl.r_45 kernelRun0_C.sl.r_46
    simp only [View.readAt_eq_ld, Memref.IsWhole.read_unread, v211_eq, v217_eq]
    exact amg_12 x0 x1 x2 x3 xs0 xs1 r
  refine of_cons (amax_piece (fun r => dgate (xr x0 x1 r) (yr x2 x3 r) xs0 xs1) 11 11 rfl _ _ fun r => ?_) ?_
  · unfold kernelRun0_C.sl.r_41 kernelRun0_C.sl.r_39
    simp only [View.readAt_eq_ld, Memref.IsWhole.read_unread, v211_eq, v217_eq]
    exact amg_11 x0 x1 x2 x3 xs0 xs1 r
  refine of_cons (amax_piece (fun r => dgate (xr x0 x1 r) (yr x2 x3 r) xs0 xs1) 10 10 rfl _ _ fun r => ?_) ?_
  · unfold kernelRun0_C.sl.r_41 kernelRun0_C.sl.r_39
    simp only [View.readAt_eq_ld, Memref.IsWhole.read_unread, v211_eq, v217_eq]
    exact amg_10 x0 x1 x2 x3 xs0 xs1 r
  refine of_cons (amax_piece (fun r => dgate (xr x0 x1 r) (yr x2 x3 r) xs0 xs1) 9 9 rfl _ _ fun r => ?_) ?_
  · unfold kernelRun0_C.sl.r_36
    simp only [View.readAt_eq_ld, Memref.IsWhole.read_unread, v211_eq, v217_eq]
    exact amg_9 x0 x1 x2 x3 xs0 xs1 r
  refine of_cons (amax_piece (fun r => dgate (xr x0 x1 r) (yr x2 x3 r) xs0 xs1) 8 8 rfl _ _ fun r => ?_) ?_
  · unfold kernelRun0_C.sl.r_36
    simp only [View.readAt_eq_ld, Memref.IsWhole.read_unread, v211_eq, v217_eq]
    exact amg_8 x0 x1 x2 x3 xs0 xs1 r
  refine of_cons (amax_piece (fun r => dgate (xr x0 x1 r) (yr x2 x3 r) xs0 xs1) 7 7 rfl _ _ fun r => ?_) ?_
  · unfold kernelRun0_C.sl.r_30 kernelRun0_C.sl.r_25 kernelRun0_C.sl.r_26 kernelRun0_C.sl.r_27 kernelRun0_C.sl.r_28
    simp only [View.readAt_eq_ld, Memref.IsWhole.read_unread, v211_eq, v217_eq]
    exact amg_7 x0 x1 x2 x3 xs0 xs1 r
  refine of_cons (amax_piece (fun r => dgate (xr x0 x1 r) (yr x2 x3 r) xs0 xs1) 6 6 rfl _ _ fun r => ?_) ?_
  · unfold kernelRun0_C.sl.r_32 kernelRun0_C.sl.r_25 kernelRun0_C.sl.r_26 kernelRun0_C.sl.r_27 kernelRun0_C.sl.r_28
    simp only [View.readAt_eq_ld, Memref.IsWhole.read_unread, v211_eq, v217_eq]
    exact amg_6 x0 x1 x2 x3 xs0 xs1 r
  refine of_cons (amax_piece (fun r => dgate (xr x0 x1 r) (yr x2 x3 r) xs0 xs1) 5 5 rfl _ _ fun r => ?_) ?_
  · unfold kernelRun0_C.sl.r_20 kernelRun0_C.sl.r_17 kernelRun0_C.sl.r_18
    simp only [View.readAt_eq_ld, Memref.IsWhole.read_unread, v217_eq, v211_eq]
    exact amg_5 x0 x1 x2 x3 xs0 xs1 r
  refine of_cons (amax_piece (fun r => dgate (xr x0 x1 r) (yr x2 x3 r) xs0 xs1) 4 4 rfl _ _ fun r => ?_) ?_
  · unfold kernelRun0_C.sl.r_20 kernelRun0_C.sl.r_17 kernelRun0_C.sl.r_18
    simp only [View.readAt_eq_ld, Memref.IsWhole.read_unread, v217_eq, v211_eq]
    exact amg_4 x0 x1 x2 x3 xs0 xs1 r
  refine of_cons (amax_piece (fun r => dgate (xr x0 x1 r) (yr x2 x3 r) xs0 xs1) 3 3 rfl _ _ fun r => ?_) ?_
  · unfold kernelRun0_C.sl.r_12
    simp only [View.readAt_eq_ld, Memref.IsWhole.read_unread, v211_eq, v217_eq]
    exact amg_3 x0 x1 x2 x3 xs0 xs1 r
  refine of_cons (amax_piece (fun r => dgate (xr x0 x1 r) (yr x2 x3 r) xs0 xs1) 2 2 rfl _ _ fun r => ?_) ?_
  · unfold kernelRun0_C.sl.r_12
    simp only [View.readAt_eq_ld, Memref.IsWhole.read_unread, v211_eq, v217_eq]
    exact amg_2 x0 x1 x2 x3 xs0 xs1 r
  refine of_cons (amax_piece (fun r => dgate (xr x0 x1 r) (yr x2 x3 r) xs0 xs1) 1 1 rfl _ _ fun r => ?_) ?_
  · unfold kernelRun0_C.sl.r_7 kernelRun0_C.sl.r_5
    simp only [View.readAt_eq_ld, Memref.IsWhole.read_unread, v211_eq, v217_eq]
    exact amg_1 x0 x1 x2 x3 xs0 xs1 r
  refine of_cons (amax_piece (fun r => dgate (xr x0 x1 r) (yr x2 x3 r) xs0 xs1) 0 0 rfl _ _ fun r => ?_) ?_
  · unfold kernelRun0_C.sl.r_7 kernelRun0_C.sl.r_5
    simp only [View.readAt_eq_ld, Memref.IsWhole.read_unread, v211_eq, v217_eq]
    exact amg_0 x0 x1 x2 x3 xs0 xs1 r
  exact of_nil _

theorem out7_eq : out0_C_7 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = AM (fun r => dup (xr x0 x1 r) (yr x2 x3 r) xs0 xs1) := by
  unfold out0_C_7
  rw [View.read_writes_junk_eq_canon]
  funext y
  refine canon_of (G := AM (fun r => dup (xr x0 x1 r) (yr x2 x3 r) xs0 xs1)) ?_ y (cover0_C_7 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 y)
  refine of_cons (amax_piece (fun r => dup (xr x0 x1 r) (yr x2 x3 r) xs0 xs1) 21 21 rfl _ _ fun r => ?_) ?_
  · unfold kernelRun0_C.sl.r_76 kernelRun0_C.sl.r_71 kernelRun0_C.sl.r_73 kernelRun0_C.sl.r_74
    simp only [View.readAt_eq_ld, Memref.IsWhole.read_unread, v211_eq, v217_eq]
    exact amu_21 x0 x1 x2 x3 xs0 xs1 r
  refine of_cons (amax_piece (fun r => dup (xr x0 x1 r) (yr x2 x3 r) xs0 xs1) 20 20 rfl _ _ fun r => ?_) ?_
  · unfold kernelRun0_C.sl.r_76 kernelRun0_C.sl.r_71 kernelRun0_C.sl.r_73 kernelRun0_C.sl.r_74
    simp only [View.readAt_eq_ld, Memref.IsWhole.read_unread, v211_eq, v217_eq]
    exact amu_20 x0 x1 x2 x3 xs0 xs1 r
  refine of_cons (amax_piece (fun r => dup (xr x0 x1 r) (yr x2 x3 r) xs0 xs1) 19 19 rfl _ _ fun r => ?_) ?_
  · unfold kernelRun0_C.sl.r_67 kernelRun0_C.sl.r_63
    simp only [View.readAt_eq_ld, Memref.IsWhole.read_unread, v217_eq, v211_eq]
    exact amu_19 x0 x1 x2 x3 xs0 xs1 r
  refine of_cons (amax_piece (fun r => dup (xr x0 x1 r) (yr x2 x3 r) xs0 xs1) 18 18 rfl _ _ fun r => ?_) ?_
  · unfold kernelRun0_C.sl.r_67 kernelRun0_C.sl.r_63
    simp only [View.readAt_eq_ld, Memref.IsWhole.read_unread, v217_eq, v211_eq]
    exact amu_18 x0 x1 x2 x3 xs0 xs1 r
  refine of_cons (amax_piece (fun r => dup (xr x0 x1 r) (yr x2 x3 r) xs0 xs1) 17 17 rfl _ _ fun r => ?_) ?_
  · unfold kernelRun0_C.sl.r_60
    simp only [View.readAt_eq_ld, Memref.IsWhole.read_unread, v211_eq, v217_eq]
    exact amu_17 x0 x1 x2 x3 xs0 xs1 r
  refine of_cons (amax_piece (fun r => dup (xr x0 x1 r) (yr x2 x3 r) xs0 xs1) 16 16 rfl _ _ fun r => ?_) ?_
  · unfold kernelRun0_C.sl.r_61 kernelRun0_C.sl.r_60
    simp only [View.readAt_eq_ld, Memref.IsWhole.read_unread, v211_eq, v217_eq]
    exact amu_16 x0 x1 x2 x3 xs0 xs1 r
  refine of_cons (amax_piece (fun r => dup (xr x0 x1 r) (yr x2 x3 r) xs0 xs1) 15 15 rfl _ _ fun r => ?_) ?_
  · unfold kernelRun0_C.sl.r_56 kernelRun0_C.sl.r_51 kernelRun0_C.sl.r_52
    simp only [View.readAt_eq_ld, Memref.IsWhole.read_unread, v217_eq, v211_eq]
    exact amu_15 x0 x1 x2 x3 xs0 xs1 r
  refine of_cons (amax_piece (fun r => dup (xr x0 x1 r) (yr x2 x3 r) xs0 xs1) 14 14 rfl _ _ fun r => ?_) ?_
  · unfold kernelRun0_C.sl.r_56 kernelRun0_C.sl.r_51 kernelRun0_C.sl.r_52
    simp only [View.readAt_eq_ld, Memref.IsWhole.read_unread, v217_eq, v211_eq]
    exact amu_14 x0 x1 x2 x3 xs0 xs1 r
  refine of_cons (amax_piece (fun r => dup (xr x0 x1 r) (yr x2 x3 r) xs0 xs1) 13 13 rfl _ _ fun r => ?_) ?_
  · unfold kernelRun0_C.sl.r_48 kernelRun0_C.sl.r_44 kernelRun0_C.sl.r_46
    simp only [View.readAt_eq_ld, Memref.IsWhole.read_unread, v211_eq, v217_eq]
    exact amu_13 x0 x1 x2 x3 xs0 xs1 r
  refine of_cons (amax_piece (fun r => dup (xr x0 x1 r) (yr x2 x3 r) xs0 xs1) 12 12 rfl _ _ fun r => ?_) ?_
  · unfold kernelRun0_C.sl.r_48 kernelRun0_C.sl.r_44 kernelRun0_C.sl.r_46
    simp only [View.readAt_eq_ld, Memref.IsWhole.read_unread, v211_eq, v217_eq]
    exact amu_12 x0 x1 x2 x3 xs0 xs1 r
  refine of_cons (amax_piece (fun r => dup (xr x0 x1 r) (yr x2 x3 r) xs0 xs1) 11 11 rfl _ _ fun r => ?_) ?_
  · unfold kernelRun0_C.sl.r_43 kernelRun0_C.sl.r_42 kernelRun0_C.sl.r_39
    simp only [View.readAt_eq_ld, Memref.IsWhole.read_unread, v217_eq, v211_eq]
    exact amu_11 x0 x1 x2 x3 xs0 xs1 r
  refine of_cons (amax_piece (fun r => dup (xr x0 x1 r) (yr x2 x3 r) xs0 xs1) 10 10 rfl _ _ fun r => ?_) ?_
  · unfold kernelRun0_C.sl.r_42 kernelRun0_C.sl.r_39
    simp only [View.readAt_eq_ld, Memref.IsWhole.read_unread, v217_eq, v211_eq]
    exact amu_10 x0 x1 x2 x3 xs0 xs1 r
  refine of_cons (amax_piece (fun r => dup (xr x0 x1 r) (yr x2 x3 r) xs0 xs1) 9 9 rfl _ _ fun r => ?_) ?_
  · unfold kernelRun0_C.sl.r_37
    simp only [View.readAt_eq_ld, Memref.IsWhole.read_unread, v211_eq, v217_eq]
    exact amu_9 x0 x1 x2 x3 xs0 xs1 r
  refine of_cons (amax_piece (fun r => dup (xr x0 x1 r) (yr x2 x3 r) xs0 xs1) 8 8 rfl _ _ fun r => ?_) ?_
  · unfold kernelRun0_C.sl.r_37
    simp only [View.readAt_eq_ld, Memref.IsWhole.read_unread, v211_eq, v217_eq]
    exact amu_8 x0 x1 x2 x3 xs0 xs1 r
  refine of_cons (amax_piece (fun r => dup (xr x0 x1 r) (yr x2 x3 r) xs0 xs1) 7 7 rfl _ _ fun r => ?_) ?_
  · unfold kernelRun0_C.sl.r_31 kernelRun0_C.sl.r_27 kernelRun0_C.sl.r_29
    simp only [View.readAt_eq_ld, Memref.IsWhole.read_unread, v217_eq, v211_eq]
    exact amu_7 x0 x1 x2 x3 xs0 xs1 r
  refine of_cons (amax_piece (fun r => dup (xr x0 x1 r) (yr x2 x3 r) xs0 xs1) 6 6 rfl _ _ fun r => ?_) ?_
  · unfold kernelRun0_C.sl.r_31 kernelRun0_C.sl.r_27 kernelRun0_C.sl.r_29
    simp only [View.readAt_eq_ld, Memref.IsWhole.read_unread, v217_eq, v211_eq]
    exact amu_6 x0 x1 x2 x3 xs0 xs1 r
  refine of_cons (amax_piece (fun r => dup (xr x0 x1 r) (yr x2 x3 r) xs0 xs1) 5 5 rfl _ _ fun r => ?_) ?_
  · unfold kernelRun0_C.sl.r_21 kernelRun0_C.sl.r_17
    simp only [View.readAt_eq_ld, Memref.IsWhole.read_unread, v217_eq, v211_eq]
    exact amu_5 x0 x1 x2 x3 xs0 xs1 r
  refine of_cons (amax_piece (fun r => dup (xr x0 x1 r) (yr x2 x3 r) xs0 xs1) 4 4 rfl _ _ fun r => ?_) ?_
  · unfold kernelRun0_C.sl.r_21 kernelRun0_C.sl.r_17
    simp only [View.readAt_eq_ld, Memref.IsWhole.read_unread, v217_eq, v211_eq]
    exact amu_4 x0 x1 x2 x3 xs0 xs1 r
  refine of_cons (amax_piece (fun r => dup (xr x0 x1 r) (yr x2 x3 r) xs0 xs1) 3 3 rfl _ _ fun r => ?_) ?_
  · unfold kernelRun0_C.sl.r_13
    simp only [View.readAt_eq_ld, Memref.IsWhole.read_unread, v211_eq, v217_eq]
    exact amu_3 x0 x1 x2 x3 xs0 xs1 r
  refine of_cons (amax_piece (fun r => dup (xr x0 x1 r) (yr x2 x3 r) xs0 xs1) 2 2 rfl _ _ fun r => ?_) ?_
  · unfold kernelRun0_C.sl.r_15 kernelRun0_C.sl.r_13
    simp only [View.readAt_eq_ld, Memref.IsWhole.read_unread, v211_eq, v217_eq]
    exact amu_2 x0 x1 x2 x3 xs0 xs1 r
  refine of_cons (amax_piece (fun r => dup (xr x0 x1 r) (yr x2 x3 r) xs0 xs1) 1 1 rfl _ _ fun r => ?_) ?_
  · unfold kernelRun0_C.sl.r_10 kernelRun0_C.sl.r_8 kernelRun0_C.sl.r_5
    simp only [View.readAt_eq_ld, Memref.IsWhole.read_unread, v217_eq, v211_eq]
    exact amu_1 x0 x1 x2 x3 xs0 xs1 r
  refine of_cons (amax_piece (fun r => dup (xr x0 x1 r) (yr x2 x3 r) xs0 xs1) 0 0 rfl _ _ fun r => ?_) ?_
  · unfold kernelRun0_C.sl.r_8 kernelRun0_C.sl.r_5
    simp only [View.readAt_eq_ld, Memref.IsWhole.read_unread, v217_eq, v211_eq]
    exact amu_0 x0 x1 x2 x3 xs0 xs1 r
  exact of_nil _

theorem sout2_eq : sout0_C_2 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = AccGU x0 x1 x2 x3 xs0 xs1 xs2 := by
  unfold sout0_C_2
  rw [View.read_writes_junk_eq_canon]
  funext y
  refine canon_of (G := AccGU x0 x1 x2 x3 xs0 xs1 xs2) ?_ y (scover0_C_2 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 y)
  refine of_cons (up_piece x0 x1 x2 x3 xs0 xs1 xs2 10 5376 rfl _ _ fun k l => ?_) ?_
  · unfold kernelRun0_C.sl.r_80 kernelRun0_C.sl.v1477
    simp only [View.readAt_eq_ld, Memref.IsWhole.read_unread, v376_eq, v1459_eq]
    exact gu_10 x0 x1 x2 x3 xs0 xs1 _ k l
  refine of_cons (gate_piece x0 x1 x2 x3 xs0 xs1 xs2 10 2560 rfl _ _ fun k l => ?_) ?_
  · unfold kernelRun0_C.sl.v1468
    simp only [View.readAt_eq_ld, Memref.IsWhole.read_unread, v376_eq, v1455_eq]
    exact gg_10 x0 x1 x2 x3 xs0 xs1 _ k l
  refine of_cons (up_piece x0 x1 x2 x3 xs0 xs1 xs2 9 5120 rfl _ _ fun k l => ?_) ?_
  · unfold kernelRun0_C.sl.v1437
    simp only [View.readAt_eq_ld, Memref.IsWhole.read_unread, v376_eq, v1418_eq]
    exact gu_9 x0 x1 x2 x3 xs0 xs1 _ k l
  refine of_cons (gate_piece x0 x1 x2 x3 xs0 xs1 xs2 9 2304 rfl _ _ fun k l => ?_) ?_
  · unfold kernelRun0_C.sl.v1428
    simp only [View.readAt_eq_ld, Memref.IsWhole.read_unread, v376_eq, v1414_eq]
    exact gg_9 x0 x1 x2 x3 xs0 xs1 _ k l
  refine of_cons (up_piece x0 x1 x2 x3 xs0 xs1 xs2 8 4864 rfl _ _ fun k l => ?_) ?_
  · unfold kernelRun0_C.sl.r_70 kernelRun0_C.sl.v1320
    simp only [View.readAt_eq_ld, Memref.IsWhole.read_unread, v376_eq, v1301_eq]
    exact gu_8 x0 x1 x2 x3 xs0 xs1 _ k l
  refine of_cons (gate_piece x0 x1 x2 x3 xs0 xs1 xs2 8 2048 rfl _ _ fun k l => ?_) ?_
  · unfold kernelRun0_C.sl.v1311
    simp only [View.readAt_eq_ld, Memref.IsWhole.read_unread, v376_eq, v1297_eq]
    exact gg_8 x0 x1 x2 x3 xs0 xs1 _ k l
  refine of_cons (up_piece x0 x1 x2 x3 xs0 xs1 xs2 7 4608 rfl _ _ fun k l => ?_) ?_
  · unfold kernelRun0_C.sl.v1203
    simp only [View.readAt_eq_ld, Memref.IsWhole.read_unread, v376_eq, v1184_eq]
    exact gu_7 x0 x1 x2 x3 xs0 xs1 _ k l
  refine of_cons (gate_piece x0 x1 x2 x3 xs0 xs1 xs2 7 1792 rfl _ _ fun k l => ?_) ?_
  · unfold kernelRun0_C.sl.r_62 kernelRun0_C.sl.v1194
    simp only [View.readAt_eq_ld, Memref.IsWhole.read_unread, v376_eq, v1180_eq]
    exact gg_7 x0 x1 x2 x3 xs0 xs1 _ k l
  refine of_cons (up_piece x0 x1 x2 x3 xs0 xs1 xs2 6 4352 rfl _ _ fun k l => ?_) ?_
  · unfold kernelRun0_C.sl.v1086
    simp only [View.readAt_eq_ld, Memref.IsWhole.read_unread, v376_eq, v1067_eq]
    exact gu_6 x0 x1 x2 x3 xs0 xs1 _ k l
  refine of_cons (gate_piece x0 x1 x2 x3 xs0 xs1 xs2 6 1536 rfl _ _ fun k l => ?_) ?_
  · unfold kernelRun0_C.sl.v1077
    simp only [View.readAt_eq_ld, Memref.IsWhole.read_unread, v376_eq, v1063_eq]
    exact gg_6 x0 x1 x2 x3 xs0 xs1 _ k l
  refine of_cons (up_piece x0 x1 x2 x3 xs0 xs1 xs2 5 4096 rfl _ _ fun k l => ?_) ?_
  · unfold kernelRun0_C.sl.v969
    simp only [View.readAt_eq_ld, Memref.IsWhole.read_unread, v376_eq, v950_eq]
    exact gu_5 x0 x1 x2 x3 xs0 xs1 _ k l
  refine of_cons (gate_piece x0 x1 x2 x3 xs0 xs1 xs2 5 1280 rfl _ _ fun k l => ?_) ?_
  · unfold kernelRun0_C.sl.v960
    simp only [View.readAt_eq_ld, Memref.IsWhole.read_unread, v376_eq, v946_eq]
    exact gg_5 x0 x1 x2 x3 xs0 xs1 _ k l
  refine of_cons (up_piece x0 x1 x2 x3 xs0 xs1 xs2 4 3840 rfl _ _ fun k l => ?_) ?_
  · unfold kernelRun0_C.sl.v852
    simp only [View.readAt_eq_ld, Memref.IsWhole.read_unread, v376_eq, v833_eq]
    exact gu_4 x0 x1 x2 x3 xs0 xs1 _ k l
  refine of_cons (gate_piece x0 x1 x2 x3 xs0 xs1 xs2 4 1024 rfl _ _ fun k l => ?_) ?_
  · unfold kernelRun0_C.sl.v843
    simp only [View.readAt_eq_ld, Memref.IsWhole.read_unread, v376_eq, v829_eq]
    exact gg_4 x0 x1 x2 x3 xs0 xs1 _ k l
  refine of_cons (up_piece x0 x1 x2 x3 xs0 xs1 xs2 3 3584 rfl _ _ fun k l => ?_) ?_
  · unfold kernelRun0_C.sl.v735
    simp only [View.readAt_eq_ld, Memref.IsWhole.read_unread, v376_eq, v716_eq]
    exact gu_3 x0 x1 x2 x3 xs0 xs1 _ k l
  refine of_cons (gate_piece x0 x1 x2 x3 xs0 xs1 xs2 3 768 rfl _ _ fun k l => ?_) ?_
  · unfold kernelRun0_C.sl.v726
    simp only [View.readAt_eq_ld, Memref.IsWhole.read_unread, v376_eq, v712_eq]
    exact gg_3 x0 x1 x2 x3 xs0 xs1 _ k l
  refine of_cons (up_piece x0 x1 x2 x3 xs0 xs1 xs2 2 3328 rfl _ _ fun k l => ?_) ?_
  · unfold kernelRun0_C.sl.v618
    simp only [View.readAt_eq_ld, Memref.IsWhole.read_unread, v376_eq, v599_eq]
    exact gu_2 x0 x1 x2 x3 xs0 xs1 _ k l
  refine of_cons (gate_piece x0 x1 x2 x3 xs0 xs1 xs2 2 512 rfl _ _ fun k l => ?_) ?_
  · unfold kernelRun0_C.sl.v609
    simp only [View.readAt_eq_ld, Memref.IsWhole.read_unread, v376_eq, v595_eq]
    exact gg_2 x0 x1 x2 x3 xs0 xs1 _ k l
  refine of_cons (up_piece x0 x1 x2 x3 xs0 xs1 xs2 1 3072 rfl _ _ fun k l => ?_) ?_
  · unfold kernelRun0_C.sl.r_24 kernelRun0_C.sl.v501
    simp only [View.readAt_eq_ld, Memref.IsWhole.read_unread, v376_eq, v482_eq]
    exact gu_1 x0 x1 x2 x3 xs0 xs1 _ k l
  refine of_cons (gate_piece x0 x1 x2 x3 xs0 xs1 xs2 1 256 rfl _ _ fun k l => ?_) ?_
  · unfold kernelRun0_C.sl.v492
    simp only [View.readAt_eq_ld, Memref.IsWhole.read_unread, v376_eq, v478_eq]
    exact gg_1 x0 x1 x2 x3 xs0 xs1 _ k l
  refine of_cons (up_piece x0 x1 x2 x3 xs0 xs1 xs2 0 2816 rfl _ _ fun k l => ?_) ?_
  · unfold kernelRun0_C.sl.v384
    simp only [View.readAt_eq_ld, Memref.IsWhole.read_unread, v376_eq, v367_eq]
    exact gu_0 x0 x1 x2 x3 xs0 xs1 _ k l
  refine of_cons (gate_piece x0 x1 x2 x3 xs0 xs1 xs2 0 0 rfl _ _ fun k l => ?_) ?_
  · unfold kernelRun0_C.sl.r_16
    simp only [View.readAt_eq_ld, Memref.IsWhole.read_unread, v376_eq, v363_eq]
    exact gg_0 x0 x1 x2 x3 xs0 xs1 _ k l
  exact of_nil _

theorem sout3_eq : sout0_C_3 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = AccD x0 x1 x2 x3 xs0 xs3 := by
  unfold sout0_C_3
  rw [View.read_writes_junk_eq_canon]
  funext y
  refine canon_of (G := AccD x0 x1 x2 x3 xs0 xs3) ?_ y (scover0_C_3 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 y)
  refine of_cons (down_piece x0 x1 x2 x3 xs0 xs3 10 2560 rfl _ _ fun l k => ?_) ?_
  · unfold kernelRun0_C.sl.v1486
    simp only [View.readAt_eq_ld, Memref.IsWhole.read_unread, v1487_eq, v1489_eq]
    exact dd_10 x0 x1 x2 x3 xs0 _ l k
  refine of_cons (down_piece x0 x1 x2 x3 xs0 xs3 9 2304 rfl _ _ fun l k => ?_) ?_
  · unfold kernelRun0_C.sl.r_79 kernelRun0_C.sl.v1446
    simp only [View.readAt_eq_ld, Memref.IsWhole.read_unread, v217_eq, v1447_eq]
    exact dd_9 x0 x1 x2 x3 xs0 _ l k
  refine of_cons (down_piece x0 x1 x2 x3 xs0 xs3 8 2048 rfl _ _ fun l k => ?_) ?_
  · unfold kernelRun0_C.sl.v1329
    simp only [View.readAt_eq_ld, Memref.IsWhole.read_unread, v1330_eq, v217_eq]
    exact dd_8 x0 x1 x2 x3 xs0 _ l k
  refine of_cons (down_piece x0 x1 x2 x3 xs0 xs3 7 1792 rfl _ _ fun l k => ?_) ?_
  · unfold kernelRun0_C.sl.v1212
    simp only [View.readAt_eq_ld, Memref.IsWhole.read_unread, v1213_eq, v217_eq]
    exact dd_7 x0 x1 x2 x3 xs0 _ l k
  refine of_cons (down_piece x0 x1 x2 x3 xs0 xs3 6 1536 rfl _ _ fun l k => ?_) ?_
  · unfold kernelRun0_C.sl.v1095
    simp only [View.readAt_eq_ld, Memref.IsWhole.read_unread, v1096_eq, v217_eq]
    exact dd_6 x0 x1 x2 x3 xs0 _ l k
  refine of_cons (down_piece x0 x1 x2 x3 xs0 xs3 5 1280 rfl _ _ fun l k => ?_) ?_
  · unfold kernelRun0_C.sl.v
    simp only [View.readAt_eq_ld, Memref.IsWhole.read_unread, v979_eq, v217_eq]
    exact dd_5 x0 x1 x2 x3 xs0 _ l k
  refine of_cons (down_piece x0 x1 x2 x3 xs0 xs3 4 1024 rfl _ _ fun l k => ?_) ?_
  · unfold kernelRun0_C.sl.v861
    simp only [View.readAt_eq_ld, Memref.IsWhole.read_unread, v862_eq, v217_eq]
    exact dd_4 x0 x1 x2 x3 xs0 _ l k
  refine of_cons (down_piece x0 x1 x2 x3 xs0 xs3 3 768 rfl _ _ fun l k => ?_) ?_
  · unfold kernelRun0_C.sl.v744
    simp only [View.readAt_eq_ld, Memref.IsWhole.read_unread, v745_eq, v217_eq]
    exact dd_3 x0 x1 x2 x3 xs0 _ l k
  refine of_cons (down_piece x0 x1 x2 x3 xs0 xs3 2 512 rfl _ _ fun l k => ?_) ?_
  · unfold kernelRun0_C.sl.r_34 kernelRun0_C.sl.cst_414 kernelRun0_C.sl.v627
    simp only [View.readAt_eq_ld, Memref.IsWhole.read_unread, v217_eq, v628_eq]
    exact dd_2 x0 x1 x2 x3 xs0 _ l k
  refine of_cons (down_piece x0 x1 x2 x3 xs0 xs3 1 256 rfl _ _ fun l k => ?_) ?_
  · unfold kernelRun0_C.sl.v510
    simp only [View.readAt_eq_ld, Memref.IsWhole.read_unread, v511_eq, v217_eq]
    exact dd_1 x0 x1 x2 x3 xs0 _ l k
  refine of_cons (down_piece x0 x1 x2 x3 xs0 xs3 0 0 rfl _ _ fun l k => ?_) ?_
  · simp only [View.readAt_eq_ld, Memref.IsWhole.read_unread, v394_eq, v217_eq]
    exact dd_0 x0 x1 x2 x3 xs0 _ l k
  exact of_nil _

/-- What the last point copies out. -/
theorem hbw2_eq : hbw0_C_2 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = AccGU x0 x1 x2 x3 xs0 xs1 xs2 := by
  unfold hbw0_C_2
  refine (View.write_whole_univ main_v4_1 _ _).trans ?_
  exact (View.read_writes_of_cover _ _ _ _ _ (scover0_C_2 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3)).trans (sout2_eq c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3)

/-- What the last point copies out. -/
theorem hbw3_eq : hbw0_C_3 (F := Ideal) c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3 = AccD x0 x1 x2 x3 xs0 xs3 := by
  unfold hbw0_C_3
  refine (View.write_whole_univ main_v4_2 _ _).trans ?_
  exact (View.read_writes_of_cover _ _ _ _ _ (scover0_C_3 c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3)).trans (sout3_eq c i arg1 harg1 arg2 harg2 arg3 harg3 arg4 harg4 arg7 harg7 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 xs0 xs1 xs2 xs3 fh0 fh1 fw2 fw3)

end Cert.KernelIdeal.CaseC

end
-- ==== Proof.PointVals.lean ====
/- What each point of the run leaves: the blocks it writes back, the weights it holds, the two sums it carries. -/
module

public import proofs.«01_k».proof.Proof.OutsA
public import proofs.«01_k».proof.Proof.OutsB
public import proofs.«01_k».proof.Proof.OutsC
public import proofs.«01_k».proof.Proof.RunValue

@[expose] public section

set_option maxRecDepth 16384

noncomputable section

namespace Cert.KernelIdeal.Fold

open Cert.KernelIdeal Cert.KernelIdeal.Gen Cert.KernelIdeal.Block Idealize.ShloMosaic Idealize.ShloMosaic.TcCoe Cert.Spec

section
variable {A B C D E F G P Q R : Type} {X : A × B × C × D × E × F × G × P × Q × R} {a : A} {b : B} {c : C} {d : D} {e : E} {f : F} {g : G} {p : P} {q : Q} {r : R}
theorem o0 (h : X = (a, b, c, d, e, f, g, p, q, r)) : X.1 = a := by rw [h]
theorem o1 (h : X = (a, b, c, d, e, f, g, p, q, r)) : X.2.1 = b := by rw [h]
theorem o2 (h : X = (a, b, c, d, e, f, g, p, q, r)) : X.2.2.1 = c := by rw [h]
theorem o3 (h : X = (a, b, c, d, e, f, g, p, q, r)) : X.2.2.2.1 = d := by rw [h]
theorem o4 (h : X = (a, b, c, d, e, f, g, p, q, r)) : X.2.2.2.2.1 = e := by rw [h]
theorem o5 (h : X = (a, b, c, d, e, f, g, p, q, r)) : X.2.2.2.2.2.1 = f := by rw [h]
theorem o6 (h : X = (a, b, c, d, e, f, g, p, q, r)) : X.2.2.2.2.2.2.1 = g := by rw [h]
theorem o7 (h : X = (a, b, c, d, e, f, g, p, q, r)) : X.2.2.2.2.2.2.2.1 = p := by rw [h]
theorem o8 (h : X = (a, b, c, d, e, f, g, p, q, r)) : X.2.2.2.2.2.2.2.2.1 = q := by rw [h]
theorem o9 (h : X = (a, b, c, d, e, f, g, p, q, r)) : X.2.2.2.2.2.2.2.2.2 = r := by rw [h]
end

variable (m : (ℓ : Loc nD τ sig) → Buf (Elt Ideal) ℓ) (c : Dev nD)

/-- The gate and up weights. -/
def W : Vec Ideal S1024x5632 .bf16 := CaseA.WA (V m c main_arg4)
/-- The down weights. -/
def D : Vec Ideal S2816x1024 .bf16 := CaseA.DA (V m c main_arg5)

/-- Point `t`'s share of the gradient of the gate and up weights. -/
def GU (t : Fin cfg0.N) (y : S1024x5632.Idx) : EReal := ∑ r : Fin 256, xr (iblk m c 0 t) (iblk m c 1 t) r (y 0) * dgu (iblk m c 0 t) (iblk m c 1 t) (iblk m c 2 t) (iblk m c 3 t) (W m c) (D m c) r (y 1)
/-- Point `t`'s share of the gradient of the down weights. -/
def GD (t : Fin cfg0.N) (y : S2816x1024.Idx) : EReal := ∑ r : Fin 256, hid (xr (iblk m c 0 t) (iblk m c 1 t) r) (W m c) (y 0) * yr (iblk m c 2 t) (iblk m c 3 t) r (y 1)

theorem pA4 (t : Fin cfg0.N) (h0 : t.val % 256 = 0) (h1 : ¬t.val % 256 = 255) : (outsAt0 m c t.val t.isLt).1 = DXO (iblk m c 0 t) (iblk m c 1 t) (iblk m c 2 t) (iblk m c 3 t) (W m c) (D m c) := by
  exact (o0 (outsAt0_A m c t h0 h1)).trans (CaseA.out4_eq ..)

theorem pA5 (t : Fin cfg0.N) (h0 : t.val % 256 = 0) (h1 : ¬t.val % 256 = 255) : (outsAt0 m c t.val t.isLt).2.1 = AM (fun r => hid (xr (iblk m c 0 t) (iblk m c 1 t) r) (W m c)) := by
  exact (o1 (outsAt0_A m c t h0 h1)).trans (CaseA.out5_eq ..)

theorem pA6 (t : Fin cfg0.N) (h0 : t.val % 256 = 0) (h1 : ¬t.val % 256 = 255) : (outsAt0 m c t.val t.isLt).2.2.1 = AM (fun r => dgate (xr (iblk m c 0 t) (iblk m c 1 t) r) (yr (iblk m c 2 t) (iblk m c 3 t) r) (W m c) (D m c)) := by
  exact (o2 (outsAt0_A m c t h0 h1)).trans (CaseA.out6_eq ..)

theorem pA7 (t : Fin cfg0.N) (h0 : t.val % 256 = 0) (h1 : ¬t.val % 256 = 255) : (outsAt0 m c t.val t.isLt).2.2.2.1 = AM (fun r => dup (xr (iblk m c 0 t) (iblk m c 1 t) r) (yr (iblk m c 2 t) (iblk m c 3 t) r) (W m c) (D m c)) := by
  exact (o3 (outsAt0_A m c t h0 h1)).trans (CaseA.out7_eq ..)

theorem pAs0 (t : Fin cfg0.N) (h0 : t.val % 256 = 0) (h1 : ¬t.val % 256 = 255) : (outsAt0 m c t.val t.isLt).2.2.2.2.1 = W m c := by
  exact (o4 (outsAt0_A m c t h0 h1)).trans (CaseA.sout0_eq ..)

theorem pAs1 (t : Fin cfg0.N) (h0 : t.val % 256 = 0) (h1 : ¬t.val % 256 = 255) : (outsAt0 m c t.val t.isLt).2.2.2.2.2.1 = D m c := by
  exact (o5 (outsAt0_A m c t h0 h1)).trans (CaseA.sout1_eq ..)

theorem pAs2 (t : Fin cfg0.N) (h0 : t.val % 256 = 0) (h1 : ¬t.val % 256 = 255) : (outsAt0 m c t.val t.isLt).2.2.2.2.2.2.1 = AccGU (iblk m c 0 t) (iblk m c 1 t) (iblk m c 2 t) (iblk m c 3 t) (W m c) (D m c) (k0_pay3 (F := Ideal)) := by
  exact (o6 (outsAt0_A m c t h0 h1)).trans (CaseA.sout2_eq ..)

theorem pAs3 (t : Fin cfg0.N) (h0 : t.val % 256 = 0) (h1 : ¬t.val % 256 = 255) : (outsAt0 m c t.val t.isLt).2.2.2.2.2.2.2.1 = AccD (iblk m c 0 t) (iblk m c 1 t) (iblk m c 2 t) (iblk m c 3 t) (W m c) (k0_pay4 (F := Ideal)) := by
  exact (o7 (outsAt0_A m c t h0 h1)).trans (CaseA.sout3_eq ..)

theorem pB4 (t : Fin cfg0.N) (h0 : ¬t.val % 256 = 0) (h1 : ¬t.val % 256 = 255) : (outsAt0 m c t.val t.isLt).1 = DXO (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 := by
  exact (o0 (outsAt0_B m c t h0 h1)).trans (CaseB.out4_eq ..)

theorem pB5 (t : Fin cfg0.N) (h0 : ¬t.val % 256 = 0) (h1 : ¬t.val % 256 = 255) : (outsAt0 m c t.val t.isLt).2.1 = AM (fun r => hid (xr (iblk m c 0 t) (iblk m c 1 t) r) (outsAt0 m c (t.val - 1) (Nat.lt_of_le_of_lt (Nat.sub_le _ _) t.isLt)).2.2.2.2.1) := by
  exact (o1 (outsAt0_B m c t h0 h1)).trans (CaseB.out5_eq ..)

theorem pB6 (t : Fin cfg0.N) (h0 : ¬t.val % 256 = 0) (h1 : ¬t.val % 256 = 255) : (outsAt0 m c t.val t.isLt).2.2.1 = AM (fun r => dgate (xr (iblk m c 0 t) (iblk m c 1 t) r) (yr (iblk m c 2 t) (iblk m c 3 t) r) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1) := by
  exact (o2 (outsAt0_B m c t h0 h1)).trans (CaseB.out6_eq ..)

theorem pB7 (t : Fin cfg0.N) (h0 : ¬t.val % 256 = 0) (h1 : ¬t.val % 256 = 255) : (outsAt0 m c t.val t.isLt).2.2.2.1 = AM (fun r => dup (xr (iblk m c 0 t) (iblk m c 1 t) r) (yr (iblk m c 2 t) (iblk m c 3 t) r) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1) := by
  exact (o3 (outsAt0_B m c t h0 h1)).trans (CaseB.out7_eq ..)

theorem pBs0 (t : Fin cfg0.N) (h0 : ¬t.val % 256 = 0) (h1 : ¬t.val % 256 = 255) : (outsAt0 m c t.val t.isLt).2.2.2.2.1 = (outsAt0 m c (t.val - 1) (Nat.lt_of_le_of_lt (Nat.sub_le _ _) t.isLt)).2.2.2.2.1 := by
  exact (o4 (outsAt0_B m c t h0 h1))

theorem pBs1 (t : Fin cfg0.N) (h0 : ¬t.val % 256 = 0) (h1 : ¬t.val % 256 = 255) : (outsAt0 m c t.val t.isLt).2.2.2.2.2.1 = (outsAt0 m c (t.val - 1) (Nat.lt_of_le_of_lt (Nat.sub_le _ _) t.isLt)).2.2.2.2.2.1 := by
  exact (o5 (outsAt0_B m c t h0 h1))

theorem pBs2 (t : Fin cfg0.N) (h0 : ¬t.val % 256 = 0) (h1 : ¬t.val % 256 = 255) : (outsAt0 m c t.val t.isLt).2.2.2.2.2.2.1 = AccGU (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 := by
  exact (o6 (outsAt0_B m c t h0 h1)).trans (CaseB.sout2_eq ..)

theorem pBs3 (t : Fin cfg0.N) (h0 : ¬t.val % 256 = 0) (h1 : ¬t.val % 256 = 255) : (outsAt0 m c t.val t.isLt).2.2.2.2.2.2.2.1 = AccD (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.2.1 := by
  exact (o7 (outsAt0_B m c t h0 h1)).trans (CaseB.sout3_eq ..)

theorem pC4 (t : Fin cfg0.N) (h0 : ¬t.val % 256 = 0) (h1 : t.val % 256 = 255) : (outsAt0 m c t.val t.isLt).1 = DXO (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 := by
  exact (o0 (outsAt0_C m c t h0 h1)).trans (CaseC.out4_eq ..)

theorem pC5 (t : Fin cfg0.N) (h0 : ¬t.val % 256 = 0) (h1 : t.val % 256 = 255) : (outsAt0 m c t.val t.isLt).2.1 = AM (fun r => hid (xr (iblk m c 0 t) (iblk m c 1 t) r) (outsAt0 m c (t.val - 1) (Nat.lt_of_le_of_lt (Nat.sub_le _ _) t.isLt)).2.2.2.2.1) := by
  exact (o1 (outsAt0_C m c t h0 h1)).trans (CaseC.out5_eq ..)

theorem pC6 (t : Fin cfg0.N) (h0 : ¬t.val % 256 = 0) (h1 : t.val % 256 = 255) : (outsAt0 m c t.val t.isLt).2.2.1 = AM (fun r => dgate (xr (iblk m c 0 t) (iblk m c 1 t) r) (yr (iblk m c 2 t) (iblk m c 3 t) r) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1) := by
  exact (o2 (outsAt0_C m c t h0 h1)).trans (CaseC.out6_eq ..)

theorem pC7 (t : Fin cfg0.N) (h0 : ¬t.val % 256 = 0) (h1 : t.val % 256 = 255) : (outsAt0 m c t.val t.isLt).2.2.2.1 = AM (fun r => dup (xr (iblk m c 0 t) (iblk m c 1 t) r) (yr (iblk m c 2 t) (iblk m c 3 t) r) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1) := by
  exact (o3 (outsAt0_C m c t h0 h1)).trans (CaseC.out7_eq ..)

theorem pCs0 (t : Fin cfg0.N) (h0 : ¬t.val % 256 = 0) (h1 : t.val % 256 = 255) : (outsAt0 m c t.val t.isLt).2.2.2.2.1 = (outsAt0 m c (t.val - 1) (Nat.lt_of_le_of_lt (Nat.sub_le _ _) t.isLt)).2.2.2.2.1 := by
  exact (o4 (outsAt0_C m c t h0 h1))

theorem pCs1 (t : Fin cfg0.N) (h0 : ¬t.val % 256 = 0) (h1 : t.val % 256 = 255) : (outsAt0 m c t.val t.isLt).2.2.2.2.2.1 = (outsAt0 m c (t.val - 1) (Nat.lt_of_le_of_lt (Nat.sub_le _ _) t.isLt)).2.2.2.2.2.1 := by
  exact (o5 (outsAt0_C m c t h0 h1))

theorem pCs2 (t : Fin cfg0.N) (h0 : ¬t.val % 256 = 0) (h1 : t.val % 256 = 255) : (outsAt0 m c t.val t.isLt).2.2.2.2.2.2.1 = AccGU (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 := by
  exact (o6 (outsAt0_C m c t h0 h1)).trans (CaseC.sout2_eq ..)

theorem pCs3 (t : Fin cfg0.N) (h0 : ¬t.val % 256 = 0) (h1 : t.val % 256 = 255) : (outsAt0 m c t.val t.isLt).2.2.2.2.2.2.2.1 = AccD (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.2.1 := by
  exact (o7 (outsAt0_C m c t h0 h1)).trans (CaseC.sout3_eq ..)

theorem pCh2 (t : Fin cfg0.N) (h0 : ¬t.val % 256 = 0) (h1 : t.val % 256 = 255) : (outsAt0 m c t.val t.isLt).2.2.2.2.2.2.2.2.1 = AccGU (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 := by
  exact (o8 (outsAt0_C m c t h0 h1)).trans (CaseC.hbw2_eq ..)

theorem pCh3 (t : Fin cfg0.N) (h0 : ¬t.val % 256 = 0) (h1 : t.val % 256 = 255) : (outsAt0 m c t.val t.isLt).2.2.2.2.2.2.2.2.2 = AccD (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2.2.1 := by
  exact (o9 (outsAt0_C m c t h0 h1)).trans (CaseC.hbw3_eq ..)

end Cert.KernelIdeal.Fold

end
-- ==== Proof.Fold.lean ====
/- What the run leaves after each point, in closed form: the held weights are the arguments, the carried sums are sums over the points so far. -/
module

public import proofs.«01_k».proof.Proof.PointVals

@[expose] public section

set_option maxRecDepth 16384

noncomputable section

namespace Cert.KernelIdeal.Fold

open Cert.KernelIdeal Cert.KernelIdeal.Gen Cert.KernelIdeal.Block Idealize.ShloMosaic Idealize.ShloMosaic.TcCoe Cert.Spec

variable (m : (ℓ : Loc nD τ sig) → Buf (Elt Ideal) ℓ) (c : Dev nD)

/-- Every point holds the weights that the first point copied in. -/
theorem held : ∀ (n : Nat) (hn : n < cfg0.N), (outsAt0 m c n hn).2.2.2.2.1 = W m c ∧ (outsAt0 m c n hn).2.2.2.2.2.1 = D m c
  | 0, h => ⟨pAs0 m c ⟨0, h⟩ (Nat.zero_mod 256) (by show ¬0 % 256 = 255; decide), pAs1 m c ⟨0, h⟩ (Nat.zero_mod 256) (by show ¬0 % 256 = 255; decide)⟩
  | n + 1, h => by
    have ih := held n (Nat.lt_of_succ_lt h)
    have hN : cfg0.N = 256 := N_0
    have h0 : ¬(⟨n + 1, h⟩ : Fin cfg0.N).val % 256 = 0 := by dsimp only; omega
    by_cases h1 : (⟨n + 1, h⟩ : Fin cfg0.N).val % 256 = 255
    · exact ⟨(pCs0 m c ⟨n + 1, h⟩ h0 h1).trans ih.1, (pCs1 m c ⟨n + 1, h⟩ h0 h1).trans ih.2⟩
    · exact ⟨(pBs0 m c ⟨n + 1, h⟩ h0 h1).trans ih.1, (pBs1 m c ⟨n + 1, h⟩ h0 h1).trans ih.2⟩

theorem out4 (t : Fin cfg0.N) : (outsAt0 m c t.val t.isLt).1 = DXO (iblk m c 0 t) (iblk m c 1 t) (iblk m c 2 t) (iblk m c 3 t) (W m c) (D m c) := by
  by_cases h0 : t.val % 256 = 0
  · exact pA4 m c t h0 (by omega)
  · have hp := held m c (t.val - 1) (Nat.lt_of_le_of_lt (Nat.sub_le _ _) t.isLt)
    by_cases h1 : t.val % 256 = 255
    · rw [pC4 m c t h0 h1, hp.1, hp.2]
    · rw [pB4 m c t h0 h1, hp.1, hp.2]

theorem out5 (t : Fin cfg0.N) : (outsAt0 m c t.val t.isLt).2.1 = AM (fun r => hid (xr (iblk m c 0 t) (iblk m c 1 t) r) (W m c)) := by
  by_cases h0 : t.val % 256 = 0
  · exact pA5 m c t h0 (by omega)
  · have hp := held m c (t.val - 1) (Nat.lt_of_le_of_lt (Nat.sub_le _ _) t.isLt)
    by_cases h1 : t.val % 256 = 255
    · rw [pC5 m c t h0 h1, hp.1]
    · rw [pB5 m c t h0 h1, hp.1]

theorem out6 (t : Fin cfg0.N) : (outsAt0 m c t.val t.isLt).2.2.1 = AM (fun r => dgate (xr (iblk m c 0 t) (iblk m c 1 t) r) (yr (iblk m c 2 t) (iblk m c 3 t) r) (W m c) (D m c)) := by
  by_cases h0 : t.val % 256 = 0
  · exact pA6 m c t h0 (by omega)
  · have hp := held m c (t.val - 1) (Nat.lt_of_le_of_lt (Nat.sub_le _ _) t.isLt)
    by_cases h1 : t.val % 256 = 255
    · rw [pC6 m c t h0 h1, hp.1, hp.2]
    · rw [pB6 m c t h0 h1, hp.1, hp.2]

theorem out7 (t : Fin cfg0.N) : (outsAt0 m c t.val t.isLt).2.2.2.1 = AM (fun r => dup (xr (iblk m c 0 t) (iblk m c 1 t) r) (yr (iblk m c 2 t) (iblk m c 3 t) r) (W m c) (D m c)) := by
  by_cases h0 : t.val % 256 = 0
  · exact pA7 m c t h0 (by omega)
  · have hp := held m c (t.val - 1) (Nat.lt_of_le_of_lt (Nat.sub_le _ _) t.isLt)
    by_cases h1 : t.val % 256 = 255
    · rw [pC7 m c t h0 h1, hp.1, hp.2]
    · rw [pB7 m c t h0 h1, hp.1, hp.2]

/-- A point's share, by the point's number. -/
def at0 (f : Fin cfg0.N → EReal) (n : Nat) : EReal := if h : n < cfg0.N then f ⟨n, h⟩ else 0

theorem at0_eq (f : Fin cfg0.N → EReal) (n : Nat) (h : n < cfg0.N) : at0 f n = f ⟨n, h⟩ := dif_pos h

theorem at0_sum (f : Fin cfg0.N → EReal) : ∑ s ∈ Finset.range cfg0.N, at0 f s = ∑ t : Fin cfg0.N, f t := by
  rw [Finset.sum_range]; exact Finset.sum_congr rfl fun t _ => at0_eq f t.val t.isLt

theorem pay_gu (y : S1024x5632.Idx) : ((k0_pay3 (F := Ideal)) y : EReal) = 0 := by
  idx_vars y
  pointwise [k0_pay3]

theorem step_gu (t : Fin cfg0.N) (v : Vec Ideal S1024x5632 .f32) : AccGU (iblk m c 0 t) (iblk m c 1 t) (iblk m c 2 t) (iblk m c 3 t) (W m c) (D m c) v = fun y => v y + at0 (fun t => GU m c t y) t.val := by
  funext y
  rw [at0_eq _ _ t.isLt]
  rfl

/-- The sum carried after point `n`. -/
theorem sum_gu : ∀ (n : Nat) (hn : n < cfg0.N), (outsAt0 m c n hn).2.2.2.2.2.2.1 = fun y => ∑ s ∈ Finset.range (n + 1), at0 (fun t => GU m c t y) s
  | 0, h => by
    refine (pAs2 m c ⟨0, h⟩ (Nat.zero_mod 256) (by show ¬0 % 256 = 255; decide)).trans ((step_gu m c ⟨0, h⟩ _).trans (funext fun y => ?_))
    rw [pay_gu, zero_add, Finset.sum_range_one]
  | n + 1, h => by
    have ih := sum_gu n (Nat.lt_of_succ_lt h)
    have hh := held m c n (Nat.lt_of_succ_lt h)
    have hN : cfg0.N = 256 := N_0
    have h0 : ¬(⟨n + 1, h⟩ : Fin cfg0.N).val % 256 = 0 := by dsimp only; omega
    have key : ∀ X, X = AccGU (iblk m c 0 ⟨n + 1, h⟩) (iblk m c 1 ⟨n + 1, h⟩) (iblk m c 2 ⟨n + 1, h⟩) (iblk m c 3 ⟨n + 1, h⟩) (outsAt0 m c n (Nat.lt_of_succ_lt h)).2.2.2.2.1 (outsAt0 m c n (Nat.lt_of_succ_lt h)).2.2.2.2.2.1 (outsAt0 m c n (Nat.lt_of_succ_lt h)).2.2.2.2.2.2.1 → X = fun y => ∑ s ∈ Finset.range (n + 1 + 1), at0 (fun t => GU m c t y) s := by
      intro X hX
      rw [hX, hh.1, hh.2, ih]
      refine (step_gu m c ⟨n + 1, h⟩ _).trans (funext fun y => ?_)
      rw [Finset.sum_range_succ _ (n + 1)]
    by_cases h1 : (⟨n + 1, h⟩ : Fin cfg0.N).val % 256 = 255
    · exact key _ (pCs2 m c ⟨n + 1, h⟩ h0 h1)
    · exact key _ (pBs2 m c ⟨n + 1, h⟩ h0 h1)

/-- What the last point copies out: the sum over all the points. -/
theorem last_gu (n : Nat) (hn : n < cfg0.N) (h : n + 1 = cfg0.N) : (outsAt0 m c n hn).2.2.2.2.2.2.2.2.1 = fun y => ∑ t : Fin cfg0.N, GU m c t y := by
  have hN : cfg0.N = 256 := N_0
  have h0 : ¬(⟨n, hn⟩ : Fin cfg0.N).val % 256 = 0 := by dsimp only; omega
  have h1 : (⟨n, hn⟩ : Fin cfg0.N).val % 256 = 255 := by dsimp only; omega
  refine ((pCh2 m c ⟨n, hn⟩ h0 h1).trans (pCs2 m c ⟨n, hn⟩ h0 h1).symm).trans ((sum_gu m c n hn).trans (funext fun y => ?_))
  rw [h, at0_sum]

/-- The array that the run leaves. -/
theorem hb_gu : hbG0 m c main_v4_1 = fun y => ∑ t : Fin cfg0.N, GU m c t y :=
  (hbG0_2 m c).trans (last_gu m c _ _ (by rw [Fin.val_last]; have : cfg0.N = 256 := N_0; omega))

theorem pay_gd (y : S2816x1024.Idx) : ((k0_pay4 (F := Ideal)) y : EReal) = 0 := by
  idx_vars y
  pointwise [k0_pay4]

theorem step_gd (t : Fin cfg0.N) (v : Vec Ideal S2816x1024 .f32) : AccD (iblk m c 0 t) (iblk m c 1 t) (iblk m c 2 t) (iblk m c 3 t) (W m c) v = fun y => v y + at0 (fun t => GD m c t y) t.val := by
  funext y
  rw [at0_eq _ _ t.isLt]
  rfl

/-- The sum carried after point `n`. -/
theorem sum_gd : ∀ (n : Nat) (hn : n < cfg0.N), (outsAt0 m c n hn).2.2.2.2.2.2.2.1 = fun y => ∑ s ∈ Finset.range (n + 1), at0 (fun t => GD m c t y) s
  | 0, h => by
    refine (pAs3 m c ⟨0, h⟩ (Nat.zero_mod 256) (by show ¬0 % 256 = 255; decide)).trans ((step_gd m c ⟨0, h⟩ _).trans (funext fun y => ?_))
    rw [pay_gd, zero_add, Finset.sum_range_one]
  | n + 1, h => by
    have ih := sum_gd n (Nat.lt_of_succ_lt h)
    have hh := held m c n (Nat.lt_of_succ_lt h)
    have hN : cfg0.N = 256 := N_0
    have h0 : ¬(⟨n + 1, h⟩ : Fin cfg0.N).val % 256 = 0 := by dsimp only; omega
    have key : ∀ X, X = AccD (iblk m c 0 ⟨n + 1, h⟩) (iblk m c 1 ⟨n + 1, h⟩) (iblk m c 2 ⟨n + 1, h⟩) (iblk m c 3 ⟨n + 1, h⟩) (outsAt0 m c n (Nat.lt_of_succ_lt h)).2.2.2.2.1  (outsAt0 m c n (Nat.lt_of_succ_lt h)).2.2.2.2.2.2.2.1 → X = fun y => ∑ s ∈ Finset.range (n + 1 + 1), at0 (fun t => GD m c t y) s := by
      intro X hX
      rw [hX, hh.1, ih]
      refine (step_gd m c ⟨n + 1, h⟩ _).trans (funext fun y => ?_)
      rw [Finset.sum_range_succ _ (n + 1)]
    by_cases h1 : (⟨n + 1, h⟩ : Fin cfg0.N).val % 256 = 255
    · exact key _ (pCs3 m c ⟨n + 1, h⟩ h0 h1)
    · exact key _ (pBs3 m c ⟨n + 1, h⟩ h0 h1)

/-- What the last point copies out: the sum over all the points. -/
theorem last_gd (n : Nat) (hn : n < cfg0.N) (h : n + 1 = cfg0.N) : (outsAt0 m c n hn).2.2.2.2.2.2.2.2.2 = fun y => ∑ t : Fin cfg0.N, GD m c t y := by
  have hN : cfg0.N = 256 := N_0
  have h0 : ¬(⟨n, hn⟩ : Fin cfg0.N).val % 256 = 0 := by dsimp only; omega
  have h1 : (⟨n, hn⟩ : Fin cfg0.N).val % 256 = 255 := by dsimp only; omega
  refine ((pCh3 m c ⟨n, hn⟩ h0 h1).trans (pCs3 m c ⟨n, hn⟩ h0 h1).symm).trans ((sum_gd m c n hn).trans (funext fun y => ?_))
  rw [h, at0_sum]

/-- The array that the run leaves. -/
theorem hb_gd : hbG0 m c main_v4_2 = fun y => ∑ t : Fin cfg0.N, GD m c t y :=
  (hbG0_3 m c).trans (last_gd m c _ _ (by rw [Fin.val_last]; have : cfg0.N = 256 := N_0; omega))

end Cert.KernelIdeal.Fold

end
-- ==== Proof.RefValue.lean ====
/- What the reference's six result arrays hold, element by element, in terms of the one-token functions. -/
module

public import proofs.«01_k».proof.Proof.Gen.ReferenceIdeal.Value
public import proofs.«01_k».proof.Proof.Spec
public import Idealize.ShloMosaic.Lib.Pipeline.ValueKit

@[expose] public section

set_option maxRecDepth 16384

noncomputable section

namespace Cert.ReferenceIdeal.RefValue

open Cert.ReferenceIdeal Cert.ReferenceIdeal.Gen Cert.ReferenceIdeal.Value Idealize.ShloMosaic Cert.Spec

variable (a0 : Vec Ideal S16x4096x1024 .fp8e4m3) (a1 : Vec Ideal S16x4096x8 .f32) (a2 : Vec Ideal S16x4096x1024 .fp8e5m2)
  (a3 : Vec Ideal S16x4096x8 .f32) (a4 : Vec Ideal S1024x5632 .bf16) (a5 : Vec Ideal S2816x1024 .bf16)

/-- Token `t`'s dequantised activations. -/
def xrow (t : Fin 65536) : Fin 1024 → EReal :=
  row (fun k => a0 (ix3 ⟨t.val / 4096, by omega⟩ ⟨t.val % 4096, by omega⟩ k)) (fun g => a1 (ix3 ⟨t.val / 4096, by omega⟩ ⟨t.val % 4096, by omega⟩ g))

/-- Token `t`'s dequantised output gradients. -/
def yrow (t : Fin 65536) : Fin 1024 → EReal :=
  row (fun k => a2 (ix3 ⟨t.val / 4096, by omega⟩ ⟨t.val % 4096, by omega⟩ k)) (fun g => a3 (ix3 ⟨t.val / 4096, by omega⟩ ⟨t.val % 4096, by omega⟩ g))

theorem pay1_apply (t : Fin 65536) (k : Fin 1024) : k0_pay1 a0 a1 (ix2 t k) = xrow a0 a1 t k := by
  pointwise [k0_pay1, xrow, row]

theorem pay2_apply (t : Fin 65536) (k : Fin 1024) : k0_pay2 a2 a3 (ix2 t k) = yrow a2 a3 t k := by
  pointwise [k0_pay2, yrow, row]

theorem pay3_apply (w : Vec Ideal S1024x2816 .bf16) (t : Fin 65536) (f : Fin 2816) :
    k0_pay3 a0 a1 w (ix2 t f) = ∑ k : Fin 1024, xrow a0 a1 t k * w (ix2 k f) := by
  unfold k0_pay3
  pointwise []
  simp only [pay1_apply]

theorem pay4_apply (w : Vec Ideal S1024x2816 .bf16) (t : Fin 65536) (f : Fin 2816) :
    k0_pay4 a0 a1 w (ix2 t f) = ∑ k : Fin 1024, xrow a0 a1 t k * w (ix2 k f) := by
  unfold k0_pay4
  pointwise []
  simp only [pay1_apply]

theorem pay7_apply (w : Vec Ideal S2816x1024 .bf16) (t : Fin 65536) (f : Fin 2816) :
    k0_pay7 a2 a3 w (ix2 t f) = ∑ k : Fin 1024, yrow a2 a3 t k * w (ix2 f k) := by
  unfold k0_pay7
  pointwise []
  simp only [pay2_apply]

/-- The gate half of the weights, loaded. -/
theorem ld_gate (k : Fin 1024) (f : Fin 2816) : View.ld a4 r0_2 (ix2 k f) = a4 (ix2 k (gcol f)) := by
  pointwise [r0_2, gcol]

theorem ld_up (k : Fin 1024) (f : Fin 2816) : View.ld a4 r0_3 (ix2 k f) = a4 (ix2 k (ucol f)) := by
  pointwise [r0_3, ucol]

theorem ldx (x : Vec Ideal S16x4096x1024 .fp8e4m3) : View.ld x r0_0 = x := by
  exact View.ld_unit_lit' _ _ (by decide)

theorem ldy (x : Vec Ideal S16x4096x1024 .fp8e5m2) : View.ld x r0_0 = x := by
  exact View.ld_unit_lit' _ _ (by decide)

theorem lds (x : Vec Ideal S16x4096x8 .f32) : View.ld x r0_1 = x := by
  exact View.ld_unit_lit' _ _ (by decide)

theorem ldd (x : Vec Ideal S2816x1024 .bf16) : View.ld x r0_4 = x := by
  exact View.ld_unit_lit' _ _ (by decide)

/-- The gate's pre-activation at every token. -/
theorem pay3_at (t : Fin 65536) (f : Fin 2816) : k0_pay3 a0 a1 (View.ld a4 r0_2) (ix2 t f) = gate (xrow a0 a1 t) a4 f := by
  rw [pay3_apply]; exact Finset.sum_congr rfl fun k _ => by rw [ld_gate]

/-- The up projection at every token. -/
theorem pay4_at (t : Fin 65536) (f : Fin 2816) : k0_pay4 a0 a1 (View.ld a4 r0_3) (ix2 t f) = up (xrow a0 a1 t) a4 f := by
  rw [pay4_apply]; exact Finset.sum_congr rfl fun k _ => by rw [ld_up]

theorem pay7_at (t : Fin 65536) (f : Fin 2816) : k0_pay7 a2 a3 a5 (ix2 t f) = dh (yrow a2 a3 t) a5 f := by
  rw [pay7_apply]; rfl

theorem pay6_at (t : Fin 65536) (f : Fin 2816) : k0_pay6 a0 a1 (View.ld a4 r0_2) (View.ld a4 r0_3) (ix2 t f) = hid (xrow a0 a1 t) a4 f := by
  unfold k0_pay6 k0_pay5
  pointwise []
  rw [pay3_at, pay4_at]; rfl

theorem pay10_at (t : Fin 65536) (f : Fin 2816) :
    k0_pay10 (k0_pay8 a0 a1 a2 a3 (View.ld a4 r0_2) (View.ld a4 r0_3) a5) (k0_pay9 a0 a1 (View.ld a4 r0_2)) (ix2 t f)
      = dgate (xrow a0 a1 t) (yrow a2 a3 t) a4 a5 f := by
  unfold k0_pay10 k0_pay8 k0_pay9 k0_pay5
  pointwise []
  rw [pay3_at, pay4_at, pay7_at]; rfl

theorem pay11_at (t : Fin 65536) (f : Fin 2816) :
    k0_pay11 (k0_pay3 a0 a1 (View.ld a4 r0_2)) (k0_pay5 a0 a1 (View.ld a4 r0_2)) (k0_pay7 a2 a3 a5) (ix2 t f)
      = dup (xrow a0 a1 t) (yrow a2 a3 t) a4 a5 f := by
  unfold k0_pay11 k0_pay5
  pointwise []
  rw [pay3_at, pay7_at, mul_assoc]; rfl

theorem pay16_apply (v : Vec Ideal S65536x2816 .bf16) (t : Fin 65536) (c : Fin 22) : (k0_pay16 (F := Ideal) v (ix2 t c) : EReal) = amax (fun f => v (ix2 t f)) c := by
  pointwise [k0_pay16, amax]
  simp only [Ideal.absf_def]

/-- The magnitudes of the hidden activation. -/
theorem G9_at (t : Fin 65536) (c : Fin 22) : (G9 a0 a1 a2 a3 a4 a5 (ix2 t c) : EReal) = amax (hid (xrow a0 a1 t) a4) c := by
  unfold G9 k0_pay22
  rw [ldx, lds, pay16_apply]
  simp only [pay6_at]

theorem pay17_eq (v w : FVec Ideal S65536x2816 .f32) : k0_pay17 v w = k0_pay16 (k0_pay10 v w) := by
  unfold k0_pay17 k0_pay16; rfl

theorem pay18_eq (v w e : FVec Ideal S65536x2816 .f32) : k0_pay18 v w e = k0_pay16 (k0_pay11 v w e) := by
  unfold k0_pay18 k0_pay16; rfl

/-- The magnitudes of the gate's gradient. -/
theorem G10_at (t : Fin 65536) (c : Fin 22) :
    (G10 a0 a1 a2 a3 a4 a5 (ix2 t c) : EReal) = amax (dgate (xrow a0 a1 t) (yrow a2 a3 t) a4 a5) c := by
  unfold G10 k0_pay24 k0_pay25
  rw [ldx, ldy, lds, lds, ldd]
  rw [pay17_eq, pay16_apply]
  simp only [pay10_at]

/-- The magnitudes of the up projection's gradient. -/
theorem G11_at (t : Fin 65536) (c : Fin 22) :
    (G11 a0 a1 a2 a3 a4 a5 (ix2 t c) : EReal) = amax (dup (xrow a0 a1 t) (yrow a2 a3 t) a4 a5) c := by
  unfold G11 k0_pay20 k0_pay21 k0_pay23
  rw [ldx, ldy, lds, lds, ldd]
  rw [pay18_eq, pay16_apply]
  simp only [pay11_at]

/-- The gradient of the activations. -/
theorem G6_at (t : Fin 65536) (k : Fin 1024) :
    (G6 a0 a1 a2 a3 a4 a5 (ix2 t k) : EReal) = dx (xrow a0 a1 t) (yrow a2 a3 t) a4 a5 k := by
  unfold G6 k0_pay20 k0_pay21 k0_pay23 k0_pay24 k0_pay25 k0_pay12
  rw [ldx, ldy, lds, lds, ldd]
  pointwise []
  simp only [pay10_at, pay11_at, ld_gate, ld_up]; rfl

/-- The gradient of the down weights. -/
theorem G8_at (f : Fin 2816) (k : Fin 1024) :
    (G8 a0 a1 a2 a3 a4 a5 (ix2 f k) : EReal) = ∑ t : Fin 65536, hid (xrow a0 a1 t) a4 f * yrow a2 a3 t k := by
  unfold G8 k0_pay22 k0_pay15
  pointwise []
  simp only [ldx, lds, pay6_at, pay2_apply]

theorem pay13_at (k : Fin 1024) (f : Fin 2816) :
    (k0_pay13 (k0_pay19 a0 a1 a2 a3 a4 a5) (k0_pay24 a0 a1 a2 a3 a4 a5) (k0_pay25 a0 a1 a2 a3 a4 a5) (ix2 k f) : EReal)
      = ∑ t : Fin 65536, xrow a0 a1 t k * dgate (xrow a0 a1 t) (yrow a2 a3 t) a4 a5 f := by
  unfold k0_pay19 k0_pay24 k0_pay25 k0_pay13
  rw [ldx, ldy, lds, lds, ldd]
  pointwise []
  simp only [pay10_at, pay1_apply]

theorem pay14_at (k : Fin 1024) (f : Fin 2816) :
    (k0_pay14 (k0_pay19 a0 a1 a2 a3 a4 a5) (k0_pay20 a0 a1 a2 a3 a4 a5) (k0_pay21 a0 a1 a2 a3 a4 a5) (k0_pay23 a0 a1 a2 a3 a4 a5) (ix2 k f) : EReal)
      = ∑ t : Fin 65536, xrow a0 a1 t k * dup (xrow a0 a1 t) (yrow a2 a3 t) a4 a5 f := by
  unfold k0_pay19 k0_pay20 k0_pay21 k0_pay23 k0_pay14
  rw [ldx, ldy, lds, lds, ldd]
  pointwise []
  simp only [pay11_at, pay1_apply]

theorem canon_gate (p q : Vec Ideal S1024x2816 .f32) (k : Fin 1024) (f : Fin 2816) :
    View.canon [⟨r0_3, q⟩, ⟨r0_2, p⟩] (ix2 k (gcol f)) = p (ix2 k f) := by
  canon_tiles x h
  · have h1' : f.val = 2816 + (x 1).val := h1
    omega
  · refine congrArg p (funext fun a => Fin.ext ?_)
    fin_cases a
    · exact h0.symm
    · exact h1.symm

theorem canon_up (p q : Vec Ideal S1024x2816 .f32) (k : Fin 1024) (f : Fin 2816) :
    View.canon [⟨r0_3, q⟩, ⟨r0_2, p⟩] (ix2 k (ucol f)) = q (ix2 k f) := by
  canon_tiles x h
  · refine congrArg q (funext fun a => Fin.ext ?_)
    fin_cases a
    · exact h0.symm
    · have h1' : 2816 + f.val = 2816 + (x 1).val := h1
      exact (Nat.add_left_cancel h1').symm
  · have h1' : 2816 + f.val = (x 1).val := h1
    omega

/-- The gradient of the gate half of the weights. -/
theorem G7_gate (k : Fin 1024) (f : Fin 2816) :
    (G7 a0 a1 a2 a3 a4 a5 (ix2 k (gcol f)) : EReal)
      = ∑ t : Fin 65536, xrow a0 a1 t k * dgate (xrow a0 a1 t) (yrow a2 a3 t) a4 a5 f := by
  unfold G7
  rw [canon_gate]
  exact pay13_at a0 a1 a2 a3 a4 a5 k f

/-- The gradient of the up half of the weights. -/
theorem G7_up (k : Fin 1024) (f : Fin 2816) :
    (G7 a0 a1 a2 a3 a4 a5 (ix2 k (ucol f)) : EReal)
      = ∑ t : Fin 65536, xrow a0 a1 t k * dup (xrow a0 a1 t) (yrow a2 a3 t) a4 a5 f := by
  unfold G7
  rw [canon_up]
  exact pay14_at a0 a1 a2 a3 a4 a5 k f

end Cert.ReferenceIdeal.RefValue

end
-- ==== Proof.Glue.lean ====
/- The blocks that a point reads, at a token's number, and the sums over points and rows as sums over tokens. -/
module

public import proofs.«01_k».proof.Proof.Fold
public import proofs.«01_k».proof.Proof.RefValue

@[expose] public section

set_option maxRecDepth 16384

noncomputable section

namespace Cert.KernelIdeal.Fold

open Cert.KernelIdeal Cert.KernelIdeal.Gen Cert.KernelIdeal.Block Idealize.ShloMosaic Idealize.ShloMosaic.TcCoe Cert.Spec
open Cert.ReferenceIdeal.RefValue (xrow yrow)

variable (m : (ℓ : Loc nD τ sig) → Buf (Elt Ideal) ℓ) (c : Dev nD)

/-- The token of row `r` of point `t`'s block. -/
def tok (t : Fin cfg0.N) (r : Fin 256) : Fin 65536 := ⟨t.val * 256 + r.val, by have : cfg0.N = 256 := N_0; omega⟩

theorem idx : ∀ t : Fin cfg0.N, win0_0.index t = ![t.val, 0] ∧ win0_1.index t = ![t.val, 0] ∧ win0_2.index t = ![t.val, 0] ∧
    win0_3.index t = ![t.val, 0] := by decide +kernel

theorem arr_0 (a : Fin 65536) (k : Fin 1024) : (V m c main_v0 (ix2 a k) : EReal) =
    m ((c : Thread nD τ).loc main_arg0) (ix3 ⟨a.val / 4096, by omega⟩ ⟨a.val % 4096, by omega⟩ k) := by
  entry_read
  pointwise []

theorem blk_0 (t : Fin cfg0.N) (r : Fin 256) (k : Fin 1024) : (iblk m c 0 t (ix2 r k) : EReal) =
    m ((c : Thread nD τ).loc main_arg0) (ix3 ⟨(tok t r).val / 4096, by omega⟩ ⟨(tok t r).val % 4096, by omega⟩ k) := by
  refine Eq.trans ?_ (arr_0 m c (tok t r) k)
  blk_ext [iblk, idx t, tok]

theorem arr_1 (a : Fin 65536) (k : Fin 8) : (V m c main_v1 (ix2 a k) : EReal) =
    m ((c : Thread nD τ).loc main_arg1) (ix3 ⟨a.val / 4096, by omega⟩ ⟨a.val % 4096, by omega⟩ k) := by
  entry_read
  pointwise []

theorem blk_1 (t : Fin cfg0.N) (r : Fin 256) (k : Fin 8) : (iblk m c 1 t (ix2 r k) : EReal) =
    m ((c : Thread nD τ).loc main_arg1) (ix3 ⟨(tok t r).val / 4096, by omega⟩ ⟨(tok t r).val % 4096, by omega⟩ k) := by
  refine Eq.trans ?_ (arr_1 m c (tok t r) k)
  blk_ext [iblk, idx t, tok]

theorem arr_2 (a : Fin 65536) (k : Fin 1024) : (V m c main_v2 (ix2 a k) : EReal) =
    m ((c : Thread nD τ).loc main_arg2) (ix3 ⟨a.val / 4096, by omega⟩ ⟨a.val % 4096, by omega⟩ k) := by
  entry_read
  pointwise []

theorem blk_2 (t : Fin cfg0.N) (r : Fin 256) (k : Fin 1024) : (iblk m c 2 t (ix2 r k) : EReal) =
    m ((c : Thread nD τ).loc main_arg2) (ix3 ⟨(tok t r).val / 4096, by omega⟩ ⟨(tok t r).val % 4096, by omega⟩ k) := by
  refine Eq.trans ?_ (arr_2 m c (tok t r) k)
  blk_ext [iblk, idx t, tok]

theorem arr_3 (a : Fin 65536) (k : Fin 8) : (V m c main_v3 (ix2 a k) : EReal) =
    m ((c : Thread nD τ).loc main_arg3) (ix3 ⟨a.val / 4096, by omega⟩ ⟨a.val % 4096, by omega⟩ k) := by
  entry_read
  pointwise []

theorem blk_3 (t : Fin cfg0.N) (r : Fin 256) (k : Fin 8) : (iblk m c 3 t (ix2 r k) : EReal) =
    m ((c : Thread nD τ).loc main_arg3) (ix3 ⟨(tok t r).val / 4096, by omega⟩ ⟨(tok t r).val % 4096, by omega⟩ k) := by
  refine Eq.trans ?_ (arr_3 m c (tok t r) k)
  blk_ext [iblk, idx t, tok]

theorem x_tok (t : Fin cfg0.N) (r : Fin 256) : xr (iblk m c 0 t) (iblk m c 1 t) r = xrow (m ((c : Thread nD τ).loc main_arg0)) (m ((c : Thread nD τ).loc main_arg1)) (tok t r) := by
  unfold xr xrow
  congr 1
  · funext k; exact blk_0 m c t r k
  · funext k; exact blk_1 m c t r k

theorem y_tok (t : Fin cfg0.N) (r : Fin 256) : yr (iblk m c 2 t) (iblk m c 3 t) r = yrow (m ((c : Thread nD τ).loc main_arg2)) (m ((c : Thread nD τ).loc main_arg3)) (tok t r) := by
  unfold yr yrow
  congr 1
  · funext k; exact blk_2 m c t r k
  · funext k; exact blk_3 m c t r k

theorem W_eq : W m c = m ((c : Thread nD τ).loc main_arg4) := V_main_arg4 m c
theorem D_eq : D m c = m ((c : Thread nD τ).loc main_arg5) := V_main_arg5 m c

/-- A sum over points and rows is the sum over tokens. -/
theorem sum_tok (f : Fin 65536 → EReal) : ∑ t : Fin cfg0.N, ∑ r : Fin 256, f (tok t r) = ∑ s : Fin 65536, f s :=
  Fin.sum_mul_add_congr (fun _ _ _ => rfl) (by rw [show cfg0.N = 256 from N_0])

theorem sum_of (g : Fin cfg0.N → EReal) (f : Fin 65536 → EReal) (h : ∀ t, g t = ∑ r : Fin 256, f (tok t r)) :
    ∑ t : Fin cfg0.N, g t = ∑ s : Fin 65536, f s :=
  (Finset.sum_congr rfl fun t _ => h t).trans (sum_tok f)

/-- A sum over chunks and their columns is the sum over the hidden columns. -/
theorem sum_fi (f : Fin 2816 → EReal) : ∑ j : Fin 11, ∑ l : Fin 256, f (fi j l) = ∑ s : Fin 2816, f s :=
  Fin.sum_mul_add_congr (fun j l _ => congrArg f (Fin.ext (by show 256 * j.val + l.val = j.val * 256 + l.val; omega))) (by decide)

/-- The gradient of a token's activations, chunk by chunk, is the whole sum. -/
theorem dx_eq (x0 : Vec Ideal S256x1024 .fp8e4m3) (x1 : Vec Ideal S256x8 .f32) (x2 : Vec Ideal S256x1024 .fp8e5m2)
    (x3 : Vec Ideal S256x8 .f32) (w : Vec Ideal S1024x5632 .bf16) (d : Vec Ideal S2816x1024 .bf16) (r : Fin 256) (k : Fin 1024) :
    (DXO x0 x1 x2 x3 w d (ix2 r k) : EReal) = dx (xr x0 x1 r) (yr x2 x3 r) w d k := by
  show ∑ q : Fin 11, PX x0 x1 x2 x3 w d q r k = _
  unfold PX dx
  rw [Finset.sum_add_distrib, sum_fi fun f => dgate (xr x0 x1 r) (yr x2 x3 r) w d f * w (ix2 k (gcol f)),
    sum_fi fun f => dup (xr x0 x1 r) (yr x2 x3 r) w d f * w (ix2 k (ucol f))]

/-- The gradient of the gate and up weights, as the run leaves it. -/
theorem gu_gate (k : Fin 1024) (f : Fin 2816) : (hbG0 m c main_v4_1 (ix2 k (gcol f)) : EReal) =
    ∑ s : Fin 65536, (xrow (m ((c : Thread nD τ).loc main_arg0)) (m ((c : Thread nD τ).loc main_arg1)) s) k * dgate (xrow (m ((c : Thread nD τ).loc main_arg0)) (m ((c : Thread nD τ).loc main_arg1)) s) (yrow (m ((c : Thread nD τ).loc main_arg2)) (m ((c : Thread nD τ).loc main_arg3)) s) (m ((c : Thread nD τ).loc main_arg4)) (m ((c : Thread nD τ).loc main_arg5)) f := by
  refine (congrFun (hb_gu m c) _).trans (sum_of (fun t => GU m c t _) (fun s => (xrow (m ((c : Thread nD τ).loc main_arg0)) (m ((c : Thread nD τ).loc main_arg1)) s) k * dgate (xrow (m ((c : Thread nD τ).loc main_arg0)) (m ((c : Thread nD τ).loc main_arg1)) s) (yrow (m ((c : Thread nD τ).loc main_arg2)) (m ((c : Thread nD τ).loc main_arg3)) s) (m ((c : Thread nD τ).loc main_arg4)) (m ((c : Thread nD τ).loc main_arg5)) f) fun t => ?_)
  show GU m c t _ = _
  unfold GU
  refine Finset.sum_congr rfl fun r _ => ?_
  rw [x_tok, W_eq, D_eq]
  unfold dgu
  rw [dif_pos (show ((ix2 k (gcol f) : S1024x5632.Idx) 1).val < 2816 from f.isLt), x_tok, y_tok]
  rfl

theorem gu_up (k : Fin 1024) (f : Fin 2816) : (hbG0 m c main_v4_1 (ix2 k (ucol f)) : EReal) =
    ∑ s : Fin 65536, (xrow (m ((c : Thread nD τ).loc main_arg0)) (m ((c : Thread nD τ).loc main_arg1)) s) k * dup (xrow (m ((c : Thread nD τ).loc main_arg0)) (m ((c : Thread nD τ).loc main_arg1)) s) (yrow (m ((c : Thread nD τ).loc main_arg2)) (m ((c : Thread nD τ).loc main_arg3)) s) (m ((c : Thread nD τ).loc main_arg4)) (m ((c : Thread nD τ).loc main_arg5)) f := by
  refine (congrFun (hb_gu m c) _).trans (sum_of (fun t => GU m c t _) (fun s => (xrow (m ((c : Thread nD τ).loc main_arg0)) (m ((c : Thread nD τ).loc main_arg1)) s) k * dup (xrow (m ((c : Thread nD τ).loc main_arg0)) (m ((c : Thread nD τ).loc main_arg1)) s) (yrow (m ((c : Thread nD τ).loc main_arg2)) (m ((c : Thread nD τ).loc main_arg3)) s) (m ((c : Thread nD τ).loc main_arg4)) (m ((c : Thread nD τ).loc main_arg5)) f) fun t => ?_)
  show GU m c t _ = _
  unfold GU
  refine Finset.sum_congr rfl fun r _ => ?_
  rw [x_tok, W_eq, D_eq]
  unfold dgu
  rw [dif_neg (show ¬((ix2 k (ucol f) : S1024x5632.Idx) 1).val < 2816 from Nat.not_lt.mpr (Nat.le_add_right 2816 f.val)), x_tok, y_tok]
  congr 2
  exact Fin.ext (Nat.add_sub_cancel_left 2816 f.val)

/-- The gradient of the down weights, as the run leaves it. -/
theorem gd_at (f : Fin 2816) (k : Fin 1024) : (hbG0 m c main_v4_2 (ix2 f k) : EReal) =
    ∑ s : Fin 65536, hid (xrow (m ((c : Thread nD τ).loc main_arg0)) (m ((c : Thread nD τ).loc main_arg1)) s) (m ((c : Thread nD τ).loc main_arg4)) f * (yrow (m ((c : Thread nD τ).loc main_arg2)) (m ((c : Thread nD τ).loc main_arg3)) s) k := by
  refine (congrFun (hb_gd m c) _).trans (sum_of (fun t => GD m c t _) (fun s => hid (xrow (m ((c : Thread nD τ).loc main_arg0)) (m ((c : Thread nD τ).loc main_arg1)) s) (m ((c : Thread nD τ).loc main_arg4)) f * (yrow (m ((c : Thread nD τ).loc main_arg2)) (m ((c : Thread nD τ).loc main_arg3)) s) k) fun t => ?_)
  show GD m c t _ = _
  unfold GD
  refine Finset.sum_congr rfl fun r _ => ?_
  rw [x_tok, y_tok, W_eq]
  rfl

end Cert.KernelIdeal.Fold

end
-- ==== Proof.Arrays.lean ====
/- The six result arrays of the run are the reference's. -/
module

public import proofs.«01_k».proof.Proof.Glue
public import Idealize.ShloMosaic.Lib.Pipeline.ValueKit

@[expose] public section

set_option maxRecDepth 16384

noncomputable section

namespace Cert.KernelIdeal.Fold

open Cert.KernelIdeal Cert.KernelIdeal.Gen Cert.KernelIdeal.Block Idealize.ShloMosaic Idealize.ShloMosaic.TcCoe Cert.Spec
open Cert.ReferenceIdeal.RefValue (xrow yrow G6_at G7_gate G7_up G8_at G9_at G10_at G11_at)
open Cert.ReferenceIdeal.Value (G6 G7 G8 G9 G10 G11)

variable (m : (ℓ : Loc nD τ sig) → Buf (Elt Ideal) ℓ) (c : Dev nD)

theorem idx_out : ∀ t : Fin cfg0.N, win0_4.index t = ![t.val, 0] ∧ win0_5.index t = ![t.val, 0] ∧ win0_6.index t = ![t.val, 0] ∧
    win0_7.index t = ![t.val, 0] := by decide +kernel

theorem place4 (t : Fin cfg0.N) (r : Fin 256) (k : Fin 1024) :
    ((cfg0.win 4).blk t).view.emb (ix2 r k) = (ix2 (tok t r) k : S65536x1024.Idx) := by
  blk_ext [idx_out t, tok]

theorem arr4 : (dats m 0 c).arrAt 4 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 4 _ (by decide +kernel) fun t hf y => ?_
  blk_simp
  rw [after0_4, out4]
  idx_vars y
  refine Eq.trans ?_ (congrArg (G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (place4 t y0 y1).symm)
  rw [G6_at, ← x_tok m c, ← y_tok m c, ← W_eq m c, ← D_eq m c]
  exact (dx_eq _ _ _ _ _ _ y0 y1)

theorem place5 (t : Fin cfg0.N) (r : Fin 256) (k : Fin 22) :
    ((cfg0.win 5).blk t).view.emb (ix2 r k) = (ix2 (tok t r) k : S65536x22.Idx) := by
  blk_ext [idx_out t, tok]

theorem arr5 : (dats m 0 c).arrAt 5 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t hf y => ?_
  blk_simp
  rw [after0_5, out5]
  idx_vars y
  refine Eq.trans ?_ (congrArg (G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (place5 t y0 y1).symm)
  rw [G9_at, ← x_tok m c, ← W_eq m c]
  exact rfl

theorem place6 (t : Fin cfg0.N) (r : Fin 256) (k : Fin 22) :
    ((cfg0.win 6).blk t).view.emb (ix2 r k) = (ix2 (tok t r) k : S65536x22.Idx) := by
  blk_ext [idx_out t, tok]

theorem arr6 : (dats m 0 c).arrAt 6 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, out6]
  idx_vars y
  refine Eq.trans ?_ (congrArg (G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (place6 t y0 y1).symm)
  rw [G10_at, ← x_tok m c, ← y_tok m c, ← W_eq m c, ← D_eq m c]
  exact rfl

theorem place7 (t : Fin cfg0.N) (r : Fin 256) (k : Fin 22) :
    ((cfg0.win 7).blk t).view.emb (ix2 r k) = (ix2 (tok t r) k : S65536x22.Idx) := by
  blk_ext [idx_out t, tok]

theorem arr7 : (dats m 0 c).arrAt 7 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7, out7]
  idx_vars y
  refine Eq.trans ?_ (congrArg (G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (place7 t y0 y1).symm)
  rw [G11_at, ← x_tok m c, ← y_tok m c, ← W_eq m c, ← D_eq m c]
  exact rfl

theorem arr_gu : hbG0 m c main_v4_1 = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext y
  idx_vars y
  by_cases h : y1.val < 2816
  · rw [show y1 = gcol ⟨y1.val, h⟩ from rfl]
    exact (gu_gate m c y0 ⟨y1.val, h⟩).trans (G7_gate _ _ _ _ _ _ _ _).symm
  · rw [show y1 = ucol ⟨y1.val - 2816, by omega⟩ from Fin.ext (by show y1.val = 2816 + (y1.val - 2816); omega)]
    exact (gu_up m c y0 _).trans (G7_up _ _ _ _ _ _ _ _).symm

theorem arr_gd : hbG0 m c main_v4_2 = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext y
  idx_vars y
  exact (gd_at m c y0 y1).trans (G8_at _ _ _ _ _ _ _ _).symm

end Cert.KernelIdeal.Fold

end
-- ==== Proof.WeightBlocks.lean ====
/- What one point of the weights' dequantisation stores, at either width: its block of codes, each times the scale of its
   group of 128 columns. -/
module

public import proofs.«01_k».proof.Proof.Pieces

@[expose] public section

noncomputable section

namespace Cert.Weights

open Idealize.ShloMosaic

/-- The block of codes `x`, each times its group's scale in `s`. -/
def blockOf {n k : Nat} (h : n = k * 128) (x : Vec Ideal ⟨2, ![128, n]⟩ .fp8e4m3) (s : Vec Ideal ⟨3, ![1, 1, k]⟩ .f32) :
    Vec Ideal ⟨2, ![128, n]⟩ .bf16 := fun y =>
  (x y : EReal) * s (ix3 0 0 ⟨(y 1).val / 128, by have : (y 1).val < n := (y 1).isLt; omega⟩)

/-- The store of columns `o` to `o + 127` is its part of the block. -/
theorem w_piece {n k : Nat} (h : n = k * 128) (x : Vec Ideal ⟨2, ![128, n]⟩ .fp8e4m3) (s : Vec Ideal ⟨3, ![1, 1, k]⟩ .f32)
    (o : Nat) (ho : o % 128 = 0) (hn : o + 128 ≤ n) (inb) (p : Vec Ideal ⟨2, ![128, 128]⟩ .bf16)
    (hp : ∀ (r l : Fin 128), (p (ix2 r l) : EReal) = x (ix2 r ⟨o + l.val, by omega⟩) * s (ix3 0 0 ⟨o / 128, by omega⟩))
    (z : (⟨2, ![128, 128]⟩ : Shape).Idx) :
    p z = blockOf h x s ((Rect.unit (s := ⟨2, ![128, n]⟩) ![0, o] ![128, 128] inb).emb z) := by
  idx_vars z
  rename' z0 => r, z1 => l
  rw [hp, Cert.KernelIdeal.Block.emb_eq inb (ix2 r l) (ix2 r ⟨o + l.val, by omega⟩) (Nat.zero_add _).symm rfl]
  unfold blockOf
  have e : (⟨o / 128, by omega⟩ : Fin k) = ⟨(o + l.val) / 128, by omega⟩ := Fin.ext (by dsimp only; omega)
  rw [e]
  rfl

end Cert.Weights

end
-- ==== Proof.Down.lean ====
/- The down weights: after the run of their dequantisation the array is the reference's. -/
module

public import proofs.«01_k».proof.Proof.WeightBlocks
public import proofs.«01_k».proof.Proof.Gen.DownIdeal.Value
public import proofs.«01_k».proof.Proof.Gen.DownReferenceIdeal.Value
public import Idealize.ShloMosaic.Lib.Pipeline.ValueKit

@[expose] public section

set_option maxRecDepth 16384

noncomputable section

namespace Cert.DownIdeal.Weights

open Cert.DownIdeal Cert.DownIdeal.Gen Cert.Weights Idealize.ShloMosaic Idealize.ShloMosaic.TcCoe
open Cert.KernelIdeal.Block (of_cons of_nil canon_of)
open Cert.DownReferenceIdeal.Value (G2)

/-- What a point stores. -/
theorem out_eq (x : Vec Ideal S128x1024 .fp8e4m3) (s : Vec Ideal S1x1x8 .f32) :
    out0_2 (F := Ideal) x s = blockOf (k := 8) rfl x s := by
  unfold_out out0_2
  funext y
  refine canon_of (G := blockOf (k := 8) rfl x s) ?_ y (by apply cover0_2)
  iterate 8
    refine of_cons (w_piece (k := 8) rfl x s _ ?_ ?_ _ _ fun r l => ?_) ?_
    · decide
    · decide
    · unfold_payloads
      pointwise []
  exact of_nil _

/-- The reference's array, entry by entry. -/
theorem ref_at (a : Vec Ideal S2816x1024 .fp8e4m3) (b : Vec Ideal S22x8 .f32) (r : Fin 2816) (k : Fin 1024) :
    (G2 (F := Ideal) a b (ix2 r k) : EReal) = a (ix2 r k) * b (ix2 ⟨r.val / 128, by omega⟩ ⟨k.val / 128, by omega⟩) := by
  pointwise [G2, Cert.DownReferenceIdeal.Gen.k0_pay1]

variable (m : (ℓ : Loc nD τ sig) → Buf (Elt Ideal) ℓ) (c : Dev nD)

/-- Row `r` of point `t`'s block. -/
def at_ (t : Fin cfg0.N) (r : Fin 128) : Fin 2816 := ⟨t.val * 128 + r.val, by have : cfg0.N = 22 := N_0; omega⟩

/-- Point `t`'s row of scales. -/
def blk (t : Fin cfg0.N) : Fin 22 := ⟨t.val, by have : cfg0.N = 22 := N_0; omega⟩

theorem idx : ∀ t : Fin cfg0.N, win0_0.index t = ![t.val, 0] ∧ win0_1.index t = ![t.val, 0, 0] ∧ win0_2.index t = ![t.val, 0] := by
  decide +kernel

theorem codes (t : Fin cfg0.N) (r : Fin 128) (k : Fin 1024) :
    (iblk m c 0 t (ix2 r k) : EReal) = m ((c : Thread nD τ).loc main_arg0) (ix2 (at_ t r) k) := by
  rw [← V_main_arg0 m c]
  blk_ext [iblk, idx t, at_]

theorem arr_scales (a : Fin 22) (g : Fin 8) :
    (V m c main_v0 (ix3 a 0 g) : EReal) = m ((c : Thread nD τ).loc main_arg1) (ix2 a g) := by
  entry_read
  pointwise []

theorem scales (t : Fin cfg0.N) (g : Fin 8) :
    (iblk m c 1 t (ix3 0 0 g) : EReal) = m ((c : Thread nD τ).loc main_arg1) (ix2 (blk t) g) := by
  refine Eq.trans ?_ (arr_scales m c _ g)
  blk_ext [iblk, idx t, blk]

theorem place (t : Fin cfg0.N) (r : Fin 128) (k : Fin 1024) :
    ((cfg0.win 2).blk t).view.emb (ix2 r k) = (ix2 (at_ t r) k : S2816x1024.Idx) := by
  blk_ext [idx t, at_]

/-- The array after the run is the reference's. -/
theorem arr : (dats m 0 c).arrAt 2 cfg0.N = G2 (m ((c : Thread nD τ).loc main_arg0)) (m ((c : Thread nD τ).loc main_arg1)) := by
  refine (dats m 0 c).arrAt_eq_of_covers 2 _ (by decide +kernel) fun t hf y => ?_
  blk_simp
  rw [after0_2, out_eq]
  idx_vars y
  refine Eq.trans ?_ (congrArg (G2 (m ((c : Thread nD τ).loc main_arg0)) (m ((c : Thread nD τ).loc main_arg1))) (place t y0 y1).symm)
  rw [ref_at]
  refine (congrArg₂ (fun a b : EReal => a * b) (codes m c t y0 y1) (scales m c t _)).trans ?_
  have e : (⟨(at_ t y0).val / 128, by omega⟩ : Fin 22) = blk t := Fin.ext (by simp only [at_, blk]; omega)
  rw [e]
  rfl

end Cert.DownIdeal.Weights

end
-- ==== Proof.GateUp.lean ====
/- The gate and up weights: after the run of their dequantisation the array is the reference's. -/
module

public import proofs.«01_k».proof.Proof.WeightBlocks
public import proofs.«01_k».proof.Proof.Gen.GateUpIdeal.Value
public import proofs.«01_k».proof.Proof.Gen.GateUpReferenceIdeal.Value
public import Idealize.ShloMosaic.Lib.Pipeline.ValueKit

@[expose] public section

set_option maxRecDepth 16384

noncomputable section

namespace Cert.GateUpIdeal.Weights

open Cert.GateUpIdeal Cert.GateUpIdeal.Gen Cert.Weights Idealize.ShloMosaic Idealize.ShloMosaic.TcCoe
open Cert.KernelIdeal.Block (of_cons of_nil canon_of)
open Cert.GateUpReferenceIdeal.Value (G2)

/-- What a point stores. -/
theorem out_eq (x : Vec Ideal S128x5632 .fp8e4m3) (s : Vec Ideal S1x1x44 .f32) :
    out0_2 (F := Ideal) x s = blockOf (k := 44) rfl x s := by
  unfold_out out0_2
  funext y
  refine canon_of (G := blockOf (k := 44) rfl x s) ?_ y (by apply cover0_2)
  iterate 44
    refine of_cons (w_piece (k := 44) rfl x s _ ?_ ?_ _ _ fun r l => ?_) ?_
    · decide
    · decide
    · unfold_payloads
      pointwise []
  exact of_nil _

/-- The reference's array, entry by entry. -/
theorem ref_at (a : Vec Ideal S1024x2x2816 .fp8e4m3) (b : Vec Ideal S8x2x22 .f32) (r : Fin 1024) (k : Fin 5632) :
    (G2 (F := Ideal) a b (ix2 r k) : EReal) = a (ix3 r ⟨k.val / 2816, by omega⟩ ⟨k.val % 2816, by omega⟩)
      * b (ix3 ⟨r.val / 128, by omega⟩ ⟨k.val / 2816, by omega⟩ ⟨k.val % 2816 / 128, by omega⟩) := by
  pointwise [G2, Cert.GateUpReferenceIdeal.Gen.k0_pay1]
  have e0 : (⟨k.val / 128 % 22 * 128 + k.val % 128, by omega⟩ : Fin 2816) = ⟨k.val % 2816, by omega⟩ := Fin.ext (by dsimp only; omega)
  have e1 : (⟨k.val / 128 % 22, by omega⟩ : Fin 22) = ⟨k.val % 2816 / 128, by omega⟩ := Fin.ext (by dsimp only; omega)
  rw [e0, e1]

variable (m : (ℓ : Loc nD τ sig) → Buf (Elt Ideal) ℓ) (c : Dev nD)

/-- Row `r` of point `t`'s block. -/
def at_ (t : Fin cfg0.N) (r : Fin 128) : Fin 1024 := ⟨t.val * 128 + r.val, by have : cfg0.N = 8 := N_0; omega⟩

/-- Point `t`'s row of scales. -/
def blk (t : Fin cfg0.N) : Fin 8 := ⟨t.val, by have : cfg0.N = 8 := N_0; omega⟩

theorem idx : ∀ t : Fin cfg0.N, win0_0.index t = ![t.val, 0] ∧ win0_1.index t = ![t.val, 0, 0] ∧ win0_2.index t = ![t.val, 0] := by
  decide +kernel

theorem arr_codes (a : Fin 1024) (k : Fin 5632) : (V m c main_v0 (ix2 a k) : EReal) =
    m ((c : Thread nD τ).loc main_arg0) (ix3 a ⟨k.val / 2816, by omega⟩ ⟨k.val % 2816, by omega⟩) := by
  entry_read
  pointwise []

theorem codes (t : Fin cfg0.N) (r : Fin 128) (k : Fin 5632) : (iblk m c 0 t (ix2 r k) : EReal) =
    m ((c : Thread nD τ).loc main_arg0) (ix3 (at_ t r) ⟨k.val / 2816, by omega⟩ ⟨k.val % 2816, by omega⟩) := by
  refine Eq.trans ?_ (arr_codes m c _ k)
  blk_ext [iblk, idx t, at_]

theorem arr_scales (a : Fin 8) (g : Fin 44) : (V m c main_v2 (ix3 a 0 g) : EReal) =
    m ((c : Thread nD τ).loc main_arg1) (ix3 a ⟨g.val / 22, by omega⟩ ⟨g.val % 22, by omega⟩) := by
  entry_read
  pointwise []

theorem scales (t : Fin cfg0.N) (g : Fin 44) : (iblk m c 1 t (ix3 0 0 g) : EReal) =
    m ((c : Thread nD τ).loc main_arg1) (ix3 (blk t) ⟨g.val / 22, by omega⟩ ⟨g.val % 22, by omega⟩) := by
  refine Eq.trans ?_ (arr_scales m c _ g)
  blk_ext [iblk, idx t, blk]

theorem place (t : Fin cfg0.N) (r : Fin 128) (k : Fin 5632) :
    ((cfg0.win 2).blk t).view.emb (ix2 r k) = (ix2 (at_ t r) k : S1024x5632.Idx) := by
  blk_ext [idx t, at_]

/-- The array after the run is the reference's. -/
theorem arr : (dats m 0 c).arrAt 2 cfg0.N = G2 (m ((c : Thread nD τ).loc main_arg0)) (m ((c : Thread nD τ).loc main_arg1)) := by
  refine (dats m 0 c).arrAt_eq_of_covers 2 _ (by decide +kernel) fun t hf y => ?_
  blk_simp
  rw [after0_2, out_eq]
  idx_vars y
  refine Eq.trans ?_ (congrArg (G2 (m ((c : Thread nD τ).loc main_arg0)) (m ((c : Thread nD τ).loc main_arg1))) (place t y0 y1).symm)
  rw [ref_at]
  refine (congrArg₂ (fun a b : EReal => a * b) (codes m c t y0 y1) (scales m c t _)).trans ?_
  have e : (⟨(at_ t y0).val / 128, by omega⟩ : Fin 8) = blk t := Fin.ext (by simp only [at_, blk]; omega)
  have e0 : (⟨y1.val / 128 / 22, by omega⟩ : Fin 2) = ⟨y1.val / 2816, by omega⟩ := Fin.ext (by dsimp only; omega)
  have e1 : (⟨y1.val / 128 % 22, by omega⟩ : Fin 22) = ⟨y1.val % 2816 / 128, by omega⟩ := Fin.ext (by dsimp only; omega)
  rw [e, ← e0, ← e1]
  rfl

end Cert.GateUpIdeal.Weights

end
-- ==== Proof.lean ====
/- The claims, put together. -/
module

public import proofs.«01_k».proof.Defs
public import proofs.«01_k».proof.Proof.KernelFrame
public import proofs.«01_k».proof.Proof.Gen.ReferenceIdeal.Frame
public import proofs.«01_k».proof.Proof.Gen.ReferenceIdeal.Value
public import proofs.«01_k».proof.Proof.RunValue
public import proofs.«01_k».proof.Proof.Arrays
public import proofs.«01_k».proof.Proof.Gen.Down.Frame
public import proofs.«01_k».proof.Proof.Gen.DownIdeal.Value
public import proofs.«01_k».proof.Proof.Gen.DownReferenceIdeal.Value
public import proofs.«01_k».proof.Proof.Gen.GateUp.Frame
public import proofs.«01_k».proof.Proof.Gen.GateUpIdeal.Value
public import proofs.«01_k».proof.Proof.Gen.GateUpReferenceIdeal.Value
public import proofs.«01_k».proof.Proof.Down
public import proofs.«01_k».proof.Proof.GateUp

@[expose] public section

set_option maxRecDepth 16384

noncomputable section

namespace Cert.Proof

open Idealize.ShloMosaic Idealize.ShloMosaic.TcCoe Idealize.SL.Sem

/-- The kernel's run ends with the reference's six arrays. -/
theorem run_kernel (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v4_0) = Cert.ReferenceIdeal.Value.G6 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_v4_1) = Cert.ReferenceIdeal.Value.G7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_v4_2) = Cert.ReferenceIdeal.Value.G8 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_v4_3) = Cert.ReferenceIdeal.Value.G9 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_v4_4) = Cert.ReferenceIdeal.Value.G10 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_v4_5) = Cert.ReferenceIdeal.Value.G11 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) :=
  (θ_run _ _ _).mono (fun r h c => by
    obtain ⟨h0, h3, h4, h5, a0, a1, a2, a3, a4, a5, h1, h2⟩ := h c
    exact ⟨h0.trans (Cert.KernelIdeal.Fold.arr4 m c), h1.trans (Cert.KernelIdeal.Fold.arr_gu m c), h2.trans (Cert.KernelIdeal.Fold.arr_gd m c),
      h3.trans (Cert.KernelIdeal.Fold.arr5 m c), h4.trans (Cert.KernelIdeal.Fold.arr6 m c), h5.trans (Cert.KernelIdeal.Fold.arr7 m c), a0, a1, a2, a3, a4, a5⟩)
    (Cert.KernelIdeal.Value.run_blocks m ρ)

/-- The down weights: kernel and reference end with the same array. -/
theorem down : Cert.algebraic_DownIdeal_DownReferenceIdeal := fun m ρ m' ρ' _ hag =>
  ⟨fun c => Cert.DownReferenceIdeal.Value.G2 (m ((c.tc : Thread Cert.DownIdeal.nD Cert.DownIdeal.τ).loc Cert.DownIdeal.main_arg0)) (m ((c.tc : Thread Cert.DownIdeal.nD Cert.DownIdeal.τ).loc Cert.DownIdeal.main_arg1)),
    (θ_run _ _ _).mono (fun r h c => by
      obtain ⟨h0, a0, a1⟩ := h c
      exact ⟨h0.trans (Cert.DownIdeal.Weights.arr m c), a0, a1⟩) (Cert.DownIdeal.Value.run_blocks m ρ),
    (θ_run _ _ _).mono (fun r h c => by
      obtain ⟨e0, e1⟩ := hag c
      obtain ⟨h0, a0, a1⟩ := h c
      rw [e0, e1] at h0
      exact ⟨h0, a0, a1⟩) (Cert.DownReferenceIdeal.Value.run m' ρ')⟩

/-- The gate and up weights: kernel and reference end with the same array. -/
theorem gate_up : Cert.algebraic_GateUpIdeal_GateUpReferenceIdeal := fun m ρ m' ρ' _ hag =>
  ⟨fun c => Cert.GateUpReferenceIdeal.Value.G2 (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)),
    (θ_run _ _ _).mono (fun r h c => by
      obtain ⟨h0, a0, a1⟩ := h c
      exact ⟨h0.trans (Cert.GateUpIdeal.Weights.arr m c), a0, a1⟩) (Cert.GateUpIdeal.Value.run_blocks m ρ),
    (θ_run _ _ _).mono (fun r h c => by
      obtain ⟨e0, e1⟩ := hag c
      obtain ⟨h0, a0, a1⟩ := h c
      rw [e0, e1] at h0
      exact ⟨h0, a0, a1⟩) (Cert.GateUpReferenceIdeal.Value.run m' ρ')⟩

theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts,
  Cert.GateUp.Gen.facts, Cert.GateUpIdeal.Gen.facts, Cert.GateUpReferenceIdeal.Gen.facts,
  Cert.Same.frame,
  fun m ρ _ => Cert.KernelIdeal.Gen.frame m ρ,
  fun m ρ _ => Cert.ReferenceIdeal.Gen.frame m ρ,
  fun m ρ _ => Cert.Down.Gen.frame m ρ,
  fun m ρ _ => Cert.DownIdeal.Gen.frame m ρ,
  fun m ρ _ => Cert.DownReferenceIdeal.Gen.frame m ρ,
  fun m ρ _ => Cert.GateUp.Gen.frame m ρ,
  fun m ρ _ => Cert.GateUpIdeal.Gen.frame m ρ,
  fun m ρ _ => Cert.GateUpReferenceIdeal.Gen.frame m ρ,
  trivial,
  fun m ρ m' ρ' _ hag =>
    ⟨fun c => Cert.ReferenceIdeal.Value.G6 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
      fun c => Cert.ReferenceIdeal.Value.G7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
      fun c => Cert.ReferenceIdeal.Value.G8 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
      fun c => Cert.ReferenceIdeal.Value.G9 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
      fun c => Cert.ReferenceIdeal.Value.G10 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
      fun c => Cert.ReferenceIdeal.Value.G11 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
      run_kernel m ρ, (θ_run _ _ _).mono (fun r h c => by
        have hc := h c
        obtain ⟨e0, e1, e2, e3, e4, e5⟩ := hag c
        obtain ⟨h0, h1, h2, h3, h4, h5, a0, a1, a2, a3, a4, a5⟩ := hc
        rw [e0, e1, e2, e3, e4, e5] at h0 h1 h2 h3 h4 h5
        exact ⟨h0, h1, h2, h3, h4, h5, a0, a1, a2, a3, a4, a5⟩) (Cert.ReferenceIdeal.Value.run m' ρ')⟩,
  trivial, down, trivial, gate_up⟩

end Cert.Proof

end
